-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![1, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = Layout.block ⟨3, ![1, 2048, 1024]⟩ ⟨3, ![1, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x2048x1024 .bf16) (main_arg1 : FVec F S1024x1024 .bf16) (main_arg2 : FVec F S1x2048x8x128 .bf16) (main_arg3 : FVec F S1x2048x8x128 .bf16) (main_arg4 : FVec F S1024x1024 .bf16) : IVec S1x2048x1024 1 × IVec S1024x1024 1 × IVec S1x2048x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x8192x1024 : S_.BroadcastsInDim S1x8192x1024 (![] : Fin 0 → Fin S1x8192x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x8192x1024 .bf16) (main_arg1 : FVec F S1024x1024 .bf16) (main_arg2 : FVec F S1x8192x8x128 .bf16) (main_arg3 : FVec F S1x8192x8x128 .bf16) (main_arg4 : FVec F S1024x1024 .bf16) : IVec S1x8192x1024 1 × IVec S1024x1024 1 × IVec S1x8192x8x128 1 :=
  let main_v0 : FVec F S1x8192x1024 .bf16 := Host.absf main_arg0
  let main_cst : FVec F S_ .bf16 := constant S_ .bf16 0x7F80#16
  let main_v1 : FVec F S1x8192x1024 .bf16 := broadcastInDim S1x8192x1024 ![] bcast_S_S1x8192x1024 main_cst
  let main_v2 : IVec S1x8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x8192x8x128 .bf16 := Host.absf main_arg2
  let main_cst_1 : FVec F S_ .bf16 := constant S_ .bf16 0x7F80#16
  let main_v7 : FVec F S1x8192x8x128 .bf16 := broadcastInDim S1x8192x8x128 ![] bcast_S_S1x8192x8x128 main_cst_1
  let main_v8 : IVec S1x8192x8x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩
abbrev S2048x1024 : Shape := ⟨2, ![2048, 1024]⟩
abbrev S32x64x1024 : Shape := ⟨3, ![32, 64, 1024]⟩
abbrev S11x64x1024 : Shape := ⟨3, ![11, 64, 1024]⟩
abbrev S10x64x1024 : Shape := ⟨3, ![10, 64, 1024]⟩
abbrev S1x64x1024 : Shape := ⟨3, ![1, 64, 1024]⟩
abbrev S33x64x1024 : Shape := ⟨3, ![33, 64, 1024]⟩
abbrev S2112x1024 : Shape := ⟨2, ![2112, 1024]⟩
abbrev S2112x8x128 : Shape := ⟨3, ![2112, 8, 128]⟩
abbrev S8x2112x128 : Shape := ⟨3, ![8, 2112, 128]⟩
abbrev S2048x8x128 : Shape := ⟨3, ![2048, 8, 128]⟩
abbrev S4x8x2112x128 : Shape := ⟨4, ![4, 8, 2112, 128]⟩
abbrev S8x3x704x128 : Shape := ⟨4, ![8, 3, 704, 128]⟩
abbrev S2 : Shape := ⟨1, ![2]⟩
abbrev S3 : Shape := ⟨1, ![3]⟩
abbrev S1 : Shape := ⟨1, ![1]⟩
abbrev S1x8x2112x128 : Shape := ⟨4, ![1, 8, 2112, 128]⟩
abbrev S1x704 : Shape := ⟨2, ![1, 704]⟩
abbrev S1x704x128 : Shape := ⟨3, ![1, 704, 128]⟩
abbrev S704x128 : Shape := ⟨2, ![704, 128]⟩
abbrev S704x704 : Shape := ⟨2, ![704, 704]⟩
abbrev S1x1x704x128 : Shape := ⟨4, ![1, 1, 704, 128]⟩
abbrev S704 : Shape := ⟨1, ![704]⟩
abbrev S704x1 : Shape := ⟨2, ![704, 1]⟩
abbrev S1x64x128 : Shape := ⟨3, ![1, 64, 128]⟩
abbrev S64x128 : Shape := ⟨2, ![64, 128]⟩
abbrev S704x64 : Shape := ⟨2, ![704, 64]⟩
abbrev S3x11x64x1024 : Shape := ⟨4, ![3, 11, 64, 1024]⟩
abbrev S1x11x64x1024 : Shape := ⟨4, ![1, 11, 64, 1024]⟩
abbrev S11x1x64x1024 : Shape := ⟨4, ![11, 1, 64, 1024]⟩
abbrev S11x3x64x1024 : Shape := ⟨4, ![11, 3, 64, 1024]⟩

abbrev nBuf : Space → Nat
  | .hbm => 131
  | .vmem => 8
  | .smem => 0
  | _ => 0

abbrev hbmTy0_0 (i : Nat) : BufTy := match i % 128 with
  | 0 => ⟨S1x2048x1024, .bf16⟩
  | 1 => ⟨S1024x1024, .bf16⟩
  | 2 => ⟨S1x2048x8x128, .bf16⟩
  | 3 => ⟨S1x2048x8x128, .bf16⟩
  | 4 => ⟨S1024x1024, .bf16⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i1⟩
  | 24 => ⟨S_, .i32⟩
  | 25 => ⟨S_, .i1⟩
  | 26 => ⟨S_, .i1⟩
  | 27 => ⟨S_, .i1⟩
  | 28 => ⟨S_, .i32⟩
  | 29 => ⟨S_, .i32⟩
  | 30 => ⟨S2048x1024, .bf16⟩
  | 31 => ⟨S2048x1024, .f32⟩
  | 32 => ⟨S2048x1024, .bf16⟩
  | 33 => ⟨S32x64x1024, .bf16⟩
  | 34 => ⟨S11x64x1024, .bf16⟩
  | 35 => ⟨S11x64x1024, .bf16⟩
  | 36 => ⟨S10x64x1024, .bf16⟩
  | 37 => ⟨S1x64x1024, .bf16⟩
  | 38 => ⟨S11x64x1024, .bf16⟩
  | 39 => ⟨S_, .i32⟩
  | 40 => ⟨S_, .i32⟩
  | 41 => ⟨S_, .i32⟩
  | 42 => ⟨S33x64x1024, .bf16⟩
  | 43 => ⟨S33x64x1024, .bf16⟩
  | 44 => ⟨S33x64x1024, .bf16⟩
  | 45 => ⟨S33x64x1024, .bf16⟩
  | 46 => ⟨S2112x1024, .bf16⟩
  | 47 => ⟨S2112x8x128, .bf16⟩
  | 48 => ⟨S8x2112x128, .bf16⟩
  | 49 => ⟨S2048x8x128, .bf16⟩
  | 50 => ⟨S2048x1024, .bf16⟩
  | 51 => ⟨S32x64x1024, .bf16⟩
  | 52 => ⟨S11x64x1024, .bf16⟩
  | 53 => ⟨S11x64x1024, .bf16⟩
  | 54 => ⟨S10x64x1024, .bf16⟩
  | 55 => ⟨S1x64x1024, .bf16⟩
  | 56 => ⟨S11x64x1024, .bf16⟩
  | 57 => ⟨S_, .i32⟩
  | 58 => ⟨S_, .i32⟩
  | 59 => ⟨S_, .i32⟩
  | 60 => ⟨S33x64x1024, .bf16⟩
  | 61 => ⟨S33x64x1024, .bf16⟩
  | 62 => ⟨S33x64x1024, .bf16⟩
  | 63 => ⟨S33x64x1024, .bf16⟩
  | 64 => ⟨S2112x1024, .bf16⟩
  | 65 => ⟨S2112x8x128, .bf16⟩
  | 66 => ⟨S8x2112x128, .bf16⟩
  | 67 => ⟨S2048x8x128, .bf16⟩
  | 68 => ⟨S2048x1024, .bf16⟩
  | 69 => ⟨S32x64x1024, .bf16⟩
  | 70 => ⟨S11x64x1024, .bf16⟩
  | 71 => ⟨S11x64x1024, .bf16⟩
  | 72 => ⟨S10x64x1024, .bf16⟩
  | 73 => ⟨S1x64x1024, .bf16⟩
  | 74 => ⟨S11x64x1024, .bf16⟩
  | 75 => ⟨S_, .i32⟩
  | 76 => ⟨S_, .i32⟩
  | 77 => ⟨S_, .i32⟩
  | 78 => ⟨S33x64x1024, .bf16⟩
  | 79 => ⟨S33x64x1024, .bf16⟩
  | 80 => ⟨S33x64x1024, .bf16⟩
  | 81 => ⟨S33x64x1024, .bf16⟩
  | 82 => ⟨S2112x1024, .bf16⟩
  | 83 => ⟨S2112x8x128, .bf16⟩
  | 84 => ⟨S8x2112x128, .bf16⟩
  | 85 => ⟨S2112x1024, .f32⟩
  | 86 => ⟨S4x8x2112x128, .bf16⟩
  | 87 => ⟨S4x8x2112x128, .bf16⟩
  | 88 => ⟨S3x11x64x1024, .f32⟩
  | 89 => ⟨S_, .i32⟩
  | 90 => ⟨S_, .i32⟩
  | 91 => ⟨S_, .i32⟩
  | 92 => ⟨S32x64x1024, .f32⟩
  | 93 => ⟨S1x11x64x1024, .f32⟩
  | 94 => ⟨S11x64x1024, .f32⟩
  | 95 => ⟨S1x11x64x1024, .f32⟩
  | 96 => ⟨S11x64x1024, .f32⟩
  | 97 => ⟨S1x11x64x1024, .f32⟩
  | 98 => ⟨S11x64x1024, .f32⟩
  | 99 => ⟨S11x1x64x1024, .f32⟩
  | 100 => ⟨S11x1x64x1024, .f32⟩
  | 101 => ⟨S11x1x64x1024, .f32⟩
  | 102 => ⟨S11x3x64x1024, .f32⟩
  | 103 => ⟨S33x64x1024, .f32⟩
  | 104 => ⟨S32x64x1024, .f32⟩
  | 105 => ⟨S1x11x64x1024, .f32⟩
  | 106 => ⟨S11x64x1024, .f32⟩
  | 107 => ⟨S1x11x64x1024, .f32⟩
  | 108 => ⟨S11x64x1024, .f32⟩
  | 109 => ⟨S1x11x64x1024, .f32⟩
  | 110 => ⟨S11x64x1024, .f32⟩
  | 111 => ⟨S11x1x64x1024, .f32⟩
  | 112 => ⟨S11x1x64x1024, .f32⟩
  | 113 => ⟨S11x1x64x1024, .f32⟩
  | 114 => ⟨S11x3x64x1024, .f32⟩
  | 115 => ⟨S33x64x1024, .f32⟩
  | 116 => ⟨S32x64x1024, .f32⟩
  | 117 => ⟨S1x11x64x1024, .f32⟩
  | 118 => ⟨S11x64x1024, .f32⟩
  | 119 => ⟨S1x11x64x1024, .f32⟩
  | 120 => ⟨S11x64x1024, .f32⟩
  | 121 => ⟨S1x11x64x1024, .f32⟩
  | 122 => ⟨S11x64x1024, .f32⟩
  | 123 => ⟨S11x1x64x1024, .f32⟩
  | 124 => ⟨S11x1x64x1024, .f32⟩
  | 125 => ⟨S11x1x64x1024, .f32⟩
  | 126 => ⟨S11x3x64x1024, .f32⟩
  | 127 => ⟨S33x64x1024, .f32⟩
  | _ => ⟨S1x2048x1024, .bf16⟩

abbrev hbmTy0_1 (i : Nat) : BufTy := match i % 128 with
  | 0 => ⟨S32x64x1024, .f32⟩
  | 1 => ⟨S2048x1024, .f32⟩
  | 2 => ⟨S1x2048x1024, .f32⟩
  | _ => ⟨S1x2048x1024, .bf16⟩

abbrev hbmTy (i : Nat) : BufTy := match i / 128 with
  | 0 => hbmTy0_0 i
  | 1 => hbmTy0_1 i
  | _ => ⟨S1x2048x1024, .bf16⟩

abbrev bufTy : (tb : Table) → Fin (tcTables nBuf tb) → BufTy
  | .hbm, ⟨i, _⟩ => hbmTy i
  | .local _ .vmem, ⟨0, _⟩ => ⟨S8x2112x128, .bf16⟩
  | .local _ .vmem, ⟨1, _⟩ => ⟨S1024x1024, .bf16⟩
  | .local _ .vmem, ⟨2, _⟩ => ⟨S2112x1024, .f32⟩
  | .local _ .vmem, ⟨3, _⟩ => ⟨S8x2112x128, .f32⟩
  | .local _ .vmem, ⟨4, _⟩ => ⟨S8x2112x128, .bf16⟩
  | .local _ .vmem, ⟨5, _⟩ => ⟨S8x2112x128, .bf16⟩
  | .local _ .vmem, ⟨6, _⟩ => ⟨S8x3x704x128, .bf16⟩
  | .local _ .vmem, ⟨7, _⟩ => ⟨S8x3x704x128, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_case0b0_v53 : Ref sig .tc := ⟨.hbm, 43, rfl⟩
abbrev main_case0b1_v53 : Ref sig .tc := ⟨.hbm, 44, rfl⟩
abbrev main_case0b2_v53 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_case1b0_v53 : Ref sig .tc := ⟨.hbm, 61, rfl⟩
abbrev main_case1b1_v53 : Ref sig .tc := ⟨.hbm, 62, rfl⟩
abbrev main_case1b2_v53 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_7 : Ref sig .tc := ⟨.hbm, 75, rfl⟩
abbrev main_c_8 : Ref sig .tc := ⟨.hbm, 76, rfl⟩
abbrev main_v42 : Ref sig .tc := ⟨.hbm, 77, rfl⟩
abbrev main_v43 : Ref sig .tc := ⟨.hbm, 78, rfl⟩
abbrev main_case2b0_v53 : Ref sig .tc := ⟨.hbm, 79, rfl⟩
abbrev main_case2b1_v53 : Ref sig .tc := ⟨.hbm, 80, rfl⟩
abbrev main_case2b2_v53 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47_0 : Ref sig .tc := ⟨.hbm, 85, rfl⟩
abbrev main_v47_1 : Ref sig .tc := ⟨.hbm, 86, rfl⟩
abbrev main_v47_2 : Ref sig .tc := ⟨.hbm, 87, rfl⟩
abbrev main_v48 : Ref sig .tc := ⟨.hbm, 88, rfl⟩
abbrev main_c_9 : Ref sig .tc := ⟨.hbm, 89, rfl⟩
abbrev main_c_10 : Ref sig .tc := ⟨.hbm, 90, rfl⟩
abbrev main_v49 : Ref sig .tc := ⟨.hbm, 91, rfl⟩
abbrev main_v50 : Ref sig .tc := ⟨.hbm, 92, rfl⟩
abbrev main_case3b0_v53 : Ref sig .tc := ⟨.hbm, 93, rfl⟩
abbrev main_case3b0_v54 : Ref sig .tc := ⟨.hbm, 94, rfl⟩
abbrev main_case3b0_v55 : Ref sig .tc := ⟨.hbm, 95, rfl⟩
abbrev main_case3b0_v56 : Ref sig .tc := ⟨.hbm, 96, rfl⟩
abbrev main_case3b0_v57 : Ref sig .tc := ⟨.hbm, 97, rfl⟩
abbrev main_case3b0_v58 : Ref sig .tc := ⟨.hbm, 98, rfl⟩
abbrev main_case3b0_v59 : Ref sig .tc := ⟨.hbm, 99, rfl⟩
abbrev main_case3b0_v60 : Ref sig .tc := ⟨.hbm, 100, rfl⟩
abbrev main_case3b0_v61 : Ref sig .tc := ⟨.hbm, 101, rfl⟩
abbrev main_case3b0_v62 : Ref sig .tc := ⟨.hbm, 102, rfl⟩
abbrev main_case3b0_v63 : Ref sig .tc := ⟨.hbm, 103, rfl⟩
abbrev main_case3b0_v64 : Ref sig .tc := ⟨.hbm, 104, rfl⟩
abbrev main_case3b1_v53 : Ref sig .tc := ⟨.hbm, 105, rfl⟩
abbrev main_case3b1_v54 : Ref sig .tc := ⟨.hbm, 106, rfl⟩
abbrev main_case3b1_v55 : Ref sig .tc := ⟨.hbm, 107, rfl⟩
abbrev main_case3b1_v56 : Ref sig .tc := ⟨.hbm, 108, rfl⟩
abbrev main_case3b1_v57 : Ref sig .tc := ⟨.hbm, 109, rfl⟩
abbrev main_case3b1_v58 : Ref sig .tc := ⟨.hbm, 110, rfl⟩
abbrev main_case3b1_v59 : Ref sig .tc := ⟨.hbm, 111, rfl⟩
abbrev main_case3b1_v60 : Ref sig .tc := ⟨.hbm, 112, rfl⟩
abbrev main_case3b1_v61 : Ref sig .tc := ⟨.hbm, 113, rfl⟩
abbrev main_case3b1_v62 : Ref sig .tc := ⟨.hbm, 114, rfl⟩
abbrev main_case3b1_v63 : Ref sig .tc := ⟨.hbm, 115, rfl⟩
abbrev main_case3b1_v64 : Ref sig .tc := ⟨.hbm, 116, rfl⟩
abbrev main_case3b2_v53 : Ref sig .tc := ⟨.hbm, 117, rfl⟩
abbrev main_case3b2_v54 : Ref sig .tc := ⟨.hbm, 118, rfl⟩
abbrev main_case3b2_v55 : Ref sig .tc := ⟨.hbm, 119, rfl⟩
abbrev main_case3b2_v56 : Ref sig .tc := ⟨.hbm, 120, rfl⟩
abbrev main_case3b2_v57 : Ref sig .tc := ⟨.hbm, 121, rfl⟩
abbrev main_case3b2_v58 : Ref sig .tc := ⟨.hbm, 122, rfl⟩
abbrev main_case3b2_v59 : Ref sig .tc := ⟨.hbm, 123, rfl⟩
abbrev main_case3b2_v60 : Ref sig .tc := ⟨.hbm, 124, rfl⟩
abbrev main_case3b2_v61 : Ref sig .tc := ⟨.hbm, 125, rfl⟩
abbrev main_case3b2_v62 : Ref sig .tc := ⟨.hbm, 126, rfl⟩
abbrev main_case3b2_v63 : Ref sig .tc := ⟨.hbm, 127, rfl⟩
abbrev main_case3b2_v64 : Ref sig .tc := ⟨.hbm, 128, rfl⟩
abbrev main_v51 : Ref sig .tc := ⟨.hbm, 129, rfl⟩
abbrev main_v52 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_0 : BitVec 32 := 0#32
  let c0_i32_1 : BitVec 32 := 0#32
  let c0_i32_2 : BitVec 32 := 0#32
  ![v2.toNat, 0, 0, 0]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 32 := Scalar.addi v2 c1_i32_7
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v16 : BitVec 32 := Scalar.addi v2 c2_i32
  let c4_i32_12 : BitVec 32 := 4#32
  let v17 : BitVec 32 := Scalar.remsi v16 c4_i32_12
  let c1_i32_14 : BitVec 32 := 1#32
  let v18 : BitVec 32 := Scalar.muli v17 c1_i32_14
  let v19 : BitVec 32 := Scalar.addi c0_i32_15 v18
  v19.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v20 : BitVec 32 := Scalar.addi v2 c3_i32
  let c4_i32_16 : BitVec 32 := 4#32
  let v21 : BitVec 32 := Scalar.remsi v20 c4_i32_16
  let c1_i32_18 : BitVec 32 := 1#32
  let v22 : BitVec 32 := Scalar.muli v21 c1_i32_18
  let v23 : BitVec 32 := Scalar.addi c0_i32_19 v22
  v23.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_29 : BitVec 32 := 3#32
  let v32 : BitVec 32 := Scalar.addi v2 c3_i32_29
  let c4_i32_30 : BitVec 32 := 4#32
  let v33 : BitVec 32 := Scalar.remsi v32 c4_i32_30
  let c1_i32_33 : BitVec 32 := 1#32
  let v34 : BitVec 32 := Scalar.muli v33 c1_i32_33
  let v35 : BitVec 32 := Scalar.addi c0_i32_34 v34
  v35.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_29 : BitVec 32 := 3#32
  let v32 : BitVec 32 := Scalar.addi v2 c3_i32_29
  let c4_i32_30 : BitVec 32 := 4#32
  let v33 : BitVec 32 := Scalar.remsi v32 c4_i32_30
  let c1_i32_43 : BitVec 32 := 1#32
  let v44 : BitVec 32 := Scalar.muli v33 c1_i32_43
  let v45 : BitVec 32 := Scalar.addi c0_i32_44 v44
  v45.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v54 : BitVec 32 := Scalar.addi v2 c1_i32_51
  let c4_i32_52 : BitVec 32 := 4#32
  let v55 : BitVec 32 := Scalar.remsi v54 c4_i32_52
  let c1_i32_55 : BitVec 32 := 1#32
  let v56 : BitVec 32 := Scalar.muli v55 c1_i32_55
  let v57 : BitVec 32 := Scalar.addi c0_i32_56 v56
  v57.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v54 : BitVec 32 := Scalar.addi v2 c1_i32_51
  let c4_i32_52 : BitVec 32 := 4#32
  let v55 : BitVec 32 := Scalar.remsi v54 c4_i32_52
  let c1_i32_65 : BitVec 32 := 1#32
  let v66 : BitVec 32 := Scalar.muli v55 c1_i32_65
  let v67 : BitVec 32 := Scalar.addi c0_i32_66 v66
  v67.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v76 : BitVec 32 := Scalar.addi v2 c2_i32_73
  let c4_i32_74 : BitVec 32 := 4#32
  let v77 : BitVec 32 := Scalar.remsi v76 c4_i32_74
  let c1_i32_77 : BitVec 32 := 1#32
  let v78 : BitVec 32 := Scalar.muli v77 c1_i32_77
  let v79 : BitVec 32 := Scalar.addi c0_i32_78 v78
  v79.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v76 : BitVec 32 := Scalar.addi v2 c2_i32_73
  let c4_i32_74 : BitVec 32 := 4#32
  let v77 : BitVec 32 := Scalar.remsi v76 c4_i32_74
  let c1_i32_87 : BitVec 32 := 1#32
  let v88 : BitVec 32 := Scalar.muli v77 c1_i32_87
  let v89 : BitVec 32 := Scalar.addi c0_i32_88 v88
  v89.toNat
def k0_off2 (d0 : Dev nD) (c0_i32_107 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : BitVec 32 := Scalar.addi v2 c0_i32_107
  let c4_i32_108 : BitVec 32 := 4#32
  let v111 : BitVec 32 := Scalar.remsi v110 c4_i32_108
  let c0_i32_110 : BitVec 32 := 0#32
  let c0_i32_111 : BitVec 32 := 0#32
  let c0_i32_112 : BitVec 32 := 0#32
  ![v111.toNat, 0, 0, 0]
@[reducible] def k0_t1_loop : Scf.Loop 32 :=
  let c0_i32_137 : BitVec 32 := 0#32
  let c8_i32 : BitVec 32 := 8#32
  let v157 : BitVec 32 := Scalar.addi c0_i32_137 c8_i32
  let c1_i32_138 : BitVec 32 := 1#32
  ⟨c0_i32_137, v157, c1_i32_138⟩
def k0_off3 (k0_t1 : Fin k0_t1_loop.trips) : Fin 3 → Nat :=
  let c0_i32_137 : BitVec 32 := 0#32
  let c1_i32_138 : BitVec 32 := 1#32
  let arg18 : BitVec 32 := Scf.iv c0_i32_137 c1_i32_138 k0_t1
  let v1715 : Index := Scalar.indexCast arg18
  let c0_1324 : Index := 0#32
  let c0_1325 : Index := 0#32
  ![v1715.toNat, 0, 0]
def k0_off4 (k0_t1 : Fin k0_t1_loop.trips) : Fin 4 → Nat :=
  let c0_i32_137 : BitVec 32 := 0#32
  let c1_i32_138 : BitVec 32 := 1#32
  let arg18 : BitVec 32 := Scf.iv c0_i32_137 c1_i32_138 k0_t1
  let v1729 : Index := Scalar.indexCast arg18
  let c0_1332 : Index := 0#32
  let c0_1333 : Index := 0#32
  let c0_1334 : Index := 0#32
  ![v1729.toNat, 0, 0, 0]
@[reducible] def k0_t2_loop : Scf.Loop 32 :=
  let c0_i32_155 : BitVec 32 := 0#32
  let c8_i32_156 : BitVec 32 := 8#32
  let v187 : BitVec 32 := Scalar.addi c0_i32_155 c8_i32_156
  let c1_i32_157 : BitVec 32 := 1#32
  ⟨c0_i32_155, v187, c1_i32_157⟩
def k0_off5 (k0_t2 : Fin k0_t2_loop.trips) : Fin 3 → Nat :=
  let c0_i32_155 : BitVec 32 := 0#32
  let c1_i32_157 : BitVec 32 := 1#32
  let arg18 : BitVec 32 := Scf.iv c0_i32_155 c1_i32_157 k0_t2
  let v1715 : Index := Scalar.indexCast arg18
  let c704_1324 : Index := 704#32
  let c0_1325 : Index := 0#32
  ![v1715.toNat, 704, 0]
def k0_off6 (k0_t2 : Fin k0_t2_loop.trips) : Fin 3 → Nat :=
  let c0_i32_155 : BitVec 32 := 0#32
  let c1_i32_157 : BitVec 32 := 1#32
  let arg18 : BitVec 32 := Scf.iv c0_i32_155 c1_i32_157 k0_t2
  let v1720 : Index := Scalar.indexCast arg18
  let c1408_1327 : Index := 1408#32
  let c0_1328 : Index := 0#32
  ![v1720.toNat, 1408, 0]
def k0_off7 (k0_t2 : Fin k0_t2_loop.trips) : Fin 4 → Nat :=
  let c0_i32_155 : BitVec 32 := 0#32
  let c1_i32_157 : BitVec 32 := 1#32
  let arg18 : BitVec 32 := Scf.iv c0_i32_155 c1_i32_157 k0_t2
  let v1729 : Index := Scalar.indexCast arg18
  let c1_1332 : Index := 1#32
  let c0_1333 : Index := 0#32
  let c0_1334 : Index := 0#32
  ![v1729.toNat, 1, 0, 0]
@[reducible] def k0_t3_loop : Scf.Loop 32 :=
  let c0_i32_174 : BitVec 32 := 0#32
  let c8_i32_175 : BitVec 32 := 8#32
  let v217 : BitVec 32 := Scalar.addi c0_i32_174 c8_i32_175
  let c1_i32_176 : BitVec 32 := 1#32
  ⟨c0_i32_174, v217, c1_i32_176⟩
def k0_off8 (k0_t3 : Fin k0_t3_loop.trips) : Fin 3 → Nat :=
  let c0_i32_174 : BitVec 32 := 0#32
  let c1_i32_176 : BitVec 32 := 1#32
  let arg18 : BitVec 32 := Scf.iv c0_i32_174 c1_i32_176 k0_t3
  let v1715 : Index := Scalar.indexCast arg18
  let c1408_1324 : Index := 1408#32
  let c0_1325 : Index := 0#32
  ![v1715.toNat, 1408, 0]
def k0_off9 (k0_t3 : Fin k0_t3_loop.trips) : Fin 3 → Nat :=
  let c0_i32_174 : BitVec 32 := 0#32
  let c1_i32_176 : BitVec 32 := 1#32
  let arg18 : BitVec 32 := Scf.iv c0_i32_174 c1_i32_176 k0_t3
  let v1720 : Index := Scalar.indexCast arg18
  let c704_1327 : Index := 704#32
  let c0_1328 : Index := 0#32
  ![v1720.toNat, 704, 0]
def k0_off10 (k0_t3 : Fin k0_t3_loop.trips) : Fin 4 → Nat :=
  let c0_i32_174 : BitVec 32 := 0#32
  let c1_i32_176 : BitVec 32 := 1#32
  let arg18 : BitVec 32 := Scf.iv c0_i32_174 c1_i32_176 k0_t3
  let v1729 : Index := Scalar.indexCast arg18
  let c2_1332 : Index := 2#32
  let c0_1333 : Index := 0#32
  let c0_1334 : Index := 0#32
  ![v1729.toNat, 2, 0, 0]
@[reducible] def k0_t4_loop : Scf.Loop 32 :=
  let c0_i32_816 : BitVec 32 := 0#32
  let c8_i32_817 : BitVec 32 := 8#32
  let v1138 : BitVec 32 := Scalar.addi c0_i32_816 c8_i32_817
  let c1_i32_818 : BitVec 32 := 1#32
  ⟨c0_i32_816, v1138, c1_i32_818⟩
def k0_off11 (k0_t4 : Fin k0_t4_loop.trips) : Fin 3 → Nat :=
  let c0_i32_816 : BitVec 32 := 0#32
  let c1_i32_818 : BitVec 32 := 1#32
  let arg18 : BitVec 32 := Scf.iv c0_i32_816 c1_i32_818 k0_t4
  let v1715 : Index := Scalar.indexCast arg18
  let c0_1324 : Index := 0#32
  let c0_1325 : Index := 0#32
  ![v1715.toNat, 0, 0]
def k0_off12 (k0_t4 : Fin k0_t4_loop.trips) : Fin 4 → Nat :=
  let c0_i32_816 : BitVec 32 := 0#32
  let c1_i32_818 : BitVec 32 := 1#32
  let arg18 : BitVec 32 := Scf.iv c0_i32_816 c1_i32_818 k0_t4
  let v1729 : Index := Scalar.indexCast arg18
  let c0_1332 : Index := 0#32
  let c0_1333 : Index := 0#32
  let c0_1334 : Index := 0#32
  ![v1729.toNat, 0, 0, 0]
@[reducible] def k0_t5_loop : Scf.Loop 32 :=
  let c0_i32_835 : BitVec 32 := 0#32
  let c8_i32_836 : BitVec 32 := 8#32
  let v1168 : BitVec 32 := Scalar.addi c0_i32_835 c8_i32_836
  let c1_i32_837 : BitVec 32 := 1#32
  ⟨c0_i32_835, v1168, c1_i32_837⟩
def k0_off13 (k0_t5 : Fin k0_t5_loop.trips) : Fin 3 → Nat :=
  let c0_i32_835 : BitVec 32 := 0#32
  let c1_i32_837 : BitVec 32 := 1#32
  let arg18 : BitVec 32 := Scf.iv c0_i32_835 c1_i32_837 k0_t5
  let v1715 : Index := Scalar.indexCast arg18
  let c704_1324 : Index := 704#32
  let c0_1325 : Index := 0#32
  ![v1715.toNat, 704, 0]
def k0_off14 (k0_t5 : Fin k0_t5_loop.trips) : Fin 3 → Nat :=
  let c0_i32_835 : BitVec 32 := 0#32
  let c1_i32_837 : BitVec 32 := 1#32
  let arg18 : BitVec 32 := Scf.iv c0_i32_835 c1_i32_837 k0_t5
  let v1720 : Index := Scalar.indexCast arg18
  let c1408_1327 : Index := 1408#32
  let c0_1328 : Index := 0#32
  ![v1720.toNat, 1408, 0]
def k0_off15 (k0_t5 : Fin k0_t5_loop.trips) : Fin 4 → Nat :=
  let c0_i32_835 : BitVec 32 := 0#32
  let c1_i32_837 : BitVec 32 := 1#32
  let arg18 : BitVec 32 := Scf.iv c0_i32_835 c1_i32_837 k0_t5
  let v1729 : Index := Scalar.indexCast arg18
  let c1_1332 : Index := 1#32
  let c0_1333 : Index := 0#32
  let c0_1334 : Index := 0#32
  ![v1729.toNat, 1, 0, 0]
@[reducible] def k0_t6_loop : Scf.Loop 32 :=
  let c0_i32_854 : BitVec 32 := 0#32
  let c8_i32_855 : BitVec 32 := 8#32
  let v1198 : BitVec 32 := Scalar.addi c0_i32_854 c8_i32_855
  let c1_i32_856 : BitVec 32 := 1#32
  ⟨c0_i32_854, v1198, c1_i32_856⟩
def k0_off16 (k0_t6 : Fin k0_t6_loop.trips) : Fin 3 → Nat :=
  let c0_i32_854 : BitVec 32 := 0#32
  let c1_i32_856 : BitVec 32 := 1#32
  let arg18 : BitVec 32 := Scf.iv c0_i32_854 c1_i32_856 k0_t6
  let v1715 : Index := Scalar.indexCast arg18
  let c1408_1324 : Index := 1408#32
  let c0_1325 : Index := 0#32
  ![v1715.toNat, 1408, 0]
def k0_off17 (k0_t6 : Fin k0_t6_loop.trips) : Fin 3 → Nat :=
  let c0_i32_854 : BitVec 32 := 0#32
  let c1_i32_856 : BitVec 32 := 1#32
  let arg18 : BitVec 32 := Scf.iv c0_i32_854 c1_i32_856 k0_t6
  let v1720 : Index := Scalar.indexCast arg18
  let c704_1327 : Index := 704#32
  let c0_1328 : Index := 0#32
  ![v1720.toNat, 704, 0]
def k0_off18 (k0_t6 : Fin k0_t6_loop.trips) : Fin 4 → Nat :=
  let c0_i32_854 : BitVec 32 := 0#32
  let c1_i32_856 : BitVec 32 := 1#32
  let arg18 : BitVec 32 := Scf.iv c0_i32_854 c1_i32_856 k0_t6
  let v1729 : Index := Scalar.indexCast arg18
  let c2_1332 : Index := 2#32
  let c0_1333 : Index := 0#32
  let c0_1334 : Index := 0#32
  ![v1729.toNat, 2, 0, 0]
@[reducible] def k0_t7_loop : Scf.Loop 32 :=
  let c0_i32_913 : BitVec 32 := 0#32
  let c8_i32_914 : BitVec 32 := 8#32
  let v1265 : BitVec 32 := Scalar.addi c0_i32_913 c8_i32_914
  let c1_i32_915 : BitVec 32 := 1#32
  ⟨c0_i32_913, v1265, c1_i32_915⟩
def k0_off19 (k0_t7 : Fin k0_t7_loop.trips) : Fin 3 → Nat :=
  let c0_i32_913 : BitVec 32 := 0#32
  let c1_i32_915 : BitVec 32 := 1#32
  let arg18 : BitVec 32 := Scf.iv c0_i32_913 c1_i32_915 k0_t7
  let v1715 : Index := Scalar.indexCast arg18
  let c0_1324 : Index := 0#32
  let c0_1325 : Index := 0#32
  ![v1715.toNat, 0, 0]
def k0_off20 (k0_t7 : Fin k0_t7_loop.trips) : Fin 4 → Nat :=
  let c0_i32_913 : BitVec 32 := 0#32
  let c1_i32_915 : BitVec 32 := 1#32
  let arg18 : BitVec 32 := Scf.iv c0_i32_913 c1_i32_915 k0_t7
  let v1729 : Index := Scalar.indexCast arg18
  let c0_1332 : Index := 0#32
  let c0_1333 : Index := 0#32
  let c0_1334 : Index := 0#32
  ![v1729.toNat, 0, 0, 0]
@[reducible] def k0_t8_loop : Scf.Loop 32 :=
  let c0_i32_932 : BitVec 32 := 0#32
  let c8_i32_933 : BitVec 32 := 8#32
  let v1295 : BitVec 32 := Scalar.addi c0_i32_932 c8_i32_933
  let c1_i32_934 : BitVec 32 := 1#32
  ⟨c0_i32_932, v1295, c1_i32_934⟩
def k0_off21 (k0_t8 : Fin k0_t8_loop.trips) : Fin 3 → Nat :=
  let c0_i32_932 : BitVec 32 := 0#32
  let c1_i32_934 : BitVec 32 := 1#32
  let arg18 : BitVec 32 := Scf.iv c0_i32_932 c1_i32_934 k0_t8
  let v1715 : Index := Scalar.indexCast arg18
  let c704_1324 : Index := 704#32
  let c0_1325 : Index := 0#32
  ![v1715.toNat, 704, 0]
def k0_off22 (k0_t8 : Fin k0_t8_loop.trips) : Fin 3 → Nat :=
  let c0_i32_932 : BitVec 32 := 0#32
  let c1_i32_934 : BitVec 32 := 1#32
  let arg18 : BitVec 32 := Scf.iv c0_i32_932 c1_i32_934 k0_t8
  let v1720 : Index := Scalar.indexCast arg18
  let c1408_1327 : Index := 1408#32
  let c0_1328 : Index := 0#32
  ![v1720.toNat, 1408, 0]
def k0_off23 (k0_t8 : Fin k0_t8_loop.trips) : Fin 4 → Nat :=
  let c0_i32_932 : BitVec 32 := 0#32
  let c1_i32_934 : BitVec 32 := 1#32
  let arg18 : BitVec 32 := Scf.iv c0_i32_932 c1_i32_934 k0_t8
  let v1729 : Index := Scalar.indexCast arg18
  let c1_1332 : Index := 1#32
  let c0_1333 : Index := 0#32
  let c0_1334 : Index := 0#32
  ![v1729.toNat, 1, 0, 0]
@[reducible] def k0_t9_loop : Scf.Loop 32 :=
  let c0_i32_951 : BitVec 32 := 0#32
  let c8_i32_952 : BitVec 32 := 8#32
  let v1325 : BitVec 32 := Scalar.addi c0_i32_951 c8_i32_952
  let c1_i32_953 : BitVec 32 := 1#32
  ⟨c0_i32_951, v1325, c1_i32_953⟩
def k0_off24 (k0_t9 : Fin k0_t9_loop.trips) : Fin 3 → Nat :=
  let c0_i32_951 : BitVec 32 := 0#32
  let c1_i32_953 : BitVec 32 := 1#32
  let arg18 : BitVec 32 := Scf.iv c0_i32_951 c1_i32_953 k0_t9
  let v1715 : Index := Scalar.indexCast arg18
  let c1408_1324 : Index := 1408#32
  let c0_1325 : Index := 0#32
  ![v1715.toNat, 1408, 0]
def k0_off25 (k0_t9 : Fin k0_t9_loop.trips) : Fin 3 → Nat :=
  let c0_i32_951 : BitVec 32 := 0#32
  let c1_i32_953 : BitVec 32 := 1#32
  let arg18 : BitVec 32 := Scf.iv c0_i32_951 c1_i32_953 k0_t9
  let v1720 : Index := Scalar.indexCast arg18
  let c704_1327 : Index := 704#32
  let c0_1328 : Index := 0#32
  ![v1720.toNat, 704, 0]
def k0_off26 (k0_t9 : Fin k0_t9_loop.trips) : Fin 4 → Nat :=
  let c0_i32_951 : BitVec 32 := 0#32
  let c1_i32_953 : BitVec 32 := 1#32
  let arg18 : BitVec 32 := Scf.iv c0_i32_951 c1_i32_953 k0_t9
  let v1729 : Index := Scalar.indexCast arg18
  let c2_1332 : Index := 2#32
  let c0_1333 : Index := 0#32
  let c0_1334 : Index := 0#32
  ![v1729.toNat, 2, 0, 0]
@[reducible] def k0_t10_loop : Scf.Loop 32 :=
  let c0_i32_1010 : BitVec 32 := 0#32
  let c8_i32_1011 : BitVec 32 := 8#32
  let v1392 : BitVec 32 := Scalar.addi c0_i32_1010 c8_i32_1011
  let c1_i32_1012 : BitVec 32 := 1#32
  ⟨c0_i32_1010, v1392, c1_i32_1012⟩
def k0_off27 (k0_t10 : Fin k0_t10_loop.trips) : Fin 3 → Nat :=
  let c0_i32_1010 : BitVec 32 := 0#32
  let c1_i32_1012 : BitVec 32 := 1#32
  let arg18 : BitVec 32 := Scf.iv c0_i32_1010 c1_i32_1012 k0_t10
  let v1715 : Index := Scalar.indexCast arg18
  let c0_1324 : Index := 0#32
  let c0_1325 : Index := 0#32
  ![v1715.toNat, 0, 0]
def k0_off28 (k0_t10 : Fin k0_t10_loop.trips) : Fin 4 → Nat :=
  let c0_i32_1010 : BitVec 32 := 0#32
  let c1_i32_1012 : BitVec 32 := 1#32
  let arg18 : BitVec 32 := Scf.iv c0_i32_1010 c1_i32_1012 k0_t10
  let v1729 : Index := Scalar.indexCast arg18
  let c0_1332 : Index := 0#32
  let c0_1333 : Index := 0#32
  let c0_1334 : Index := 0#32
  ![v1729.toNat, 0, 0, 0]
@[reducible] def k0_t11_loop : Scf.Loop 32 :=
  let c0_i32_1029 : BitVec 32 := 0#32
  let c8_i32_1030 : BitVec 32 := 8#32
  let v1422 : BitVec 32 := Scalar.addi c0_i32_1029 c8_i32_1030
  let c1_i32_1031 : BitVec 32 := 1#32
  ⟨c0_i32_1029, v1422, c1_i32_1031⟩
def k0_off29 (k0_t11 : Fin k0_t11_loop.trips) : Fin 3 → Nat :=
  let c0_i32_1029 : BitVec 32 := 0#32
  let c1_i32_1031 : BitVec 32 := 1#32
  let arg18 : BitVec 32 := Scf.iv c0_i32_1029 c1_i32_1031 k0_t11
  let v1715 : Index := Scalar.indexCast arg18
  let c704_1324 : Index := 704#32
  let c0_1325 : Index := 0#32
  ![v1715.toNat, 704, 0]
def k0_off30 (k0_t11 : Fin k0_t11_loop.trips) : Fin 3 → Nat :=
  let c0_i32_1029 : BitVec 32 := 0#32
  let c1_i32_1031 : BitVec 32 := 1#32
  let arg18 : BitVec 32 := Scf.iv c0_i32_1029 c1_i32_1031 k0_t11
  let v1720 : Index := Scalar.indexCast arg18
  let c1408_1327 : Index := 1408#32
  let c0_1328 : Index := 0#32
  ![v1720.toNat, 1408, 0]
def k0_off31 (k0_t11 : Fin k0_t11_loop.trips) : Fin 4 → Nat :=
  let c0_i32_1029 : BitVec 32 := 0#32
  let c1_i32_1031 : BitVec 32 := 1#32
  let arg18 : BitVec 32 := Scf.iv c0_i32_1029 c1_i32_1031 k0_t11
  let v1729 : Index := Scalar.indexCast arg18
  let c1_1332 : Index := 1#32
  let c0_1333 : Index := 0#32
  let c0_1334 : Index := 0#32
  ![v1729.toNat, 1, 0, 0]
@[reducible] def k0_t12_loop : Scf.Loop 32 :=
  let c0_i32_1048 : BitVec 32 := 0#32
  let c8_i32_1049 : BitVec 32 := 8#32
  let v1452 : BitVec 32 := Scalar.addi c0_i32_1048 c8_i32_1049
  let c1_i32_1050 : BitVec 32 := 1#32
  ⟨c0_i32_1048, v1452, c1_i32_1050⟩
def k0_off32 (k0_t12 : Fin k0_t12_loop.trips) : Fin 3 → Nat :=
  let c0_i32_1048 : BitVec 32 := 0#32
  let c1_i32_1050 : BitVec 32 := 1#32
  let arg18 : BitVec 32 := Scf.iv c0_i32_1048 c1_i32_1050 k0_t12
  let v1715 : Index := Scalar.indexCast arg18
  let c1408_1324 : Index := 1408#32
  let c0_1325 : Index := 0#32
  ![v1715.toNat, 1408, 0]
def k0_off33 (k0_t12 : Fin k0_t12_loop.trips) : Fin 3 → Nat :=
  let c0_i32_1048 : BitVec 32 := 0#32
  let c1_i32_1050 : BitVec 32 := 1#32
  let arg18 : BitVec 32 := Scf.iv c0_i32_1048 c1_i32_1050 k0_t12
  let v1720 : Index := Scalar.indexCast arg18
  let c704_1327 : Index := 704#32
  let c0_1328 : Index := 0#32
  ![v1720.toNat, 704, 0]
def k0_off34 (k0_t12 : Fin k0_t12_loop.trips) : Fin 4 → Nat :=
  let c0_i32_1048 : BitVec 32 := 0#32
  let c1_i32_1050 : BitVec 32 := 1#32
  let arg18 : BitVec 32 := Scf.iv c0_i32_1048 c1_i32_1050 k0_t12
  let v1729 : Index := Scalar.indexCast arg18
  let c2_1332 : Index := 2#32
  let c0_1333 : Index := 0#32
  let c0_1334 : Index := 0#32
  ![v1729.toNat, 2, 0, 0]
abbrev stage0_0 : Fin 1 → Memref sig .tc .vmem S8x2112x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x8192x1024 : Shape := ⟨3, ![1, 8192, 1024]⟩
abbrev S1024x1024 : Shape := ⟨2, ![1024, 1024]⟩
abbrev S1x8192x8x128 : Shape := ⟨4, ![1, 8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8x8192x8192 : Shape := ⟨4, ![1, 8, 8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x1x8192x1 : Shape := ⟨4, ![1, 1, 8192, 1]⟩
abbrev S1x8x128x8192 : Shape := ⟨4, ![1, 8, 128, 8192]⟩

abbrev nBuf : Space → Nat
  | .hbm => 129
  | .vmem => 0
  | .smem => 0
  | _ => 0

abbrev hbmTy0_0 (i : Nat) : BufTy := match i % 128 with
  | 0 => ⟨S1x8192x1024, .bf16⟩
  | 1 => ⟨S1024x1024, .bf16⟩
  | 2 => ⟨S1x8192x8x128, .bf16⟩
  | 3 => ⟨S1x8192x8x128, .bf16⟩
  | 4 => ⟨S1024x1024, .bf16⟩
  | 5 => ⟨S1x8192x1024, .f32⟩
  | 6 => ⟨S1x8192x1024, .bf16⟩
  | 7 => ⟨S1x8192x8x128, .bf16⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192, .i32⟩
  | 29 => ⟨S_, .i32⟩
  | 30 => ⟨S_, .i32⟩
  | 31 => ⟨S8192, .i32⟩
  | 32 => ⟨S8192, .i32⟩
  | 33 => ⟨S8192, .i32⟩
  | 34 => ⟨S_, .i32⟩
  | 35 => ⟨S8192, .i32⟩
  | 36 => ⟨S8192, .i1⟩
  | 37 => ⟨S8192, .i32⟩
  | 38 => ⟨S8192, .i32⟩
  | 39 => ⟨S_, .i32⟩
  | 40 => ⟨S8192, .i32⟩
  | 41 => ⟨S8192, .i1⟩
  | 42 => ⟨S8192, .i1⟩
  | 43 => ⟨S_, .i32⟩
  | 44 => ⟨S8192, .i32⟩
  | 45 => ⟨S8192, .i32⟩
  | 46 => ⟨S8192, .i32⟩
  | 47 => ⟨S1x8192, .i32⟩
  | 48 => ⟨S8192x8192, .i32⟩
  | 49 => ⟨S8192x8192, .i32⟩
  | 50 => ⟨S8192x8192, .i1⟩
  | 51 => ⟨S_, .i32⟩
  | 52 => ⟨S1x8192, .i32⟩
  | 53 => ⟨S1x8192, .i1⟩
  | 54 => ⟨S8192x8192, .i1⟩
  | 55 => ⟨S8192x8192, .i1⟩
  | 56 => ⟨S8192x8192, .i32⟩
  | 57 => ⟨S8192x8192, .i32⟩
  | 58 => ⟨S8192x8192, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8192x8192, .i32⟩
  | 66 => ⟨S8192x8192, .i32⟩
  | 67 => ⟨S_, .i32⟩
  | 68 => ⟨S8192x8192, .i32⟩
  | 69 => ⟨S8192x8192, .i1⟩
  | 70 => ⟨S_, .i32⟩
  | 71 => ⟨S8192x8192, .i32⟩
  | 72 => ⟨S8192x8192, .i1⟩
  | 73 => ⟨S_, .i32⟩
  | 74 => ⟨S_, .i1⟩
  | 75 => ⟨S8192x8192, .i1⟩
  | 76 => ⟨S8192x8192, .i1⟩
  | 77 => ⟨S8192x8192, .i1⟩
  | 78 => ⟨S8192x8192, .i32⟩
  | 79 => ⟨S8192x8192, .i32⟩
  | 80 => ⟨S8192x8192, .i32⟩
  | 81 => ⟨S_, .i32⟩
  | 82 => ⟨S8192x8192, .i32⟩
  | 83 => ⟨S8192x8192, .i1⟩
  | 84 => ⟨S8192x8192, .i1⟩
  | 85 => ⟨S1x8x8192x8192, .f32⟩
  | 86 => ⟨S1x8x8192x8192, .bf16⟩
  | 87 => ⟨S1x8x8192x8192, .f32⟩
  | 88 => ⟨S_, .f32⟩
  | 89 => ⟨S_, .f32⟩
  | 90 => ⟨S1x8x8192x8192, .f32⟩
  | 91 => ⟨S1x8x8192x8192, .f32⟩
  | 92 => ⟨S1x1x8192x8192, .i1⟩
  | 93 => ⟨S_, .f32⟩
  | 94 => ⟨S_, .f32⟩
  | 95 => ⟨S1x8x8192x8192, .i1⟩
  | 96 => ⟨S1x8x8192x8192, .f32⟩
  | 97 => ⟨S1x8x8192x8192, .f32⟩
  | 98 => ⟨S_, .f32⟩
  | 99 => ⟨S1x8x8192, .f32⟩
  | 100 => ⟨S1x8x8192x1, .f32⟩
  | 101 => ⟨S1x8x8192x8192, .f32⟩
  | 102 => ⟨S1x8x8192x8192, .f32⟩
  | 103 => ⟨S1x8x8192x8192, .f32⟩
  | 104 => ⟨S_, .i1⟩
  | 105 => ⟨S8192, .i1⟩
  | 106 => ⟨S1x1x8192x1, .i1⟩
  | 107 => ⟨S_, .f32⟩
  | 108 => ⟨S1x8x8192, .f32⟩
  | 109 => ⟨S1x8x8192x1, .f32⟩
  | 110 => ⟨S_, .f32⟩
  | 111 => ⟨S_, .f32⟩
  | 112 => ⟨S1x8x8192x1, .i1⟩
  | 113 => ⟨S1x8x8192x1, .f32⟩
  | 114 => ⟨S1x8x8192x1, .f32⟩
  | 115 => ⟨S1x8x8192x8192, .f32⟩
  | 116 => ⟨S1x8x8192x8192, .f32⟩
  | 117 => ⟨S1x1x8192x1, .i1⟩
  | 118 => ⟨S_, .f32⟩
  | 119 => ⟨S_, .f32⟩
  | 120 => ⟨S1x8x8192x8192, .i1⟩
  | 121 => ⟨S1x8x8192x8192, .f32⟩
  | 122 => ⟨S1x8x8192x8192, .f32⟩
  | 123 => ⟨S1x8192x8x128, .f32⟩
  | 124 => ⟨S1x8x128x8192, .f32⟩
  | 125 => ⟨S1x8192x8x128, .f32⟩
  | 126 => ⟨S1x8192x1024, .f32⟩
  | 127 => ⟨S1024x1024, .f32⟩
  | _ => ⟨S1x8192x1024, .bf16⟩

abbrev hbmTy0_1 (i : Nat) : BufTy := match i % 128 with
  | 0 => ⟨S1x8192x1024, .f32⟩
  | _ => ⟨S1x8192x1024, .bf16⟩

abbrev hbmTy (i : Nat) : BufTy := match i / 128 with
  | 0 => hbmTy0_0 i
  | 1 => hbmTy0_1 i
  | _ => ⟨S1x8192x1024, .bf16⟩

abbrev bufTy : (tb : Table) → Fin (tcTables nBuf tb) → BufTy
  | .hbm, ⟨i, _⟩ => hbmTy i
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_cst_4 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v30 : Ref sig .tc := ⟨.hbm, 97, rfl⟩
abbrev main_cst_5 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_6 : Ref sig .tc := ⟨.hbm, 104, rfl⟩
abbrev main_v36 : Ref sig .tc := ⟨.hbm, 105, rfl⟩
abbrev main_v37 : Ref sig .tc := ⟨.hbm, 106, rfl⟩
abbrev main_cst_7 : Ref sig .tc := ⟨.hbm, 107, rfl⟩
abbrev main_v38 : Ref sig .tc := ⟨.hbm, 108, rfl⟩
abbrev main_v39 : Ref sig .tc := ⟨.hbm, 109, rfl⟩
abbrev main_cst_8 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_cst_9 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.Seg.lean ====
module

public import proofs.«01_k».proof.Proof.Gen.KernelIdeal.Skeleton

@[expose] public section

noncomputable section

/-! # One running-softmax update, as a program

The body of the kernel is a long sequence of the same update: load a block of query rows, a block of
keys and of values, the running maximum, sum and accumulator of those rows, and store the three back.
Here that update is written once for each of the two key-block sizes, with its offsets as parameters. -/

namespace Cert.KernelIdeal.Flash

open Cert.KernelIdeal.Gen Idealize.ShloMosaic Idealize.ShloMosaic.TcCoe Idealize.SL.Sem

variable {F : FTy → Type} [FloatOps F] [Named F]

/-- The scores of 704 query rows against 704 keys. -/
def scL (bias : FVec F S704x704 .f32) (q : Vec F S1x704x128 .bf16) (k : Vec F S1x704x128 .bf16) : FVec F S704x704 .f32 :=
  addf (matmul dot_S704x128_S704x128_S704x704_1_1_0_0_n_n none (mulf (shapeCast S704x128 q shapeCasts_S1x704x128_S704x128) (broadcast S704x128 (Named.named κ "scale" 0x3DB5#16 : F .bf16))) (shapeCast S704x128 k shapeCasts_S1x704x128_S704x128) (constant S704x704 .f32 0x00000000#32)) bias

/-- The new running maximum. -/
def mxL (s : FVec F S704x704 .f32) (m0 : Vec F S1x1x704x128 .bf16) : FVec F S704x128 .f32 :=
  maximumf (extf .f32 (shapeCast S704x128 m0 shapeCasts_S1x1x704x128_S704x128) bitsLt_bf16_f32)
    (broadcastTo S704x128 (shapeCast S704x1 (multiReduction .maximumf [1] S704 s 0xFF800000#32 reduces_S704x704_S704 (.inl rfl) rfl) shapeCasts_S704_S704x1) broadcasts_S704x1_S704x128)

/-- The factor the earlier sums are rescaled by. -/
def alL (s : FVec F S704x704 .f32) (m0 : Vec F S1x1x704x128 .bf16) : FVec F S704x128 .f32 :=
  exp (subf (extf .f32 (shapeCast S704x128 m0 shapeCasts_S1x1x704x128_S704x128) bitsLt_bf16_f32) (mxL s m0))

/-- The weights of the 704 keys. -/
def prL (s : FVec F S704x704 .f32) (m0 : Vec F S1x1x704x128 .bf16) : FVec F S704x704 .f32 :=
  exp (subf s (broadcastTo S704x704 (extractStridedSlice S704x1 ![0, 0] (mxL s m0) slices_S704x128_o0_0_S704x1) broadcasts_S704x1_S704x704))

/-- The accumulator stored. -/
def acL (s : FVec F S704x704 .f32) (v : Vec F S1x704x128 .bf16) (m0 : Vec F S1x1x704x128 .bf16) (a0 : Vec F S1x704x128 .f32) : FVec F S1x704x128 .f32 :=
  shapeCast S1x704x128
    (addf (mulf (broadcastTo S704x128 (extractStridedSlice S704x1 ![0, 0] (alL s m0) slices_S704x128_o0_0_S704x1) broadcasts_S704x1_S704x128)
        (shapeCast S704x128 a0 shapeCasts_S1x704x128_S704x128))
      (matmul dot_S704x704_S704x128_S704x128_1_0_0_1_n_n none (truncf .bf16 (prL s m0) bitsLt_bf16_f32) (shapeCast S704x128 v shapeCasts_S1x704x128_S704x128) (constant S704x128 .f32 0x00000000#32)))
    shapeCasts_S704x128_S1x704x128

/-- The maximum stored. -/
def msL (s : FVec F S704x704 .f32) (m0 : Vec F S1x1x704x128 .bf16) : FVec F S1x1x704x128 .bf16 :=
  shapeCast S1x1x704x128 (truncf .bf16 (mxL s m0) bitsLt_bf16_f32) shapeCasts_S704x128_S1x1x704x128

/-- The sum stored. -/
def lsL (s : FVec F S704x704 .f32) (m0 l0 : Vec F S1x1x704x128 .bf16) : FVec F S1x1x704x128 .bf16 :=
  shapeCast S1x1x704x128
    (truncf .bf16
      (addf (mulf (alL s m0) (extf .f32 (shapeCast S704x128 l0 shapeCasts_S1x1x704x128_S704x128) bitsLt_bf16_f32))
        (broadcastTo S704x128 (shapeCast S704x1 (multiReduction .add [1] S704 (prL s m0) 0x00000000#32 reduces_S704x704_S704 (.inl rfl) rfl) shapeCasts_S704_S704x1) broadcasts_S704x1_S704x128))
      bitsLt_bf16_f32)
    shapeCasts_S704x128_S1x1x704x128

/-- One update with 704 keys. -/
def segL (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (oq ok : Fin 3 → Nat) (om : Fin 4 → Nat)
    (hq : ∀ a, oq a + S1x704x128.size a ≤ S8x2112x128.size a) (hk : ∀ a, ok a + S1x704x128.size a ≤ S8x2112x128.size a)
    (hm : ∀ a, om a + S1x1x704x128.size a ≤ S8x3x704x128.size a)
    (hp : (Rect.unit (s := S8x3x704x128) om S1x1x704x128.size hm).PackedRows (EltTy.packing .bf16)) :
    Prog (TpuEff nD τ sig (Elt F) Λ₀ .tc) Unit := do
  let q : Vec F S1x704x128 .bf16 ← Prog.lift (.load arg0 (Rect.unit (s := S8x2112x128) oq S1x704x128.size hq).toLoadRect (View.loadsAt_vmem h_S1x704x128))
  let k : Vec F S1x704x128 .bf16 ← Prog.lift (.load arg8 (Rect.unit (s := S8x2112x128) ok S1x704x128.size hk).toLoadRect (View.loadsAt_vmem h_S1x704x128))
  let v : Vec F S1x704x128 .bf16 ← Prog.lift (.load arg9 (Rect.unit (s := S8x2112x128) ok S1x704x128.size hk).toLoadRect (View.loadsAt_vmem h_S1x704x128))
  let m0 : Vec F S1x1x704x128 .bf16 ← Prog.lift (.load arg10 (Rect.unit (s := S8x3x704x128) om S1x1x704x128.size hm).toLoadRect (View.loadsAt_vmem h_S1x1x704x128))
  let l0 : Vec F S1x1x704x128 .bf16 ← Prog.lift (.load arg11 (Rect.unit (s := S8x3x704x128) om S1x1x704x128.size hm).toLoadRect (View.loadsAt_vmem h_S1x1x704x128))
  let a0 : Vec F S1x704x128 .f32 ← Prog.lift (.load arg7 (Rect.unit (s := S8x2112x128) oq S1x704x128.size hq).toLoadRect (View.loadsAt_vmem h_S1x704x128))
  let _ : Vec F S1x704x128 .f32 ← Prog.lift (.load arg7 (Rect.unit (s := S8x2112x128) oq S1x704x128.size hq).toLoadRect (View.loadsAt_vmem h_S1x704x128))
  Prog.lift (.store arg7 (Rect.unit (s := S8x2112x128) oq S1x704x128.size hq) (acL (scL bias q k) v m0 a0) Finset.univ (View.stores_vmem_bits_univ h_S1x704x128 rfl) (.inl rfl))
  let _ : Vec F S1x1x704x128 .bf16 ← Prog.lift (.load arg10 (Rect.unit (s := S8x3x704x128) om S1x1x704x128.size hm).toLoadRect (View.loadsAt_vmem h_S1x1x704x128))
  Prog.lift (.store arg10 (Rect.unit (s := S8x3x704x128) om S1x1x704x128.size hm) (msL (scL bias q k) m0) Finset.univ (View.stores_vmem h_S1x1x704x128 (harg10.storeExact_slice rfl _ hp) (fun _ => rfl)) (.inl rfl))
  let _ : Vec F S1x1x704x128 .bf16 ← Prog.lift (.load arg11 (Rect.unit (s := S8x3x704x128) om S1x1x704x128.size hm).toLoadRect (View.loadsAt_vmem h_S1x1x704x128))
  Prog.lift (.store arg11 (Rect.unit (s := S8x3x704x128) om S1x1x704x128.size hm) (lsL (scL bias q k) m0 l0) Finset.univ (View.stores_vmem h_S1x1x704x128 (harg11.storeExact_slice rfl _ hp) (fun _ => rfl)) (.inl rfl))
  pure ⟨⟩

/-- The scores of 704 query rows against 64 keys. -/
def scS (q : Vec F S1x704x128 .bf16) (k : Vec F S1x64x128 .bf16) : FVec F S704x64 .f32 :=
  matmul dot_S704x128_S64x128_S704x64_1_1_0_0_n_n none (mulf (shapeCast S704x128 q shapeCasts_S1x704x128_S704x128) (broadcast S704x128 (Named.named κ "scale" 0x3DB5#16 : F .bf16))) (shapeCast S64x128 k shapeCasts_S1x64x128_S64x128) (constant S704x64 .f32 0x00000000#32)

/-- The new running maximum. -/
def mxS (s : FVec F S704x64 .f32) (m0 : Vec F S1x1x704x128 .bf16) : FVec F S704x128 .f32 :=
  maximumf (extf .f32 (shapeCast S704x128 m0 shapeCasts_S1x1x704x128_S704x128) bitsLt_bf16_f32)
    (broadcastTo S704x128 (shapeCast S704x1 (multiReduction .maximumf [1] S704 s 0xFF800000#32 reduces_S704x64_S704 (.inl rfl) rfl) shapeCasts_S704_S704x1) broadcasts_S704x1_S704x128)

/-- The factor the earlier sums are rescaled by. -/
def alS (s : FVec F S704x64 .f32) (m0 : Vec F S1x1x704x128 .bf16) : FVec F S704x128 .f32 :=
  exp (subf (extf .f32 (shapeCast S704x128 m0 shapeCasts_S1x1x704x128_S704x128) bitsLt_bf16_f32) (mxS s m0))

/-- The weights of the 64 keys. -/
def prS (s : FVec F S704x64 .f32) (m0 : Vec F S1x1x704x128 .bf16) : FVec F S704x64 .f32 :=
  exp (subf s (broadcastTo S704x64 (extractStridedSlice S704x1 ![0, 0] (mxS s m0) slices_S704x128_o0_0_S704x1) broadcasts_S704x1_S704x64))

/-- The accumulator stored. -/
def acS (s : FVec F S704x64 .f32) (v : Vec F S1x64x128 .bf16) (m0 : Vec F S1x1x704x128 .bf16) (a0 : Vec F S1x704x128 .f32) : FVec F S1x704x128 .f32 :=
  shapeCast S1x704x128
    (addf (mulf (broadcastTo S704x128 (extractStridedSlice S704x1 ![0, 0] (alS s m0) slices_S704x128_o0_0_S704x1) broadcasts_S704x1_S704x128)
        (shapeCast S704x128 a0 shapeCasts_S1x704x128_S704x128))
      (matmul dot_S704x64_S64x128_S704x128_1_0_0_1_n_n none (truncf .bf16 (prS s m0) bitsLt_bf16_f32) (shapeCast S64x128 v shapeCasts_S1x64x128_S64x128) (constant S704x128 .f32 0x00000000#32)))
    shapeCasts_S704x128_S1x704x128

/-- The maximum stored. -/
def msS (s : FVec F S704x64 .f32) (m0 : Vec F S1x1x704x128 .bf16) : FVec F S1x1x704x128 .bf16 :=
  shapeCast S1x1x704x128 (truncf .bf16 (mxS s m0) bitsLt_bf16_f32) shapeCasts_S704x128_S1x1x704x128

/-- The sum stored. -/
def lsS (s : FVec F S704x64 .f32) (m0 l0 : Vec F S1x1x704x128 .bf16) : FVec F S1x1x704x128 .bf16 :=
  shapeCast S1x1x704x128
    (truncf .bf16
      (addf (mulf (alS s m0) (extf .f32 (shapeCast S704x128 l0 shapeCasts_S1x1x704x128_S704x128) bitsLt_bf16_f32))
        (broadcastTo S704x128 (shapeCast S704x1 (multiReduction .add [1] S704 (prS s m0) 0x00000000#32 reduces_S704x64_S704 (.inl rfl) rfl) shapeCasts_S704_S704x1) broadcasts_S704x1_S704x128))
      bitsLt_bf16_f32)
    shapeCasts_S704x128_S1x1x704x128

/-- One update with 64 keys. -/
def segS (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (oq ok : Fin 3 → Nat) (om : Fin 4 → Nat)
    (hq : ∀ a, oq a + S1x704x128.size a ≤ S8x2112x128.size a) (hk : ∀ a, ok a + S1x64x128.size a ≤ S8x2112x128.size a)
    (hm : ∀ a, om a + S1x1x704x128.size a ≤ S8x3x704x128.size a)
    (hp : (Rect.unit (s := S8x3x704x128) om S1x1x704x128.size hm).PackedRows (EltTy.packing .bf16)) :
    Prog (TpuEff nD τ sig (Elt F) Λ₀ .tc) Unit := do
  let q : Vec F S1x704x128 .bf16 ← Prog.lift (.load arg0 (Rect.unit (s := S8x2112x128) oq S1x704x128.size hq).toLoadRect (View.loadsAt_vmem h_S1x704x128))
  let k : Vec F S1x64x128 .bf16 ← Prog.lift (.load arg8 (Rect.unit (s := S8x2112x128) ok S1x64x128.size hk).toLoadRect (View.loadsAt_vmem h_S1x64x128))
  let v : Vec F S1x64x128 .bf16 ← Prog.lift (.load arg9 (Rect.unit (s := S8x2112x128) ok S1x64x128.size hk).toLoadRect (View.loadsAt_vmem h_S1x64x128))
  let m0 : Vec F S1x1x704x128 .bf16 ← Prog.lift (.load arg10 (Rect.unit (s := S8x3x704x128) om S1x1x704x128.size hm).toLoadRect (View.loadsAt_vmem h_S1x1x704x128))
  let l0 : Vec F S1x1x704x128 .bf16 ← Prog.lift (.load arg11 (Rect.unit (s := S8x3x704x128) om S1x1x704x128.size hm).toLoadRect (View.loadsAt_vmem h_S1x1x704x128))
  let a0 : Vec F S1x704x128 .f32 ← Prog.lift (.load arg7 (Rect.unit (s := S8x2112x128) oq S1x704x128.size hq).toLoadRect (View.loadsAt_vmem h_S1x704x128))
  let _ : Vec F S1x704x128 .f32 ← Prog.lift (.load arg7 (Rect.unit (s := S8x2112x128) oq S1x704x128.size hq).toLoadRect (View.loadsAt_vmem h_S1x704x128))
  Prog.lift (.store arg7 (Rect.unit (s := S8x2112x128) oq S1x704x128.size hq) (acS (scS q k) v m0 a0) Finset.univ (View.stores_vmem_bits_univ h_S1x704x128 rfl) (.inl rfl))
  let _ : Vec F S1x1x704x128 .bf16 ← Prog.lift (.load arg10 (Rect.unit (s := S8x3x704x128) om S1x1x704x128.size hm).toLoadRect (View.loadsAt_vmem h_S1x1x704x128))
  Prog.lift (.store arg10 (Rect.unit (s := S8x3x704x128) om S1x1x704x128.size hm) (msS (scS q k) m0) Finset.univ (View.stores_vmem h_S1x1x704x128 (harg10.storeExact_slice rfl _ hp) (fun _ => rfl)) (.inl rfl))
  let _ : Vec F S1x1x704x128 .bf16 ← Prog.lift (.load arg11 (Rect.unit (s := S8x3x704x128) om S1x1x704x128.size hm).toLoadRect (View.loadsAt_vmem h_S1x1x704x128))
  Prog.lift (.store arg11 (Rect.unit (s := S8x3x704x128) om S1x1x704x128.size hm) (lsS (scS q k) m0 l0) Finset.univ (View.stores_vmem h_S1x1x704x128 (harg11.storeExact_slice rfl _ hp) (fun _ => rfl)) (.inl rfl))
  pure ⟨⟩

/-- The updates of the second and third row groups against the very first key block. -/
def kbAll (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) : Prog (TpuEff nD τ sig (Elt F) Λ₀ .tc) Unit := do
  segS (F := F) arg0 arg7 arg8 arg9 arg10 harg10 arg11 harg11 ![0, 704, 0] ![0, 0, 0] ![0, 1, 0, 0] inb_S8x2112x128_S1x704x128_0_704_0 inb_S8x2112x128_S1x64x128_0_0_0 inb_S8x3x704x128_S1x1x704x128_0_1_0_0 packedbf16_S8x3x704x128_S1x1x704x128_0_1_0_0
  segS (F := F) arg0 arg7 arg8 arg9 arg10 harg10 arg11 harg11 ![1, 704, 0] ![1, 0, 0] ![1, 1, 0, 0] inb_S8x2112x128_S1x704x128_1_704_0 inb_S8x2112x128_S1x64x128_1_0_0 inb_S8x3x704x128_S1x1x704x128_1_1_0_0 packedbf16_S8x3x704x128_S1x1x704x128_1_1_0_0
  segS (F := F) arg0 arg7 arg8 arg9 arg10 harg10 arg11 harg11 ![2, 704, 0] ![2, 0, 0] ![2, 1, 0, 0] inb_S8x2112x128_S1x704x128_2_704_0 inb_S8x2112x128_S1x64x128_2_0_0 inb_S8x3x704x128_S1x1x704x128_2_1_0_0 packedbf16_S8x3x704x128_S1x1x704x128_2_1_0_0
  segS (F := F) arg0 arg7 arg8 arg9 arg10 harg10 arg11 harg11 ![3, 704, 0] ![3, 0, 0] ![3, 1, 0, 0] inb_S8x2112x128_S1x704x128_3_704_0 inb_S8x2112x128_S1x64x128_3_0_0 inb_S8x3x704x128_S1x1x704x128_3_1_0_0 packedbf16_S8x3x704x128_S1x1x704x128_3_1_0_0
  segS (F := F) arg0 arg7 arg8 arg9 arg10 harg10 arg11 harg11 ![4, 704, 0] ![4, 0, 0] ![4, 1, 0, 0] inb_S8x2112x128_S1x704x128_4_704_0 inb_S8x2112x128_S1x64x128_4_0_0 inb_S8x3x704x128_S1x1x704x128_4_1_0_0 packedbf16_S8x3x704x128_S1x1x704x128_4_1_0_0
  segS (F := F) arg0 arg7 arg8 arg9 arg10 harg10 arg11 harg11 ![5, 704, 0] ![5, 0, 0] ![5, 1, 0, 0] inb_S8x2112x128_S1x704x128_5_704_0 inb_S8x2112x128_S1x64x128_5_0_0 inb_S8x3x704x128_S1x1x704x128_5_1_0_0 packedbf16_S8x3x704x128_S1x1x704x128_5_1_0_0
  segS (F := F) arg0 arg7 arg8 arg9 arg10 harg10 arg11 harg11 ![6, 704, 0] ![6, 0, 0] ![6, 1, 0, 0] inb_S8x2112x128_S1x704x128_6_704_0 inb_S8x2112x128_S1x64x128_6_0_0 inb_S8x3x704x128_S1x1x704x128_6_1_0_0 packedbf16_S8x3x704x128_S1x1x704x128_6_1_0_0
  segS (F := F) arg0 arg7 arg8 arg9 arg10 harg10 arg11 harg11 ![7, 704, 0] ![7, 0, 0] ![7, 1, 0, 0] inb_S8x2112x128_S1x704x128_7_704_0 inb_S8x2112x128_S1x64x128_7_0_0 inb_S8x3x704x128_S1x1x704x128_7_1_0_0 packedbf16_S8x3x704x128_S1x1x704x128_7_1_0_0
  segS (F := F) arg0 arg7 arg8 arg9 arg10 harg10 arg11 harg11 ![0, 1408, 0] ![0, 0, 0] ![0, 2, 0, 0] inb_S8x2112x128_S1x704x128_0_1408_0 inb_S8x2112x128_S1x64x128_0_0_0 inb_S8x3x704x128_S1x1x704x128_0_2_0_0 packedbf16_S8x3x704x128_S1x1x704x128_0_2_0_0
  segS (F := F) arg0 arg7 arg8 arg9 arg10 harg10 arg11 harg11 ![1, 1408, 0] ![1, 0, 0] ![1, 2, 0, 0] inb_S8x2112x128_S1x704x128_1_1408_0 inb_S8x2112x128_S1x64x128_1_0_0 inb_S8x3x704x128_S1x1x704x128_1_2_0_0 packedbf16_S8x3x704x128_S1x1x704x128_1_2_0_0
  segS (F := F) arg0 arg7 arg8 arg9 arg10 harg10 arg11 harg11 ![2, 1408, 0] ![2, 0, 0] ![2, 2, 0, 0] inb_S8x2112x128_S1x704x128_2_1408_0 inb_S8x2112x128_S1x64x128_2_0_0 inb_S8x3x704x128_S1x1x704x128_2_2_0_0 packedbf16_S8x3x704x128_S1x1x704x128_2_2_0_0
  segS (F := F) arg0 arg7 arg8 arg9 arg10 harg10 arg11 harg11 ![3, 1408, 0] ![3, 0, 0] ![3, 2, 0, 0] inb_S8x2112x128_S1x704x128_3_1408_0 inb_S8x2112x128_S1x64x128_3_0_0 inb_S8x3x704x128_S1x1x704x128_3_2_0_0 packedbf16_S8x3x704x128_S1x1x704x128_3_2_0_0
  segS (F := F) arg0 arg7 arg8 arg9 arg10 harg10 arg11 harg11 ![4, 1408, 0] ![4, 0, 0] ![4, 2, 0, 0] inb_S8x2112x128_S1x704x128_4_1408_0 inb_S8x2112x128_S1x64x128_4_0_0 inb_S8x3x704x128_S1x1x704x128_4_2_0_0 packedbf16_S8x3x704x128_S1x1x704x128_4_2_0_0
  segS (F := F) arg0 arg7 arg8 arg9 arg10 harg10 arg11 harg11 ![5, 1408, 0] ![5, 0, 0] ![5, 2, 0, 0] inb_S8x2112x128_S1x704x128_5_1408_0 inb_S8x2112x128_S1x64x128_5_0_0 inb_S8x3x704x128_S1x1x704x128_5_2_0_0 packedbf16_S8x3x704x128_S1x1x704x128_5_2_0_0
  segS (F := F) arg0 arg7 arg8 arg9 arg10 harg10 arg11 harg11 ![6, 1408, 0] ![6, 0, 0] ![6, 2, 0, 0] inb_S8x2112x128_S1x704x128_6_1408_0 inb_S8x2112x128_S1x64x128_6_0_0 inb_S8x3x704x128_S1x1x704x128_6_2_0_0 packedbf16_S8x3x704x128_S1x1x704x128_6_2_0_0
  segS (F := F) arg0 arg7 arg8 arg9 arg10 harg10 arg11 harg11 ![7, 1408, 0] ![7, 0, 0] ![7, 2, 0, 0] inb_S8x2112x128_S1x704x128_7_1408_0 inb_S8x2112x128_S1x64x128_7_0_0 inb_S8x3x704x128_S1x1x704x128_7_2_0_0 packedbf16_S8x3x704x128_S1x1x704x128_7_2_0_0

/-- The updates of the second and third row groups against the keys of their own row blocks. -/
def diagAll (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) : Prog (TpuEff nD τ sig (Elt F) Λ₀ .tc) Unit := do
  segL (F := F) arg0 arg7 arg8 arg9 arg10 harg10 arg11 harg11 bias ![0, 704, 0] ![0, 704, 0] ![0, 1, 0, 0] inb_S8x2112x128_S1x704x128_0_704_0 inb_S8x2112x128_S1x704x128_0_704_0 inb_S8x3x704x128_S1x1x704x128_0_1_0_0 packedbf16_S8x3x704x128_S1x1x704x128_0_1_0_0
  segL (F := F) arg0 arg7 arg8 arg9 arg10 harg10 arg11 harg11 bias ![1, 704, 0] ![1, 704, 0] ![1, 1, 0, 0] inb_S8x2112x128_S1x704x128_1_704_0 inb_S8x2112x128_S1x704x128_1_704_0 inb_S8x3x704x128_S1x1x704x128_1_1_0_0 packedbf16_S8x3x704x128_S1x1x704x128_1_1_0_0
  segL (F := F) arg0 arg7 arg8 arg9 arg10 harg10 arg11 harg11 bias ![2, 704, 0] ![2, 704, 0] ![2, 1, 0, 0] inb_S8x2112x128_S1x704x128_2_704_0 inb_S8x2112x128_S1x704x128_2_704_0 inb_S8x3x704x128_S1x1x704x128_2_1_0_0 packedbf16_S8x3x704x128_S1x1x704x128_2_1_0_0
  segL (F := F) arg0 arg7 arg8 arg9 arg10 harg10 arg11 harg11 bias ![3, 704, 0] ![3, 704, 0] ![3, 1, 0, 0] inb_S8x2112x128_S1x704x128_3_704_0 inb_S8x2112x128_S1x704x128_3_704_0 inb_S8x3x704x128_S1x1x704x128_3_1_0_0 packedbf16_S8x3x704x128_S1x1x704x128_3_1_0_0
  segL (F := F) arg0 arg7 arg8 arg9 arg10 harg10 arg11 harg11 bias ![4, 704, 0] ![4, 704, 0] ![4, 1, 0, 0] inb_S8x2112x128_S1x704x128_4_704_0 inb_S8x2112x128_S1x704x128_4_704_0 inb_S8x3x704x128_S1x1x704x128_4_1_0_0 packedbf16_S8x3x704x128_S1x1x704x128_4_1_0_0
  segL (F := F) arg0 arg7 arg8 arg9 arg10 harg10 arg11 harg11 bias ![5, 704, 0] ![5, 704, 0] ![5, 1, 0, 0] inb_S8x2112x128_S1x704x128_5_704_0 inb_S8x2112x128_S1x704x128_5_704_0 inb_S8x3x704x128_S1x1x704x128_5_1_0_0 packedbf16_S8x3x704x128_S1x1x704x128_5_1_0_0
  segL (F := F) arg0 arg7 arg8 arg9 arg10 harg10 arg11 harg11 bias ![6, 704, 0] ![6, 704, 0] ![6, 1, 0, 0] inb_S8x2112x128_S1x704x128_6_704_0 inb_S8x2112x128_S1x704x128_6_704_0 inb_S8x3x704x128_S1x1x704x128_6_1_0_0 packedbf16_S8x3x704x128_S1x1x704x128_6_1_0_0
  segL (F := F) arg0 arg7 arg8 arg9 arg10 harg10 arg11 harg11 bias ![7, 704, 0] ![7, 704, 0] ![7, 1, 0, 0] inb_S8x2112x128_S1x704x128_7_704_0 inb_S8x2112x128_S1x704x128_7_704_0 inb_S8x3x704x128_S1x1x704x128_7_1_0_0 packedbf16_S8x3x704x128_S1x1x704x128_7_1_0_0
  segL (F := F) arg0 arg7 arg8 arg9 arg10 harg10 arg11 harg11 bias ![0, 1408, 0] ![0, 1408, 0] ![0, 2, 0, 0] inb_S8x2112x128_S1x704x128_0_1408_0 inb_S8x2112x128_S1x704x128_0_1408_0 inb_S8x3x704x128_S1x1x704x128_0_2_0_0 packedbf16_S8x3x704x128_S1x1x704x128_0_2_0_0
  segL (F := F) arg0 arg7 arg8 arg9 arg10 harg10 arg11 harg11 bias ![1, 1408, 0] ![1, 1408, 0] ![1, 2, 0, 0] inb_S8x2112x128_S1x704x128_1_1408_0 inb_S8x2112x128_S1x704x128_1_1408_0 inb_S8x3x704x128_S1x1x704x128_1_2_0_0 packedbf16_S8x3x704x128_S1x1x704x128_1_2_0_0
  segL (F := F) arg0 arg7 arg8 arg9 arg10 harg10 arg11 harg11 bias ![2, 1408, 0] ![2, 1408, 0] ![2, 2, 0, 0] inb_S8x2112x128_S1x704x128_2_1408_0 inb_S8x2112x128_S1x704x128_2_1408_0 inb_S8x3x704x128_S1x1x704x128_2_2_0_0 packedbf16_S8x3x704x128_S1x1x704x128_2_2_0_0
  segL (F := F) arg0 arg7 arg8 arg9 arg10 harg10 arg11 harg11 bias ![3, 1408, 0] ![3, 1408, 0] ![3, 2, 0, 0] inb_S8x2112x128_S1x704x128_3_1408_0 inb_S8x2112x128_S1x704x128_3_1408_0 inb_S8x3x704x128_S1x1x704x128_3_2_0_0 packedbf16_S8x3x704x128_S1x1x704x128_3_2_0_0
  segL (F := F) arg0 arg7 arg8 arg9 arg10 harg10 arg11 harg11 bias ![4, 1408, 0] ![4, 1408, 0] ![4, 2, 0, 0] inb_S8x2112x128_S1x704x128_4_1408_0 inb_S8x2112x128_S1x704x128_4_1408_0 inb_S8x3x704x128_S1x1x704x128_4_2_0_0 packedbf16_S8x3x704x128_S1x1x704x128_4_2_0_0
  segL (F := F) arg0 arg7 arg8 arg9 arg10 harg10 arg11 harg11 bias ![5, 1408, 0] ![5, 1408, 0] ![5, 2, 0, 0] inb_S8x2112x128_S1x704x128_5_1408_0 inb_S8x2112x128_S1x704x128_5_1408_0 inb_S8x3x704x128_S1x1x704x128_5_2_0_0 packedbf16_S8x3x704x128_S1x1x704x128_5_2_0_0
  segL (F := F) arg0 arg7 arg8 arg9 arg10 harg10 arg11 harg11 bias ![6, 1408, 0] ![6, 1408, 0] ![6, 2, 0, 0] inb_S8x2112x128_S1x704x128_6_1408_0 inb_S8x2112x128_S1x704x128_6_1408_0 inb_S8x3x704x128_S1x1x704x128_6_2_0_0 packedbf16_S8x3x704x128_S1x1x704x128_6_2_0_0
  segL (F := F) arg0 arg7 arg8 arg9 arg10 harg10 arg11 harg11 bias ![7, 1408, 0] ![7, 1408, 0] ![7, 2, 0, 0] inb_S8x2112x128_S1x704x128_7_1408_0 inb_S8x2112x128_S1x704x128_7_1408_0 inb_S8x3x704x128_S1x1x704x128_7_2_0_0 packedbf16_S8x3x704x128_S1x1x704x128_7_2_0_0

end Cert.KernelIdeal.Flash

end
-- ==== Proof.Recut.lean ====
module

public import proofs.«01_k».proof.Proof.Seg

@[expose] public section

set_option maxRecDepth 65536

noncomputable section

namespace Cert.KernelIdeal.Flash

open Cert.KernelIdeal.Gen Idealize.ShloMosaic Idealize.ShloMosaic.TcCoe Idealize.SL.Sem

variable {F : FTy → Type} [FloatOps F] [Named F]

/-- The row block of a gathered array at the given offsets, as an array of its own. -/
abbrev slot (m : Memref sig .tc .hbm S4x8x2112x128 .bf16) (o : Fin 4 → Nat) (h : ∀ a, o a + S1x8x2112x128.size a ≤ S4x8x2112x128.size a) :
    Memref sig .tc .hbm S8x2112x128 .bf16 :=
  (m.slice (Rect.unit (s := S4x8x2112x128) o S1x8x2112x128.size h) (fun _ => rfl)).squeeze S8x2112x128 squeezes_S1x8x2112x128_S8x2112x128

/-- One semaphore of an array of two. -/
abbrev cel2 (a : DmaSems sig S2) (o : Fin 1 → Nat) (h : ∀ a, o a + S1.size a ≤ S2.size a) :=
  ((a.slice (Rect.unit (s := S2) o S1.size h)).squeeze S_ squeezes_S1_S_).sem

/-- One semaphore of an array of three. -/
abbrev cel3 (a : DmaSems sig S3) (o : Fin 1 → Nat) (h : ∀ a, o a + S1.size a ≤ S3.size a) :=
  ((a.slice (Rect.unit (s := S3) o S1.size h)).squeeze S_ squeezes_S1_S_).sem

/-- Start the copies of the device's own keys and values into their row blocks, and meet the peers. -/
def startP (arg1 : Memref sig .tc .hbm S8x2112x128 .bf16) (harg1 : arg1.IsWhole) (arg2 : Memref sig .tc .hbm S8x2112x128 .bf16) (harg2 : arg2.IsWhole) (arg5 : Memref sig .tc .hbm S4x8x2112x128 .bf16) (harg5 : arg5.IsWhole) (arg6 : Memref sig .tc .hbm S4x8x2112x128 .bf16) (harg6 : arg6.IsWhole) (arg12 : DmaSems sig S2) (d0 : Dev nD) : Prog (TpuEff nD τ sig (Elt F) Λ₀ .tc) Unit := do
  Prog.lift (.enqueueDma arg1 (.here (slot arg5 (k0_off1 d0) (k0_off1_inb d0))) (.dma (cel2 arg12 ![0] inb_S2_S1_0)) harg1.wordExact ((harg5.wordExact_slice rfl _ (k0_off1_wordsbf16 d0)).reshape _ _) ⟨Or.inl rfl, trivial⟩)
  Prog.lift (.enqueueDma arg2 (.here (slot arg6 (k0_off1 d0) (k0_off1_inb d0))) (.dma (cel2 arg12 ![1] inb_S2_S1_1)) harg2.wordExact ((harg6.wordExact_slice rfl _ (k0_off1_wordsbf16 d0)).reshape _ _) ⟨Or.inl rfl, trivial⟩)
  semSignalWord (⟨k0_dev1 d0, k0_dev1_lt d0⟩ : Dev nD) ((SemArray.scalar (sig.barrier 0 rfl)) : Sems sig S_).sem 1#32
  semSignalWord (⟨k0_dev2 d0, k0_dev2_lt d0⟩ : Dev nD) ((SemArray.scalar (sig.barrier 0 rfl)) : Sems sig S_).sem 1#32
  semSignalWord (⟨k0_dev3 d0, k0_dev3_lt d0⟩ : Dev nD) ((SemArray.scalar (sig.barrier 0 rfl)) : Sems sig S_).sem 1#32
  semWaitWord ((SemArray.scalar (sig.barrier 0 rfl)) : Sems sig S_).sem 3#32

/-- Wait for the two local copies. -/
def waitP (arg1 : Memref sig .tc .hbm S8x2112x128 .bf16) (harg1 : arg1.IsWhole) (arg2 : Memref sig .tc .hbm S8x2112x128 .bf16) (harg2 : arg2.IsWhole) (arg5 : Memref sig .tc .hbm S4x8x2112x128 .bf16) (harg5 : arg5.IsWhole) (arg6 : Memref sig .tc .hbm S4x8x2112x128 .bf16) (harg6 : arg6.IsWhole) (arg12 : DmaSems sig S2) (d0 : Dev nD) : Prog (TpuEff nD τ sig (Elt F) Λ₀ .tc) Unit := do
  Prog.lift (.waitDma2 (cel2 arg12 ![0] inb_S2_S1_0) arg1 (slot arg5 (k0_off1 d0) (k0_off1_inb d0)) harg1.wordExact ((harg5.wordExact_slice rfl _ (k0_off1_wordsbf16 d0)).reshape _ _))
  Prog.lift (.waitDma2 (cel2 arg12 ![1] inb_S2_S1_1) arg2 (slot arg6 (k0_off1 d0) (k0_off1_inb d0)) harg2.wordExact ((harg6.wordExact_slice rfl _ (k0_off1_wordsbf16 d0)).reshape _ _))

/-- Send the device's own row blocks of keys and values to one peer. -/
def sendP (arg5 : Memref sig .tc .hbm S4x8x2112x128 .bf16) (harg5 : arg5.IsWhole) (arg6 : Memref sig .tc .hbm S4x8x2112x128 .bf16) (harg6 : arg6.IsWhole) (arg14 : DmaSems sig S3) (arg15 : DmaSems sig S3) (arg16 : DmaSems sig S3) (arg17 : DmaSems sig S3) (d0 : Dev nD) (pk pv : Dev nD) (o : Fin 1 → Nat) (ho : ∀ a, o a + S1.size a ≤ S3.size a) : Prog (TpuEff nD τ sig (Elt F) Λ₀ .tc) Unit := do
  Prog.lift (.enqueueDma (slot arg5 (k0_off1 d0) (k0_off1_inb d0)) (.remote (Dev.tc pk) (slot arg5 (k0_off1 d0) (k0_off1_inb d0)) (.dma (cel3 arg14 o ho))) (.dma (cel3 arg15 o ho)) ((harg5.wordExact_slice rfl _ (k0_off1_wordsbf16 d0)).reshape _ _) ((harg5.wordExact_slice rfl _ (k0_off1_wordsbf16 d0)).reshape _ _) ⟨⟨rfl, Or.inl rfl⟩, trivial⟩)
  Prog.lift (.enqueueDma (slot arg6 (k0_off1 d0) (k0_off1_inb d0)) (.remote (Dev.tc pv) (slot arg6 (k0_off1 d0) (k0_off1_inb d0)) (.dma (cel3 arg16 o ho))) (.dma (cel3 arg17 o ho)) ((harg6.wordExact_slice rfl _ (k0_off1_wordsbf16 d0)).reshape _ _) ((harg6.wordExact_slice rfl _ (k0_off1_wordsbf16 d0)).reshape _ _) ⟨⟨rfl, Or.inl rfl⟩, trivial⟩)

/-- Set the running state to its start. -/
def initP (arg7 : Memref sig .tc .vmem S8x2112x128 .f32) (arg10 : Memref sig .tc .vmem S8x3x704x128 .bf16) (harg10 : arg10.IsWhole) (arg11 : Memref sig .tc .vmem S8x3x704x128 .bf16) (harg11 : arg11.IsWhole) : Prog (TpuEff nD τ sig (Elt F) Λ₀ .tc) Unit := do
  let _ : Vec F S8x2112x128 .f32 ← Prog.lift (.load arg7 (Rect.unit (s := S8x2112x128) ![0, 0, 0] S8x2112x128.size inb_S8x2112x128_S8x2112x128_0_0_0).toLoadRect (View.loadsAt_vmem h_S8x2112x128))
  Prog.lift (.store arg7 (Rect.unit (s := S8x2112x128) ![0, 0, 0] S8x2112x128.size inb_S8x2112x128_S8x2112x128_0_0_0) (k0_pay750 (F := F)) Finset.univ (View.stores_vmem_bits_univ h_S8x2112x128 rfl) (.inl rfl))
  let _ : Vec F S8x3x704x128 .bf16 ← Prog.lift (.load arg10 (Rect.unit (s := S8x3x704x128) ![0, 0, 0, 0] S8x3x704x128.size inb_S8x3x704x128_S8x3x704x128_0_0_0_0).toLoadRect (View.loadsAt_vmem h_S8x3x704x128))
  Prog.lift (.store arg10 (Rect.unit (s := S8x3x704x128) ![0, 0, 0, 0] S8x3x704x128.size inb_S8x3x704x128_S8x3x704x128_0_0_0_0) (k0_pay751 (F := F)) Finset.univ (View.stores_vmem h_S8x3x704x128 (harg10.storeExact_slice rfl _ packedbf16_S8x3x704x128_S8x3x704x128_0_0_0_0) (fun _ => rfl)) (.inl rfl))
  let _ : Vec F S8x3x704x128 .bf16 ← Prog.lift (.load arg11 (Rect.unit (s := S8x3x704x128) ![0, 0, 0, 0] S8x3x704x128.size inb_S8x3x704x128_S8x3x704x128_0_0_0_0).toLoadRect (View.loadsAt_vmem h_S8x3x704x128))
  Prog.lift (.store arg11 (Rect.unit (s := S8x3x704x128) ![0, 0, 0, 0] S8x3x704x128.size inb_S8x3x704x128_S8x3x704x128_0_0_0_0) (k0_pay753 (k0_pay752 (F := F))) Finset.univ (View.stores_vmem h_S8x3x704x128 (harg11.storeExact_slice rfl _ packedbf16_S8x3x704x128_S8x3x704x128_0_0_0_0) (fun _ => rfl)) (.inl rfl))

/-- Copy one row block of keys and of values next to the core and wait for both. -/
def chunkP (arg5 : Memref sig .tc .hbm S4x8x2112x128 .bf16) (harg5 : arg5.IsWhole) (arg6 : Memref sig .tc .hbm S4x8x2112x128 .bf16) (harg6 : arg6.IsWhole) (arg8 : Memref sig .tc .vmem S8x2112x128 .bf16) (harg8 : arg8.IsWhole) (arg9 : Memref sig .tc .vmem S8x2112x128 .bf16) (harg9 : arg9.IsWhole) (arg13 : DmaSems sig S2) (d0 : Dev nD) (b : BitVec 32) (hb : ∀ a, (k0_off2 d0 b) a + S1x8x2112x128.size a ≤ S4x8x2112x128.size a)
    (hw : (Rect.unit (s := S4x8x2112x128) (k0_off2 d0 b) S1x8x2112x128.size hb).WholeWords (EltTy.packing .bf16)) : Prog (TpuEff nD τ sig (Elt F) Λ₀ .tc) Unit := do
  Prog.lift (.enqueueDma (slot arg5 (k0_off2 d0 b) hb) (.here arg8) (.dma (cel2 arg13 ![0] inb_S2_S1_0)) ((harg5.wordExact_slice rfl _ hw).reshape _ _) harg8.wordExact ⟨Or.inl rfl, trivial⟩)
  Prog.lift (.enqueueDma (slot arg6 (k0_off2 d0 b) hb) (.here arg9) (.dma (cel2 arg13 ![1] inb_S2_S1_1)) ((harg6.wordExact_slice rfl _ hw).reshape _ _) harg9.wordExact ⟨Or.inl rfl, trivial⟩)
  Prog.lift (.waitDma2 (cel2 arg13 ![0] inb_S2_S1_0) (slot arg5 (k0_off2 d0 b) hb) arg8 ((harg5.wordExact_slice rfl _ hw).reshape _ _) harg8.wordExact)
  Prog.lift (.waitDma2 (cel2 arg13 ![1] inb_S2_S1_1) (slot arg6 (k0_off2 d0 b) hb) arg9 ((harg6.wordExact_slice rfl _ hw).reshape _ _) harg9.wordExact)

/-- The row block the chunk of index `b` comes from, as a word. -/
def chunkW (d0 : Dev nD) (b : BitVec 32) : BitVec 32 :=
  Scalar.remsi (Scalar.addi (Scalar.remsi (Scalar.divsi (Dev.word d0) 1#32) 4#32) b) 4#32

/-- The number of key columns that are not padding, as a word, for the row group with word `b`. -/
def colsW (b w : BitVec 32) : BitVec 32 :=
  let v132 : BitVec 32 := Scalar.subi 34#32 (Scalar.remsi (Scalar.addi (Scalar.subi b (Scalar.muli 2#32 w)) 12#32) 3#32)
  let v133 : BitVec 32 := Scalar.divsi v132 3#32
  let v138 : BitVec 32 := Scalar.subi (Scalar.extui (Scalar.cmpi .sgt v132 0#32)) (Scalar.extui (Scalar.cmpi .slt v132 0#32))
  let v143 : BitVec 32 := Scalar.subi (Scalar.extui (Scalar.cmpi .sgt 3#32 0#32)) (Scalar.extui (Scalar.cmpi .slt 3#32 0#32))
  Scalar.muli (Scalar.select (Scalar.andi (Scalar.cmpi .ne v138 v143) (Scalar.cmpi .ne (Scalar.remsi v132 3#32) 0#32)) (Scalar.subi v133 1#32) v133) 64#32

/-- The additive mask of the padding columns. -/
def padB (b w : BitVec 32) : FVec F S704x704 .f32 :=
  broadcastTo S704x704
    (select (cmpi .slt (iota .tc S1x704 32 [1] iota_S1x704_d1_w32) (broadcast S1x704 (colsW b w)))
      (broadcast S1x704 (Scalar.ofBits .f32 0x00000000#32 : F .f32)) (broadcast S1x704 (Named.named κ "mask" 0xCE6E6B28#32 : F .f32)))
    broadcasts_S1x704_S704x704

/-- The updates of one chunk: every row group against its own key group, head by head, and the
    second and third groups against the very first key block where the chunk holds it. -/
def attP (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (w : BitVec 32) : Prog (TpuEff nD τ sig (Elt F) Λ₀ .tc) Unit := do
  let _ ← Scf.Loop.for k0_t1_loop k0_t1_ok ⟨⟩ (fun t _ => segL arg0 arg7 arg8 arg9 arg10 harg10 arg11 harg11 (padB (F := F) 0#32 w) (k0_off3 t) (k0_off3 t) (k0_off4 t) (k0_off3_inb t) (k0_off3_inb t) (k0_off4_inb t) (k0_off4_packedbf16 t))
  let _ ← Scf.Loop.for k0_t2_loop k0_t2_ok ⟨⟩ (fun t _ => segL arg0 arg7 arg8 arg9 arg10 harg10 arg11 harg11 (padB (F := F) 2#32 w) (k0_off5 t) (k0_off6 t) (k0_off7 t) (k0_off5_inb t) (k0_off6_inb t) (k0_off7_inb t) (k0_off7_packedbf16 t))
  let _ ← Scf.Loop.for k0_t3_loop k0_t3_ok ⟨⟩ (fun t _ => segL arg0 arg7 arg8 arg9 arg10 harg10 arg11 harg11 (padB (F := F) 1#32 w) (k0_off8 t) (k0_off9 t) (k0_off10 t) (k0_off8_inb t) (k0_off9_inb t) (k0_off10_inb t) (k0_off10_packedbf16 t))
  if _h : Scalar.cmpi .ne (Scalar.extui (Scalar.cmpi .eq w 0#32)) 0#32 = 1#1 then kbAll arg0 arg7 arg8 arg9 arg10 harg10 arg11 harg11 else pure ⟨⟩

/-- The additive mask that keeps a row's own block. -/
def diagB : FVec F S704x704 .f32 :=
  k0_pay772 (F := F) k0_pay769 (iota .tc S704x704 32 [1] iota_S704x704_d1_w32) 64#32 k0_pay770 k0_pay771 0#32

/-- Wait for the row block one peer sends. -/
def recvP (arg5 : Memref sig .tc .hbm S4x8x2112x128 .bf16) (harg5 : arg5.IsWhole) (arg6 : Memref sig .tc .hbm S4x8x2112x128 .bf16) (harg6 : arg6.IsWhole) (arg15 : DmaSems sig S3) (arg17 : DmaSems sig S3) (d0 : Dev nD) (b : BitVec 32) (hb : ∀ a, (k0_off2 d0 b) a + S1x8x2112x128.size a ≤ S4x8x2112x128.size a)
    (hw : (Rect.unit (s := S4x8x2112x128) (k0_off2 d0 b) S1x8x2112x128.size hb).WholeWords (EltTy.packing .bf16)) (o : Fin 1 → Nat) (ho : ∀ a, o a + S1.size a ≤ S3.size a) : Prog (TpuEff nD τ sig (Elt F) Λ₀ .tc) Unit := do
  Prog.lift (.waitDma2 (cel3 arg15 o ho) (slot arg5 (k0_off2 d0 b) hb) (slot arg5 (k0_off2 d0 b) hb) ((harg5.wordExact_slice rfl _ hw).reshape _ _) ((harg5.wordExact_slice rfl _ hw).reshape _ _))
  Prog.lift (.waitDma2 (cel3 arg17 o ho) (slot arg6 (k0_off2 d0 b) hb) (slot arg6 (k0_off2 d0 b) hb) ((harg6.wordExact_slice rfl _ hw).reshape _ _) ((harg6.wordExact_slice rfl _ hw).reshape _ _))

/-- Wait until one peer's copies of keys and values have left. -/
def sentP (arg5 : Memref sig .tc .hbm S4x8x2112x128 .bf16) (harg5 : arg5.IsWhole) (arg6 : Memref sig .tc .hbm S4x8x2112x128 .bf16) (harg6 : arg6.IsWhole) (arg14 : DmaSems sig S3) (arg16 : DmaSems sig S3) (d0 : Dev nD) (o : Fin 1 → Nat) (ho : ∀ a, o a + S1.size a ≤ S3.size a) : Prog (TpuEff nD τ sig (Elt F) Λ₀ .tc) Unit := do
  Prog.lift (.waitDma2 (cel3 arg14 o ho) (slot arg5 (k0_off1 d0) (k0_off1_inb d0)) (slot arg5 (k0_off1 d0) (k0_off1_inb d0)) ((harg5.wordExact_slice rfl _ (k0_off1_wordsbf16 d0)).reshape _ _) ((harg5.wordExact_slice rfl _ (k0_off1_wordsbf16 d0)).reshape _ _))
  Prog.lift (.waitDma2 (cel3 arg16 o ho) (slot arg6 (k0_off1 d0) (k0_off1_inb d0)) (slot arg6 (k0_off1 d0) (k0_off1_inb d0)) ((harg6.wordExact_slice rfl _ (k0_off1_wordsbf16 d0)).reshape _ _) ((harg6.wordExact_slice rfl _ (k0_off1_wordsbf16 d0)).reshape _ _))

/-- Divide the accumulator of one head and one row group by its sum, into the output block. -/
def normP (arg4 : Memref sig .tc .vmem S2112x1024 .f32) (arg7 : Memref sig .tc .vmem S8x2112x128 .f32) (arg11 : Memref sig .tc .vmem S8x3x704x128 .bf16) (ol : Fin 4 → Nat) (oa : Fin 3 → Nat) (oo : Fin 2 → Nat)
    (hl : ∀ a, ol a + S1x1x704x128.size a ≤ S8x3x704x128.size a) (ha : ∀ a, oa a + S1x704x128.size a ≤ S8x2112x128.size a) (ho : ∀ a, oo a + S704x128.size a ≤ S2112x1024.size a) : Prog (TpuEff nD τ sig (Elt F) Λ₀ .tc) Unit := do
  let l : Vec F S1x1x704x128 .bf16 ← Prog.lift (.load arg11 (Rect.unit (s := S8x3x704x128) ol S1x1x704x128.size hl).toLoadRect (View.loadsAt_vmem h_S1x1x704x128))
  let a : Vec F S1x704x128 .f32 ← Prog.lift (.load arg7 (Rect.unit (s := S8x2112x128) oa S1x704x128.size ha).toLoadRect (View.loadsAt_vmem h_S1x704x128))
  let _ : Vec F S704x128 .f32 ← Prog.lift (.load arg4 (Rect.unit (s := S2112x1024) oo S704x128.size ho).toLoadRect (View.loadsAt_vmem h_S704x128))
  Prog.lift (.store arg4 (Rect.unit (s := S2112x1024) oo S704x128.size ho) (k0_pay990 l a) Finset.univ (View.stores_vmem_bits_univ h_S704x128 rfl) (.inl rfl))

/-- Divide every accumulator by its sum. -/
def normAll (arg4 : Memref sig .tc .vmem S2112x1024 .f32) (arg7 : Memref sig .tc .vmem S8x2112x128 .f32) (arg11 : Memref sig .tc .vmem S8x3x704x128 .bf16) : Prog (TpuEff nD τ sig (Elt F) Λ₀ .tc) Unit := do
  normP (F := F) arg4 arg7 arg11 ![0, 0, 0, 0] ![0, 0, 0] ![0, 0] inb_S8x3x704x128_S1x1x704x128_0_0_0_0 inb_S8x2112x128_S1x704x128_0_0_0 inb_S2112x1024_S704x128_0_0
  normP (F := F) arg4 arg7 arg11 ![1, 0, 0, 0] ![1, 0, 0] ![0, 128] inb_S8x3x704x128_S1x1x704x128_1_0_0_0 inb_S8x2112x128_S1x704x128_1_0_0 inb_S2112x1024_S704x128_0_128
  normP (F := F) arg4 arg7 arg11 ![2, 0, 0, 0] ![2, 0, 0] ![0, 256] inb_S8x3x704x128_S1x1x704x128_2_0_0_0 inb_S8x2112x128_S1x704x128_2_0_0 inb_S2112x1024_S704x128_0_256
  normP (F := F) arg4 arg7 arg11 ![3, 0, 0, 0] ![3, 0, 0] ![0, 384] inb_S8x3x704x128_S1x1x704x128_3_0_0_0 inb_S8x2112x128_S1x704x128_3_0_0 inb_S2112x1024_S704x128_0_384
  normP (F := F) arg4 arg7 arg11 ![4, 0, 0, 0] ![4, 0, 0] ![0, 512] inb_S8x3x704x128_S1x1x704x128_4_0_0_0 inb_S8x2112x128_S1x704x128_4_0_0 inb_S2112x1024_S704x128_0_512
  normP (F := F) arg4 arg7 arg11 ![5, 0, 0, 0] ![5, 0, 0] ![0, 640] inb_S8x3x704x128_S1x1x704x128_5_0_0_0 inb_S8x2112x128_S1x704x128_5_0_0 inb_S2112x1024_S704x128_0_640
  normP (F := F) arg4 arg7 arg11 ![6, 0, 0, 0] ![6, 0, 0] ![0, 768] inb_S8x3x704x128_S1x1x704x128_6_0_0_0 inb_S8x2112x128_S1x704x128_6_0_0 inb_S2112x1024_S704x128_0_768
  normP (F := F) arg4 arg7 arg11 ![7, 0, 0, 0] ![7, 0, 0] ![0, 896] inb_S8x3x704x128_S1x1x704x128_7_0_0_0 inb_S8x2112x128_S1x704x128_7_0_0 inb_S2112x1024_S704x128_0_896
  normP (F := F) arg4 arg7 arg11 ![0, 1, 0, 0] ![0, 704, 0] ![704, 0] inb_S8x3x704x128_S1x1x704x128_0_1_0_0 inb_S8x2112x128_S1x704x128_0_704_0 inb_S2112x1024_S704x128_704_0
  normP (F := F) arg4 arg7 arg11 ![1, 1, 0, 0] ![1, 704, 0] ![704, 128] inb_S8x3x704x128_S1x1x704x128_1_1_0_0 inb_S8x2112x128_S1x704x128_1_704_0 inb_S2112x1024_S704x128_704_128
  normP (F := F) arg4 arg7 arg11 ![2, 1, 0, 0] ![2, 704, 0] ![704, 256] inb_S8x3x704x128_S1x1x704x128_2_1_0_0 inb_S8x2112x128_S1x704x128_2_704_0 inb_S2112x1024_S704x128_704_256
  normP (F := F) arg4 arg7 arg11 ![3, 1, 0, 0] ![3, 704, 0] ![704, 384] inb_S8x3x704x128_S1x1x704x128_3_1_0_0 inb_S8x2112x128_S1x704x128_3_704_0 inb_S2112x1024_S704x128_704_384
  normP (F := F) arg4 arg7 arg11 ![4, 1, 0, 0] ![4, 704, 0] ![704, 512] inb_S8x3x704x128_S1x1x704x128_4_1_0_0 inb_S8x2112x128_S1x704x128_4_704_0 inb_S2112x1024_S704x128_704_512
  normP (F := F) arg4 arg7 arg11 ![5, 1, 0, 0] ![5, 704, 0] ![704, 640] inb_S8x3x704x128_S1x1x704x128_5_1_0_0 inb_S8x2112x128_S1x704x128_5_704_0 inb_S2112x1024_S704x128_704_640
  normP (F := F) arg4 arg7 arg11 ![6, 1, 0, 0] ![6, 704, 0] ![704, 768] inb_S8x3x704x128_S1x1x704x128_6_1_0_0 inb_S8x2112x128_S1x704x128_6_704_0 inb_S2112x1024_S704x128_704_768
  normP (F := F) arg4 arg7 arg11 ![7, 1, 0, 0] ![7, 704, 0] ![704, 896] inb_S8x3x704x128_S1x1x704x128_7_1_0_0 inb_S8x2112x128_S1x704x128_7_704_0 inb_S2112x1024_S704x128_704_896
  normP (F := F) arg4 arg7 arg11 ![0, 2, 0, 0] ![0, 1408, 0] ![1408, 0] inb_S8x3x704x128_S1x1x704x128_0_2_0_0 inb_S8x2112x128_S1x704x128_0_1408_0 inb_S2112x1024_S704x128_1408_0
  normP (F := F) arg4 arg7 arg11 ![1, 2, 0, 0] ![1, 1408, 0] ![1408, 128] inb_S8x3x704x128_S1x1x704x128_1_2_0_0 inb_S8x2112x128_S1x704x128_1_1408_0 inb_S2112x1024_S704x128_1408_128
  normP (F := F) arg4 arg7 arg11 ![2, 2, 0, 0] ![2, 1408, 0] ![1408, 256] inb_S8x3x704x128_S1x1x704x128_2_2_0_0 inb_S8x2112x128_S1x704x128_2_1408_0 inb_S2112x1024_S704x128_1408_256
  normP (F := F) arg4 arg7 arg11 ![3, 2, 0, 0] ![3, 1408, 0] ![1408, 384] inb_S8x3x704x128_S1x1x704x128_3_2_0_0 inb_S8x2112x128_S1x704x128_3_1408_0 inb_S2112x1024_S704x128_1408_384
  normP (F := F) arg4 arg7 arg11 ![4, 2, 0, 0] ![4, 1408, 0] ![1408, 512] inb_S8x3x704x128_S1x1x704x128_4_2_0_0 inb_S8x2112x128_S1x704x128_4_1408_0 inb_S2112x1024_S704x128_1408_512
  normP (F := F) arg4 arg7 arg11 ![5, 2, 0, 0] ![5, 1408, 0] ![1408, 640] inb_S8x3x704x128_S1x1x704x128_5_2_0_0 inb_S8x2112x128_S1x704x128_5_1408_0 inb_S2112x1024_S704x128_1408_640
  normP (F := F) arg4 arg7 arg11 ![6, 2, 0, 0] ![6, 1408, 0] ![1408, 768] inb_S8x3x704x128_S1x1x704x128_6_2_0_0 inb_S8x2112x128_S1x704x128_6_1408_0 inb_S2112x1024_S704x128_1408_768
  normP (F := F) arg4 arg7 arg11 ![7, 2, 0, 0] ![7, 1408, 0] ![1408, 896] inb_S8x3x704x128_S1x1x704x128_7_2_0_0 inb_S8x2112x128_S1x704x128_7_1408_0 inb_S2112x1024_S704x128_1408_896

/-- Multiply the attention rows by the output matrix. -/
def outP (arg3 : Memref sig .tc .vmem S1024x1024 .bf16) (arg4 : Memref sig .tc .vmem S2112x1024 .f32) : Prog (TpuEff nD τ sig (Elt F) Λ₀ .tc) Unit := do
  let x : Vec F S2112x1024 .f32 ← Prog.lift (.load arg4 (Rect.unit (s := S2112x1024) ![0, 0] S2112x1024.size inb_S2112x1024_S2112x1024_0_0).toLoadRect (View.loadsAt_vmem h_S2112x1024))
  let y : Vec F S1024x1024 .bf16 ← Prog.lift (.load arg3 (Rect.unit (s := S1024x1024) ![0, 0] S1024x1024.size inb_S1024x1024_S1024x1024_0_0).toLoadRect (View.loadsAt_vmem h_S1024x1024))
  let _ : Vec F S2112x1024 .f32 ← Prog.lift (.load arg4 (Rect.unit (s := S2112x1024) ![0, 0] S2112x1024.size inb_S2112x1024_S2112x1024_0_0).toLoadRect (View.loadsAt_vmem h_S2112x1024))
  Prog.lift (.store arg4 (Rect.unit (s := S2112x1024) ![0, 0] S2112x1024.size inb_S2112x1024_S2112x1024_0_0) (k0_pay1 x y) Finset.univ (View.stores_vmem_bits_univ h_S2112x1024 rfl) (.inl rfl))

/-- The kernel's body on one device, stage by stage. -/
def bodyR (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) (d0 : Dev nD) : Prog (TpuEff nD τ sig (Elt F) Λ₀ .tc) Unit := do
  startP arg1 harg1 arg2 harg2 arg5 harg5 arg6 harg6 arg12 d0
  waitP arg1 harg1 arg2 harg2 arg5 harg5 arg6 harg6 arg12 d0
  sendP arg5 harg5 arg6 harg6 arg14 arg15 arg16 arg17 d0 ⟨k0_dev4 d0, k0_dev4_lt d0⟩ ⟨k0_dev5 d0, k0_dev5_lt d0⟩ ![0] inb_S3_S1_0
  sendP arg5 harg5 arg6 harg6 arg14 arg15 arg16 arg17 d0 ⟨k0_dev6 d0, k0_dev6_lt d0⟩ ⟨k0_dev7 d0, k0_dev7_lt d0⟩ ![2] inb_S3_S1_2
  sendP arg5 harg5 arg6 harg6 arg14 arg15 arg16 arg17 d0 ⟨k0_dev8 d0, k0_dev8_lt d0⟩ ⟨k0_dev9 d0, k0_dev9_lt d0⟩ ![1] inb_S3_S1_1
  initP arg7 arg10 harg10 arg11 harg11
  chunkP arg5 harg5 arg6 harg6 arg8 harg8 arg9 harg9 arg13 d0 0#32 (k0_off2_inb d0 0) (k0_off2_wordsbf16 d0 0)
  attP arg0 arg7 arg8 arg9 arg10 harg10 arg11 harg11 (chunkW d0 0#32)
  diagAll arg0 arg7 arg8 arg9 arg10 harg10 arg11 harg11 (diagB (F := F))
  recvP arg5 harg5 arg6 harg6 arg15 arg17 d0 1#32 (k0_off2_inb d0 1) (k0_off2_wordsbf16 d0 1) ![0] inb_S3_S1_0
  chunkP arg5 harg5 arg6 harg6 arg8 harg8 arg9 harg9 arg13 d0 1#32 (k0_off2_inb d0 1) (k0_off2_wordsbf16 d0 1)
  attP arg0 arg7 arg8 arg9 arg10 harg10 arg11 harg11 (chunkW d0 1#32)
  recvP arg5 harg5 arg6 harg6 arg15 arg17 d0 3#32 (k0_off2_inb d0 3) (k0_off2_wordsbf16 d0 3) ![2] inb_S3_S1_2
  chunkP arg5 harg5 arg6 harg6 arg8 harg8 arg9 harg9 arg13 d0 3#32 (k0_off2_inb d0 3) (k0_off2_wordsbf16 d0 3)
  attP arg0 arg7 arg8 arg9 arg10 harg10 arg11 harg11 (chunkW d0 3#32)
  recvP arg5 harg5 arg6 harg6 arg15 arg17 d0 2#32 (k0_off2_inb d0 2) (k0_off2_wordsbf16 d0 2) ![1] inb_S3_S1_1
  chunkP arg5 harg5 arg6 harg6 arg8 harg8 arg9 harg9 arg13 d0 2#32 (k0_off2_inb d0 2) (k0_off2_wordsbf16 d0 2)
  attP arg0 arg7 arg8 arg9 arg10 harg10 arg11 harg11 (chunkW d0 2#32)
  sentP arg5 harg5 arg6 harg6 arg14 arg16 d0 ![0] inb_S3_S1_0
  sentP arg5 harg5 arg6 harg6 arg14 arg16 d0 ![2] inb_S3_S1_2
  sentP arg5 harg5 arg6 harg6 arg14 arg16 d0 ![1] inb_S3_S1_1
  normAll arg4 arg7 arg11
  outP arg3 arg4

theorem bindP {E : Type → Type _} {α β : Type} (x : Prog E β) (k : β → Prog E α) : Prog.bind x k = (x >>= k) := rfl

theorem retP {E : Type → Type _} {α : Type} (a : α) : (Prog.ret a : Prog E α) = pure a := rfl

theorem peelOp {E : Type → Type _} {α β : Type} {e e' : E β} {k k' : β → Prog E α} (he : e = e') (h : ∀ a, k a = k' a) : Prog.op e k = Prog.op e' k' := by
  subst he; exact congrArg _ (funext h)

theorem peelB {E : Type → Type _} {α β : Type} {x x' : Prog E β} {k k' : β → Prog E α} (he : x = x') (h : ∀ a, k a = k' a) : (x >>= k) = (x' >>= k') := by
  subst he; exact congrArg _ (funext h)

theorem part112_eq (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) (v111 : BitVec 32) (v210 : IVec S1x704 32) (v211 : BitVec 32) :
    k0_part112 (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 v111 v210 v211 = (
      Scf.Loop.for k0_t3_loop k0_t3_ok ⟨⟩ (k0_t3_body arg0 harg0 arg1 harg1 arg2 harg2 arg3 harg3 arg4 harg4 arg5 harg5 arg6 harg6 arg7 harg7 arg8 harg8 arg9 harg9 arg10 harg10 arg11 harg11 arg12 arg13 arg14 arg15 arg16 arg17 v111 v210 v211) >>= fun _ =>
      dite (Scalar.cmpi .ne (Scalar.extui (Scalar.cmpi .eq v111 0#32)) 0#32 = 1#1) (fun _ => kbAll arg0 arg7 arg8 arg9 arg10 harg10 arg11 harg11) (fun _ => pure ⟨⟩) >>= fun _ =>
      pure ⟨k0_pay769, iota .tc S704x704 32 [1] iota_S704x704_d1_w32, 64#32, k0_pay770, k0_pay771, 0#32⟩) := by
  rw [k0_part112_eq_skeleton]
  refine peelB rfl fun _ => ?_
  by_cases h : Scalar.cmpi .ne (Scalar.extui (Scalar.cmpi .eq v111 0#32)) 0#32 = 1#1
  · simp only [dif_pos h]; rfl
  · simp only [dif_neg h]; rfl

theorem part141_eq (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) (d0 : Dev nD) (v2 : BitVec 32) (v1076 : BitVec 32) :
    k0_part141 (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 d0 v2 v1076 = (
      dite (Scalar.cmpi .ne (Scalar.extui (Scalar.cmpi .eq v1076 0#32)) 0#32 = 1#1) (fun _ => kbAll arg0 arg7 arg8 arg9 arg10 harg10 arg11 harg11) (fun _ => pure ⟨⟩) >>= fun _ =>
      recvP arg5 harg5 arg6 harg6 arg15 arg17 d0 3#32 (k0_off2_inb d0 3) (k0_off2_wordsbf16 d0 3) ![2] inb_S3_S1_2 >>= fun _ =>
      Prog.lift (.enqueueDma (slot arg5 (k0_off2 d0 3#32) (k0_off2_inb d0 3)) (.here arg8) (.dma (cel2 arg13 ![0] inb_S2_S1_0)) ((harg5.wordExact_slice rfl _ (k0_off2_wordsbf16 d0 3)).reshape _ _) harg8.wordExact ⟨Or.inl rfl, trivial⟩) >>= fun _ =>
      pure (Scalar.remsi (Scalar.addi v2 3#32) 4#32)) := by
  rw [k0_part141_eq_skeleton, k0_part141_skel]
  by_cases h : Scalar.cmpi .ne (Scalar.extui (Scalar.cmpi .eq v1076 0#32)) 0#32 = 1#1
  · simp only [dif_pos h]; rfl
  · simp only [dif_neg h]; rfl

theorem part145_eq (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) (d0 : Dev nD) (v2 : BitVec 32) (w : BitVec 32) :
    k0_part145 (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 d0 v2 (Scalar.cmpi .ne (Scalar.extui (Scalar.cmpi .eq w 0#32)) 0#32) = (
      dite (Scalar.cmpi .ne (Scalar.extui (Scalar.cmpi .eq w 0#32)) 0#32 = 1#1) (fun _ => kbAll arg0 arg7 arg8 arg9 arg10 harg10 arg11 harg11) (fun _ => pure ⟨⟩) >>= fun _ =>
      recvP arg5 harg5 arg6 harg6 arg15 arg17 d0 2#32 (k0_off2_inb d0 2) (k0_off2_wordsbf16 d0 2) ![1] inb_S3_S1_1 >>= fun _ =>
      Prog.lift (.enqueueDma (slot arg5 (k0_off2 d0 2#32) (k0_off2_inb d0 2)) (.here arg8) (.dma (cel2 arg13 ![0] inb_S2_S1_0)) ((harg5.wordExact_slice rfl _ (k0_off2_wordsbf16 d0 2)).reshape _ _) harg8.wordExact ⟨Or.inl rfl, trivial⟩) >>= fun _ =>
      pure (Scalar.remsi (Scalar.addi v2 2#32) 4#32)) := by
  rw [k0_part145_eq_skeleton, k0_part145_skel]
  by_cases h : Scalar.cmpi .ne (Scalar.extui (Scalar.cmpi .eq w 0#32)) 0#32 = 1#1
  · simp only [dif_pos h]; rfl
  · simp only [dif_neg h]; rfl

theorem part148_eq (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) (v1330 : BitVec 32) (c2_i32_1033 : BitVec 32) :
    k0_part148 (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 v1330 c2_i32_1033 = (
      Scf.Loop.for k0_t12_loop k0_t12_ok ⟨⟩ (k0_t12_body arg0 harg0 arg1 harg1 arg2 harg2 arg3 harg3 arg4 harg4 arg5 harg5 arg6 harg6 arg7 harg7 arg8 harg8 arg9 harg9 arg10 harg10 arg11 harg11 arg12 arg13 arg14 arg15 arg16 arg17 v1330 c2_i32_1033) >>= fun _ =>
      dite (Scalar.cmpi .ne (Scalar.extui (Scalar.cmpi .eq v1330 0#32)) 0#32 = 1#1) (fun _ => kbAll arg0 arg7 arg8 arg9 arg10 harg10 arg11 harg11) (fun _ => pure ⟨⟩) >>= fun _ => pure ⟨⟩) := by
  rw [k0_part148_eq_skeleton]
  refine peelB rfl fun _ => ?_
  by_cases h : Scalar.cmpi .ne (Scalar.extui (Scalar.cmpi .eq v1330 0#32)) 0#32 = 1#1
  · simp only [dif_pos h]; rfl
  · simp only [dif_neg h]; rfl

set_option maxRecDepth 1000000 in
set_option maxHeartbeats 1000000 in
theorem cc0_body_eq (arg0 : Memref sig .tc .vmem S8x2112x128 .bf16) (harg0 : arg0.IsWhole) (arg1 : Memref sig .tc .hbm S8x2112x128 .bf16) (harg1 : arg1.IsWhole) (arg2 : Memref sig .tc .hbm S8x2112x128 .bf16) (harg2 : arg2.IsWhole) (arg3 : Memref sig .tc .vmem S1024x1024 .bf16) (harg3 : arg3.IsWhole) (arg4 : Memref sig .tc .vmem S2112x1024 .f32) (harg4 : arg4.IsWhole) (arg5 : Memref sig .tc .hbm S4x8x2112x128 .bf16) (harg5 : arg5.IsWhole) (arg6 : Memref sig .tc .hbm S4x8x2112x128 .bf16) (harg6 : arg6.IsWhole) (arg7 : Memref sig .tc .vmem S8x2112x128 .f32) (harg7 : arg7.IsWhole) (arg8 : Memref sig .tc .vmem S8x2112x128 .bf16) (harg8 : arg8.IsWhole) (arg9 : Memref sig .tc .vmem S8x2112x128 .bf16) (harg9 : arg9.IsWhole) (arg10 : Memref sig .tc .vmem S8x3x704x128 .bf16) (harg10 : arg10.IsWhole) (arg11 : Memref sig .tc .vmem S8x3x704x128 .bf16) (harg11 : arg11.IsWhole) (arg12 : DmaSems sig S2) (arg13 : DmaSems sig S2) (arg14 : DmaSems sig S3) (arg15 : DmaSems sig S3) (arg16 : DmaSems sig S3) (arg17 : DmaSems sig S3) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 = (Prog.lift .deviceId >>= fun d0 => bodyR (F := F) arg0 harg0 arg1 harg1 arg2 harg2 arg3 harg3 arg4 harg4 arg5 harg5 arg6 harg6 arg7 harg7 arg8 harg8 arg9 harg9 arg10 harg10 arg11 harg11 arg12 arg13 arg14 arg15 arg16 arg17 d0) := by
  simp only [cc0_body_eq_skeleton, cc0_body_skel, k0_part158_eq_skeleton, k0_part158_skel, k0_part110_eq_skeleton, k0_part110_skel, k0_part111_eq_skeleton, k0_part111_skel, k0_part139_eq_skeleton, k0_part139_skel, k0_part140_eq_skeleton, k0_part140_skel, k0_part143_eq_skeleton, k0_part143_skel, k0_part144_eq_skeleton, k0_part144_skel, k0_part147_eq_skeleton, k0_part147_skel, part112_eq, part141_eq, part145_eq, part148_eq, bodyR, attP, bind_assoc, pure_bind]
  iterate 4
    repeat refine peelOp rfl fun _ => ?_
    try simp only [bindP, retP, pure_bind, bind_assoc]
    refine peelB rfl fun _ => ?_
    refine peelB rfl fun _ => ?_
    refine peelB rfl fun _ => ?_
    refine peelB rfl fun _ => ?_
  repeat refine peelOp rfl fun _ => ?_
  rfl

end Cert.KernelIdeal.Flash

end
-- ==== Proof.Held.lean ====
module

public import proofs.«01_k».proof.Proof.Recut
public import Idealize.ShloMosaic.Lib.Writes
public import Idealize.ShloMosaic.Lib.Tactic

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem

variable {F : FTy → Type} [FloatOps F] [Named F]

variable {U : Type} [URA U] (D : Defs nD τ sig (Elt F) Λ₀) (𝒱 : Variants) (c : Dev nD)

local notation "𝕄" => MT nD τ sig Unit (Elt F) ℕ U ℕ

section Held

variable {Val : EltTy → Type} {s : Shape} {e : EltTy}

/-- The elements of a rectangle, read. -/
def rd (r : Rect s) (A : s.Idx → Val e) : r.shape.Idx → Val e := fun x => A (r.emb x)

/-- The elements of a rectangle, replaced. -/
def upd (r : Rect s) (A : s.Idx → Val e) (w : r.shape.Idx → Val e) : s.Idx → Val e :=
  fun y => if h : ∃ x, r.emb x = y then w h.choose else A y

theorem upd_emb (r : Rect s) (A : s.Idx → Val e) (w : r.shape.Idx → Val e) (x : r.shape.Idx) : upd r A w (r.emb x) = w x := by
  have h : ∃ x', r.emb x' = r.emb x := ⟨x, rfl⟩
  unfold upd
  rw [dif_pos h]
  exact congrArg w (r.emb.injective h.choose_spec)

theorem upd_miss (r : Rect s) (A : s.Idx → Val e) (w : r.shape.Idx → Val e) (y : s.Idx) (h : ∀ x, r.emb x ≠ y) : upd r A w y = A y := by
  unfold upd
  rw [dif_neg (fun ⟨x, hx⟩ => h x hx)]

theorem read_write_upd {κ : Kind} {sp : Space} (v : View sig κ sp s e) (r : Rect s) (f : v.ty.Contents Val) (w : r.shape.Idx → Val e) :
    v.read Val ((v.slice r).write Val f w Finset.univ) = upd r (v.read Val f) w := by
  funext y
  by_cases h : ∃ x, r.emb x = y
  · obtain ⟨x, rfl⟩ := h
    rw [View.read_slice_write_emb r f w (Finset.mem_univ x), upd_emb]
  · rw [upd_miss _ _ _ _ (fun x hx => h ⟨x, hx⟩)]
    refine View.read_slice_write_of_not_mem r f w _ (fun hm => ?_)
    obtain ⟨x, -, hx⟩ := Finset.mem_map.mp hm
    exact h ⟨x, hx⟩

end Held

/-- Device `c` holds the array `m` whole, at the value `V`. -/
def owned {κs : Space} {s : Shape} {e : EltTy} (m : Memref sig .tc κs s e) (V : s.Idx → Elt F e) : sProp 𝕄 :=
  iprop(∃ f, ⌜m.view.read (Elt F) f = V⌝ ∗ m.view.loc (c : Thread nD τ) ↦[m.view.set]{fullShare} f)

theorem wp_ld {s : Shape} {e : EltTy} {cs : CoreSpace} {m : Memref sig .tc cs s e} {r : Rect s} {hl : m.view.LoadsAt r.toLoadRect}
    {α : Type} {k : (r.shape.Idx → Elt F e) → Prog (TpuEff nD τ sig (Elt F) Λ₀ .tc) α} {V : s.Idx → Elt F e} {Kt : α → sProp 𝕄} :
    (owned c m V : sProp 𝕄) ⊢ iprop((owned c m V -∗ wp frame (wpE D 𝒱 (c : Thread nD τ) none) Set.univ (k (rd r V)) Kt)
      -∗ wp frame (wpE D 𝒱 (c : Thread nD τ) none) Set.univ (Prog.lift (.load m r.toLoadRect hl) >>= k) Kt) := by
  unfold owned
  iintro ⟨%f, %hf, H⟩ Hk
  iapply (wp_load_rect (defs := D) 𝒱 (c : Thread nD τ) none Set.univ (m := m) (r := r) (hl := hl) (k := k) (S := m.view.set) (f := f) (View.set_slice_subset m.view r)) $$ H
  iintro H
  subst hf
  iapply Hk
  iexists f
  isplitr; · ipureintro; rfl
  iexact H

theorem wp_st {s : Shape} {e : EltTy} {cs : CoreSpace} {m : Memref sig .tc cs s e} {r : Rect s} {w : r.shape.Idx → Elt F e}
    {hx : (m.access r).Stores Finset.univ} {hm : Finset.univ = Finset.univ ∨ ∀ a, r.stride a = 1}
    {α : Type} {k : PUnit → Prog (TpuEff nD τ sig (Elt F) Λ₀ .tc) α} {V : s.Idx → Elt F e} {Kt : α → sProp 𝕄} :
    (owned c m V : sProp 𝕄) ⊢ iprop((owned c m (upd r V w) -∗ wp frame (wpE D 𝒱 (c : Thread nD τ) none) Set.univ (k ⟨⟩) Kt)
      -∗ wp frame (wpE D 𝒱 (c : Thread nD τ) none) Set.univ (Prog.lift (.store m r w Finset.univ hx hm) >>= k) Kt) := by
  unfold owned
  iintro ⟨%f, %hf, H⟩ Hk
  iapply (wp_store (defs := D) 𝒱 (c : Thread nD τ) none Set.univ (m := m) (r := r) (w := w) (hx := hx) (hm := hm) (k := k) (Mk := Finset.univ) (S := m.view.set) (f := f) (View.set_slice_subset m.view r)) $$ H
  iintro H
  subst hf
  iapply Hk
  iexists _
  isplitr
  rotate_left
  · iexact H
  · ipureintro; exact read_write_upd m.view r f w

theorem wp_st' {s : Shape} {e : EltTy} {cs : CoreSpace} {m : Memref sig .tc cs s e} {r : Rect s} {w : r.shape.Idx → Elt F e}
    {hx : (m.access r).Stores Finset.univ} {hm : Finset.univ = Finset.univ ∨ ∀ a, r.stride a = 1}
    {V : s.Idx → Elt F e} {Kt : PUnit → sProp 𝕄} :
    (owned c m V : sProp 𝕄) ⊢ iprop((owned c m (upd r V w) -∗ Kt ⟨⟩)
      -∗ wp frame (wpE D 𝒱 (c : Thread nD τ) none) Set.univ (Prog.lift (.store m r w Finset.univ hx hm)) Kt) := by
  iintro H Hk
  iapply (wp_st D 𝒱 c (m := m) (k := Prog.ret)) $$ H
  iintro H
  rw [wp_ret]
  imodintro
  iapply Hk; iexact H

theorem wp_pure' {α : Type} (a : α) {Kt : α → sProp 𝕄} : Kt a ⊢ wp frame (wpE D 𝒱 (c : Thread nD τ) none) Set.univ (pure a : Prog (TpuEff nD τ sig (Elt F) Λ₀ .tc) α) Kt := by
  show Kt a ⊢ wp frame (wpE D 𝒱 (c : Thread nD τ) none) Set.univ (Prog.ret a : Prog (TpuEff nD τ sig (Elt F) Λ₀ .tc) α) Kt
  rw [wp_ret]
  iintro H; imodintro; iexact H

/-- The running state: accumulators, maxima and sums. -/
structure Fl (F : FTy → Type) [FloatOps F] where
  acc : Vec F S8x2112x128 .f32
  mx : Vec F S8x3x704x128 .bf16
  sm : Vec F S8x3x704x128 .bf16

/-- What an update reads and writes: the queries, one chunk of keys and values, and the running state. -/
def comp (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (arg11 : Memref sig .tc .vmem S8x3x704x128 .bf16)
    (Q K V : Vec F S8x2112x128 .bf16) (st : Fl F) : sProp 𝕄 :=
  iprop(owned c arg0 Q ∗ owned c arg8 K ∗ owned c arg9 V ∗ owned c arg7 st.acc ∗ owned c arg10 st.mx ∗ owned c arg11 st.sm)

/-- The state after one update with 704 keys. -/
def stepL (Q : Vec F S8x2112x128 .bf16) (K V : Vec F S8x2112x128 .bf16) (bias : FVec F S704x704 .f32) (oq ok : Fin 3 → Nat) (om : Fin 4 → Nat)
    (hq : ∀ a, oq a + S1x704x128.size a ≤ S8x2112x128.size a) (hk : ∀ a, ok a + S1x704x128.size a ≤ S8x2112x128.size a)
    (hm : ∀ a, om a + S1x1x704x128.size a ≤ S8x3x704x128.size a) (st : Fl F) : Fl F :=
  let rq := Rect.unit (s := S8x2112x128) oq S1x704x128.size hq
  let rk := Rect.unit (s := S8x2112x128) ok S1x704x128.size hk
  let rm := Rect.unit (s := S8x3x704x128) om S1x1x704x128.size hm
  let s := scL bias (rd rq Q) (rd rk K)
  ⟨upd rq st.acc (acL s (rd rk V) (rd rm st.mx) (rd rq st.acc)), upd rm st.mx (msL s (rd rm st.mx)), upd rm st.sm (lsL s (rd rm st.mx) (rd rm st.sm))⟩

set_option maxHeartbeats 800000 in
theorem segL_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (oq ok : Fin 3 → Nat) (om : Fin 4 → Nat)
    (hq : ∀ a, oq a + S1x704x128.size a ≤ S8x2112x128.size a) (hk : ∀ a, ok a + S1x704x128.size a ≤ S8x2112x128.size a)
    (hm : ∀ a, om a + S1x1x704x128.size a ≤ S8x3x704x128.size a)
    (hp : (Rect.unit (s := S8x3x704x128) om S1x1x704x128.size hm).PackedRows (EltTy.packing .bf16))
    (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (stepL Q K V bias oq ok om hq hk hm st) -∗ Kt ⟨⟩))
      ⊢ wp frame (wpE D 𝒱 (c : Thread nD τ) none) Set.univ (segL (F := F) arg0 arg7 arg8 arg9 arg10 harg10 arg11 harg11 bias oq ok om hq hk hm hp) Kt := by
  unfold segL
  dsimp only [comp, stepL]
  iintro ⟨⟨HQ, HK, HV, HA, HM, HL⟩, Hk⟩
  iapply (wp_ld D 𝒱 c (m := arg0)) $$ HQ; iintro HQ
  iapply (wp_ld D 𝒱 c (m := arg8)) $$ HK; iintro HK
  iapply (wp_ld D 𝒱 c (m := arg9)) $$ HV; iintro HV
  iapply (wp_ld D 𝒱 c (m := arg10)) $$ HM; iintro HM
  iapply (wp_ld D 𝒱 c (m := arg11)) $$ HL; iintro HL
  iapply (wp_ld D 𝒱 c (m := arg7)) $$ HA; iintro HA
  iapply (wp_ld D 𝒱 c (m := arg7)) $$ HA; iintro HA
  iapply (wp_st D 𝒱 c (m := arg7)) $$ HA; iintro HA
  iapply (wp_ld D 𝒱 c (m := arg10)) $$ HM; iintro HM
  iapply (wp_st D 𝒱 c (m := arg10)) $$ HM; iintro HM
  iapply (wp_ld D 𝒱 c (m := arg11)) $$ HL; iintro HL
  iapply (wp_st D 𝒱 c (m := arg11)) $$ HL; iintro HL
  iapply (wp_pure' D 𝒱 c)
  iapply Hk
  isplitl [HQ]; · iexact HQ
  isplitl [HK]; · iexact HK
  isplitl [HV]; · iexact HV
  isplitl [HA]; · iexact HA
  isplitl [HM]; · iexact HM
  iexact HL

/-- The state after one update with 64 keys. -/
def stepS (Q : Vec F S8x2112x128 .bf16) (K V : Vec F S8x2112x128 .bf16) (oq ok : Fin 3 → Nat) (om : Fin 4 → Nat)
    (hq : ∀ a, oq a + S1x704x128.size a ≤ S8x2112x128.size a) (hk : ∀ a, ok a + S1x64x128.size a ≤ S8x2112x128.size a)
    (hm : ∀ a, om a + S1x1x704x128.size a ≤ S8x3x704x128.size a) (st : Fl F) : Fl F :=
  let rq := Rect.unit (s := S8x2112x128) oq S1x704x128.size hq
  let rk := Rect.unit (s := S8x2112x128) ok S1x64x128.size hk
  let rm := Rect.unit (s := S8x3x704x128) om S1x1x704x128.size hm
  let s := scS (rd rq Q) (rd rk K)
  ⟨upd rq st.acc (acS s (rd rk V) (rd rm st.mx) (rd rq st.acc)), upd rm st.mx (msS s (rd rm st.mx)), upd rm st.sm (lsS s (rd rm st.mx) (rd rm st.sm))⟩

set_option maxHeartbeats 800000 in
theorem segS_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (oq ok : Fin 3 → Nat) (om : Fin 4 → Nat)
    (hq : ∀ a, oq a + S1x704x128.size a ≤ S8x2112x128.size a) (hk : ∀ a, ok a + S1x64x128.size a ≤ S8x2112x128.size a)
    (hm : ∀ a, om a + S1x1x704x128.size a ≤ S8x3x704x128.size a)
    (hp : (Rect.unit (s := S8x3x704x128) om S1x1x704x128.size hm).PackedRows (EltTy.packing .bf16))
    (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (stepS Q K V oq ok om hq hk hm st) -∗ Kt ⟨⟩))
      ⊢ wp frame (wpE D 𝒱 (c : Thread nD τ) none) Set.univ (segS (F := F) arg0 arg7 arg8 arg9 arg10 harg10 arg11 harg11 oq ok om hq hk hm hp) Kt := by
  unfold segS
  dsimp only [comp, stepS]
  iintro ⟨⟨HQ, HK, HV, HA, HM, HL⟩, Hk⟩
  iapply (wp_ld D 𝒱 c (m := arg0)) $$ HQ; iintro HQ
  iapply (wp_ld D 𝒱 c (m := arg8)) $$ HK; iintro HK
  iapply (wp_ld D 𝒱 c (m := arg9)) $$ HV; iintro HV
  iapply (wp_ld D 𝒱 c (m := arg10)) $$ HM; iintro HM
  iapply (wp_ld D 𝒱 c (m := arg11)) $$ HL; iintro HL
  iapply (wp_ld D 𝒱 c (m := arg7)) $$ HA; iintro HA
  iapply (wp_ld D 𝒱 c (m := arg7)) $$ HA; iintro HA
  iapply (wp_st D 𝒱 c (m := arg7)) $$ HA; iintro HA
  iapply (wp_ld D 𝒱 c (m := arg10)) $$ HM; iintro HM
  iapply (wp_st D 𝒱 c (m := arg10)) $$ HM; iintro HM
  iapply (wp_ld D 𝒱 c (m := arg11)) $$ HL; iintro HL
  iapply (wp_st D 𝒱 c (m := arg11)) $$ HL; iintro HL
  iapply (wp_pure' D 𝒱 c)
  iapply Hk
  isplitl [HQ]; · iexact HQ
  isplitl [HK]; · iexact HK
  isplitl [HV]; · iexact HV
  isplitl [HA]; · iexact HA
  isplitl [HM]; · iexact HM
  iexact HL

end Cert.KernelIdeal.Flash

end
-- ==== Proof.Compute.lean ====
module

public import proofs.«01_k».proof.Proof.Held
public import Idealize.ShloMosaic.Lib.Writes
public import Idealize.ShloMosaic.Lib.Tactic

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem

variable {F : FTy → Type} [FloatOps F] [Named F]

variable {U : Type} [URA U] (D : Defs nD τ sig (Elt F) Λ₀) (𝒱 : Variants) (c : Dev nD)

local notation "𝕄" => MT nD τ sig Unit (Elt F) ℕ U ℕ

/-- A loop's state after some trips. -/
def iter {n : ℕ} {σ : Type} (f : Fin n → σ → σ) : ℕ → σ → σ
  | 0, s => s
  | k + 1, s => if h : k < n then f ⟨k, h⟩ (iter f k s) else iter f k s

theorem iter_succ {n : ℕ} {σ : Type} (f : Fin n → σ → σ) (k : ℕ) (s : σ) (h : k < n) : iter f (k + 1) s = f ⟨k, h⟩ (iter f k s) := dif_pos h

theorem inbQ (g : Fin 3) (h : Fin 8) : ∀ a, (![h.val, 704 * g.val, 0] : Fin 3 → Nat) a + S1x704x128.size a ≤ S8x2112x128.size a := by
  revert g h; decide
theorem inbK0 (h : Fin 8) : ∀ a, (![h.val, 0, 0] : Fin 3 → Nat) a + S1x64x128.size a ≤ S8x2112x128.size a := by
  revert h; decide
theorem inbM (g : Fin 3) (h : Fin 8) : ∀ a, (![h.val, g.val, 0, 0] : Fin 4 → Nat) a + S1x1x704x128.size a ≤ S8x3x704x128.size a := by
  revert g h; decide
theorem inbO (g : Fin 3) (h : Fin 8) : ∀ a, (![704 * g.val, 128 * h.val] : Fin 2 → Nat) a + S704x128.size a ≤ S2112x1024.size a := by
  revert g h; decide

/-- One update of head `h` of row group `g` against key group `r`. -/
def stL (Q K V : Vec F S8x2112x128 .bf16) (bias : FVec F S704x704 .f32) (g r : Fin 3) (h : Fin 8) (st : Fl F) : Fl F :=
  stepL Q K V bias ![h.val, 704 * g.val, 0] ![h.val, 704 * r.val, 0] ![h.val, g.val, 0, 0] (inbQ g h) (inbQ r h) (inbM g h) st

/-- One update of head `h` of row group `g` against the first key block of the chunk. -/
def stS (Q K V : Vec F S8x2112x128 .bf16) (g : Fin 3) (h : Fin 8) (st : Fl F) : Fl F :=
  stepS Q K V ![h.val, 704 * g.val, 0] ![h.val, 0, 0] ![h.val, g.val, 0, 0] (inbQ g h) (inbK0 h) (inbM g h) st

theorem stepL_eq (Q K V : Vec F S8x2112x128 .bf16) (bias : FVec F S704x704 .f32) (g r : Fin 3) (h : Fin 8) {oq ok : Fin 3 → Nat} {om : Fin 4 → Nat}
    (eq : oq = ![h.val, 704 * g.val, 0]) (ek : ok = ![h.val, 704 * r.val, 0]) (em : om = ![h.val, g.val, 0, 0]) (hq hk hm) (st : Fl F) :
    stepL Q K V bias oq ok om hq hk hm st = stL Q K V bias g r h st := by
  subst eq ek em; rfl

/-- The state after the loop over the heads. -/
def loopSt (Q K V : Vec F S8x2112x128 .bf16) (bias : FVec F S704x704 .f32) (g r : Fin 3) (st : Fl F) : Fl F :=
  iter (fun h : Fin 8 => stL Q K V bias g r h) 8 st

/-- The state after the updates against the very first key block. -/
def kbSt (Q K V : Vec F S8x2112x128 .bf16) (st : Fl F) : Fl F :=
  ([(1, 0), (1, 1), (1, 2), (1, 3), (1, 4), (1, 5), (1, 6), (1, 7), (2, 0), (2, 1), (2, 2), (2, 3), (2, 4), (2, 5), (2, 6), (2, 7)] : List (Fin 3 × Fin 8)).foldl (fun s p => stS Q K V p.1 p.2 s) st

/-- The state after the updates against a row's own block. -/
def diagSt (Q K V : Vec F S8x2112x128 .bf16) (bias : FVec F S704x704 .f32) (st : Fl F) : Fl F :=
  ([(1, 0), (1, 1), (1, 2), (1, 3), (1, 4), (1, 5), (1, 6), (1, 7), (2, 0), (2, 1), (2, 2), (2, 3), (2, 4), (2, 5), (2, 6), (2, 7)] : List (Fin 3 × Fin 8)).foldl (fun s p => stL Q K V bias p.1 p.1 p.2 s) st

/-- The state after one chunk. -/
def attSt (w : BitVec 32) (Q K V : Vec F S8x2112x128 .bf16) (st : Fl F) : Fl F :=
  let s := loopSt Q K V (padB (F := F) 1#32 w) 2 1 (loopSt Q K V (padB (F := F) 2#32 w) 1 2 (loopSt Q K V (padB (F := F) 0#32 w) 0 0 st))
  if Scalar.cmpi .ne (Scalar.extui (Scalar.cmpi .eq w 0#32)) 0#32 = 1#1 then kbSt Q K V s else s

theorem off_t1 (t : Fin k0_t1_loop.trips) : k0_off3 t = ![t.val, 704 * 0, 0] ∧ k0_off3 t = ![t.val, 704 * 0, 0] ∧ k0_off4 t = ![t.val, 0, 0, 0] := by
  revert t; decide

theorem loop1_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (loopSt Q K V bias 0 0 st) -∗ Kt ⟨⟩))
      ⊢ wp frame (wpE D 𝒱 (c : Thread nD τ) none) Set.univ (Scf.Loop.for k0_t1_loop k0_t1_ok ⟨⟩ (fun t _ => segL (F := F) arg0 arg7 arg8 arg9 arg10 harg10 arg11 harg11 bias (k0_off3 t) (k0_off3 t) (k0_off4 t) (k0_off3_inb t) (k0_off3_inb t) (k0_off4_inb t) (k0_off4_packedbf16 t))) Kt := by
  iintro ⟨H, Hk⟩
  iapply (Scf.wp_for frame (wpE D 𝒱 (c : Thread nD τ) none) Set.univ k0_t1_loop.lb k0_t1_loop.ub k0_t1_loop.st k0_t1_ok (⟨⟩ : Unit) _
    (fun k _ => comp c arg0 arg7 arg8 arg9 arg10 arg11 Q K V (iter (fun h : Fin 8 => stL Q K V bias 0 0 h) k st)) ?_)
  rotate_left
  · isplitl [H]; · iexact H
    iintro %acc H
    iapply Hk; iexact H
  · intro t u
    have e := off_t1 t
    have ht : t.val < 8 := t.isLt
    rw [iter_succ _ _ _ ht, ← stepL_eq Q K V bias 0 0 ⟨t.val, ht⟩ e.1 e.2.1 e.2.2 (k0_off3_inb t) (k0_off3_inb t) (k0_off4_inb t)]
    iintro H
    iapply (segL_run D 𝒱 c arg0 arg7 arg8 arg9 arg10 harg10 arg11 harg11 bias (k0_off3 t) (k0_off3 t) (k0_off4 t) (k0_off3_inb t) (k0_off3_inb t) (k0_off4_inb t) (k0_off4_packedbf16 t) Q K V _)
    isplitl [H]; · iexact H
    iintro H
    iexact H

theorem off_t2 (t : Fin k0_t2_loop.trips) : k0_off5 t = ![t.val, 704 * 1, 0] ∧ k0_off6 t = ![t.val, 704 * 2, 0] ∧ k0_off7 t = ![t.val, 1, 0, 0] := by
  revert t; decide

theorem loop2_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (loopSt Q K V bias 1 2 st) -∗ Kt ⟨⟩))
      ⊢ wp frame (wpE D 𝒱 (c : Thread nD τ) none) Set.univ (Scf.Loop.for k0_t2_loop k0_t2_ok ⟨⟩ (fun t _ => segL (F := F) arg0 arg7 arg8 arg9 arg10 harg10 arg11 harg11 bias (k0_off5 t) (k0_off6 t) (k0_off7 t) (k0_off5_inb t) (k0_off6_inb t) (k0_off7_inb t) (k0_off7_packedbf16 t))) Kt := by
  iintro ⟨H, Hk⟩
  iapply (Scf.wp_for frame (wpE D 𝒱 (c : Thread nD τ) none) Set.univ k0_t2_loop.lb k0_t2_loop.ub k0_t2_loop.st k0_t2_ok (⟨⟩ : Unit) _
    (fun k _ => comp c arg0 arg7 arg8 arg9 arg10 arg11 Q K V (iter (fun h : Fin 8 => stL Q K V bias 1 2 h) k st)) ?_)
  rotate_left
  · isplitl [H]; · iexact H
    iintro %acc H
    iapply Hk; iexact H
  · intro t u
    have e := off_t2 t
    have ht : t.val < 8 := t.isLt
    rw [iter_succ _ _ _ ht, ← stepL_eq Q K V bias 1 2 ⟨t.val, ht⟩ e.1 e.2.1 e.2.2 (k0_off5_inb t) (k0_off6_inb t) (k0_off7_inb t)]
    iintro H
    iapply (segL_run D 𝒱 c arg0 arg7 arg8 arg9 arg10 harg10 arg11 harg11 bias (k0_off5 t) (k0_off6 t) (k0_off7 t) (k0_off5_inb t) (k0_off6_inb t) (k0_off7_inb t) (k0_off7_packedbf16 t) Q K V _)
    isplitl [H]; · iexact H
    iintro H
    iexact H

theorem off_t3 (t : Fin k0_t3_loop.trips) : k0_off8 t = ![t.val, 704 * 2, 0] ∧ k0_off9 t = ![t.val, 704 * 1, 0] ∧ k0_off10 t = ![t.val, 2, 0, 0] := by
  revert t; decide

theorem loop3_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (loopSt Q K V bias 2 1 st) -∗ Kt ⟨⟩))
      ⊢ wp frame (wpE D 𝒱 (c : Thread nD τ) none) Set.univ (Scf.Loop.for k0_t3_loop k0_t3_ok ⟨⟩ (fun t _ => segL (F := F) arg0 arg7 arg8 arg9 arg10 harg10 arg11 harg11 bias (k0_off8 t) (k0_off9 t) (k0_off10 t) (k0_off8_inb t) (k0_off9_inb t) (k0_off10_inb t) (k0_off10_packedbf16 t))) Kt := by
  iintro ⟨H, Hk⟩
  iapply (Scf.wp_for frame (wpE D 𝒱 (c : Thread nD τ) none) Set.univ k0_t3_loop.lb k0_t3_loop.ub k0_t3_loop.st k0_t3_ok (⟨⟩ : Unit) _
    (fun k _ => comp c arg0 arg7 arg8 arg9 arg10 arg11 Q K V (iter (fun h : Fin 8 => stL Q K V bias 2 1 h) k st)) ?_)
  rotate_left
  · isplitl [H]; · iexact H
    iintro %acc H
    iapply Hk; iexact H
  · intro t u
    have e := off_t3 t
    have ht : t.val < 8 := t.isLt
    rw [iter_succ _ _ _ ht, ← stepL_eq Q K V bias 2 1 ⟨t.val, ht⟩ e.1 e.2.1 e.2.2 (k0_off8_inb t) (k0_off9_inb t) (k0_off10_inb t)]
    iintro H
    iapply (segL_run D 𝒱 c arg0 arg7 arg8 arg9 arg10 harg10 arg11 harg11 bias (k0_off8 t) (k0_off9 t) (k0_off10 t) (k0_off8_inb t) (k0_off9_inb t) (k0_off10_inb t) (k0_off10_packedbf16 t) Q K V _)
    isplitl [H]; · iexact H
    iintro H
    iexact H

set_option maxHeartbeats 1000000 in
theorem kbAll_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (kbSt Q K V st) -∗ Kt ⟨⟩))
      ⊢ wp frame (wpE D 𝒱 (c : Thread nD τ) none) Set.univ (kbAll (F := F) arg0 arg7 arg8 arg9 arg10 harg10 arg11 harg11) Kt := by
  unfold kbAll kbSt
  dsimp only [List.foldl]
  iintro ⟨H, Hk⟩
  rw [wp_bind]
  iapply (segS_run D 𝒱 c arg0 arg7 arg8 arg9 arg10 harg10 arg11 harg11 ![0, 704, 0] ![0, 0, 0] ![0, 1, 0, 0] inb_S8x2112x128_S1x704x128_0_704_0 inb_S8x2112x128_S1x64x128_0_0_0 inb_S8x3x704x128_S1x1x704x128_0_1_0_0 packedbf16_S8x3x704x128_S1x1x704x128_0_1_0_0 Q K V _)
  isplitl [H]; · iexact H
  iintro H
  rw [wp_bind]
  iapply (segS_run D 𝒱 c arg0 arg7 arg8 arg9 arg10 harg10 arg11 harg11 ![1, 704, 0] ![1, 0, 0] ![1, 1, 0, 0] inb_S8x2112x128_S1x704x128_1_704_0 inb_S8x2112x128_S1x64x128_1_0_0 inb_S8x3x704x128_S1x1x704x128_1_1_0_0 packedbf16_S8x3x704x128_S1x1x704x128_1_1_0_0 Q K V _)
  isplitl [H]; · iexact H
  iintro H
  rw [wp_bind]
  iapply (segS_run D 𝒱 c arg0 arg7 arg8 arg9 arg10 harg10 arg11 harg11 ![2, 704, 0] ![2, 0, 0] ![2, 1, 0, 0] inb_S8x2112x128_S1x704x128_2_704_0 inb_S8x2112x128_S1x64x128_2_0_0 inb_S8x3x704x128_S1x1x704x128_2_1_0_0 packedbf16_S8x3x704x128_S1x1x704x128_2_1_0_0 Q K V _)
  isplitl [H]; · iexact H
  iintro H
  rw [wp_bind]
  iapply (segS_run D 𝒱 c arg0 arg7 arg8 arg9 arg10 harg10 arg11 harg11 ![3, 704, 0] ![3, 0, 0] ![3, 1, 0, 0] inb_S8x2112x128_S1x704x128_3_704_0 inb_S8x2112x128_S1x64x128_3_0_0 inb_S8x3x704x128_S1x1x704x128_3_1_0_0 packedbf16_S8x3x704x128_S1x1x704x128_3_1_0_0 Q K V _)
  isplitl [H]; · iexact H
  iintro H
  rw [wp_bind]
  iapply (segS_run D 𝒱 c arg0 arg7 arg8 arg9 arg10 harg10 arg11 harg11 ![4, 704, 0] ![4, 0, 0] ![4, 1, 0, 0] inb_S8x2112x128_S1x704x128_4_704_0 inb_S8x2112x128_S1x64x128_4_0_0 inb_S8x3x704x128_S1x1x704x128_4_1_0_0 packedbf16_S8x3x704x128_S1x1x704x128_4_1_0_0 Q K V _)
  isplitl [H]; · iexact H
  iintro H
  rw [wp_bind]
  iapply (segS_run D 𝒱 c arg0 arg7 arg8 arg9 arg10 harg10 arg11 harg11 ![5, 704, 0] ![5, 0, 0] ![5, 1, 0, 0] inb_S8x2112x128_S1x704x128_5_704_0 inb_S8x2112x128_S1x64x128_5_0_0 inb_S8x3x704x128_S1x1x704x128_5_1_0_0 packedbf16_S8x3x704x128_S1x1x704x128_5_1_0_0 Q K V _)
  isplitl [H]; · iexact H
  iintro H
  rw [wp_bind]
  iapply (segS_run D 𝒱 c arg0 arg7 arg8 arg9 arg10 harg10 arg11 harg11 ![6, 704, 0] ![6, 0, 0] ![6, 1, 0, 0] inb_S8x2112x128_S1x704x128_6_704_0 inb_S8x2112x128_S1x64x128_6_0_0 inb_S8x3x704x128_S1x1x704x128_6_1_0_0 packedbf16_S8x3x704x128_S1x1x704x128_6_1_0_0 Q K V _)
  isplitl [H]; · iexact H
  iintro H
  rw [wp_bind]
  iapply (segS_run D 𝒱 c arg0 arg7 arg8 arg9 arg10 harg10 arg11 harg11 ![7, 704, 0] ![7, 0, 0] ![7, 1, 0, 0] inb_S8x2112x128_S1x704x128_7_704_0 inb_S8x2112x128_S1x64x128_7_0_0 inb_S8x3x704x128_S1x1x704x128_7_1_0_0 packedbf16_S8x3x704x128_S1x1x704x128_7_1_0_0 Q K V _)
  isplitl [H]; · iexact H
  iintro H
  rw [wp_bind]
  iapply (segS_run D 𝒱 c arg0 arg7 arg8 arg9 arg10 harg10 arg11 harg11 ![0, 1408, 0] ![0, 0, 0] ![0, 2, 0, 0] inb_S8x2112x128_S1x704x128_0_1408_0 inb_S8x2112x128_S1x64x128_0_0_0 inb_S8x3x704x128_S1x1x704x128_0_2_0_0 packedbf16_S8x3x704x128_S1x1x704x128_0_2_0_0 Q K V _)
  isplitl [H]; · iexact H
  iintro H
  rw [wp_bind]
  iapply (segS_run D 𝒱 c arg0 arg7 arg8 arg9 arg10 harg10 arg11 harg11 ![1, 1408, 0] ![1, 0, 0] ![1, 2, 0, 0] inb_S8x2112x128_S1x704x128_1_1408_0 inb_S8x2112x128_S1x64x128_1_0_0 inb_S8x3x704x128_S1x1x704x128_1_2_0_0 packedbf16_S8x3x704x128_S1x1x704x128_1_2_0_0 Q K V _)
  isplitl [H]; · iexact H
  iintro H
  rw [wp_bind]
  iapply (segS_run D 𝒱 c arg0 arg7 arg8 arg9 arg10 harg10 arg11 harg11 ![2, 1408, 0] ![2, 0, 0] ![2, 2, 0, 0] inb_S8x2112x128_S1x704x128_2_1408_0 inb_S8x2112x128_S1x64x128_2_0_0 inb_S8x3x704x128_S1x1x704x128_2_2_0_0 packedbf16_S8x3x704x128_S1x1x704x128_2_2_0_0 Q K V _)
  isplitl [H]; · iexact H
  iintro H
  rw [wp_bind]
  iapply (segS_run D 𝒱 c arg0 arg7 arg8 arg9 arg10 harg10 arg11 harg11 ![3, 1408, 0] ![3, 0, 0] ![3, 2, 0, 0] inb_S8x2112x128_S1x704x128_3_1408_0 inb_S8x2112x128_S1x64x128_3_0_0 inb_S8x3x704x128_S1x1x704x128_3_2_0_0 packedbf16_S8x3x704x128_S1x1x704x128_3_2_0_0 Q K V _)
  isplitl [H]; · iexact H
  iintro H
  rw [wp_bind]
  iapply (segS_run D 𝒱 c arg0 arg7 arg8 arg9 arg10 harg10 arg11 harg11 ![4, 1408, 0] ![4, 0, 0] ![4, 2, 0, 0] inb_S8x2112x128_S1x704x128_4_1408_0 inb_S8x2112x128_S1x64x128_4_0_0 inb_S8x3x704x128_S1x1x704x128_4_2_0_0 packedbf16_S8x3x704x128_S1x1x704x128_4_2_0_0 Q K V _)
  isplitl [H]; · iexact H
  iintro H
  rw [wp_bind]
  iapply (segS_run D 𝒱 c arg0 arg7 arg8 arg9 arg10 harg10 arg11 harg11 ![5, 1408, 0] ![5, 0, 0] ![5, 2, 0, 0] inb_S8x2112x128_S1x704x128_5_1408_0 inb_S8x2112x128_S1x64x128_5_0_0 inb_S8x3x704x128_S1x1x704x128_5_2_0_0 packedbf16_S8x3x704x128_S1x1x704x128_5_2_0_0 Q K V _)
  isplitl [H]; · iexact H
  iintro H
  rw [wp_bind]
  iapply (segS_run D 𝒱 c arg0 arg7 arg8 arg9 arg10 harg10 arg11 harg11 ![6, 1408, 0] ![6, 0, 0] ![6, 2, 0, 0] inb_S8x2112x128_S1x704x128_6_1408_0 inb_S8x2112x128_S1x64x128_6_0_0 inb_S8x3x704x128_S1x1x704x128_6_2_0_0 packedbf16_S8x3x704x128_S1x1x704x128_6_2_0_0 Q K V _)
  isplitl [H]; · iexact H
  iintro H
  iapply (segS_run D 𝒱 c arg0 arg7 arg8 arg9 arg10 harg10 arg11 harg11 ![7, 1408, 0] ![7, 0, 0] ![7, 2, 0, 0] inb_S8x2112x128_S1x704x128_7_1408_0 inb_S8x2112x128_S1x64x128_7_0_0 inb_S8x3x704x128_S1x1x704x128_7_2_0_0 packedbf16_S8x3x704x128_S1x1x704x128_7_2_0_0 Q K V _)
  isplitl [H]; · iexact H
  iintro H
  iapply Hk; iexact H

set_option maxHeartbeats 1000000 in
theorem diagAll_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (bias : FVec F S704x704 .f32) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (diagSt Q K V bias st) -∗ Kt ⟨⟩))
      ⊢ wp frame (wpE D 𝒱 (c : Thread nD τ) none) Set.univ (diagAll (F := F) arg0 arg7 arg8 arg9 arg10 harg10 arg11 harg11 bias) Kt := by
  unfold diagAll diagSt
  dsimp only [List.foldl]
  iintro ⟨H, Hk⟩
  rw [wp_bind]
  iapply (segL_run D 𝒱 c arg0 arg7 arg8 arg9 arg10 harg10 arg11 harg11 bias ![0, 704, 0] ![0, 704, 0] ![0, 1, 0, 0] inb_S8x2112x128_S1x704x128_0_704_0 inb_S8x2112x128_S1x704x128_0_704_0 inb_S8x3x704x128_S1x1x704x128_0_1_0_0 packedbf16_S8x3x704x128_S1x1x704x128_0_1_0_0 Q K V _)
  isplitl [H]; · iexact H
  iintro H
  rw [wp_bind]
  iapply (segL_run D 𝒱 c arg0 arg7 arg8 arg9 arg10 harg10 arg11 harg11 bias ![1, 704, 0] ![1, 704, 0] ![1, 1, 0, 0] inb_S8x2112x128_S1x704x128_1_704_0 inb_S8x2112x128_S1x704x128_1_704_0 inb_S8x3x704x128_S1x1x704x128_1_1_0_0 packedbf16_S8x3x704x128_S1x1x704x128_1_1_0_0 Q K V _)
  isplitl [H]; · iexact H
  iintro H
  rw [wp_bind]
  iapply (segL_run D 𝒱 c arg0 arg7 arg8 arg9 arg10 harg10 arg11 harg11 bias ![2, 704, 0] ![2, 704, 0] ![2, 1, 0, 0] inb_S8x2112x128_S1x704x128_2_704_0 inb_S8x2112x128_S1x704x128_2_704_0 inb_S8x3x704x128_S1x1x704x128_2_1_0_0 packedbf16_S8x3x704x128_S1x1x704x128_2_1_0_0 Q K V _)
  isplitl [H]; · iexact H
  iintro H
  rw [wp_bind]
  iapply (segL_run D 𝒱 c arg0 arg7 arg8 arg9 arg10 harg10 arg11 harg11 bias ![3, 704, 0] ![3, 704, 0] ![3, 1, 0, 0] inb_S8x2112x128_S1x704x128_3_704_0 inb_S8x2112x128_S1x704x128_3_704_0 inb_S8x3x704x128_S1x1x704x128_3_1_0_0 packedbf16_S8x3x704x128_S1x1x704x128_3_1_0_0 Q K V _)
  isplitl [H]; · iexact H
  iintro H
  rw [wp_bind]
  iapply (segL_run D 𝒱 c arg0 arg7 arg8 arg9 arg10 harg10 arg11 harg11 bias ![4, 704, 0] ![4, 704, 0] ![4, 1, 0, 0] inb_S8x2112x128_S1x704x128_4_704_0 inb_S8x2112x128_S1x704x128_4_704_0 inb_S8x3x704x128_S1x1x704x128_4_1_0_0 packedbf16_S8x3x704x128_S1x1x704x128_4_1_0_0 Q K V _)
  isplitl [H]; · iexact H
  iintro H
  rw [wp_bind]
  iapply (segL_run D 𝒱 c arg0 arg7 arg8 arg9 arg10 harg10 arg11 harg11 bias ![5, 704, 0] ![5, 704, 0] ![5, 1, 0, 0] inb_S8x2112x128_S1x704x128_5_704_0 inb_S8x2112x128_S1x704x128_5_704_0 inb_S8x3x704x128_S1x1x704x128_5_1_0_0 packedbf16_S8x3x704x128_S1x1x704x128_5_1_0_0 Q K V _)
  isplitl [H]; · iexact H
  iintro H
  rw [wp_bind]
  iapply (segL_run D 𝒱 c arg0 arg7 arg8 arg9 arg10 harg10 arg11 harg11 bias ![6, 704, 0] ![6, 704, 0] ![6, 1, 0, 0] inb_S8x2112x128_S1x704x128_6_704_0 inb_S8x2112x128_S1x704x128_6_704_0 inb_S8x3x704x128_S1x1x704x128_6_1_0_0 packedbf16_S8x3x704x128_S1x1x704x128_6_1_0_0 Q K V _)
  isplitl [H]; · iexact H
  iintro H
  rw [wp_bind]
  iapply (segL_run D 𝒱 c arg0 arg7 arg8 arg9 arg10 harg10 arg11 harg11 bias ![7, 704, 0] ![7, 704, 0] ![7, 1, 0, 0] inb_S8x2112x128_S1x704x128_7_704_0 inb_S8x2112x128_S1x704x128_7_704_0 inb_S8x3x704x128_S1x1x704x128_7_1_0_0 packedbf16_S8x3x704x128_S1x1x704x128_7_1_0_0 Q K V _)
  isplitl [H]; · iexact H
  iintro H
  rw [wp_bind]
  iapply (segL_run D 𝒱 c arg0 arg7 arg8 arg9 arg10 harg10 arg11 harg11 bias ![0, 1408, 0] ![0, 1408, 0] ![0, 2, 0, 0] inb_S8x2112x128_S1x704x128_0_1408_0 inb_S8x2112x128_S1x704x128_0_1408_0 inb_S8x3x704x128_S1x1x704x128_0_2_0_0 packedbf16_S8x3x704x128_S1x1x704x128_0_2_0_0 Q K V _)
  isplitl [H]; · iexact H
  iintro H
  rw [wp_bind]
  iapply (segL_run D 𝒱 c arg0 arg7 arg8 arg9 arg10 harg10 arg11 harg11 bias ![1, 1408, 0] ![1, 1408, 0] ![1, 2, 0, 0] inb_S8x2112x128_S1x704x128_1_1408_0 inb_S8x2112x128_S1x704x128_1_1408_0 inb_S8x3x704x128_S1x1x704x128_1_2_0_0 packedbf16_S8x3x704x128_S1x1x704x128_1_2_0_0 Q K V _)
  isplitl [H]; · iexact H
  iintro H
  rw [wp_bind]
  iapply (segL_run D 𝒱 c arg0 arg7 arg8 arg9 arg10 harg10 arg11 harg11 bias ![2, 1408, 0] ![2, 1408, 0] ![2, 2, 0, 0] inb_S8x2112x128_S1x704x128_2_1408_0 inb_S8x2112x128_S1x704x128_2_1408_0 inb_S8x3x704x128_S1x1x704x128_2_2_0_0 packedbf16_S8x3x704x128_S1x1x704x128_2_2_0_0 Q K V _)
  isplitl [H]; · iexact H
  iintro H
  rw [wp_bind]
  iapply (segL_run D 𝒱 c arg0 arg7 arg8 arg9 arg10 harg10 arg11 harg11 bias ![3, 1408, 0] ![3, 1408, 0] ![3, 2, 0, 0] inb_S8x2112x128_S1x704x128_3_1408_0 inb_S8x2112x128_S1x704x128_3_1408_0 inb_S8x3x704x128_S1x1x704x128_3_2_0_0 packedbf16_S8x3x704x128_S1x1x704x128_3_2_0_0 Q K V _)
  isplitl [H]; · iexact H
  iintro H
  rw [wp_bind]
  iapply (segL_run D 𝒱 c arg0 arg7 arg8 arg9 arg10 harg10 arg11 harg11 bias ![4, 1408, 0] ![4, 1408, 0] ![4, 2, 0, 0] inb_S8x2112x128_S1x704x128_4_1408_0 inb_S8x2112x128_S1x704x128_4_1408_0 inb_S8x3x704x128_S1x1x704x128_4_2_0_0 packedbf16_S8x3x704x128_S1x1x704x128_4_2_0_0 Q K V _)
  isplitl [H]; · iexact H
  iintro H
  rw [wp_bind]
  iapply (segL_run D 𝒱 c arg0 arg7 arg8 arg9 arg10 harg10 arg11 harg11 bias ![5, 1408, 0] ![5, 1408, 0] ![5, 2, 0, 0] inb_S8x2112x128_S1x704x128_5_1408_0 inb_S8x2112x128_S1x704x128_5_1408_0 inb_S8x3x704x128_S1x1x704x128_5_2_0_0 packedbf16_S8x3x704x128_S1x1x704x128_5_2_0_0 Q K V _)
  isplitl [H]; · iexact H
  iintro H
  rw [wp_bind]
  iapply (segL_run D 𝒱 c arg0 arg7 arg8 arg9 arg10 harg10 arg11 harg11 bias ![6, 1408, 0] ![6, 1408, 0] ![6, 2, 0, 0] inb_S8x2112x128_S1x704x128_6_1408_0 inb_S8x2112x128_S1x704x128_6_1408_0 inb_S8x3x704x128_S1x1x704x128_6_2_0_0 packedbf16_S8x3x704x128_S1x1x704x128_6_2_0_0 Q K V _)
  isplitl [H]; · iexact H
  iintro H
  iapply (segL_run D 𝒱 c arg0 arg7 arg8 arg9 arg10 harg10 arg11 harg11 bias ![7, 1408, 0] ![7, 1408, 0] ![7, 2, 0, 0] inb_S8x2112x128_S1x704x128_7_1408_0 inb_S8x2112x128_S1x704x128_7_1408_0 inb_S8x3x704x128_S1x1x704x128_7_2_0_0 packedbf16_S8x3x704x128_S1x1x704x128_7_2_0_0 Q K V _)
  isplitl [H]; · iexact H
  iintro H
  iapply Hk; iexact H

theorem attP_run (arg0 : Memref sig .tc .vmem S8x2112x128 .bf16) (arg7 : Memref sig .tc .vmem S8x2112x128 .f32) (arg8 : Memref sig .tc .vmem S8x2112x128 .bf16) (arg9 : Memref sig .tc .vmem S8x2112x128 .bf16) (arg10 : Memref sig .tc .vmem S8x3x704x128 .bf16) (harg10 : arg10.IsWhole) (arg11 : Memref sig .tc .vmem S8x3x704x128 .bf16) (harg11 : arg11.IsWhole) (w : BitVec 32) (Q K V : Vec F S8x2112x128 .bf16) (st : Fl F) (Kt : Unit → sProp 𝕄) :
    iprop(comp c arg0 arg7 arg8 arg9 arg10 arg11 Q K V st ∗ (comp c arg0 arg7 arg8 arg9 arg10 arg11 Q K V (attSt w Q K V st) -∗ Kt ⟨⟩))
      ⊢ wp frame (wpE D 𝒱 (c : Thread nD τ) none) Set.univ (attP (F := F) arg0 arg7 arg8 arg9 arg10 harg10 arg11 harg11 w) Kt := by
  unfold attP attSt
  iintro ⟨H, Hk⟩
  rw [wp_bind]
  iapply (loop1_run D 𝒱 c arg0 arg7 arg8 arg9 arg10 harg10 arg11 harg11 _ Q K V _)
  isplitl [H]; · iexact H
  iintro H
  rw [wp_bind]
  iapply (loop2_run D 𝒱 c arg0 arg7 arg8 arg9 arg10 harg10 arg11 harg11 _ Q K V _)
  isplitl [H]; · iexact H
  iintro H
  rw [wp_bind]
  iapply (loop3_run D 𝒱 c arg0 arg7 arg8 arg9 arg10 harg10 arg11 harg11 _ Q K V _)
  isplitl [H]; · iexact H
  iintro H
  by_cases h : Scalar.cmpi .ne (Scalar.extui (Scalar.cmpi .eq w 0#32)) 0#32 = 1#1
  · simp only [dif_pos h, if_pos h]
    iapply (kbAll_run D 𝒱 c arg0 arg7 arg8 arg9 arg10 harg10 arg11 harg11 Q K V _)
    isplitl [H]; · iexact H
    iintro H
    iapply Hk; iexact H
  · simp only [dif_neg h, if_neg h]
    iapply (wp_pure' D 𝒱 c)
    iapply Hk; iexact H

section Full

variable {Val : EltTy → Type} {s : Shape} {e : EltTy}

theorem emb_full (o : Fin s.rank → Nat) (ho : ∀ a, o a = 0) (h : ∀ a, o a + s.size a ≤ s.size a) (x : s.Idx) : (Rect.unit (s := s) o s.size h).emb x = x := by
  funext a
  refine Fin.ext ?_
  show o a + 1 * (x a).val = (x a).val
  rw [ho a]; omega

theorem rd_full (o : Fin s.rank → Nat) (ho : ∀ a, o a = 0) (h : ∀ a, o a + s.size a ≤ s.size a) (A : s.Idx → Val e) : rd (Rect.unit (s := s) o s.size h) A = A := by
  funext x; exact congrArg A (emb_full o ho h x)

theorem upd_full (o : Fin s.rank → Nat) (ho : ∀ a, o a = 0) (h : ∀ a, o a + s.size a ≤ s.size a) (A w : s.Idx → Val e) : upd (Rect.unit (s := s) o s.size h) A w = w := by
  funext y
  have := upd_emb (Rect.unit (s := s) o s.size h) A w y
  rwa [emb_full o ho h y] at this

end Full

/-- The starting state. -/
def initSt : Fl F := ⟨k0_pay750 (F := F), k0_pay751 (F := F), k0_pay753 (k0_pay752 (F := F))⟩

theorem initP_run (arg7 : Memref sig .tc .vmem S8x2112x128 .f32) (arg10 : Memref sig .tc .vmem S8x3x704x128 .bf16) (harg10 : arg10.IsWhole) (arg11 : Memref sig .tc .vmem S8x3x704x128 .bf16) (harg11 : arg11.IsWhole) (A : Vec F S8x2112x128 .f32) (M L : Vec F S8x3x704x128 .bf16) (Kt : Unit → sProp 𝕄) :
    iprop((owned c arg7 A ∗ owned c arg10 M ∗ owned c arg11 L) ∗ ((owned c arg7 (initSt (F := F)).acc ∗ owned c arg10 (initSt (F := F)).mx ∗ owned c arg11 (initSt (F := F)).sm) -∗ Kt ⟨⟩))
      ⊢ wp frame (wpE D 𝒱 (c : Thread nD τ) none) Set.univ (initP (F := F) arg7 arg10 harg10 arg11 harg11) Kt := by
  unfold initP
  iintro ⟨⟨HA, HM, HL⟩, Hk⟩
  iapply (wp_ld D 𝒱 c (m := arg7)) $$ HA; iintro HA
  iapply (wp_st D 𝒱 c (m := arg7)) $$ HA; iintro HA
  iapply (wp_ld D 𝒱 c (m := arg10)) $$ HM; iintro HM
  iapply (wp_st D 𝒱 c (m := arg10)) $$ HM; iintro HM
  iapply (wp_ld D 𝒱 c (m := arg11)) $$ HL; iintro HL
  iapply (wp_st' D 𝒱 c (m := arg11)) $$ HL; iintro HL
  rw [upd_full (s := S8x2112x128) ![0, 0, 0] (by decide), upd_full (s := S8x3x704x128) ![0, 0, 0, 0] (by decide), upd_full (s := S8x3x704x128) ![0, 0, 0, 0] (by decide)]
  iapply Hk
  isplitl [HA]; · iexact HA
  isplitl [HM]; · iexact HM
  iexact HL

/-- The output block after one head of one row group is divided. -/
def normOne (A : Vec F S8x2112x128 .f32) (L : Vec F S8x3x704x128 .bf16) (ol : Fin 4 → Nat) (oa : Fin 3 → Nat) (oo : Fin 2 → Nat)
    (hl : ∀ a, ol a + S1x1x704x128.size a ≤ S8x3x704x128.size a) (ha : ∀ a, oa a + S1x704x128.size a ≤ S8x2112x128.size a) (ho : ∀ a, oo a + S704x128.size a ≤ S2112x1024.size a)
    (O : Vec F S2112x1024 .f32) : Vec F S2112x1024 .f32 :=
  upd (Rect.unit (s := S2112x1024) oo S704x128.size ho) O (k0_pay990 (rd (Rect.unit (s := S8x3x704x128) ol S1x1x704x128.size hl) L) (rd (Rect.unit (s := S8x2112x128) oa S1x704x128.size ha) A))

/-- The output block after all are divided. -/
def normSt (A : Vec F S8x2112x128 .f32) (L : Vec F S8x3x704x128 .bf16) (O : Vec F S2112x1024 .f32) : Vec F S2112x1024 .f32 :=
  ([(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] : List (Fin 3 × Fin 8)).foldl (fun s p => normOne A L ![p.2.val, p.1.val, 0, 0] ![p.2.val, 704 * p.1.val, 0] ![704 * p.1.val, 128 * p.2.val] (inbM p.1 p.2) (inbQ p.1 p.2) (inbO p.1 p.2) s) O

theorem normP_run (arg4 : Memref sig .tc .vmem S2112x1024 .f32) (arg7 : Memref sig .tc .vmem S8x2112x128 .f32) (arg11 : Memref sig .tc .vmem S8x3x704x128 .bf16) (ol : Fin 4 → Nat) (oa : Fin 3 → Nat) (oo : Fin 2 → Nat)
    (hl : ∀ a, ol a + S1x1x704x128.size a ≤ S8x3x704x128.size a) (ha : ∀ a, oa a + S1x704x128.size a ≤ S8x2112x128.size a) (ho : ∀ a, oo a + S704x128.size a ≤ S2112x1024.size a)
    (A : Vec F S8x2112x128 .f32) (L : Vec F S8x3x704x128 .bf16) (O : Vec F S2112x1024 .f32) (Kt : Unit → sProp 𝕄) :
    iprop((owned c arg7 A ∗ owned c arg11 L ∗ owned c arg4 O) ∗ ((owned c arg7 A ∗ owned c arg11 L ∗ owned c arg4 (normOne A L ol oa oo hl ha ho O)) -∗ Kt ⟨⟩))
      ⊢ wp frame (wpE D 𝒱 (c : Thread nD τ) none) Set.univ (normP (F := F) arg4 arg7 arg11 ol oa oo hl ha ho) Kt := by
  unfold normP
  dsimp only [normOne]
  iintro ⟨⟨HA, HL, HO⟩, Hk⟩
  iapply (wp_ld D 𝒱 c (m := arg11)) $$ HL; iintro HL
  iapply (wp_ld D 𝒱 c (m := arg7)) $$ HA; iintro HA
  iapply (wp_ld D 𝒱 c (m := arg4)) $$ HO; iintro HO
  iapply (wp_st' D 𝒱 c (m := arg4)) $$ HO; iintro HO
  iapply Hk
  isplitl [HA]; · iexact HA
  isplitl [HL]; · iexact HL
  iexact HO

set_option maxHeartbeats 2000000 in
theorem normAll_run (arg4 : Memref sig .tc .vmem S2112x1024 .f32) (arg7 : Memref sig .tc .vmem S8x2112x128 .f32) (arg11 : Memref sig .tc .vmem S8x3x704x128 .bf16) (A : Vec F S8x2112x128 .f32) (L : Vec F S8x3x704x128 .bf16) (O : Vec F S2112x1024 .f32) (Kt : Unit → sProp 𝕄) :
    iprop((owned c arg7 A ∗ owned c arg11 L ∗ owned c arg4 O) ∗ ((owned c arg7 A ∗ owned c arg11 L ∗ owned c arg4 (normSt A L O)) -∗ Kt ⟨⟩))
      ⊢ wp frame (wpE D 𝒱 (c : Thread nD τ) none) Set.univ (normAll (F := F) arg4 arg7 arg11) Kt := by
  unfold normAll normSt
  dsimp only [List.foldl]
  iintro ⟨H, Hk⟩
  rw [wp_bind]
  iapply (normP_run D 𝒱 c arg4 arg7 arg11 ![0, 0, 0, 0] ![0, 0, 0] ![0, 0] _ _ _ _ _ _)
  isplitl [H]; · iexact H
  iintro H
  rw [wp_bind]
  iapply (normP_run D 𝒱 c arg4 arg7 arg11 ![1, 0, 0, 0] ![1, 0, 0] ![0, 128] _ _ _ _ _ _)
  isplitl [H]; · iexact H
  iintro H
  rw [wp_bind]
  iapply (normP_run D 𝒱 c arg4 arg7 arg11 ![2, 0, 0, 0] ![2, 0, 0] ![0, 256] _ _ _ _ _ _)
  isplitl [H]; · iexact H
  iintro H
  rw [wp_bind]
  iapply (normP_run D 𝒱 c arg4 arg7 arg11 ![3, 0, 0, 0] ![3, 0, 0] ![0, 384] _ _ _ _ _ _)
  isplitl [H]; · iexact H
  iintro H
  rw [wp_bind]
  iapply (normP_run D 𝒱 c arg4 arg7 arg11 ![4, 0, 0, 0] ![4, 0, 0] ![0, 512] _ _ _ _ _ _)
  isplitl [H]; · iexact H
  iintro H
  rw [wp_bind]
  iapply (normP_run D 𝒱 c arg4 arg7 arg11 ![5, 0, 0, 0] ![5, 0, 0] ![0, 640] _ _ _ _ _ _)
  isplitl [H]; · iexact H
  iintro H
  rw [wp_bind]
  iapply (normP_run D 𝒱 c arg4 arg7 arg11 ![6, 0, 0, 0] ![6, 0, 0] ![0, 768] _ _ _ _ _ _)
  isplitl [H]; · iexact H
  iintro H
  rw [wp_bind]
  iapply (normP_run D 𝒱 c arg4 arg7 arg11 ![7, 0, 0, 0] ![7, 0, 0] ![0, 896] _ _ _ _ _ _)
  isplitl [H]; · iexact H
  iintro H
  rw [wp_bind]
  iapply (normP_run D 𝒱 c arg4 arg7 arg11 ![0, 1, 0, 0] ![0, 704, 0] ![704, 0] _ _ _ _ _ _)
  isplitl [H]; · iexact H
  iintro H
  rw [wp_bind]
  iapply (normP_run D 𝒱 c arg4 arg7 arg11 ![1, 1, 0, 0] ![1, 704, 0] ![704, 128] _ _ _ _ _ _)
  isplitl [H]; · iexact H
  iintro H
  rw [wp_bind]
  iapply (normP_run D 𝒱 c arg4 arg7 arg11 ![2, 1, 0, 0] ![2, 704, 0] ![704, 256] _ _ _ _ _ _)
  isplitl [H]; · iexact H
  iintro H
  rw [wp_bind]
  iapply (normP_run D 𝒱 c arg4 arg7 arg11 ![3, 1, 0, 0] ![3, 704, 0] ![704, 384] _ _ _ _ _ _)
  isplitl [H]; · iexact H
  iintro H
  rw [wp_bind]
  iapply (normP_run D 𝒱 c arg4 arg7 arg11 ![4, 1, 0, 0] ![4, 704, 0] ![704, 512] _ _ _ _ _ _)
  isplitl [H]; · iexact H
  iintro H
  rw [wp_bind]
  iapply (normP_run D 𝒱 c arg4 arg7 arg11 ![5, 1, 0, 0] ![5, 704, 0] ![704, 640] _ _ _ _ _ _)
  isplitl [H]; · iexact H
  iintro H
  rw [wp_bind]
  iapply (normP_run D 𝒱 c arg4 arg7 arg11 ![6, 1, 0, 0] ![6, 704, 0] ![704, 768] _ _ _ _ _ _)
  isplitl [H]; · iexact H
  iintro H
  rw [wp_bind]
  iapply (normP_run D 𝒱 c arg4 arg7 arg11 ![7, 1, 0, 0] ![7, 704, 0] ![704, 896] _ _ _ _ _ _)
  isplitl [H]; · iexact H
  iintro H
  rw [wp_bind]
  iapply (normP_run D 𝒱 c arg4 arg7 arg11 ![0, 2, 0, 0] ![0, 1408, 0] ![1408, 0] _ _ _ _ _ _)
  isplitl [H]; · iexact H
  iintro H
  rw [wp_bind]
  iapply (normP_run D 𝒱 c arg4 arg7 arg11 ![1, 2, 0, 0] ![1, 1408, 0] ![1408, 128] _ _ _ _ _ _)
  isplitl [H]; · iexact H
  iintro H
  rw [wp_bind]
  iapply (normP_run D 𝒱 c arg4 arg7 arg11 ![2, 2, 0, 0] ![2, 1408, 0] ![1408, 256] _ _ _ _ _ _)
  isplitl [H]; · iexact H
  iintro H
  rw [wp_bind]
  iapply (normP_run D 𝒱 c arg4 arg7 arg11 ![3, 2, 0, 0] ![3, 1408, 0] ![1408, 384] _ _ _ _ _ _)
  isplitl [H]; · iexact H
  iintro H
  rw [wp_bind]
  iapply (normP_run D 𝒱 c arg4 arg7 arg11 ![4, 2, 0, 0] ![4, 1408, 0] ![1408, 512] _ _ _ _ _ _)
  isplitl [H]; · iexact H
  iintro H
  rw [wp_bind]
  iapply (normP_run D 𝒱 c arg4 arg7 arg11 ![5, 2, 0, 0] ![5, 1408, 0] ![1408, 640] _ _ _ _ _ _)
  isplitl [H]; · iexact H
  iintro H
  rw [wp_bind]
  iapply (normP_run D 𝒱 c arg4 arg7 arg11 ![6, 2, 0, 0] ![6, 1408, 0] ![1408, 768] _ _ _ _ _ _)
  isplitl [H]; · iexact H
  iintro H
  iapply (normP_run D 𝒱 c arg4 arg7 arg11 ![7, 2, 0, 0] ![7, 1408, 0] ![1408, 896] _ _ _ _ _ _)
  isplitl [H]; · iexact H
  iintro H
  iapply Hk; iexact H

theorem outP_run (arg3 : Memref sig .tc .vmem S1024x1024 .bf16) (arg4 : Memref sig .tc .vmem S2112x1024 .f32) (W : Vec F S1024x1024 .bf16) (O : Vec F S2112x1024 .f32) (Kt : Unit → sProp 𝕄) :
    iprop((owned c arg3 W ∗ owned c arg4 O) ∗ ((owned c arg3 W ∗ owned c arg4 (k0_pay1 O W)) -∗ Kt ⟨⟩))
      ⊢ wp frame (wpE D 𝒱 (c : Thread nD τ) none) Set.univ (outP (F := F) arg3 arg4) Kt := by
  unfold outP
  iintro ⟨⟨HW, HO⟩, Hk⟩
  iapply (wp_ld D 𝒱 c (m := arg4)) $$ HO; iintro HO
  iapply (wp_ld D 𝒱 c (m := arg3)) $$ HW; iintro HW
  iapply (wp_ld D 𝒱 c (m := arg4)) $$ HO; iintro HO
  iapply (wp_st' D 𝒱 c (m := arg4)) $$ HO; iintro HO
  rw [upd_full (s := S2112x1024) ![0, 0] (by decide), rd_full (s := S2112x1024) ![0, 0] (by decide), rd_full (s := S1024x1024) ![0, 0] (by decide)]
  iapply Hk
  isplitl [HW]; · iexact HW
  iexact HO

end Cert.KernelIdeal.Flash

end
-- ==== Proof.Talk.lean ====
module

public import proofs.«01_k».proof.Proof.Compute
public import proofs.«01_k».proof.Proof.Gen.KernelIdeal.Launch
public import Idealize.ShloMosaic.Lib.Rounds
public import Idealize.ShloMosaic.Lib.Ring
public import Idealize.ShloMosaic.Lib.Pipeline.Value
public import Idealize.ShloMosaic.Lib.Ring.Trips
public import Idealize.ShloMosaic.Lib.Pipeline.RegionTalk

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds
open Idealize.ShloMosaic.Ring (shares3 pointsTo_thirds)

variable {F : FTy → Type} [FloatOps F] [Named F]

/-! ## Devices, cells, resources -/

/-- The device `j + 1` places on. -/
def pe (c : Dev nD) (j : Fin 3) : Dev nD := ⟨(c.val + 1 + j.val) % 4, Nat.mod_lt _ (by decide)⟩
/-- The device `j + 1` places back. -/
def pp (c : Dev nD) (j : Fin 3) : Dev nD := ⟨(c.val + 3 - j.val) % 4, Nat.mod_lt _ (by decide)⟩
theorem pe_pp (c : Dev nD) (j : Fin 3) : pe (pp c j) j = c := by revert c j; decide
theorem pp_pe (c : Dev nD) (j : Fin 3) : pp (pe c j) j = c := by revert c j; decide

/-- The two halves of the ghost state: the library's own, and the exchange's. -/
abbrev UU : Type := URounds (GSem nD τ sig) Unit × URounds (GSem nD τ sig) (Fin 3)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 3)) (MT nD τ sig Unit (Elt F) ℕ UU ℕ) := embR

abbrev barS : Sem sig := ((SemArray.scalar (sig.barrier 0 rfl)) : Sems sig S_).sem

abbrev cpK : DmaSem sig := cel2 cc0_scratch5 ![0] inb_S2_S1_0
abbrev cpV : DmaSem sig := cel2 cc0_scratch5 ![1] inb_S2_S1_1
abbrev chK : DmaSem sig := cel2 cc0_scratch6 ![0] inb_S2_S1_0
abbrev chV : DmaSem sig := cel2 cc0_scratch6 ![1] inb_S2_S1_1
abbrev sK0 : DmaSem sig := cel3 cc0_scratch7 ![0] inb_S3_S1_0
abbrev sK1 : DmaSem sig := cel3 cc0_scratch7 ![1] inb_S3_S1_1
abbrev sK2 : DmaSem sig := cel3 cc0_scratch7 ![2] inb_S3_S1_2
abbrev rK0 : DmaSem sig := cel3 cc0_scratch8 ![0] inb_S3_S1_0
abbrev rK1 : DmaSem sig := cel3 cc0_scratch8 ![1] inb_S3_S1_1
abbrev rK2 : DmaSem sig := cel3 cc0_scratch8 ![2] inb_S3_S1_2
abbrev sV0 : DmaSem sig := cel3 cc0_scratch9 ![0] inb_S3_S1_0
abbrev sV1 : DmaSem sig := cel3 cc0_scratch9 ![1] inb_S3_S1_1
abbrev sV2 : DmaSem sig := cel3 cc0_scratch9 ![2] inb_S3_S1_2
abbrev rV0 : DmaSem sig := cel3 cc0_scratch10 ![0] inb_S3_S1_0
abbrev rV1 : DmaSem sig := cel3 cc0_scratch10 ![1] inb_S3_S1_1
abbrev rV2 : DmaSem sig := cel3 cc0_scratch10 ![2] inb_S3_S1_2

/-- A device's barrier cell, and the cell of one of its DMA semaphores. -/
abbrev barCell (c : Dev nD) : GSem nD τ sig := ((c : Thread nD τ), .reg barS)
abbrev dc (c : Dev nD) (s : DmaSem sig) : GSem nD τ sig := ((c : Thread nD τ), .dma s)

abbrev kM : Memref sig .tc .hbm S8x2112x128 .bf16 := Memref.whole main_v33
abbrev vM : Memref sig .tc .hbm S8x2112x128 .bf16 := Memref.whole main_v46
abbrev kgM : Memref sig .tc .hbm S4x8x2112x128 .bf16 := Memref.whole main_v47_1
abbrev vgM : Memref sig .tc .hbm S4x8x2112x128 .bf16 := Memref.whole main_v47_2
abbrev accM : Memref sig .tc .vmem S8x2112x128 .f32 := Memref.whole cc0_scratch0
abbrev kcM : Memref sig .tc .vmem S8x2112x128 .bf16 := Memref.whole cc0_scratch1
abbrev vcM : Memref sig .tc .vmem S8x2112x128 .bf16 := Memref.whole cc0_scratch2
abbrev mM : Memref sig .tc .vmem S8x3x704x128 .bf16 := Memref.whole cc0_scratch3
abbrev lM : Memref sig .tc .vmem S8x3x704x128 .bf16 := Memref.whole cc0_scratch4

/-- The instalment of every transfer. -/
abbrev N : ℕ := (kM : Memref sig .tc .hbm S8x2112x128 .bf16).view.dmaCredit
theorem N_pos : 0 < N := View.dmaCredit_pos _ (by decide)

/-- Row block `i` of a gathered array. -/
abbrev row (m : Memref sig .tc .hbm S4x8x2112x128 .bf16) (i : Dev nD) : Memref sig .tc .hbm S8x2112x128 .bf16 := slot m (k0_off1 i) (k0_off1_inb i)

/-- The gathered array whose row block `i` is device `i`'s block. -/
def gath (X : Dev nD → S8x2112x128.Idx → Elt F .bf16) : S4x8x2112x128.Idx → Elt F .bf16 :=
  fun y => X (y 0) (fun | 0 => y 1 | 1 => y 2 | 2 => y 3)

/-- Device `c` holds row block `i` of a gathered array at share `q`. -/
def rowPt (m : Memref sig .tc .hbm S4x8x2112x128 .bf16) (c i : Dev nD) (q : PosShare TreeShare) (f : Buf (Elt F) ((row m i).view.loc (c : Thread nD τ))) : sProp 𝕄 :=
  (row m i).view.loc (c : Thread nD τ) ↦[(row m i).view.set]{q} f

theorem row_land (m : Memref sig .tc .hbm S4x8x2112x128 .bf16) (c i : Dev nD) (q : PosShare TreeShare) (fd g : Buf (Elt F) ((row m i).view.loc (c : Thread nD τ)))
    (w : S8x2112x128.Idx → Elt F .bf16) (hw : w = (row m i).view.read (Elt F) g) :
    (rowPt m c i q ((row m i).view.write (Elt F) fd w Finset.univ) : sProp 𝕄) = rowPt m c i q g :=
  pointsTo_congr fun y hy => by
    subst hw
    obtain ⟨x, -, rfl⟩ := Finset.mem_map.mp hy
    rw [View.write_emb_of_mem _ _ (Finset.mem_univ _)]
    simp [View.read]

theorem rowK_read (X : Dev nD → S8x2112x128.Idx → Elt F .bf16) (i : Dev nD) : (row kgM i).view.read (Elt F) (gath X) = X i := by
  rw [Memref.read_squeeze_slice (hq := squeezes_S1x8x2112x128_S8x2112x128) (hc := show S1x8x2112x128.ShapeCasts S8x2112x128 by decide)]
  funext x
  rw [shapeCast_dropUnit_apply]
  show gath X ((Rect.unit (s := S4x8x2112x128) (k0_off1 i) S1x8x2112x128.size (k0_off1_inb i)).emb (Fin.cons ⟨0, Nat.one_pos⟩ x)) = _
  generalize hy : (Rect.unit (s := S4x8x2112x128) (k0_off1 i) S1x8x2112x128.size (k0_off1_inb i)).emb (Fin.cons ⟨0, Nat.one_pos⟩ x) = y
  have hv : ∀ a, (y a).val = k0_off1 i a + 1 * ((Fin.cons (α := fun a => Fin (S1x8x2112x128.size a)) ⟨0, Nat.one_pos⟩ x : S1x8x2112x128.Idx) a).val := fun a => by rw [← hy]; rfl
  simp only [k0_off1_eq] at hv
  have h0 : y 0 = i := Fin.ext ((hv 0).trans (by show i.val + 1 * 0 = i.val; omega))
  unfold gath
  rw [h0]
  refine congrArg (X i) (funext fun a => ?_)
  match a with
  | 0 => exact Fin.ext ((hv 1).trans (by show 0 + 1 * (x 0).val = (x 0).val; omega))
  | 1 => exact Fin.ext ((hv 2).trans (by show 0 + 1 * (x 1).val = (x 1).val; omega))
  | 2 => exact Fin.ext ((hv 3).trans (by show 0 + 1 * (x 2).val = (x 2).val; omega))

theorem rowV_read (X : Dev nD → S8x2112x128.Idx → Elt F .bf16) (i : Dev nD) : (row vgM i).view.read (Elt F) (gath X) = X i := by
  rw [Memref.read_squeeze_slice (hq := squeezes_S1x8x2112x128_S8x2112x128) (hc := show S1x8x2112x128.ShapeCasts S8x2112x128 by decide)]
  funext x
  rw [shapeCast_dropUnit_apply]
  show gath X ((Rect.unit (s := S4x8x2112x128) (k0_off1 i) S1x8x2112x128.size (k0_off1_inb i)).emb (Fin.cons ⟨0, Nat.one_pos⟩ x)) = _
  generalize hy : (Rect.unit (s := S4x8x2112x128) (k0_off1 i) S1x8x2112x128.size (k0_off1_inb i)).emb (Fin.cons ⟨0, Nat.one_pos⟩ x) = y
  have hv : ∀ a, (y a).val = k0_off1 i a + 1 * ((Fin.cons (α := fun a => Fin (S1x8x2112x128.size a)) ⟨0, Nat.one_pos⟩ x : S1x8x2112x128.Idx) a).val := fun a => by rw [← hy]; rfl
  simp only [k0_off1_eq] at hv
  have h0 : y 0 = i := Fin.ext ((hv 0).trans (by show i.val + 1 * 0 = i.val; omega))
  unfold gath
  rw [h0]
  refine congrArg (X i) (funext fun a => ?_)
  match a with
  | 0 => exact Fin.ext ((hv 1).trans (by show 0 + 1 * (x 0).val = (x 0).val; omega))
  | 1 => exact Fin.ext ((hv 2).trans (by show 0 + 1 * (x 1).val = (x 1).val; omega))
  | 2 => exact Fin.ext ((hv 3).trans (by show 0 + 1 * (x 2).val = (x 2).val; omega))

variable (Kv Vv : Dev nD → S8x2112x128.Idx → Elt F .bf16)

/-! ## The schedule -/

/-- The device whose row block the chunk of round `r` holds, and the share of it the copy reads. -/
def rowAt (c : Dev nD) (r : ℕ) : Dev nD := match r with | 0 => c | 1 => pe c 0 | 2 => pe c 2 | _ => pe c 1
def shAt (r : ℕ) : PosShare TreeShare := match r with | 0 => (fullShare : PosShare TreeShare).left | _ => fullShare

/-- The landing cells of slot `j`. -/
def rKj (j : Fin 3) : DmaSem sig := match j with | 0 => rK0 | 1 => rK1 | 2 => rK2
def rVj (j : Fin 3) : DmaSem sig := match j with | 0 => rV0 | 1 => rV1 | 2 => rV2

/-- Paid to the barrier cell of `c` by the device `j + 1` places back: its two row blocks for `c`'s
    data, at any contents, and that its landing cells for them are ready. -/
def barPay (c : Dev nD) (j : Fin 3) : sProp 𝕄 :=
  iprop((∃ f, rowPt kgM (pp c j) c fullShare f) ∗ (∃ f, rowPt vgM (pp c j) c fullShare f)
    ∗ reached ER (dc (pp c j) (rKj j)) 0 ∗ reached ER (dc (pp c j) (rVj j)) 0)

/-- What the landing on DMA cell number `n` of `c` in round `r` delivers. -/
def pay (c : Dev nD) (n r : ℕ) : sProp 𝕄 :=
  match n with
  | 3 => iprop(rowPt kgM c c fullShare (gath Kv) ∗ kM.view.loc (c : Thread nD τ) ↦[kM.view.set]{fullShare} Kv c)
  | 4 => iprop(rowPt vgM c c fullShare (gath Vv) ∗ vM.view.loc (c : Thread nD τ) ↦[vM.view.set]{fullShare} Vv c)
  | 5 => iprop(owned (U := UU) c kcM (Kv (rowAt c r)) ∗ rowPt kgM c (rowAt c r) (shAt r) (gath Kv))
  | 6 => iprop(owned (U := UU) c vcM (Vv (rowAt c r)) ∗ rowPt vgM c (rowAt c r) (shAt r) (gath Vv))
  | 7 => rowPt kgM c c (shares3 (fullShare : PosShare TreeShare).right 0) (gath Kv)
  | 8 => rowPt kgM c c (shares3 (fullShare : PosShare TreeShare).right 1) (gath Kv)
  | 9 => rowPt kgM c c (shares3 (fullShare : PosShare TreeShare).right 2) (gath Kv)
  | 10 => rowPt kgM c (pe c 0) fullShare (gath Kv)
  | 11 => rowPt kgM c (pe c 1) fullShare (gath Kv)
  | 12 => rowPt kgM c (pe c 2) fullShare (gath Kv)
  | 13 => rowPt vgM c c (shares3 (fullShare : PosShare TreeShare).right 0) (gath Vv)
  | 14 => rowPt vgM c c (shares3 (fullShare : PosShare TreeShare).right 1) (gath Vv)
  | 15 => rowPt vgM c c (shares3 (fullShare : PosShare TreeShare).right 2) (gath Vv)
  | 16 => rowPt vgM c (pe c 0) fullShare (gath Vv)
  | 17 => rowPt vgM c (pe c 1) fullShare (gath Vv)
  | 18 => rowPt vgM c (pe c 2) fullShare (gath Vv)
  | _ => iprop(emp)

/-- How many rounds DMA cell number `n` goes through. -/
def rounds (n : ℕ) : ℕ := if n = 5 ∨ n = 6 then 4 else if 3 ≤ n then 1 else 0

def sched : Rounds.Schedule (GSem nD τ sig) (Fin 3) 𝕄 where
  duties g r := if g.1.2 = .tc then (match g.2 with | .reg _ => if r = 0 then Finset.univ else ∅ | .dma s => if r < rounds s.val then {0} else ∅) else ∅
  unitless _ := False
  amount g _ _ := match g.2 with | .reg _ => 1 | .dma _ => N
  payload g r d := match g.2 with | .reg _ => barPay g.1.1 d | .dma s => pay Kv Vv g.1.1 s.val r
  amount_pos g _ _ _ := by
    rcases g with ⟨_, _ | _⟩
    · exact Nat.one_pos
    · exact N_pos

instance rowPt_storable (m : Memref sig .tc .hbm S4x8x2112x128 .bf16) (c i : Dev nD) (q : PosShare TreeShare) (f : Buf (Elt F) ((row m i).view.loc (c : Thread nD τ))) :
    BI.Storable (upEmb : UEmb _ 𝕄) (rowPt (F := F) m c i q f) := by unfold rowPt; infer_instance

instance owned_storable {κs : Space} {s : Shape} {e : EltTy} (c : Dev nD) (m : Memref sig .tc κs s e) (V : s.Idx → Elt F e) :
    BI.Storable (upEmb : UEmb _ 𝕄) (owned (U := UU) c m V) := by unfold owned; infer_instance

instance ready_storable (g : GSem nD τ sig) (r : ℕ) : BI.Storable (upEmb : UEmb _ 𝕄) (reached (ER (F := F)) g r) := by infer_instance

instance pay_storable (c : Dev nD) (n r : ℕ) : BI.Storable (upEmb : UEmb _ 𝕄) (pay (F := F) Kv Vv c n r) := by
  unfold pay
  split <;> infer_instance

instance sched_payload_storable (g : GSem nD τ sig) (r : ℕ) (d : Fin 3) :
    BI.Storable (upEmb : UEmb _ 𝕄) ((sched (F := F) Kv Vv).payload g r d) := by
  rcases g with ⟨c, _ | s⟩
  · show BI.Storable upEmb (barPay c.1 d)
    unfold barPay; infer_instance
  · show BI.Storable upEmb (pay Kv Vv c.1 s.val r)
    infer_instance

section Sched

variable (c : Dev nD)

theorem duties_bar : (sched (F := F) Kv Vv).duties (barCell c) 0 = Finset.univ := rfl
theorem duties_dma (s : DmaSem sig) (r : ℕ) (h : r < rounds s.val) : (sched (F := F) Kv Vv).duties (dc c s) r = {0} := by
  show (if r < rounds s.val then {0} else ∅) = _; exact if_pos h
theorem amount_bar (d : Fin 3) : (sched (F := F) Kv Vv).amount (barCell c) 0 d = 1 := rfl
theorem amount_dma (s : DmaSem sig) (r : ℕ) (d : Fin 3) : (sched (F := F) Kv Vv).amount (dc c s) r d = N := rfl
theorem expect_bar : (sched (F := F) Kv Vv).expect (barCell c) 0 = 3 := by
  unfold Schedule.expect Schedule.amountOf; rw [duties_bar]; rfl
theorem expect_dma (s : DmaSem sig) (r : ℕ) (h : r < rounds s.val) : (sched (F := F) Kv Vv).expect (dc c s) r = N := by
  unfold Schedule.expect Schedule.amountOf; rw [duties_dma Kv Vv c s r h, Finset.sum_singleton, amount_dma]
theorem rest_dma (s : DmaSem sig) (r : ℕ) (h : r < rounds s.val) :
    bigSep ((sched (F := F) Kv Vv).duties (dc c s) r \ ∅) (fun d => (sched (F := F) Kv Vv).payload (dc c s) r d) = pay Kv Vv c s.val r := by
  rw [Finset.sdiff_empty, duties_dma Kv Vv c s r h, bigSep_singleton]; rfl
theorem rest_bar :
    bigSep ((sched (F := F) Kv Vv).duties (barCell c) 0 \ ∅) (fun d => (sched (F := F) Kv Vv).payload (barCell c) 0 d)
      = iprop(barPay c 0 ∗ barPay c 1 ∗ barPay c 2) := by
  rw [Finset.sdiff_empty, duties_bar, bigSep_univ_eq_bigSepL [0, 1, 2] (by decide) (by decide)]
  rfl
theorem duties_later_bar (r : ℕ) (h : 1 ≤ r) : (sched (F := F) Kv Vv).duties (barCell c) r = ∅ := by
  show (if r = 0 then Finset.univ else ∅) = _; exact if_neg (by omega)
theorem duties_later_dma (s : DmaSem sig) (n : ℕ) (hn : rounds s.val = n) (r : ℕ) (h : n ≤ r) : (sched (F := F) Kv Vv).duties (dc c s) r = ∅ := by
  show (if r < rounds s.val then {0} else ∅) = _; exact if_neg (by omega)

end Sched

/-! ## What a core owes; levels -/

def isRecv (n : ℕ) : Prop := (10 ≤ n ∧ n < 13) ∨ 16 ≤ n
instance (n : ℕ) : Decidable (isRecv n) := by unfold isRecv; infer_instance

def L (g : GSem nD τ sig) : Finset Unit := if g.1.2 = .tc then {()} else ∅
def lv (g : GSem nD τ sig) (_ : Unit) : ℕ := match g.2 with | .reg _ => 1 | .dma s => if isRecv s.val then 2 else 0
theorem L_of_ne (g : GSem nD τ sig) (h : g.1.2 ≠ .tc) : L g = ∅ := if_neg h
theorem L_tc (c : Dev nD) (sm : SemLoc sig) : L ((c : Thread nD τ), sm) = {()} := if_pos rfl

/-- The landings `c` still owes its peers, after the first, the second, … of its six sends. -/
def O6 (c : Dev nD) : CellTallies nD τ sig Unit := 0
def O5 (c : Dev nD) : CellTallies nD τ sig Unit := O6 c + tallyAt (dc (pp c 1) rV1) () N
def O4 (c : Dev nD) : CellTallies nD τ sig Unit := O5 c + tallyAt (dc (pp c 1) rK1) () N
def O3 (c : Dev nD) : CellTallies nD τ sig Unit := O4 c + tallyAt (dc (pp c 2) rV2) () N
def O2 (c : Dev nD) : CellTallies nD τ sig Unit := O3 c + tallyAt (dc (pp c 2) rK2) () N
def O1 (c : Dev nD) : CellTallies nD τ sig Unit := O2 c + tallyAt (dc (pp c 0) rV0) () N
def OR (c : Dev nD) : CellTallies nD τ sig Unit := O1 c + tallyAt (dc (pp c 0) rK0) () N
def OB2 (c : Dev nD) : CellTallies nD τ sig Unit := OR c + tallyAt (barCell (pe c 2)) () 1
def OB1 (c : Dev nD) : CellTallies nD τ sig Unit := OB2 c + tallyAt (barCell (pe c 1)) () 1
def O₀ (c : Dev nD) : CellTallies nD τ sig Unit := OB1 c + tallyAt (barCell (pe c 0)) () 1

/-- Everything owed sits on landing cells. -/
def Hi (O : CellTallies nD τ sig Unit) : Prop := ∀ g u, 0 < O g u → g.1.2 = .tc ∧ 2 ≤ lv g u
theorem hi_zero : Hi 0 := fun g u h => absurd h (Nat.lt_irrefl 0)
theorem hi_add (O : CellTallies nD τ sig Unit) (hO : Hi O) (d : Dev nD) (s : DmaSem sig) (hs : isRecv s.val) (n : ℕ) :
    Hi (O + tallyAt (dc d s) () n) := fun g u h => by
  by_cases hg : g = dc d s ∧ u = ()
  · rw [hg.1]; exact ⟨rfl, by show 2 ≤ (if isRecv s.val then 2 else 0); rw [if_pos hs]⟩
  · refine hO g u ?_
    have e : (O + tallyAt (dc d s) () n) g u = O g u + tallyAt (dc d s) () n g u := rfl
    rw [e, tallyAt_apply, if_neg hg] at h
    exact h
theorem hi_OR (c : Dev nD) : Hi (OR c) := by
  unfold OR O1 O2 O3 O4 O5 O6
  exact hi_add _ (hi_add _ (hi_add _ (hi_add _ (hi_add _ (hi_add _ hi_zero _ _ (by decide) _) _ _ (by decide) _) _ _ (by decide) _) _ _ (by decide) _) _ _ (by decide) _) _ _ (by decide) _

theorem mayWait_hi (c : Dev nD) (sm : SemLoc sig) (hsm : lv ((c : Thread nD τ), sm) () ≤ 1) (O : CellTallies nD τ sig Unit) (hO : Hi O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by
      have h := (hO g u hg).1
      show u ∈ L g
      unfold L; rw [if_pos h]; exact Finset.mem_singleton_self _)
    (fun p hp => by rw [Finset.mem_singleton.mp hp]; exact hsm)
    (fun g u hg => by have h := (hO g u hg).2; show 1 < lv g u; omega)

/-! ## The invariants -/

abbrev allCells : Finset (GSem nD τ sig) := Finset.univ.filter fun g => g.1.2 = .tc ∧ (match g.2 with | .reg _ => true | .dma s => decide (3 ≤ s.val)) = true

def invs (K : GSem nD τ sig → ℕ) : sProp 𝕄 := bigSep allCells fun g => cellInv ER (sched Kv Vv) (K g) g

instance invs_persistent (K : GSem nD τ sig → ℕ) : BI.Persistent (invs Kv Vv K) := by unfold invs; infer_instance

theorem inv_dma (K : GSem nD τ sig → ℕ) (c : Dev nD) (s : DmaSem sig) (hs : 3 ≤ s.val) :
    invs Kv Vv K ⊢ cellInv ER (sched Kv Vv) (K (dc c s)) (dc c s) := by
  unfold invs
  exact bigSep_elim (Φ := fun g => cellInv ER (sched Kv Vv) (K g) g) (Finset.mem_filter.mpr ⟨Finset.mem_univ _, rfl, decide_eq_true hs⟩)
theorem inv_bar (K : GSem nD τ sig → ℕ) (c : Dev nD) :
    invs Kv Vv K ⊢ cellInv ER (sched Kv Vv) (K (barCell c)) (barCell c) := by
  unfold invs
  exact bigSep_elim (Φ := fun g => cellInv ER (sched Kv Vv) (K g) g) (Finset.mem_filter.mpr ⟨Finset.mem_univ _, rfl, rfl⟩)

theorem close_dma (κ : ℕ) (c : Dev nD) (s : DmaSem sig) (n : ℕ) (hn : rounds s.val = n) :
    iprop(cellInv ER (sched Kv Vv) κ (dc c s) ∗ atPos ER (dc c s) n ∅ 0) ⊢ (|={Set.univ}=> semVal (dc c s) 0 : sProp 𝕄) :=
  Rounds.cell_close ER (sched Kv Vv) (Set.mem_univ κ) id (duties_later_dma Kv Vv c s n hn)
theorem close_bar (κ : ℕ) (c : Dev nD) :
    iprop(cellInv ER (sched Kv Vv) κ (barCell c) ∗ atPos ER (barCell c) (0 + 1) ∅ 0) ⊢ (|={Set.univ}=> semVal (barCell c) 0 : sProp 𝕄) :=
  Rounds.cell_close ER (sched Kv Vv) (Set.mem_univ κ) id (duties_later_bar Kv Vv c)

abbrev 𝒱₀ : Variants := Variants.none

/-- What the core owes, whatever it has waited on. -/
def ow (c : Dev nD) (O : CellTallies nD τ sig Unit) : sProp 𝕄 := iprop(∃ W, owes (c : Thread nD τ) O W)

variable (D : Defs nD τ sig (Elt F) Λ₀)

theorem wp_waitD (K : GSem nD τ sig → ℕ) (c : Dev nD) (s : DmaSem sig) (hs : 3 ≤ s.val) (R : ℕ) (hR : R < rounds s.val) (O : CellTallies nD τ sig Unit)
    {sp sp' : Space} {sh : Shape} {e : EltTy} {src : Memref sig .tc sp sh e} {dst : Memref sig .tc sp' sh e} {h1 : src.view.WordExact} {h2 : dst.view.WordExact}
    (hN : dst.view.dmaCredit = N)
    {α : Type} {k : PUnit → Prog (TpuEff nD τ sig (Elt F) Λ₀ .tc) α} {Kt : α → sProp 𝕄} :
    iprop(invs Kv Vv K ∗ cred (tallyAt (dc c s) () N) ∗ ow c O ∗ MayWait (c : Thread nD τ) (.dma s) () O ∗ atPos ER (dc c s) R ∅ 0)
      ⊢ iprop(((ow c O ∗ atPos ER (dc c s) (R + 1) ∅ 0 ∗ reached ER (dc c s) (R + 1) ∗ pay Kv Vv c s.val R)
          -∗ wp frame (wpE D 𝒱₀ (c : Thread nD τ) none) Set.univ (k ⟨⟩) Kt)
        -∗ wp frame (wpE D 𝒱₀ (c : Thread nD τ) none) Set.univ (.op (.waitDma2 s src dst h1 h2) k) Kt) := by
  unfold ow
  iintro ⟨#HI, Hc, ⟨%W, HO⟩, HM, Ha⟩ Hk
  iapply (Rounds.wp_wait_rest_token 𝒱₀ ER (sched Kv Vv) (c : Thread nD τ) none (κ := K (dc c s))
      (wpE_waitDma2_eq 𝒱₀ (c : Thread nD τ) none Set.univ) (Set.mem_univ _) () (O := O) (W := W) (R := R) (m := 0) (T := ∅)
      (by rw [Nat.zero_add, expect_dma Kv Vv c s R hR, hN])) $$ [Hc HO HM Ha]
  · isplitr; · iapply (inv_dma Kv Vv K c s hs); iexact HI
    isplitl [Hc]; · rw [hN]; iexact Hc
    isplitl [HO]; · iexact HO
    isplitl [HM]; · iexact HM
    iexact Ha
  iintro ⟨HO, Ha, Hr, Hp⟩
  iapply Hk
  isplitl [HO]; · iexists _; iexact HO
  isplitl [Ha]; · iexact Ha
  isplitl [Hr]; · iexact Hr
  iapply (Entails.of_eq (rest_dma Kv Vv c s R hR)); iexact Hp

end Cert.KernelIdeal.Flash
-- ==== Proof.Stages.lean ====
module

public import proofs.«01_k».proof.Proof.Talk

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (Kv Vv : Dev nD → S8x2112x128.Idx → Elt F .bf16) (D : Defs nD τ sig (Elt F) Λ₀)

/-- What a device knows throughout the exchange. -/
def pers (K : GSem nD τ sig → ℕ) (c : Dev nD) : sProp 𝕄 :=
  iprop(invs Kv Vv K ∗ levAts L lv ∗ reached ER (barCell (pe c 0)) 0 ∗ reached ER (barCell (pe c 1)) 0 ∗ reached ER (barCell (pe c 2)) 0
    ∗ reached ER (dc c cpK) 0 ∗ reached ER (dc c cpV) 0 ∗ reached ER (dc c chK) 0 ∗ reached ER (dc c chV) 0 ∗ reached ER (dc c sK0) 0 ∗ reached ER (dc c sK1) 0 ∗ reached ER (dc c sK2) 0 ∗ reached ER (dc c rK0) 0 ∗ reached ER (dc c rK1) 0 ∗ reached ER (dc c rK2) 0 ∗ reached ER (dc c sV0) 0 ∗ reached ER (dc c sV1) 0 ∗ reached ER (dc c sV2) 0 ∗ reached ER (dc c rV0) 0 ∗ reached ER (dc c rV1) 0 ∗ reached ER (dc c rV2) 0)

instance pers_persistent (K : GSem nD τ sig → ℕ) (c : Dev nD) : BI.Persistent (pers Kv Vv K c) := by unfold pers; infer_instance

/-- The device's own keys and values, as handed to the call. -/
abbrev kop (c : Dev nD) : sProp 𝕄 := kM.view.loc (c : Thread nD τ) ↦[kM.view.set]{fullShare} Kv c
abbrev vop (c : Dev nD) : sProp 𝕄 := vM.view.loc (c : Thread nD τ) ↦[vM.view.set]{fullShare} Vv c

theorem kM_read (c : Dev nD) : kM.view.read (Elt F) (Kv c) = Kv c := View.read_whole _ _
theorem vM_read (c : Dev nD) : vM.view.read (Elt F) (Vv c) = Vv c := View.read_whole _ _

theorem kc_read (f : S8x2112x128.Idx → Elt F .bf16) : kcM.view.read (Elt F) f = f := View.read_whole _ _
theorem vc_read (f : S8x2112x128.Idx → Elt F .bf16) : vcM.view.read (Elt F) f = f := View.read_whole _ _

theorem dev1 (c : Dev nD) : (⟨k0_dev1 c, k0_dev1_lt c⟩ : Dev nD) = pe c 0 := by revert c; decide
theorem dev2 (c : Dev nD) : (⟨k0_dev2 c, k0_dev2_lt c⟩ : Dev nD) = pe c 1 := by revert c; decide
theorem dev3 (c : Dev nD) : (⟨k0_dev3 c, k0_dev3_lt c⟩ : Dev nD) = pe c 2 := by revert c; decide
theorem dev4 (c : Dev nD) : (⟨k0_dev4 c, k0_dev4_lt c⟩ : Dev nD) = pp c 0 := by revert c; decide
theorem dev5 (c : Dev nD) : (⟨k0_dev5 c, k0_dev5_lt c⟩ : Dev nD) = pp c 0 := by revert c; decide
theorem dev6 (c : Dev nD) : (⟨k0_dev6 c, k0_dev6_lt c⟩ : Dev nD) = pp c 2 := by revert c; decide
theorem dev7 (c : Dev nD) : (⟨k0_dev7 c, k0_dev7_lt c⟩ : Dev nD) = pp c 2 := by revert c; decide
theorem dev8 (c : Dev nD) : (⟨k0_dev8 c, k0_dev8_lt c⟩ : Dev nD) = pp c 1 := by revert c; decide
theorem dev9 (c : Dev nD) : (⟨k0_dev9 c, k0_dev9_lt c⟩ : Dev nD) = pp c 1 := by revert c; decide

theorem pay_cpK (c : Dev nD) (fd : Buf (Elt F) ((row kgM c).view.loc (c : Thread nD τ))) :
    iprop(((row kgM c).view.loc (c : Thread nD τ) ↦[(row kgM c).view.set]{fullShare} ((row kgM c).view.write (Elt F) fd (kM.view.read (Elt F) (Kv c)) Finset.univ))
      ∗ kop Kv c) ⊢ (sched Kv Vv).payload (dc c cpK) 0 0 :=
  sep_mono_left (Entails.of_eq (row_land kgM c c fullShare fd (gath Kv) _ ((kM_read Kv c).trans (rowK_read Kv c).symm)))

theorem pay_cpV (c : Dev nD) (fd : Buf (Elt F) ((row vgM c).view.loc (c : Thread nD τ))) :
    iprop(((row vgM c).view.loc (c : Thread nD τ) ↦[(row vgM c).view.set]{fullShare} ((row vgM c).view.write (Elt F) fd (vM.view.read (Elt F) (Vv c)) Finset.univ))
      ∗ vop Vv c) ⊢ (sched Kv Vv).payload (dc c cpV) 0 0 :=
  sep_mono_left (Entails.of_eq (row_land vgM c c fullShare fd (gath Vv) _ ((vM_read Vv c).trans (rowV_read Vv c).symm)))

theorem barPay_intro (c : Dev nD) (j : Fin 3) :
    iprop((∃ f, (row kgM (pe c j)).view.loc (c : Thread nD τ) ↦[(row kgM (pe c j)).view.set]{fullShare} f)
      ∗ (∃ f, (row vgM (pe c j)).view.loc (c : Thread nD τ) ↦[(row vgM (pe c j)).view.set]{fullShare} f)
      ∗ reached ER (dc c (rKj j)) 0 ∗ reached ER (dc c (rVj j)) 0) ⊢ (sched Kv Vv).payload (barCell (pe c j)) 0 j := by
  show _ ⊢ barPay (pe c j) j
  unfold barPay rowPt; rw [pp_pe]

theorem mayWait_dma (c : Dev nD) (s : DmaSem sig) (hs : ¬ isRecv s.val) (O : CellTallies nD τ sig Unit) (hO : Hi O) :
    (levAts L lv : sProp 𝕄) ⊢ MayWait (c : Thread nD τ) (.dma s) () O :=
  mayWait_hi c (.dma s) (by show (if isRecv s.val then 2 else 0) ≤ 1; rw [if_neg hs]; decide) O hO

theorem payv_cpK (c : Dev nD) : pay (F := F) Kv Vv c (cpK).val 0 = iprop(rowPt kgM c c fullShare (gath Kv) ∗ kop Kv c) := rfl
theorem payv_chK (c : Dev nD) (r : ℕ) : pay (F := F) Kv Vv c (chK).val r = iprop(owned (U := UU) c kcM (Kv (rowAt c r)) ∗ rowPt kgM c (rowAt c r) (shAt r) (gath Kv)) := rfl
theorem payv_sK0 (c : Dev nD) : pay (F := F) Kv Vv c (sK0).val 0 = rowPt kgM c c (shares3 (fullShare : PosShare TreeShare).right 0) (gath Kv) := rfl
theorem payv_rK0 (c : Dev nD) : pay (F := F) Kv Vv c (rK0).val 0 = rowPt kgM c (pe c 0) fullShare (gath Kv) := rfl
theorem pays_sK0 (c : Dev nD) : ((row kgM c).view.loc (c : Thread nD τ) ↦[(row kgM c).view.set]{shares3 (fullShare : PosShare TreeShare).right 0} gath Kv)
    ⊢ (sched Kv Vv).payload (dc c sK0) 0 0 := Entails.of_eq rfl
theorem pays_rK0 (c : Dev nD) (fd : Buf (Elt F) ((row kgM c).view.loc (pp c 0 : Thread nD τ))) :
    ((row kgM c).view.loc (pp c 0 : Thread nD τ) ↦[(row kgM c).view.set]{fullShare} ((row kgM c).view.write (Elt F) fd ((row kgM c).view.read (Elt F) (gath Kv)) Finset.univ))
      ⊢ (sched Kv Vv).payload (dc (pp c 0) rK0) 0 0 := by
  show _ ⊢ rowPt kgM (pp c 0) (pe (pp c 0) 0) fullShare (gath Kv)
  rw [pe_pp]
  exact Entails.of_eq (row_land kgM (pp c 0) c fullShare fd (gath Kv) _ rfl)
theorem payv_sK1 (c : Dev nD) : pay (F := F) Kv Vv c (sK1).val 0 = rowPt kgM c c (shares3 (fullShare : PosShare TreeShare).right 1) (gath Kv) := rfl
theorem payv_rK1 (c : Dev nD) : pay (F := F) Kv Vv c (rK1).val 0 = rowPt kgM c (pe c 1) fullShare (gath Kv) := rfl
theorem pays_sK1 (c : Dev nD) : ((row kgM c).view.loc (c : Thread nD τ) ↦[(row kgM c).view.set]{shares3 (fullShare : PosShare TreeShare).right 1} gath Kv)
    ⊢ (sched Kv Vv).payload (dc c sK1) 0 0 := Entails.of_eq rfl
theorem pays_rK1 (c : Dev nD) (fd : Buf (Elt F) ((row kgM c).view.loc (pp c 1 : Thread nD τ))) :
    ((row kgM c).view.loc (pp c 1 : Thread nD τ) ↦[(row kgM c).view.set]{fullShare} ((row kgM c).view.write (Elt F) fd ((row kgM c).view.read (Elt F) (gath Kv)) Finset.univ))
      ⊢ (sched Kv Vv).payload (dc (pp c 1) rK1) 0 0 := by
  show _ ⊢ rowPt kgM (pp c 1) (pe (pp c 1) 1) fullShare (gath Kv)
  rw [pe_pp]
  exact Entails.of_eq (row_land kgM (pp c 1) c fullShare fd (gath Kv) _ rfl)
theorem payv_sK2 (c : Dev nD) : pay (F := F) Kv Vv c (sK2).val 0 = rowPt kgM c c (shares3 (fullShare : PosShare TreeShare).right 2) (gath Kv) := rfl
theorem payv_rK2 (c : Dev nD) : pay (F := F) Kv Vv c (rK2).val 0 = rowPt kgM c (pe c 2) fullShare (gath Kv) := rfl
theorem pays_sK2 (c : Dev nD) : ((row kgM c).view.loc (c : Thread nD τ) ↦[(row kgM c).view.set]{shares3 (fullShare : PosShare TreeShare).right 2} gath Kv)
    ⊢ (sched Kv Vv).payload (dc c sK2) 0 0 := Entails.of_eq rfl
theorem pays_rK2 (c : Dev nD) (fd : Buf (Elt F) ((row kgM c).view.loc (pp c 2 : Thread nD τ))) :
    ((row kgM c).view.loc (pp c 2 : Thread nD τ) ↦[(row kgM c).view.set]{fullShare} ((row kgM c).view.write (Elt F) fd ((row kgM c).view.read (Elt F) (gath Kv)) Finset.univ))
      ⊢ (sched Kv Vv).payload (dc (pp c 2) rK2) 0 0 := by
  show _ ⊢ rowPt kgM (pp c 2) (pe (pp c 2) 2) fullShare (gath Kv)
  rw [pe_pp]
  exact Entails.of_eq (row_land kgM (pp c 2) c fullShare fd (gath Kv) _ rfl)
theorem pays_chK (c : Dev nD) (r : ℕ) (fd : Buf (Elt F) (kcM.view.loc (c : Thread nD τ))) :
    iprop((kcM.view.loc (c : Thread nD τ) ↦[kcM.view.set]{fullShare} (kcM.view.write (Elt F) fd ((row kgM (rowAt c r)).view.read (Elt F) (gath Kv)) Finset.univ))
      ∗ ((row kgM (rowAt c r)).view.loc (c : Thread nD τ) ↦[(row kgM (rowAt c r)).view.set]{shAt r} gath Kv))
      ⊢ (sched Kv Vv).payload (dc c chK) r 0 := by
  show _ ⊢ iprop(owned (U := UU) c kcM (Kv (rowAt c r)) ∗ rowPt kgM c (rowAt c r) (shAt r) (gath Kv))
  refine sep_mono_left ?_
  unfold owned
  iintro H
  iexists _
  isplitr
  rotate_left
  · iexact H
  · ipureintro
    rw [rowK_read]
    exact (View.read_whole _ _).trans (View.write_whole_univ _ _ _)
theorem payv_cpV (c : Dev nD) : pay (F := F) Kv Vv c (cpV).val 0 = iprop(rowPt vgM c c fullShare (gath Vv) ∗ vop Vv c) := rfl
theorem payv_chV (c : Dev nD) (r : ℕ) : pay (F := F) Kv Vv c (chV).val r = iprop(owned (U := UU) c vcM (Vv (rowAt c r)) ∗ rowPt vgM c (rowAt c r) (shAt r) (gath Vv)) := rfl
theorem payv_sV0 (c : Dev nD) : pay (F := F) Kv Vv c (sV0).val 0 = rowPt vgM c c (shares3 (fullShare : PosShare TreeShare).right 0) (gath Vv) := rfl
theorem payv_rV0 (c : Dev nD) : pay (F := F) Kv Vv c (rV0).val 0 = rowPt vgM c (pe c 0) fullShare (gath Vv) := rfl
theorem pays_sV0 (c : Dev nD) : ((row vgM c).view.loc (c : Thread nD τ) ↦[(row vgM c).view.set]{shares3 (fullShare : PosShare TreeShare).right 0} gath Vv)
    ⊢ (sched Kv Vv).payload (dc c sV0) 0 0 := Entails.of_eq rfl
theorem pays_rV0 (c : Dev nD) (fd : Buf (Elt F) ((row vgM c).view.loc (pp c 0 : Thread nD τ))) :
    ((row vgM c).view.loc (pp c 0 : Thread nD τ) ↦[(row vgM c).view.set]{fullShare} ((row vgM c).view.write (Elt F) fd ((row vgM c).view.read (Elt F) (gath Vv)) Finset.univ))
      ⊢ (sched Kv Vv).payload (dc (pp c 0) rV0) 0 0 := by
  show _ ⊢ rowPt vgM (pp c 0) (pe (pp c 0) 0) fullShare (gath Vv)
  rw [pe_pp]
  exact Entails.of_eq (row_land vgM (pp c 0) c fullShare fd (gath Vv) _ rfl)
theorem payv_sV1 (c : Dev nD) : pay (F := F) Kv Vv c (sV1).val 0 = rowPt vgM c c (shares3 (fullShare : PosShare TreeShare).right 1) (gath Vv) := rfl
theorem payv_rV1 (c : Dev nD) : pay (F := F) Kv Vv c (rV1).val 0 = rowPt vgM c (pe c 1) fullShare (gath Vv) := rfl
theorem pays_sV1 (c : Dev nD) : ((row vgM c).view.loc (c : Thread nD τ) ↦[(row vgM c).view.set]{shares3 (fullShare : PosShare TreeShare).right 1} gath Vv)
    ⊢ (sched Kv Vv).payload (dc c sV1) 0 0 := Entails.of_eq rfl
theorem pays_rV1 (c : Dev nD) (fd : Buf (Elt F) ((row vgM c).view.loc (pp c 1 : Thread nD τ))) :
    ((row vgM c).view.loc (pp c 1 : Thread nD τ) ↦[(row vgM c).view.set]{fullShare} ((row vgM c).view.write (Elt F) fd ((row vgM c).view.read (Elt F) (gath Vv)) Finset.univ))
      ⊢ (sched Kv Vv).payload (dc (pp c 1) rV1) 0 0 := by
  show _ ⊢ rowPt vgM (pp c 1) (pe (pp c 1) 1) fullShare (gath Vv)
  rw [pe_pp]
  exact Entails.of_eq (row_land vgM (pp c 1) c fullShare fd (gath Vv) _ rfl)
theorem payv_sV2 (c : Dev nD) : pay (F := F) Kv Vv c (sV2).val 0 = rowPt vgM c c (shares3 (fullShare : PosShare TreeShare).right 2) (gath Vv) := rfl
theorem payv_rV2 (c : Dev nD) : pay (F := F) Kv Vv c (rV2).val 0 = rowPt vgM c (pe c 2) fullShare (gath Vv) := rfl
theorem pays_sV2 (c : Dev nD) : ((row vgM c).view.loc (c : Thread nD τ) ↦[(row vgM c).view.set]{shares3 (fullShare : PosShare TreeShare).right 2} gath Vv)
    ⊢ (sched Kv Vv).payload (dc c sV2) 0 0 := Entails.of_eq rfl
theorem pays_rV2 (c : Dev nD) (fd : Buf (Elt F) ((row vgM c).view.loc (pp c 2 : Thread nD τ))) :
    ((row vgM c).view.loc (pp c 2 : Thread nD τ) ↦[(row vgM c).view.set]{fullShare} ((row vgM c).view.write (Elt F) fd ((row vgM c).view.read (Elt F) (gath Vv)) Finset.univ))
      ⊢ (sched Kv Vv).payload (dc (pp c 2) rV2) 0 0 := by
  show _ ⊢ rowPt vgM (pp c 2) (pe (pp c 2) 2) fullShare (gath Vv)
  rw [pe_pp]
  exact Entails.of_eq (row_land vgM (pp c 2) c fullShare fd (gath Vv) _ rfl)
theorem pays_chV (c : Dev nD) (r : ℕ) (fd : Buf (Elt F) (vcM.view.loc (c : Thread nD τ))) :
    iprop((vcM.view.loc (c : Thread nD τ) ↦[vcM.view.set]{fullShare} (vcM.view.write (Elt F) fd ((row vgM (rowAt c r)).view.read (Elt F) (gath Vv)) Finset.univ))
      ∗ ((row vgM (rowAt c r)).view.loc (c : Thread nD τ) ↦[(row vgM (rowAt c r)).view.set]{shAt r} gath Vv))
      ⊢ (sched Kv Vv).payload (dc c chV) r 0 := by
  show _ ⊢ iprop(owned (U := UU) c vcM (Vv (rowAt c r)) ∗ rowPt vgM c (rowAt c r) (shAt r) (gath Vv))
  refine sep_mono_left ?_
  unfold owned
  iintro H
  iexists _
  isplitr
  rotate_left
  · iexact H
  · ipureintro
    rw [rowV_read]
    exact (View.read_whole _ _).trans (View.write_whole_univ _ _ _)
/-- Start: local copies out, the three peers signalled, their row blocks in hand. -/
theorem startP_run (K : GSem nD τ sig → ℕ) (c : Dev nD) (fk : S4x8x2112x128.Idx → Elt F .bf16) (fv : S4x8x2112x128.Idx → Elt F .bf16)
    (harg1 : kM.IsWhole) (harg2 : vM.IsWhole) (harg5 : kgM.IsWhole) (harg6 : vgM.IsWhole) (Kt : Unit → sProp 𝕄) :
    iprop((pers Kv Vv K c ∗ kop Kv c ∗ vop Vv c ∗ rowPt kgM c c fullShare fk ∗ rowPt vgM c c fullShare fv
        ∗ rowPt kgM c (pe c 0) fullShare fk ∗ rowPt vgM c (pe c 0) fullShare fv ∗ rowPt kgM c (pe c 1) fullShare fk ∗ rowPt vgM c (pe c 1) fullShare fv ∗ rowPt kgM c (pe c 2) fullShare fk ∗ rowPt vgM c (pe c 2) fullShare fv
        ∗ dutyTok ER (dc c cpK) 0 0 ∗ dutyTok ER (dc c cpV) 0 0
        ∗ dutyTok ER (barCell (pe c 0)) 0 0 ∗ dutyTok ER (barCell (pe c 1)) 0 1 ∗ dutyTok ER (barCell (pe c 2)) 0 2
        ∗ cred (tallyAt (barCell c) () 3) ∗ ow c (O₀ c) ∗ atPos ER (barCell c) 0 ∅ 0)
      ∗ ((cred (tallyAt (dc c cpK) () N) ∗ cred (tallyAt (dc c cpV) () N) ∗ ow c (OR c) ∗ atPos ER (barCell c) (0 + 1) ∅ 0
        ∗ barPay c 0 ∗ barPay c 1 ∗ barPay c 2) -∗ Kt ⟨⟩))
      ⊢ wp frame (wpE D 𝒱₀ (c : Thread nD τ) none) Set.univ (startP (F := F) kM harg1 vM harg2 kgM harg5 vgM harg6 cc0_scratch5 c) Kt := by
  unfold startP
  rw [dev1, dev2, dev3]
  simp only [semSignalWord, semWaitWord, Prog.lift, Prog.bind_op, Prog.bind_ret, bindP]
  unfold pers ow rowPt
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, Hkop, Hvop, Hkc, Hvc, Hk0, Hv0, Hk1, Hv1, Hk2, Hv2, HtK, HtV, HtB0, HtB1, HtB2, HcB, ⟨%W, HO⟩, HaB⟩, Hk⟩
  iapply (Rounds.wp_copy_pointsTo 𝒱₀ ER (sched Kv Vv) (c : Thread nD τ) none (src := kM) (dst := row kgM c) (sem := .dma cpK) (q := fullShare)
      (fs := Kv c) (fd := fk) (r := 0) (d := 0) (κ := K (dc c cpK))
      (by rw [duties_dma Kv Vv c cpK 0 (by decide)]; exact Finset.mem_singleton_self _) () N rfl (amount_dma Kv Vv c cpK 0 0)
      (pay_cpK Kv Vv c fk)) $$ [Hkop Hkc HtK]
  · isplitr; · iapply (inv_dma Kv Vv K c cpK (by decide)); iexact HI
    isplitl [Hkop]; · iexact Hkop
    isplitl [Hkc]; · iexact Hkc
    isplitl [HtK]; · iexact HtK
    iexact Hr_cpK
  iintro HcK
  iapply (Rounds.wp_copy_pointsTo 𝒱₀ ER (sched Kv Vv) (c : Thread nD τ) none (src := vM) (dst := row vgM c) (sem := .dma cpV) (q := fullShare)
      (fs := Vv c) (fd := fv) (r := 0) (d := 0) (κ := K (dc c cpV))
      (by rw [duties_dma Kv Vv c cpV 0 (by decide)]; exact Finset.mem_singleton_self _) () N rfl (amount_dma Kv Vv c cpV 0 0)
      (pay_cpV Kv Vv c fv)) $$ [Hvop Hvc HtV]
  · isplitr; · iapply (inv_dma Kv Vv K c cpV (by decide)); iexact HI
    isplitl [Hvop]; · iexact Hvop
    isplitl [Hvc]; · iexact Hvc
    isplitl [HtV]; · iexact HtV
    iexact Hr_cpV
  iintro HcV
  iapply (Rounds.wp_signal 𝒱₀ ER (sched Kv Vv) (c : Thread nD τ) none (dst := (pe c 0 : Thread nD τ)) (sem := barS) (r := 0) (d := 0) (κ := K (barCell (pe c 0)))
      (by rw [duties_bar]; exact Finset.mem_univ _) (amount_bar Kv Vv (pe c 0) 0) () (OB1 c) rfl) $$ [HO HtB0 Hk0 Hv0]
  · isplitr; · iapply (inv_bar Kv Vv K (pe c 0)); iexact HI
    isplitl [HO]; · iexact HO
    isplitl [HtB0]; · iexact HtB0
    isplitl [Hk0 Hv0]
    · iapply (barPay_intro Kv Vv c 0)
      isplitl [Hk0]; · iexists fk; iexact Hk0
      isplitl [Hv0]; · iexists fv; iexact Hv0
      isplitr; · iexact Hr_rK0
      iexact Hr_rV0
    · iexact Hb0
  iintro HO
  iapply (Rounds.wp_signal 𝒱₀ ER (sched Kv Vv) (c : Thread nD τ) none (dst := (pe c 1 : Thread nD τ)) (sem := barS) (r := 0) (d := 1) (κ := K (barCell (pe c 1)))
      (by rw [duties_bar]; exact Finset.mem_univ _) (amount_bar Kv Vv (pe c 1) 1) () (OB2 c) rfl) $$ [HO HtB1 Hk1 Hv1]
  · isplitr; · iapply (inv_bar Kv Vv K (pe c 1)); iexact HI
    isplitl [HO]; · iexact HO
    isplitl [HtB1]; · iexact HtB1
    isplitl [Hk1 Hv1]
    · iapply (barPay_intro Kv Vv c 1)
      isplitl [Hk1]; · iexists fk; iexact Hk1
      isplitl [Hv1]; · iexists fv; iexact Hv1
      isplitr; · iexact Hr_rK1
      iexact Hr_rV1
    · iexact Hb1
  iintro HO
  iapply (Rounds.wp_signal 𝒱₀ ER (sched Kv Vv) (c : Thread nD τ) none (dst := (pe c 2 : Thread nD τ)) (sem := barS) (r := 0) (d := 2) (κ := K (barCell (pe c 2)))
      (by rw [duties_bar]; exact Finset.mem_univ _) (amount_bar Kv Vv (pe c 2) 2) () (OR c) rfl) $$ [HO HtB2 Hk2 Hv2]
  · isplitr; · iapply (inv_bar Kv Vv K (pe c 2)); iexact HI
    isplitl [HO]; · iexact HO
    isplitl [HtB2]; · iexact HtB2
    isplitl [Hk2 Hv2]
    · iapply (barPay_intro Kv Vv c 2)
      isplitl [Hk2]; · iexists fk; iexact Hk2
      isplitl [Hv2]; · iexists fv; iexact Hv2
      isplitr; · iexact Hr_rK2
      iexact Hr_rV2
    · iexact Hb2
  iintro HO
  iapply (Rounds.wp_wait_rest_token 𝒱₀ ER (sched Kv Vv) (c : Thread nD τ) none (κ := K (barCell c))
      (wpE_semWait_eq 𝒱₀ (c : Thread nD τ) none Set.univ) (Set.mem_univ _) () (O := OR c) (W := W) (R := 0) (m := 0) (T := ∅)
      ((Nat.zero_add 3).trans (expect_bar Kv Vv c).symm)) $$ [HcB HO HaB]
  · isplitr; · iapply (inv_bar Kv Vv K c); iexact HI
    isplitl [HcB]; · iexact HcB
    isplitl [HO]; · iexact HO
    isplitr; · iapply (mayWait_hi c (.reg barS) (Nat.le_refl 1) (OR c) (hi_OR c)); iexact Hlev
    iexact HaB
  iintro ⟨HO, HaB, -, Hpay⟩
  ihave Hp := (Entails.of_eq (rest_bar Kv Vv c)) $$ Hpay
  rw [wp_ret]
  imodintro
  iapply Hk
  isplitl [HcK]; · iexact HcK
  isplitl [HcV]; · iexact HcV
  isplitl [HO]; · iexists _; iexact HO
  isplitl [HaB]; · iexact HaB
  iexact Hp

theorem waitP_run (K : GSem nD τ sig → ℕ) (c : Dev nD)
    (harg1 : kM.IsWhole) (harg2 : vM.IsWhole) (harg5 : kgM.IsWhole) (harg6 : vgM.IsWhole) (Kt : Unit → sProp 𝕄) :
    iprop((pers Kv Vv K c ∗ cred (tallyAt (dc c cpK) () N) ∗ cred (tallyAt (dc c cpV) () N) ∗ ow c (OR c)
        ∗ atPos ER (dc c cpK) 0 ∅ 0 ∗ atPos ER (dc c cpV) 0 ∅ 0)
      ∗ ((ow c (OR c) ∗ atPos ER (dc c cpK) (0 + 1) ∅ 0 ∗ atPos ER (dc c cpV) (0 + 1) ∅ 0
        ∗ kop Kv c ∗ vop Vv c ∗ rowPt kgM c c fullShare (gath Kv) ∗ rowPt vgM c c fullShare (gath Vv)) -∗ Kt ⟨⟩))
      ⊢ wp frame (wpE D 𝒱₀ (c : Thread nD τ) none) Set.univ (waitP (F := F) kM harg1 vM harg2 kgM harg5 vgM harg6 cc0_scratch5 c) Kt := by
  unfold waitP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c cpK (by decide) 0 (by decide) (OR c) (src := kM) (dst := row kgM c) rfl) $$ [HcK HO HaK]
  · isplitr; · iexact HI
    isplitl [HcK]; · iexact HcK
    isplitl [HO]; · iexact HO
    isplitr; · iapply (mayWait_dma c cpK (by decide) (OR c) (hi_OR c)); iexact Hlev
    iexact HaK
  iintro ⟨HO, HaK, -, Hpay⟩
  ihave Hpay' := (Entails.of_eq (payv_cpK Kv Vv c)) $$ Hpay
  icases Hpay' with ⟨Hkr, Hkop⟩
  iapply (wp_waitD Kv Vv D K c cpV (by decide) 0 (by decide) (OR c) (src := vM) (dst := row vgM c) rfl) $$ [HcV HO HaV]
  · isplitr; · iexact HI
    isplitl [HcV]; · iexact HcV
    isplitl [HO]; · iexact HO
    isplitr; · iapply (mayWait_dma c cpV (by decide) (OR c) (hi_OR c)); iexact Hlev
    iexact HaV
  iintro ⟨HO, HaV, -, Hpay⟩
  ihave Hpay' := (Entails.of_eq (payv_cpV Kv Vv c)) $$ Hpay
  icases Hpay' with ⟨Hvr, Hvop⟩
  rw [wp_ret]
  imodintro
  iapply Hk
  isplitl [HO]; · iexact HO
  isplitl [HaK]; · iexact HaK
  isplitl [HaV]; · iexact HaV
  isplitl [Hkop]; · iexact Hkop
  isplitl [Hvop]; · iexact Hvop
  isplitl [Hkr]; · iexact Hkr
  iexact Hvr

theorem sendP0_run (K : GSem nD τ sig → ℕ) (c : Dev nD) (harg5 : kgM.IsWhole) (harg6 : vgM.IsWhole) (Kt : Unit → sProp 𝕄) :
    iprop((pers Kv Vv K c ∗ rowPt kgM c c (shares3 (fullShare : PosShare TreeShare).right 0) (gath Kv) ∗ rowPt vgM c c (shares3 (fullShare : PosShare TreeShare).right 0) (gath Vv)
        ∗ barPay c 0 ∗ ow c (OR c) ∗ dutyTok ER (dc c sK0) 0 0 ∗ dutyTok ER (dc c sV0) 0 0
        ∗ dutyTok ER (dc (pp c 0) rK0) 0 0 ∗ dutyTok ER (dc (pp c 0) rV0) 0 0)
      ∗ ((cred (tallyAt (dc c sK0) () N) ∗ cred (tallyAt (dc c sV0) () N) ∗ ow c (O2 c)) -∗ Kt ⟨⟩))
      ⊢ wp frame (wpE D 𝒱₀ (c : Thread nD τ) none) Set.univ (sendP (F := F) kgM harg5 vgM harg6 cc0_scratch7 cc0_scratch8 cc0_scratch9 cc0_scratch10 c (pp c 0) (pp c 0) ![0] inb_S3_S1_0) Kt := by
  unfold sendP
  simp only [semSignalWord, semWaitWord, Prog.lift, Prog.bind_op, Prog.bind_ret, bindP]
  unfold pers ow barPay rowPt
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨⟨%fK, HdK⟩, ⟨%fV, HdV⟩, #HqK, #HqV⟩, ⟨%W, HO⟩, HtSK, HtSV, HtRK, HtRV⟩, Hk⟩
  iapply (Rounds.wp_send_pointsTo 𝒱₀ ER (sched Kv Vv) (c : Thread nD τ) none (c' := (pp c 0 : Thread nD τ)) (src := row kgM c) (dst := row kgM c)
      (sS := .dma sK0) (sem := .dma rK0) (q := shares3 (fullShare : PosShare TreeShare).right 0) (fs := gath Kv) (κ₁ := K (dc c sK0)) (κ₂ := K (dc (pp c 0) rK0))
      (r₁ := 0) (r₂ := 0) (d₁ := 0) (d₂ := 0) (fd := fK)
      (by rw [duties_dma Kv Vv c sK0 0 (by decide)]; exact Finset.mem_singleton_self _) (by rw [duties_dma Kv Vv (pp c 0) rK0 0 (by decide)]; exact Finset.mem_singleton_self _)
      () () N rfl (amount_dma Kv Vv c sK0 0 0) (amount_dma Kv Vv (pp c 0) rK0 0 0) (O1 c) rfl (W := W)
      (pays_sK0 Kv Vv c) (pays_rK0 Kv Vv c fK)) $$ [HsK HdK HO HtSK HtRK]
  · isplitr; · iapply (inv_dma Kv Vv K c sK0 (by decide)); iexact HI
    isplitr; · iapply (inv_dma Kv Vv K (pp c 0) rK0 (by decide)); iexact HI
    isplitl [HsK]; · iexact HsK
    isplitl [HdK]; · iexact HdK
    isplitl [HO]; · iexact HO
    isplitl [HtSK]; · iexact HtSK
    isplitr; · iexact Hr_sK0
    isplitl [HtRK]; · iexact HtRK
    iexact HqK
  iintro ⟨HcK, HO⟩
  iapply (Rounds.wp_send_pointsTo 𝒱₀ ER (sched Kv Vv) (c : Thread nD τ) none (c' := (pp c 0 : Thread nD τ)) (src := row vgM c) (dst := row vgM c)
      (sS := .dma sV0) (sem := .dma rV0) (q := shares3 (fullShare : PosShare TreeShare).right 0) (fs := gath Vv) (κ₁ := K (dc c sV0)) (κ₂ := K (dc (pp c 0) rV0))
      (r₁ := 0) (r₂ := 0) (d₁ := 0) (d₂ := 0) (fd := fV)
      (by rw [duties_dma Kv Vv c sV0 0 (by decide)]; exact Finset.mem_singleton_self _) (by rw [duties_dma Kv Vv (pp c 0) rV0 0 (by decide)]; exact Finset.mem_singleton_self _)
      () () N rfl (amount_dma Kv Vv c sV0 0 0) (amount_dma Kv Vv (pp c 0) rV0 0 0) (O2 c) rfl (W := W)
      (pays_sV0 Kv Vv c) (pays_rV0 Kv Vv c fV)) $$ [HsV HdV HO HtSV HtRV]
  · isplitr; · iapply (inv_dma Kv Vv K c sV0 (by decide)); iexact HI
    isplitr; · iapply (inv_dma Kv Vv K (pp c 0) rV0 (by decide)); iexact HI
    isplitl [HsV]; · iexact HsV
    isplitl [HdV]; · iexact HdV
    isplitl [HO]; · iexact HO
    isplitl [HtSV]; · iexact HtSV
    isplitr; · iexact Hr_sV0
    isplitl [HtRV]; · iexact HtRV
    iexact HqV
  iintro ⟨HcV, HO⟩
  rw [wp_ret]
  imodintro
  iapply Hk
  isplitl [HcK]; · iexact HcK
  isplitl [HcV]; · iexact HcV
  iexists _; iexact HO

theorem sentP0_run (K : GSem nD τ sig → ℕ) (c : Dev nD) (harg5 : kgM.IsWhole) (harg6 : vgM.IsWhole) (Kt : Unit → sProp 𝕄) :
    iprop((pers Kv Vv K c ∗ cred (tallyAt (dc c sK0) () N) ∗ cred (tallyAt (dc c sV0) () N) ∗ ow c (O6 c)
        ∗ atPos ER (dc c sK0) 0 ∅ 0 ∗ atPos ER (dc c sV0) 0 ∅ 0)
      ∗ ((ow c (O6 c) ∗ atPos ER (dc c sK0) (0 + 1) ∅ 0 ∗ atPos ER (dc c sV0) (0 + 1) ∅ 0
        ∗ rowPt kgM c c (shares3 (fullShare : PosShare TreeShare).right 0) (gath Kv) ∗ rowPt vgM c c (shares3 (fullShare : PosShare TreeShare).right 0) (gath Vv)) -∗ Kt ⟨⟩))
      ⊢ wp frame (wpE D 𝒱₀ (c : Thread nD τ) none) Set.univ (sentP (F := F) kgM harg5 vgM harg6 cc0_scratch7 cc0_scratch9 c ![0] inb_S3_S1_0) Kt := by
  unfold sentP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c sK0 (by decide) 0 (by decide) (O6 c) (src := row kgM c) (dst := row kgM c) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_sK0 Kv Vv c)) $$ Hpay
  icases Hpay' with Hkr
  iapply (wp_waitD Kv Vv D K c sV0 (by decide) 0 (by decide) (O6 c) (src := row vgM c) (dst := row vgM c) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_sV0 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

theorem recvP0_run (K : GSem nD τ sig → ℕ) (c : Dev nD) (harg5 : kgM.IsWhole) (harg6 : vgM.IsWhole) (hb) (hw) (Kt : Unit → sProp 𝕄) :
    iprop((pers Kv Vv K c ∗ cred (tallyAt (dc c rK0) () N) ∗ cred (tallyAt (dc c rV0) () N) ∗ ow c (O6 c)
        ∗ atPos ER (dc c rK0) 0 ∅ 0 ∗ atPos ER (dc c rV0) 0 ∅ 0)
      ∗ ((ow c (O6 c) ∗ atPos ER (dc c rK0) (0 + 1) ∅ 0 ∗ atPos ER (dc c rV0) (0 + 1) ∅ 0
        ∗ rowPt kgM c (pe c 0) fullShare (gath Kv) ∗ rowPt vgM c (pe c 0) fullShare (gath Vv)) -∗ Kt ⟨⟩))
      ⊢ wp frame (wpE D 𝒱₀ (c : Thread nD τ) none) Set.univ (recvP (F := F) kgM harg5 vgM harg6 cc0_scratch8 cc0_scratch10 c 1#32 hb hw ![0] inb_S3_S1_0) Kt := by
  unfold recvP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c rK0 (by decide) 0 (by decide) (O6 c) (src := slot kgM (k0_off2 c 1#32) hb) (dst := slot kgM (k0_off2 c 1#32) hb) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_rK0 Kv Vv c)) $$ Hpay
  icases Hpay' with Hkr
  iapply (wp_waitD Kv Vv D K c rV0 (by decide) 0 (by decide) (O6 c) (src := slot vgM (k0_off2 c 1#32) hb) (dst := slot vgM (k0_off2 c 1#32) hb) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_rV0 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

theorem sendP2_run (K : GSem nD τ sig → ℕ) (c : Dev nD) (harg5 : kgM.IsWhole) (harg6 : vgM.IsWhole) (Kt : Unit → sProp 𝕄) :
    iprop((pers Kv Vv K c ∗ rowPt kgM c c (shares3 (fullShare : PosShare TreeShare).right 2) (gath Kv) ∗ rowPt vgM c c (shares3 (fullShare : PosShare TreeShare).right 2) (gath Vv)
        ∗ barPay c 2 ∗ ow c (O2 c) ∗ dutyTok ER (dc c sK2) 0 0 ∗ dutyTok ER (dc c sV2) 0 0
        ∗ dutyTok ER (dc (pp c 2) rK2) 0 0 ∗ dutyTok ER (dc (pp c 2) rV2) 0 0)
      ∗ ((cred (tallyAt (dc c sK2) () N) ∗ cred (tallyAt (dc c sV2) () N) ∗ ow c (O4 c)) -∗ Kt ⟨⟩))
      ⊢ wp frame (wpE D 𝒱₀ (c : Thread nD τ) none) Set.univ (sendP (F := F) kgM harg5 vgM harg6 cc0_scratch7 cc0_scratch8 cc0_scratch9 cc0_scratch10 c (pp c 2) (pp c 2) ![2] inb_S3_S1_2) Kt := by
  unfold sendP
  simp only [semSignalWord, semWaitWord, Prog.lift, Prog.bind_op, Prog.bind_ret, bindP]
  unfold pers ow barPay rowPt
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨⟨%fK, HdK⟩, ⟨%fV, HdV⟩, #HqK, #HqV⟩, ⟨%W, HO⟩, HtSK, HtSV, HtRK, HtRV⟩, Hk⟩
  iapply (Rounds.wp_send_pointsTo 𝒱₀ ER (sched Kv Vv) (c : Thread nD τ) none (c' := (pp c 2 : Thread nD τ)) (src := row kgM c) (dst := row kgM c)
      (sS := .dma sK2) (sem := .dma rK2) (q := shares3 (fullShare : PosShare TreeShare).right 2) (fs := gath Kv) (κ₁ := K (dc c sK2)) (κ₂ := K (dc (pp c 2) rK2))
      (r₁ := 0) (r₂ := 0) (d₁ := 0) (d₂ := 0) (fd := fK)
      (by rw [duties_dma Kv Vv c sK2 0 (by decide)]; exact Finset.mem_singleton_self _) (by rw [duties_dma Kv Vv (pp c 2) rK2 0 (by decide)]; exact Finset.mem_singleton_self _)
      () () N rfl (amount_dma Kv Vv c sK2 0 0) (amount_dma Kv Vv (pp c 2) rK2 0 0) (O3 c) rfl (W := W)
      (pays_sK2 Kv Vv c) (pays_rK2 Kv Vv c fK)) $$ [HsK HdK HO HtSK HtRK]
  · isplitr; · iapply (inv_dma Kv Vv K c sK2 (by decide)); iexact HI
    isplitr; · iapply (inv_dma Kv Vv K (pp c 2) rK2 (by decide)); iexact HI
    isplitl [HsK]; · iexact HsK
    isplitl [HdK]; · iexact HdK
    isplitl [HO]; · iexact HO
    isplitl [HtSK]; · iexact HtSK
    isplitr; · iexact Hr_sK2
    isplitl [HtRK]; · iexact HtRK
    iexact HqK
  iintro ⟨HcK, HO⟩
  iapply (Rounds.wp_send_pointsTo 𝒱₀ ER (sched Kv Vv) (c : Thread nD τ) none (c' := (pp c 2 : Thread nD τ)) (src := row vgM c) (dst := row vgM c)
      (sS := .dma sV2) (sem := .dma rV2) (q := shares3 (fullShare : PosShare TreeShare).right 2) (fs := gath Vv) (κ₁ := K (dc c sV2)) (κ₂ := K (dc (pp c 2) rV2))
      (r₁ := 0) (r₂ := 0) (d₁ := 0) (d₂ := 0) (fd := fV)
      (by rw [duties_dma Kv Vv c sV2 0 (by decide)]; exact Finset.mem_singleton_self _) (by rw [duties_dma Kv Vv (pp c 2) rV2 0 (by decide)]; exact Finset.mem_singleton_self _)
      () () N rfl (amount_dma Kv Vv c sV2 0 0) (amount_dma Kv Vv (pp c 2) rV2 0 0) (O4 c) rfl (W := W)
      (pays_sV2 Kv Vv c) (pays_rV2 Kv Vv c fV)) $$ [HsV HdV HO HtSV HtRV]
  · isplitr; · iapply (inv_dma Kv Vv K c sV2 (by decide)); iexact HI
    isplitr; · iapply (inv_dma Kv Vv K (pp c 2) rV2 (by decide)); iexact HI
    isplitl [HsV]; · iexact HsV
    isplitl [HdV]; · iexact HdV
    isplitl [HO]; · iexact HO
    isplitl [HtSV]; · iexact HtSV
    isplitr; · iexact Hr_sV2
    isplitl [HtRV]; · iexact HtRV
    iexact HqV
  iintro ⟨HcV, HO⟩
  rw [wp_ret]
  imodintro
  iapply Hk
  isplitl [HcK]; · iexact HcK
  isplitl [HcV]; · iexact HcV
  iexists _; iexact HO

theorem sentP2_run (K : GSem nD τ sig → ℕ) (c : Dev nD) (harg5 : kgM.IsWhole) (harg6 : vgM.IsWhole) (Kt : Unit → sProp 𝕄) :
    iprop((pers Kv Vv K c ∗ cred (tallyAt (dc c sK2) () N) ∗ cred (tallyAt (dc c sV2) () N) ∗ ow c (O6 c)
        ∗ atPos ER (dc c sK2) 0 ∅ 0 ∗ atPos ER (dc c sV2) 0 ∅ 0)
      ∗ ((ow c (O6 c) ∗ atPos ER (dc c sK2) (0 + 1) ∅ 0 ∗ atPos ER (dc c sV2) (0 + 1) ∅ 0
        ∗ rowPt kgM c c (shares3 (fullShare : PosShare TreeShare).right 2) (gath Kv) ∗ rowPt vgM c c (shares3 (fullShare : PosShare TreeShare).right 2) (gath Vv)) -∗ Kt ⟨⟩))
      ⊢ wp frame (wpE D 𝒱₀ (c : Thread nD τ) none) Set.univ (sentP (F := F) kgM harg5 vgM harg6 cc0_scratch7 cc0_scratch9 c ![2] inb_S3_S1_2) Kt := by
  unfold sentP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c sK2 (by decide) 0 (by decide) (O6 c) (src := row kgM c) (dst := row kgM c) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_sK2 Kv Vv c)) $$ Hpay
  icases Hpay' with Hkr
  iapply (wp_waitD Kv Vv D K c sV2 (by decide) 0 (by decide) (O6 c) (src := row vgM c) (dst := row vgM c) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_sV2 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

theorem recvP2_run (K : GSem nD τ sig → ℕ) (c : Dev nD) (harg5 : kgM.IsWhole) (harg6 : vgM.IsWhole) (hb) (hw) (Kt : Unit → sProp 𝕄) :
    iprop((pers Kv Vv K c ∗ cred (tallyAt (dc c rK2) () N) ∗ cred (tallyAt (dc c rV2) () N) ∗ ow c (O6 c)
        ∗ atPos ER (dc c rK2) 0 ∅ 0 ∗ atPos ER (dc c rV2) 0 ∅ 0)
      ∗ ((ow c (O6 c) ∗ atPos ER (dc c rK2) (0 + 1) ∅ 0 ∗ atPos ER (dc c rV2) (0 + 1) ∅ 0
        ∗ rowPt kgM c (pe c 2) fullShare (gath Kv) ∗ rowPt vgM c (pe c 2) fullShare (gath Vv)) -∗ Kt ⟨⟩))
      ⊢ wp frame (wpE D 𝒱₀ (c : Thread nD τ) none) Set.univ (recvP (F := F) kgM harg5 vgM harg6 cc0_scratch8 cc0_scratch10 c 3#32 hb hw ![2] inb_S3_S1_2) Kt := by
  unfold recvP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c rK2 (by decide) 0 (by decide) (O6 c) (src := slot kgM (k0_off2 c 3#32) hb) (dst := slot kgM (k0_off2 c 3#32) hb) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_rK2 Kv Vv c)) $$ Hpay
  icases Hpay' with Hkr
  iapply (wp_waitD Kv Vv D K c rV2 (by decide) 0 (by decide) (O6 c) (src := slot vgM (k0_off2 c 3#32) hb) (dst := slot vgM (k0_off2 c 3#32) hb) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_rV2 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

theorem sendP1_run (K : GSem nD τ sig → ℕ) (c : Dev nD) (harg5 : kgM.IsWhole) (harg6 : vgM.IsWhole) (Kt : Unit → sProp 𝕄) :
    iprop((pers Kv Vv K c ∗ rowPt kgM c c (shares3 (fullShare : PosShare TreeShare).right 1) (gath Kv) ∗ rowPt vgM c c (shares3 (fullShare : PosShare TreeShare).right 1) (gath Vv)
        ∗ barPay c 1 ∗ ow c (O4 c) ∗ dutyTok ER (dc c sK1) 0 0 ∗ dutyTok ER (dc c sV1) 0 0
        ∗ dutyTok ER (dc (pp c 1) rK1) 0 0 ∗ dutyTok ER (dc (pp c 1) rV1) 0 0)
      ∗ ((cred (tallyAt (dc c sK1) () N) ∗ cred (tallyAt (dc c sV1) () N) ∗ ow c (O6 c)) -∗ Kt ⟨⟩))
      ⊢ wp frame (wpE D 𝒱₀ (c : Thread nD τ) none) Set.univ (sendP (F := F) kgM harg5 vgM harg6 cc0_scratch7 cc0_scratch8 cc0_scratch9 cc0_scratch10 c (pp c 1) (pp c 1) ![1] inb_S3_S1_1) Kt := by
  unfold sendP
  simp only [semSignalWord, semWaitWord, Prog.lift, Prog.bind_op, Prog.bind_ret, bindP]
  unfold pers ow barPay rowPt
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨⟨%fK, HdK⟩, ⟨%fV, HdV⟩, #HqK, #HqV⟩, ⟨%W, HO⟩, HtSK, HtSV, HtRK, HtRV⟩, Hk⟩
  iapply (Rounds.wp_send_pointsTo 𝒱₀ ER (sched Kv Vv) (c : Thread nD τ) none (c' := (pp c 1 : Thread nD τ)) (src := row kgM c) (dst := row kgM c)
      (sS := .dma sK1) (sem := .dma rK1) (q := shares3 (fullShare : PosShare TreeShare).right 1) (fs := gath Kv) (κ₁ := K (dc c sK1)) (κ₂ := K (dc (pp c 1) rK1))
      (r₁ := 0) (r₂ := 0) (d₁ := 0) (d₂ := 0) (fd := fK)
      (by rw [duties_dma Kv Vv c sK1 0 (by decide)]; exact Finset.mem_singleton_self _) (by rw [duties_dma Kv Vv (pp c 1) rK1 0 (by decide)]; exact Finset.mem_singleton_self _)
      () () N rfl (amount_dma Kv Vv c sK1 0 0) (amount_dma Kv Vv (pp c 1) rK1 0 0) (O5 c) rfl (W := W)
      (pays_sK1 Kv Vv c) (pays_rK1 Kv Vv c fK)) $$ [HsK HdK HO HtSK HtRK]
  · isplitr; · iapply (inv_dma Kv Vv K c sK1 (by decide)); iexact HI
    isplitr; · iapply (inv_dma Kv Vv K (pp c 1) rK1 (by decide)); iexact HI
    isplitl [HsK]; · iexact HsK
    isplitl [HdK]; · iexact HdK
    isplitl [HO]; · iexact HO
    isplitl [HtSK]; · iexact HtSK
    isplitr; · iexact Hr_sK1
    isplitl [HtRK]; · iexact HtRK
    iexact HqK
  iintro ⟨HcK, HO⟩
  iapply (Rounds.wp_send_pointsTo 𝒱₀ ER (sched Kv Vv) (c : Thread nD τ) none (c' := (pp c 1 : Thread nD τ)) (src := row vgM c) (dst := row vgM c)
      (sS := .dma sV1) (sem := .dma rV1) (q := shares3 (fullShare : PosShare TreeShare).right 1) (fs := gath Vv) (κ₁ := K (dc c sV1)) (κ₂ := K (dc (pp c 1) rV1))
      (r₁ := 0) (r₂ := 0) (d₁ := 0) (d₂ := 0) (fd := fV)
      (by rw [duties_dma Kv Vv c sV1 0 (by decide)]; exact Finset.mem_singleton_self _) (by rw [duties_dma Kv Vv (pp c 1) rV1 0 (by decide)]; exact Finset.mem_singleton_self _)
      () () N rfl (amount_dma Kv Vv c sV1 0 0) (amount_dma Kv Vv (pp c 1) rV1 0 0) (O6 c) rfl (W := W)
      (pays_sV1 Kv Vv c) (pays_rV1 Kv Vv c fV)) $$ [HsV HdV HO HtSV HtRV]
  · isplitr; · iapply (inv_dma Kv Vv K c sV1 (by decide)); iexact HI
    isplitr; · iapply (inv_dma Kv Vv K (pp c 1) rV1 (by decide)); iexact HI
    isplitl [HsV]; · iexact HsV
    isplitl [HdV]; · iexact HdV
    isplitl [HO]; · iexact HO
    isplitl [HtSV]; · iexact HtSV
    isplitr; · iexact Hr_sV1
    isplitl [HtRV]; · iexact HtRV
    iexact HqV
  iintro ⟨HcV, HO⟩
  rw [wp_ret]
  imodintro
  iapply Hk
  isplitl [HcK]; · iexact HcK
  isplitl [HcV]; · iexact HcV
  iexists _; iexact HO

theorem sentP1_run (K : GSem nD τ sig → ℕ) (c : Dev nD) (harg5 : kgM.IsWhole) (harg6 : vgM.IsWhole) (Kt : Unit → sProp 𝕄) :
    iprop((pers Kv Vv K c ∗ cred (tallyAt (dc c sK1) () N) ∗ cred (tallyAt (dc c sV1) () N) ∗ ow c (O6 c)
        ∗ atPos ER (dc c sK1) 0 ∅ 0 ∗ atPos ER (dc c sV1) 0 ∅ 0)
      ∗ ((ow c (O6 c) ∗ atPos ER (dc c sK1) (0 + 1) ∅ 0 ∗ atPos ER (dc c sV1) (0 + 1) ∅ 0
        ∗ rowPt kgM c c (shares3 (fullShare : PosShare TreeShare).right 1) (gath Kv) ∗ rowPt vgM c c (shares3 (fullShare : PosShare TreeShare).right 1) (gath Vv)) -∗ Kt ⟨⟩))
      ⊢ wp frame (wpE D 𝒱₀ (c : Thread nD τ) none) Set.univ (sentP (F := F) kgM harg5 vgM harg6 cc0_scratch7 cc0_scratch9 c ![1] inb_S3_S1_1) Kt := by
  unfold sentP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c sK1 (by decide) 0 (by decide) (O6 c) (src := row kgM c) (dst := row kgM c) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_sK1 Kv Vv c)) $$ Hpay
  icases Hpay' with Hkr
  iapply (wp_waitD Kv Vv D K c sV1 (by decide) 0 (by decide) (O6 c) (src := row vgM c) (dst := row vgM c) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_sV1 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

theorem recvP1_run (K : GSem nD τ sig → ℕ) (c : Dev nD) (harg5 : kgM.IsWhole) (harg6 : vgM.IsWhole) (hb) (hw) (Kt : Unit → sProp 𝕄) :
    iprop((pers Kv Vv K c ∗ cred (tallyAt (dc c rK1) () N) ∗ cred (tallyAt (dc c rV1) () N) ∗ ow c (O6 c)
        ∗ atPos ER (dc c rK1) 0 ∅ 0 ∗ atPos ER (dc c rV1) 0 ∅ 0)
      ∗ ((ow c (O6 c) ∗ atPos ER (dc c rK1) (0 + 1) ∅ 0 ∗ atPos ER (dc c rV1) (0 + 1) ∅ 0
        ∗ rowPt kgM c (pe c 1) fullShare (gath Kv) ∗ rowPt vgM c (pe c 1) fullShare (gath Vv)) -∗ Kt ⟨⟩))
      ⊢ wp frame (wpE D 𝒱₀ (c : Thread nD τ) none) Set.univ (recvP (F := F) kgM harg5 vgM harg6 cc0_scratch8 cc0_scratch10 c 2#32 hb hw ![1] inb_S3_S1_1) Kt := by
  unfold recvP
  simp only [semSignalWord, semWaitWord, Prog.lift, Prog.bind_op, Prog.bind_ret, bindP]
  unfold pers
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HcK, HcV, HO, HaK, HaV⟩, Hk⟩
  iapply (wp_waitD Kv Vv D K c rK1 (by decide) 0 (by decide) (O6 c) (src := slot kgM (k0_off2 c 2#32) hb) (dst := slot kgM (k0_off2 c 2#32) hb) rfl) $$ [HcK HO HaK]
  · isplitr; · iexact HI
    isplitl [HcK]; · iexact HcK
    isplitl [HO]; · iexact HO
    isplitr; · unfold O6; rw [MayWait_zero]; iempintro
    iexact HaK
  iintro ⟨HO, HaK, -, Hpay⟩
  ihave Hpay' := (Entails.of_eq (payv_rK1 Kv Vv c)) $$ Hpay
  icases Hpay' with Hkr
  iapply (wp_waitD Kv Vv D K c rV1 (by decide) 0 (by decide) (O6 c) (src := slot vgM (k0_off2 c 2#32) hb) (dst := slot vgM (k0_off2 c 2#32) hb) rfl) $$ [HcV HO HaV]
  · isplitr; · iexact HI
    isplitl [HcV]; · iexact HcV
    isplitl [HO]; · iexact HO
    isplitr; · unfold O6; rw [MayWait_zero]; iempintro
    iexact HaV
  iintro ⟨HO, HaV, -, Hpay⟩
  ihave Hpay' := (Entails.of_eq (payv_rV1 Kv Vv c)) $$ Hpay
  icases Hpay' with Hvr
  rw [wp_ret]
  imodintro
  iapply Hk
  isplitl [HO]; · iexact HO
  isplitl [HaK]; · iexact HaK
  isplitl [HaV]; · iexact HaV
  isplitl [Hkr]; · iexact Hkr
  iexact Hvr

/-- The copies of one chunk, from row blocks at the given offsets. -/
def chunkQ (arg5 : Memref sig .tc .hbm S4x8x2112x128 .bf16) (harg5 : arg5.IsWhole) (arg6 : Memref sig .tc .hbm S4x8x2112x128 .bf16) (harg6 : arg6.IsWhole) (arg8 : Memref sig .tc .vmem S8x2112x128 .bf16) (harg8 : arg8.IsWhole) (arg9 : Memref sig .tc .vmem S8x2112x128 .bf16) (harg9 : arg9.IsWhole) (arg13 : DmaSems sig S2) (o : Fin 4 → Nat) (hb : ∀ a, o a + S1x8x2112x128.size a ≤ S4x8x2112x128.size a)
    (hw : (Rect.unit (s := S4x8x2112x128) o S1x8x2112x128.size hb).WholeWords (EltTy.packing .bf16)) : Prog (TpuEff nD τ sig (Elt F) Λ₀ .tc) Unit := do
  Prog.lift (.enqueueDma (slot arg5 o hb) (.here arg8) (.dma (cel2 arg13 ![0] inb_S2_S1_0)) ((harg5.wordExact_slice rfl _ hw).reshape _ _) harg8.wordExact ⟨Or.inl rfl, trivial⟩)
  Prog.lift (.enqueueDma (slot arg6 o hb) (.here arg9) (.dma (cel2 arg13 ![1] inb_S2_S1_1)) ((harg6.wordExact_slice rfl _ hw).reshape _ _) harg9.wordExact ⟨Or.inl rfl, trivial⟩)
  Prog.lift (.waitDma2 (cel2 arg13 ![0] inb_S2_S1_0) (slot arg5 o hb) arg8 ((harg5.wordExact_slice rfl _ hw).reshape _ _) harg8.wordExact)
  Prog.lift (.waitDma2 (cel2 arg13 ![1] inb_S2_S1_1) (slot arg6 o hb) arg9 ((harg6.wordExact_slice rfl _ hw).reshape _ _) harg9.wordExact)

theorem chunkP_eq (arg5 : Memref sig .tc .hbm S4x8x2112x128 .bf16) (harg5 : arg5.IsWhole) (arg6 : Memref sig .tc .hbm S4x8x2112x128 .bf16) (harg6 : arg6.IsWhole) (arg8 : Memref sig .tc .vmem S8x2112x128 .bf16) (harg8 : arg8.IsWhole) (arg9 : Memref sig .tc .vmem S8x2112x128 .bf16) (harg9 : arg9.IsWhole) (arg13 : DmaSems sig S2) (c : Dev nD) (b : BitVec 32) (hb) (hw) :
    chunkP (F := F) arg5 harg5 arg6 harg6 arg8 harg8 arg9 harg9 arg13 c b hb hw = chunkQ arg5 harg5 arg6 harg6 arg8 harg8 arg9 harg9 arg13 (k0_off2 c b) hb hw := rfl

theorem off2_0 : ∀ c : Dev nD, k0_off2 c 0#32 = k0_off1 (rowAt c 0) := by decide +kernel

theorem chunkP0_run (K : GSem nD τ sig → ℕ) (c : Dev nD) (VK VV : S8x2112x128.Idx → Elt F .bf16) (harg5 : kgM.IsWhole) (harg6 : vgM.IsWhole) (harg8 : kcM.IsWhole) (harg9 : vcM.IsWhole) (hb) (hw) (Kt : Unit → sProp 𝕄) :
    iprop((pers Kv Vv K c ∗ rowPt kgM c (rowAt c 0) (shAt 0) (gath Kv) ∗ rowPt vgM c (rowAt c 0) (shAt 0) (gath Vv)
        ∗ owned (U := UU) c kcM VK ∗ owned (U := UU) c vcM VV ∗ dutyTok ER (dc c chK) 0 0 ∗ dutyTok ER (dc c chV) 0 0
        ∗ reached ER (dc c chK) 0 ∗ reached ER (dc c chV) 0 ∗ ow c (O6 c) ∗ atPos ER (dc c chK) 0 ∅ 0 ∗ atPos ER (dc c chV) 0 ∅ 0)
      ∗ ((rowPt kgM c (rowAt c 0) (shAt 0) (gath Kv) ∗ rowPt vgM c (rowAt c 0) (shAt 0) (gath Vv)
        ∗ owned (U := UU) c kcM (Kv (rowAt c 0)) ∗ owned (U := UU) c vcM (Vv (rowAt c 0))
        ∗ reached ER (dc c chK) (0 + 1) ∗ reached ER (dc c chV) (0 + 1) ∗ ow c (O6 c) ∗ atPos ER (dc c chK) (0 + 1) ∅ 0 ∗ atPos ER (dc c chV) (0 + 1) ∅ 0) -∗ Kt ⟨⟩))
      ⊢ wp frame (wpE D 𝒱₀ (c : Thread nD τ) none) Set.univ (chunkP (F := F) kgM harg5 vgM harg6 kcM harg8 vcM harg9 cc0_scratch6 c 0#32 hb hw) Kt := by
  rw [chunkP_eq]
  revert hw hb
  have key := off2_0 c
  generalize k0_off2 c 0#32 = o at key
  subst key
  intro hb hw
  unfold chunkQ
  simp only [semSignalWord, semWaitWord, Prog.lift, Prog.bind_op, Prog.bind_ret, bindP]
  unfold pers rowPt owned
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨%fK, %hfK, HdK⟩, ⟨%fV, %hfV, HdV⟩, HtK, HtV, #HqK, #HqV, HO, HaK, HaV⟩, Hk⟩
  iapply (Rounds.wp_copy_pointsTo 𝒱₀ ER (sched Kv Vv) (c : Thread nD τ) none (src := row kgM (rowAt c 0)) (dst := kcM) (sem := .dma chK) (q := shAt 0)
      (fs := gath Kv) (fd := fK) (r := 0) (d := 0) (κ := K (dc c chK))
      (by rw [duties_dma Kv Vv c chK 0 (by decide)]; exact Finset.mem_singleton_self _) () N rfl (amount_dma Kv Vv c chK 0 0)
      (pays_chK Kv Vv c 0 fK)) $$ [HsK HdK HtK]
  · isplitr; · iapply (inv_dma Kv Vv K c chK (by decide)); iexact HI
    isplitl [HsK]; · iexact HsK
    isplitl [HdK]; · iexact HdK
    isplitl [HtK]; · iexact HtK
    iexact HqK
  iintro HcK
  iapply (Rounds.wp_copy_pointsTo 𝒱₀ ER (sched Kv Vv) (c : Thread nD τ) none (src := row vgM (rowAt c 0)) (dst := vcM) (sem := .dma chV) (q := shAt 0)
      (fs := gath Vv) (fd := fV) (r := 0) (d := 0) (κ := K (dc c chV))
      (by rw [duties_dma Kv Vv c chV 0 (by decide)]; exact Finset.mem_singleton_self _) () N rfl (amount_dma Kv Vv c chV 0 0)
      (pays_chV Kv Vv c 0 fV)) $$ [HsV HdV HtV]
  · isplitr; · iapply (inv_dma Kv Vv K c chV (by decide)); iexact HI
    isplitl [HsV]; · iexact HsV
    isplitl [HdV]; · iexact HdV
    isplitl [HtV]; · iexact HtV
    iexact HqV
  iintro HcV
  iapply (wp_waitD Kv Vv D K c chK (by decide) 0 (by decide) (O6 c) (src := row kgM (rowAt c 0)) (dst := kcM) rfl) $$ [HcK HO HaK]
  · isplitr; · iexact HI
    isplitl [HcK]; · iexact HcK
    isplitl [HO]; · iexact HO
    isplitr; · unfold O6; rw [MayWait_zero]; iempintro
    iexact HaK
  iintro ⟨HO, HaK, HrK, Hpay⟩
  ihave Hpay' := (Entails.of_eq (payv_chK Kv Vv c 0)) $$ Hpay
  icases Hpay' with ⟨Hkc, Hkr⟩
  iapply (wp_waitD Kv Vv D K c chV (by decide) 0 (by decide) (O6 c) (src := row vgM (rowAt c 0)) (dst := vcM) rfl) $$ [HcV HO HaV]
  · isplitr; · iexact HI
    isplitl [HcV]; · iexact HcV
    isplitl [HO]; · iexact HO
    isplitr; · unfold O6; rw [MayWait_zero]; iempintro
    iexact HaV
  iintro ⟨HO, HaV, HrV, Hpay⟩
  ihave Hpay' := (Entails.of_eq (payv_chV Kv Vv c 0)) $$ Hpay
  icases Hpay' with ⟨Hvc, Hvr⟩
  unfold rowPt owned
  rw [wp_ret]
  imodintro
  iapply Hk
  isplitl [Hkr]; · iexact Hkr
  isplitl [Hvr]; · iexact Hvr
  isplitl [Hkc]; · iexact Hkc
  isplitl [Hvc]; · iexact Hvc
  isplitl [HrK]; · iexact HrK
  isplitl [HrV]; · iexact HrV
  isplitl [HO]; · iexact HO
  isplitl [HaK]; · iexact HaK
  iexact HaV

theorem off2_1 : ∀ c : Dev nD, k0_off2 c 1#32 = k0_off1 (rowAt c 1) := by decide +kernel

theorem chunkP1_run (K : GSem nD τ sig → ℕ) (c : Dev nD) (VK VV : S8x2112x128.Idx → Elt F .bf16) (harg5 : kgM.IsWhole) (harg6 : vgM.IsWhole) (harg8 : kcM.IsWhole) (harg9 : vcM.IsWhole) (hb) (hw) (Kt : Unit → sProp 𝕄) :
    iprop((pers Kv Vv K c ∗ rowPt kgM c (rowAt c 1) (shAt 1) (gath Kv) ∗ rowPt vgM c (rowAt c 1) (shAt 1) (gath Vv)
        ∗ owned (U := UU) c kcM VK ∗ owned (U := UU) c vcM VV ∗ dutyTok ER (dc c chK) 1 0 ∗ dutyTok ER (dc c chV) 1 0
        ∗ reached ER (dc c chK) 1 ∗ reached ER (dc c chV) 1 ∗ ow c (O6 c) ∗ atPos ER (dc c chK) 1 ∅ 0 ∗ atPos ER (dc c chV) 1 ∅ 0)
      ∗ ((rowPt kgM c (rowAt c 1) (shAt 1) (gath Kv) ∗ rowPt vgM c (rowAt c 1) (shAt 1) (gath Vv)
        ∗ owned (U := UU) c kcM (Kv (rowAt c 1)) ∗ owned (U := UU) c vcM (Vv (rowAt c 1))
        ∗ reached ER (dc c chK) (1 + 1) ∗ reached ER (dc c chV) (1 + 1) ∗ ow c (O6 c) ∗ atPos ER (dc c chK) (1 + 1) ∅ 0 ∗ atPos ER (dc c chV) (1 + 1) ∅ 0) -∗ Kt ⟨⟩))
      ⊢ wp frame (wpE D 𝒱₀ (c : Thread nD τ) none) Set.univ (chunkP (F := F) kgM harg5 vgM harg6 kcM harg8 vcM harg9 cc0_scratch6 c 1#32 hb hw) Kt := by
  rw [chunkP_eq]
  revert hw hb
  have key := off2_1 c
  generalize k0_off2 c 1#32 = o at key
  subst key
  intro hb hw
  unfold chunkQ
  simp only [semSignalWord, semWaitWord, Prog.lift, Prog.bind_op, Prog.bind_ret, bindP]
  unfold pers rowPt owned
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨%fK, %hfK, HdK⟩, ⟨%fV, %hfV, HdV⟩, HtK, HtV, #HqK, #HqV, HO, HaK, HaV⟩, Hk⟩
  iapply (Rounds.wp_copy_pointsTo 𝒱₀ ER (sched Kv Vv) (c : Thread nD τ) none (src := row kgM (rowAt c 1)) (dst := kcM) (sem := .dma chK) (q := shAt 1)
      (fs := gath Kv) (fd := fK) (r := 1) (d := 0) (κ := K (dc c chK))
      (by rw [duties_dma Kv Vv c chK 1 (by decide)]; exact Finset.mem_singleton_self _) () N rfl (amount_dma Kv Vv c chK 1 0)
      (pays_chK Kv Vv c 1 fK)) $$ [HsK HdK HtK]
  · isplitr; · iapply (inv_dma Kv Vv K c chK (by decide)); iexact HI
    isplitl [HsK]; · iexact HsK
    isplitl [HdK]; · iexact HdK
    isplitl [HtK]; · iexact HtK
    iexact HqK
  iintro HcK
  iapply (Rounds.wp_copy_pointsTo 𝒱₀ ER (sched Kv Vv) (c : Thread nD τ) none (src := row vgM (rowAt c 1)) (dst := vcM) (sem := .dma chV) (q := shAt 1)
      (fs := gath Vv) (fd := fV) (r := 1) (d := 0) (κ := K (dc c chV))
      (by rw [duties_dma Kv Vv c chV 1 (by decide)]; exact Finset.mem_singleton_self _) () N rfl (amount_dma Kv Vv c chV 1 0)
      (pays_chV Kv Vv c 1 fV)) $$ [HsV HdV HtV]
  · isplitr; · iapply (inv_dma Kv Vv K c chV (by decide)); iexact HI
    isplitl [HsV]; · iexact HsV
    isplitl [HdV]; · iexact HdV
    isplitl [HtV]; · iexact HtV
    iexact HqV
  iintro HcV
  iapply (wp_waitD Kv Vv D K c chK (by decide) 1 (by decide) (O6 c) (src := row kgM (rowAt c 1)) (dst := kcM) rfl) $$ [HcK HO HaK]
  · isplitr; · iexact HI
    isplitl [HcK]; · iexact HcK
    isplitl [HO]; · iexact HO
    isplitr; · unfold O6; rw [MayWait_zero]; iempintro
    iexact HaK
  iintro ⟨HO, HaK, HrK, Hpay⟩
  ihave Hpay' := (Entails.of_eq (payv_chK Kv Vv c 1)) $$ Hpay
  icases Hpay' with ⟨Hkc, Hkr⟩
  iapply (wp_waitD Kv Vv D K c chV (by decide) 1 (by decide) (O6 c) (src := row vgM (rowAt c 1)) (dst := vcM) rfl) $$ [HcV HO HaV]
  · isplitr; · iexact HI
    isplitl [HcV]; · iexact HcV
    isplitl [HO]; · iexact HO
    isplitr; · unfold O6; rw [MayWait_zero]; iempintro
    iexact HaV
  iintro ⟨HO, HaV, HrV, Hpay⟩
  ihave Hpay' := (Entails.of_eq (payv_chV Kv Vv c 1)) $$ Hpay
  icases Hpay' with ⟨Hvc, Hvr⟩
  unfold rowPt owned
  rw [wp_ret]
  imodintro
  iapply Hk
  isplitl [Hkr]; · iexact Hkr
  isplitl [Hvr]; · iexact Hvr
  isplitl [Hkc]; · iexact Hkc
  isplitl [Hvc]; · iexact Hvc
  isplitl [HrK]; · iexact HrK
  isplitl [HrV]; · iexact HrV
  isplitl [HO]; · iexact HO
  isplitl [HaK]; · iexact HaK
  iexact HaV

theorem off2_2 : ∀ c : Dev nD, k0_off2 c 3#32 = k0_off1 (rowAt c 2) := by decide +kernel

theorem chunkP2_run (K : GSem nD τ sig → ℕ) (c : Dev nD) (VK VV : S8x2112x128.Idx → Elt F .bf16) (harg5 : kgM.IsWhole) (harg6 : vgM.IsWhole) (harg8 : kcM.IsWhole) (harg9 : vcM.IsWhole) (hb) (hw) (Kt : Unit → sProp 𝕄) :
    iprop((pers Kv Vv K c ∗ rowPt kgM c (rowAt c 2) (shAt 2) (gath Kv) ∗ rowPt vgM c (rowAt c 2) (shAt 2) (gath Vv)
        ∗ owned (U := UU) c kcM VK ∗ owned (U := UU) c vcM VV ∗ dutyTok ER (dc c chK) 2 0 ∗ dutyTok ER (dc c chV) 2 0
        ∗ reached ER (dc c chK) 2 ∗ reached ER (dc c chV) 2 ∗ ow c (O6 c) ∗ atPos ER (dc c chK) 2 ∅ 0 ∗ atPos ER (dc c chV) 2 ∅ 0)
      ∗ ((rowPt kgM c (rowAt c 2) (shAt 2) (gath Kv) ∗ rowPt vgM c (rowAt c 2) (shAt 2) (gath Vv)
        ∗ owned (U := UU) c kcM (Kv (rowAt c 2)) ∗ owned (U := UU) c vcM (Vv (rowAt c 2))
        ∗ reached ER (dc c chK) (2 + 1) ∗ reached ER (dc c chV) (2 + 1) ∗ ow c (O6 c) ∗ atPos ER (dc c chK) (2 + 1) ∅ 0 ∗ atPos ER (dc c chV) (2 + 1) ∅ 0) -∗ Kt ⟨⟩))
      ⊢ wp frame (wpE D 𝒱₀ (c : Thread nD τ) none) Set.univ (chunkP (F := F) kgM harg5 vgM harg6 kcM harg8 vcM harg9 cc0_scratch6 c 3#32 hb hw) Kt := by
  rw [chunkP_eq]
  revert hw hb
  have key := off2_2 c
  generalize k0_off2 c 3#32 = o at key
  subst key
  intro hb hw
  unfold chunkQ
  simp only [semSignalWord, semWaitWord, Prog.lift, Prog.bind_op, Prog.bind_ret, bindP]
  unfold pers rowPt owned
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨%fK, %hfK, HdK⟩, ⟨%fV, %hfV, HdV⟩, HtK, HtV, #HqK, #HqV, HO, HaK, HaV⟩, Hk⟩
  iapply (Rounds.wp_copy_pointsTo 𝒱₀ ER (sched Kv Vv) (c : Thread nD τ) none (src := row kgM (rowAt c 2)) (dst := kcM) (sem := .dma chK) (q := shAt 2)
      (fs := gath Kv) (fd := fK) (r := 2) (d := 0) (κ := K (dc c chK))
      (by rw [duties_dma Kv Vv c chK 2 (by decide)]; exact Finset.mem_singleton_self _) () N rfl (amount_dma Kv Vv c chK 2 0)
      (pays_chK Kv Vv c 2 fK)) $$ [HsK HdK HtK]
  · isplitr; · iapply (inv_dma Kv Vv K c chK (by decide)); iexact HI
    isplitl [HsK]; · iexact HsK
    isplitl [HdK]; · iexact HdK
    isplitl [HtK]; · iexact HtK
    iexact HqK
  iintro HcK
  iapply (Rounds.wp_copy_pointsTo 𝒱₀ ER (sched Kv Vv) (c : Thread nD τ) none (src := row vgM (rowAt c 2)) (dst := vcM) (sem := .dma chV) (q := shAt 2)
      (fs := gath Vv) (fd := fV) (r := 2) (d := 0) (κ := K (dc c chV))
      (by rw [duties_dma Kv Vv c chV 2 (by decide)]; exact Finset.mem_singleton_self _) () N rfl (amount_dma Kv Vv c chV 2 0)
      (pays_chV Kv Vv c 2 fV)) $$ [HsV HdV HtV]
  · isplitr; · iapply (inv_dma Kv Vv K c chV (by decide)); iexact HI
    isplitl [HsV]; · iexact HsV
    isplitl [HdV]; · iexact HdV
    isplitl [HtV]; · iexact HtV
    iexact HqV
  iintro HcV
  iapply (wp_waitD Kv Vv D K c chK (by decide) 2 (by decide) (O6 c) (src := row kgM (rowAt c 2)) (dst := kcM) rfl) $$ [HcK HO HaK]
  · isplitr; · iexact HI
    isplitl [HcK]; · iexact HcK
    isplitl [HO]; · iexact HO
    isplitr; · unfold O6; rw [MayWait_zero]; iempintro
    iexact HaK
  iintro ⟨HO, HaK, HrK, Hpay⟩
  ihave Hpay' := (Entails.of_eq (payv_chK Kv Vv c 2)) $$ Hpay
  icases Hpay' with ⟨Hkc, Hkr⟩
  iapply (wp_waitD Kv Vv D K c chV (by decide) 2 (by decide) (O6 c) (src := row vgM (rowAt c 2)) (dst := vcM) rfl) $$ [HcV HO HaV]
  · isplitr; · iexact HI
    isplitl [HcV]; · iexact HcV
    isplitl [HO]; · iexact HO
    isplitr; · unfold O6; rw [MayWait_zero]; iempintro
    iexact HaV
  iintro ⟨HO, HaV, HrV, Hpay⟩
  ihave Hpay' := (Entails.of_eq (payv_chV Kv Vv c 2)) $$ Hpay
  icases Hpay' with ⟨Hvc, Hvr⟩
  unfold rowPt owned
  rw [wp_ret]
  imodintro
  iapply Hk
  isplitl [Hkr]; · iexact Hkr
  isplitl [Hvr]; · iexact Hvr
  isplitl [Hkc]; · iexact Hkc
  isplitl [Hvc]; · iexact Hvc
  isplitl [HrK]; · iexact HrK
  isplitl [HrV]; · iexact HrV
  isplitl [HO]; · iexact HO
  isplitl [HaK]; · iexact HaK
  iexact HaV

theorem off2_3 : ∀ c : Dev nD, k0_off2 c 2#32 = k0_off1 (rowAt c 3) := by decide +kernel

theorem chunkP3_run (K : GSem nD τ sig → ℕ) (c : Dev nD) (VK VV : S8x2112x128.Idx → Elt F .bf16) (harg5 : kgM.IsWhole) (harg6 : vgM.IsWhole) (harg8 : kcM.IsWhole) (harg9 : vcM.IsWhole) (hb) (hw) (Kt : Unit → sProp 𝕄) :
    iprop((pers Kv Vv K c ∗ rowPt kgM c (rowAt c 3) (shAt 3) (gath Kv) ∗ rowPt vgM c (rowAt c 3) (shAt 3) (gath Vv)
        ∗ owned (U := UU) c kcM VK ∗ owned (U := UU) c vcM VV ∗ dutyTok ER (dc c chK) 3 0 ∗ dutyTok ER (dc c chV) 3 0
        ∗ reached ER (dc c chK) 3 ∗ reached ER (dc c chV) 3 ∗ ow c (O6 c) ∗ atPos ER (dc c chK) 3 ∅ 0 ∗ atPos ER (dc c chV) 3 ∅ 0)
      ∗ ((rowPt kgM c (rowAt c 3) (shAt 3) (gath Kv) ∗ rowPt vgM c (rowAt c 3) (shAt 3) (gath Vv)
        ∗ owned (U := UU) c kcM (Kv (rowAt c 3)) ∗ owned (U := UU) c vcM (Vv (rowAt c 3))
        ∗ reached ER (dc c chK) (3 + 1) ∗ reached ER (dc c chV) (3 + 1) ∗ ow c (O6 c) ∗ atPos ER (dc c chK) (3 + 1) ∅ 0 ∗ atPos ER (dc c chV) (3 + 1) ∅ 0) -∗ Kt ⟨⟩))
      ⊢ wp frame (wpE D 𝒱₀ (c : Thread nD τ) none) Set.univ (chunkP (F := F) kgM harg5 vgM harg6 kcM harg8 vcM harg9 cc0_scratch6 c 2#32 hb hw) Kt := by
  rw [chunkP_eq]
  revert hw hb
  have key := off2_3 c
  generalize k0_off2 c 2#32 = o at key
  subst key
  intro hb hw
  unfold chunkQ
  simp only [semSignalWord, semWaitWord, Prog.lift, Prog.bind_op, Prog.bind_ret, bindP]
  unfold pers rowPt owned
  iintro ⟨⟨⟨#HI, #Hlev, #Hb0, #Hb1, #Hb2, #Hr_cpK, #Hr_cpV, #Hr_chK, #Hr_chV, #Hr_sK0, #Hr_sK1, #Hr_sK2, #Hr_rK0, #Hr_rK1, #Hr_rK2, #Hr_sV0, #Hr_sV1, #Hr_sV2, #Hr_rV0, #Hr_rV1, #Hr_rV2⟩, HsK, HsV, ⟨%fK, %hfK, HdK⟩, ⟨%fV, %hfV, HdV⟩, HtK, HtV, #HqK, #HqV, HO, HaK, HaV⟩, Hk⟩
  iapply (Rounds.wp_copy_pointsTo 𝒱₀ ER (sched Kv Vv) (c : Thread nD τ) none (src := row kgM (rowAt c 3)) (dst := kcM) (sem := .dma chK) (q := shAt 3)
      (fs := gath Kv) (fd := fK) (r := 3) (d := 0) (κ := K (dc c chK))
      (by rw [duties_dma Kv Vv c chK 3 (by decide)]; exact Finset.mem_singleton_self _) () N rfl (amount_dma Kv Vv c chK 3 0)
      (pays_chK Kv Vv c 3 fK)) $$ [HsK HdK HtK]
  · isplitr; · iapply (inv_dma Kv Vv K c chK (by decide)); iexact HI
    isplitl [HsK]; · iexact HsK
    isplitl [HdK]; · iexact HdK
    isplitl [HtK]; · iexact HtK
    iexact HqK
  iintro HcK
  iapply (Rounds.wp_copy_pointsTo 𝒱₀ ER (sched Kv Vv) (c : Thread nD τ) none (src := row vgM (rowAt c 3)) (dst := vcM) (sem := .dma chV) (q := shAt 3)
      (fs := gath Vv) (fd := fV) (r := 3) (d := 0) (κ := K (dc c chV))
      (by rw [duties_dma Kv Vv c chV 3 (by decide)]; exact Finset.mem_singleton_self _) () N rfl (amount_dma Kv Vv c chV 3 0)
      (pays_chV Kv Vv c 3 fV)) $$ [HsV HdV HtV]
  · isplitr; · iapply (inv_dma Kv Vv K c chV (by decide)); iexact HI
    isplitl [HsV]; · iexact HsV
    isplitl [HdV]; · iexact HdV
    isplitl [HtV]; · iexact HtV
    iexact HqV
  iintro HcV
  iapply (wp_waitD Kv Vv D K c chK (by decide) 3 (by decide) (O6 c) (src := row kgM (rowAt c 3)) (dst := kcM) rfl) $$ [HcK HO HaK]
  · isplitr; · iexact HI
    isplitl [HcK]; · iexact HcK
    isplitl [HO]; · iexact HO
    isplitr; · unfold O6; rw [MayWait_zero]; iempintro
    iexact HaK
  iintro ⟨HO, HaK, HrK, Hpay⟩
  ihave Hpay' := (Entails.of_eq (payv_chK Kv Vv c 3)) $$ Hpay
  icases Hpay' with ⟨Hkc, Hkr⟩
  iapply (wp_waitD Kv Vv D K c chV (by decide) 3 (by decide) (O6 c) (src := row vgM (rowAt c 3)) (dst := vcM) rfl) $$ [HcV HO HaV]
  · isplitr; · iexact HI
    isplitl [HcV]; · iexact HcV
    isplitl [HO]; · iexact HO
    isplitr; · unfold O6; rw [MayWait_zero]; iempintro
    iexact HaV
  iintro ⟨HO, HaV, HrV, Hpay⟩
  ihave Hpay' := (Entails.of_eq (payv_chV Kv Vv c 3)) $$ Hpay
  icases Hpay' with ⟨Hvc, Hvr⟩
  unfold rowPt owned
  rw [wp_ret]
  imodintro
  iapply Hk
  isplitl [Hkr]; · iexact Hkr
  isplitl [Hvr]; · iexact Hvr
  isplitl [Hkc]; · iexact Hkc
  isplitl [Hvc]; · iexact Hvc
  isplitl [HrK]; · iexact HrK
  isplitl [HrV]; · iexact HrV
  isplitl [HO]; · iexact HO
  isplitl [HaK]; · iexact HaK
  iexact HaV

end Cert.KernelIdeal.Flash
-- ==== Proof.Body.lean ====
module

public import proofs.«01_k».proof.Proof.Stages

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (Kv Vv : Dev nD → S8x2112x128.Idx → Elt F .bf16) (D : Defs nD τ sig (Elt F) Λ₀)

/-! ## The output block does not depend on what the buffer held -/

/-- The pairs of a residue group and a head, in the order they are divided. -/
abbrev ghs : List (Fin 3 × Fin 8) := [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)]

theorem ghs_all (p : Fin 3 × Fin 8) : p ∈ ghs := by revert p; decide

/-- The block of the output a pair writes. -/
abbrev ghR (p : Fin 3 × Fin 8) : Rect S2112x1024 := Rect.unit (s := S2112x1024) ![704 * p.1.val, 128 * p.2.val] S704x128.size (inbO p.1 p.2)

/-- What a pair writes there. -/
abbrev ghW (A : Vec F S8x2112x128 .f32) (L : Vec F S8x3x704x128 .bf16) (p : Fin 3 × Fin 8) : (ghR p).shape.Idx → Elt F .f32 :=
  k0_pay990 (rd (Rect.unit (s := S8x3x704x128) ![p.2.val, p.1.val, 0, 0] S1x1x704x128.size (inbM p.1 p.2)) L) (rd (Rect.unit (s := S8x2112x128) ![p.2.val, 704 * p.1.val, 0] S1x704x128.size (inbQ p.1 p.2)) A)

theorem normSt_eq (A : Vec F S8x2112x128 .f32) (L : Vec F S8x3x704x128 .bf16) (O : Vec F S2112x1024 .f32) :
    normSt A L O = ghs.foldl (fun s p => upd (ghR p) s (ghW A L p)) O := rfl

theorem ghR_mem (y : S2112x1024.Idx) : ∃ p : Fin 3 × Fin 8, ∃ x, (ghR p).emb x = y := by
  have h0 : (y 0).val < 2112 := (y 0).isLt
  have h1 : (y 1).val < 1024 := (y 1).isLt
  refine ⟨((⟨(y 0).val / 704, by omega⟩, ⟨(y 1).val / 128, by omega⟩) : Fin 3 × Fin 8), (show S704x128.Idx from fun | 0 => ⟨(y 0).val % 704, Nat.mod_lt _ (by decide)⟩ | 1 => ⟨(y 1).val % 128, Nat.mod_lt _ (by decide)⟩), ?_⟩
  funext a
  apply Fin.ext
  match a with
  | 0 =>
    show 704 * ((y 0).val / 704) + 1 * ((y 0).val % 704) = (y 0).val
    omega
  | 1 =>
    show 128 * ((y 1).val / 128) + 1 * ((y 1).val % 128) = (y 1).val
    omega

theorem fold_same {s : Shape} {e : EltTy} {P : Type} (R : P → Rect s) (w : ∀ p : P, (R p).shape.Idx → Elt F e) (y : s.Idx) :
    ∀ (ps : List P) (O O' : s.Idx → Elt F e), ((∃ p ∈ ps, ∃ x, (R p).emb x = y) ∨ O y = O' y) →
      ps.foldl (fun s p => upd (R p) s (w p)) O y = ps.foldl (fun s p => upd (R p) s (w p)) O' y
  | [], O, O', h => by
      rcases h with ⟨p, hp, -⟩ | h
      · cases hp
      · exact h
  | q :: ps, O, O', h => by
      refine fold_same R w y ps _ _ ?_
      by_cases hq : ∃ x, (R q).emb x = y
      · obtain ⟨x, rfl⟩ := hq
        refine Or.inr ?_
        show upd (R q) O (w q) ((R q).emb x) = upd (R q) O' (w q) ((R q).emb x)
        rw [upd_emb, upd_emb]
      · rcases h with ⟨p, hp, hx⟩ | h
        · rcases List.mem_cons.mp hp with rfl | hp
          · exact absurd hx hq
          · exact Or.inl ⟨p, hp, hx⟩
        · refine Or.inr ?_
          show upd (R q) O (w q) y = upd (R q) O' (w q) y
          rw [upd_miss _ _ _ _ fun x hx => hq ⟨x, hx⟩, upd_miss _ _ _ _ fun x hx => hq ⟨x, hx⟩, h]

theorem normSt_any (A : Vec F S8x2112x128 .f32) (L : Vec F S8x3x704x128 .bf16) (O O' : Vec F S2112x1024 .f32) : normSt A L O = normSt A L O' := by
  rw [normSt_eq, normSt_eq]
  funext y
  obtain ⟨p, hp⟩ := ghR_mem y
  exact fold_same ghR (ghW A L) y _ _ _ (Or.inl ⟨p, ghs_all p, hp⟩)

/-! ## A gathered array, block by block -/

theorem row_set (m : Memref sig .tc .hbm S4x8x2112x128 .bf16) (i : Dev nD) :
    (row m i).view.set = (Rect.unit (s := S4x8x2112x128) (k0_off1 i) S1x8x2112x128.size (k0_off1_inb i)).set.map m.view.emb := by
  show ((m.view.slice (Rect.unit (s := S4x8x2112x128) (k0_off1 i) S1x8x2112x128.size (k0_off1_inb i))).reshape _ _).set = _
  rw [View.set_reshape, View.set_slice]

theorem rect_row (i : Dev nD) (y : S4x8x2112x128.Idx) :
    y ∈ (Rect.unit (s := S4x8x2112x128) (k0_off1 i) S1x8x2112x128.size (k0_off1_inb i)).set ↔ y 0 = i := by
  rw [LoadRect.mem_set]
  constructor
  · intro h
    obtain ⟨j, hj, h⟩ := h 0
    have hj' : j < 1 := hj
    have h' : (y 0).val = k0_off1 i 0 + 1 * j := h
    rw [k0_off1_eq] at h'
    have h'' : (y 0).val = i.val + 1 * j := h'
    exact Fin.ext (by omega)
  · intro h a
    have e : (y 0).val = i.val := congrArg Fin.val h
    refine ⟨(y a).val - k0_off1 i a, ?_, ?_⟩
    · show (y a).val - k0_off1 i a < S1x8x2112x128.size a
      rw [k0_off1_eq]
      match a with
      | 0 => show (y 0).val - i.val < 1; omega
      | 1 => show (y 1).val - 0 < 8; have h : (y 1).val < 8 := (y 1).isLt; omega
      | 2 => show (y 2).val - 0 < 2112; have h : (y 2).val < 2112 := (y 2).isLt; omega
      | 3 => show (y 3).val - 0 < 128; have h : (y 3).val < 128 := (y 3).isLt; omega
    · show (y a).val = k0_off1 i a + 1 * ((y a).val - k0_off1 i a)
      rw [k0_off1_eq]
      match a with
      | 0 => show (y 0).val = i.val + 1 * ((y 0).val - i.val); omega
      | 1 => show (y 1).val = 0 + 1 * ((y 1).val - 0); omega
      | 2 => show (y 2).val = 0 + 1 * ((y 2).val - 0); omega
      | 3 => show (y 3).val = 0 + 1 * ((y 3).val - 0); omega

theorem row_split (m : Memref sig .tc .hbm S4x8x2112x128 .bf16) (c i : Dev nD) (f : Buf (Elt F) ((row m i).view.loc (c : Thread nD τ))) :
    (rowPt m c i fullShare f : sProp 𝕄) ⊢ iprop(rowPt m c i (fullShare : PosShare TreeShare).left f ∗ rowPt m c i (shares3 (fullShare : PosShare TreeShare).right 0) f
      ∗ rowPt m c i (shares3 (fullShare : PosShare TreeShare).right 1) f ∗ rowPt m c i (shares3 (fullShare : PosShare TreeShare).right 2) f) := by
  unfold rowPt
  iintro H
  ihave H2 := ((pointsTo_share (PosShare.mem_left_op_right (fullShare : PosShare TreeShare))).1) $$ H
  icases H2 with ⟨HL, HR⟩
  isplitl [HL]; · iexact HL
  iapply ((pointsTo_thirds _ _).1) $$ HR

theorem row_join (m : Memref sig .tc .hbm S4x8x2112x128 .bf16) (c i : Dev nD) (f : Buf (Elt F) ((row m i).view.loc (c : Thread nD τ))) :
    iprop(rowPt m c i (fullShare : PosShare TreeShare).left f ∗ rowPt m c i (shares3 (fullShare : PosShare TreeShare).right 0) f
      ∗ rowPt m c i (shares3 (fullShare : PosShare TreeShare).right 1) f ∗ rowPt m c i (shares3 (fullShare : PosShare TreeShare).right 2) f) ⊢ (rowPt m c i fullShare f : sProp 𝕄) := by
  unfold rowPt
  iintro ⟨HL, HR⟩
  iapply ((pointsTo_share (PosShare.mem_left_op_right (fullShare : PosShare TreeShare))).2)
  isplitl [HL]; · iexact HL
  iapply ((pointsTo_thirds _ _).2) $$ HR

theorem dev_list (c : Dev nD) : (Finset.univ : Finset (Dev nD)) = [c, pe c 0, pe c 1, pe c 2].toFinset := by revert c; decide
theorem dev_nodup (c : Dev nD) : [c, pe c 0, pe c 1, pe c 2].Nodup := by revert c; decide

theorem kg_mem (i : Dev nD) (y : S4x8x2112x128.Idx) : y ∈ (row kgM i).view.set ↔ y 0 = i := by
  rw [row_set]
  constructor
  · intro h
    obtain ⟨x, hx, rfl⟩ := Finset.mem_map.mp h
    exact (rect_row i x).mp hx
  · intro h
    exact Finset.mem_map.mpr ⟨y, (rect_row i y).mpr h, rfl⟩

theorem kg_rows (c : Dev nD) (f : Buf (Elt F) (kgM.view.loc (c : Thread nD τ))) :
    ((kgM.view.loc (c : Thread nD τ)) ↦{fullShare} f : sProp 𝕄) = iprop(rowPt kgM c c fullShare f ∗ rowPt kgM c (pe c 0) fullShare f ∗ rowPt kgM c (pe c 1) fullShare f ∗ rowPt kgM c (pe c 2) fullShare f) := by
  rw [Idealize.ShloMosaic.Ring.pointsTo_blocks (B := Dev nD) (fun i => (row kgM i).view.set)
    (fun b b' hb => Finset.disjoint_left.mpr fun y hy hy' => hb (((kg_mem b y).mp hy).symm.trans ((kg_mem b' y).mp hy')))
    (Finset.eq_univ_iff_forall.mpr fun y => Finset.mem_biUnion.mpr ⟨y 0, Finset.mem_univ _, (kg_mem _ y).mpr rfl⟩) f,
    bigSep_univ_eq_bigSepL [c, pe c 0, pe c 1, pe c 2] (dev_list c) (dev_nodup c)]
  rfl

theorem vg_mem (i : Dev nD) (y : S4x8x2112x128.Idx) : y ∈ (row vgM i).view.set ↔ y 0 = i := by
  rw [row_set]
  constructor
  · intro h
    obtain ⟨x, hx, rfl⟩ := Finset.mem_map.mp h
    exact (rect_row i x).mp hx
  · intro h
    exact Finset.mem_map.mpr ⟨y, (rect_row i y).mpr h, rfl⟩

theorem vg_rows (c : Dev nD) (f : Buf (Elt F) (vgM.view.loc (c : Thread nD τ))) :
    ((vgM.view.loc (c : Thread nD τ)) ↦{fullShare} f : sProp 𝕄) = iprop(rowPt vgM c c fullShare f ∗ rowPt vgM c (pe c 0) fullShare f ∗ rowPt vgM c (pe c 1) fullShare f ∗ rowPt vgM c (pe c 2) fullShare f) := by
  rw [Idealize.ShloMosaic.Ring.pointsTo_blocks (B := Dev nD) (fun i => (row vgM i).view.set)
    (fun b b' hb => Finset.disjoint_left.mpr fun y hy hy' => hb (((vg_mem b y).mp hy).symm.trans ((vg_mem b' y).mp hy')))
    (Finset.eq_univ_iff_forall.mpr fun y => Finset.mem_biUnion.mpr ⟨y 0, Finset.mem_univ _, (vg_mem _ y).mpr rfl⟩) f,
    bigSep_univ_eq_bigSepL [c, pe c 0, pe c 1, pe c 2] (dev_list c) (dev_nodup c)]
  rfl

/-! ## What the body is given and what it leaves -/

/-- The duty tokens of the device. -/
def toksB (c : Dev nD) : sProp 𝕄 :=
  iprop(dutyTok ER (dc c cpK) 0 0 ∗ dutyTok ER (dc c cpV) 0 0 ∗ dutyTok ER (barCell (pe c 0)) 0 0 ∗ dutyTok ER (barCell (pe c 1)) 0 1 ∗ dutyTok ER (barCell (pe c 2)) 0 2 ∗ dutyTok ER (dc c chK) 0 0 ∗ dutyTok ER (dc c chK) 1 0 ∗ dutyTok ER (dc c chK) 2 0 ∗ dutyTok ER (dc c chK) 3 0 ∗ dutyTok ER (dc c chV) 0 0 ∗ dutyTok ER (dc c chV) 1 0 ∗ dutyTok ER (dc c chV) 2 0 ∗ dutyTok ER (dc c chV) 3 0 ∗ dutyTok ER (dc c sK0) 0 0 ∗ dutyTok ER (dc c sK1) 0 0 ∗ dutyTok ER (dc c sK2) 0 0 ∗ dutyTok ER (dc c sV0) 0 0 ∗ dutyTok ER (dc c sV1) 0 0 ∗ dutyTok ER (dc c sV2) 0 0 ∗ dutyTok ER (dc (pp c 0) rK0) 0 0 ∗ dutyTok ER (dc (pp c 1) rK1) 0 0 ∗ dutyTok ER (dc (pp c 2) rK2) 0 0 ∗ dutyTok ER (dc (pp c 0) rV0) 0 0 ∗ dutyTok ER (dc (pp c 1) rV1) 0 0 ∗ dutyTok ER (dc (pp c 2) rV2) 0 0)

/-- The credits the device starts with. -/
def credsB (c : Dev nD) : sProp 𝕄 :=
  iprop(cred (tallyAt (barCell c) () 3) ∗ cred (tallyAt (dc c rK0) () N) ∗ cred (tallyAt (dc c rK1) () N) ∗ cred (tallyAt (dc c rK2) () N) ∗ cred (tallyAt (dc c rV0) () N) ∗ cred (tallyAt (dc c rV1) () N) ∗ cred (tallyAt (dc c rV2) () N))

/-- The device's positions at its own cells, at the start. -/
def possB (c : Dev nD) : sProp 𝕄 :=
  iprop(atPos ER (barCell c) 0 ∅ 0 ∗ atPos ER (dc c cpK) 0 ∅ 0 ∗ atPos ER (dc c cpV) 0 ∅ 0 ∗ atPos ER (dc c chK) 0 ∅ 0 ∗ atPos ER (dc c chV) 0 ∅ 0 ∗ atPos ER (dc c sK0) 0 ∅ 0 ∗ atPos ER (dc c sK1) 0 ∅ 0 ∗ atPos ER (dc c sK2) 0 ∅ 0 ∗ atPos ER (dc c rK0) 0 ∅ 0 ∗ atPos ER (dc c rK1) 0 ∅ 0 ∗ atPos ER (dc c rK2) 0 ∅ 0 ∗ atPos ER (dc c sV0) 0 ∅ 0 ∗ atPos ER (dc c sV1) 0 ∅ 0 ∗ atPos ER (dc c sV2) 0 ∅ 0 ∗ atPos ER (dc c rV0) 0 ∅ 0 ∗ atPos ER (dc c rV1) 0 ∅ 0 ∗ atPos ER (dc c rV2) 0 ∅ 0)

/-- The device's own counters, at zero. -/
def zerosB (c : Dev nD) : sProp 𝕄 :=
  iprop(semVal (barCell c) 0 ∗ semVal (dc c cpK) 0 ∗ semVal (dc c cpV) 0 ∗ semVal (dc c chK) 0 ∗ semVal (dc c chV) 0 ∗ semVal (dc c sK0) 0 ∗ semVal (dc c sK1) 0 ∗ semVal (dc c sK2) 0 ∗ semVal (dc c rK0) 0 ∗ semVal (dc c rK1) 0 ∗ semVal (dc c rK2) 0 ∗ semVal (dc c sV0) 0 ∗ semVal (dc c sV1) 0 ∗ semVal (dc c sV2) 0 ∗ semVal (dc c rV0) 0 ∗ semVal (dc c rV1) 0 ∗ semVal (dc c rV2) 0)

/-- The gathered arrays, row by row. -/
def rowsB (c : Dev nD) (fk : Buf (Elt F) (kgM.view.loc (c : Thread nD τ))) (fv : Buf (Elt F) (vgM.view.loc (c : Thread nD τ))) : sProp 𝕄 :=
  iprop((kgM.view.loc (c : Thread nD τ) ↦{fullShare} fk) ∗ (vgM.view.loc (c : Thread nD τ) ↦{fullShare} fv))

/-- The five scratch arrays at some contents. -/
def scrB (c : Dev nD) : sProp 𝕄 :=
  iprop((∃ A, owned (U := UU) c accM A) ∗ (∃ A, owned (U := UU) c kcM A) ∗ (∃ A, owned (U := UU) c vcM A) ∗ (∃ A, owned (U := UU) c mM A) ∗ (∃ A, owned (U := UU) c lM A))

/-- The state after the chunks taken in turn. -/
def stA (Q : Vec F S8x2112x128 .bf16) (c : Dev nD) : Fl F := diagSt Q (Kv c) (Vv c) (diagB (F := F)) (attSt (chunkW c 0#32) Q (Kv c) (Vv c) initSt)
def stB (Q : Vec F S8x2112x128 .bf16) (c : Dev nD) : Fl F := attSt (chunkW c 1#32) Q (Kv (rowAt c 1)) (Vv (rowAt c 1)) (stA Kv Vv Q c)
def stC (Q : Vec F S8x2112x128 .bf16) (c : Dev nD) : Fl F := attSt (chunkW c 3#32) Q (Kv (rowAt c 2)) (Vv (rowAt c 2)) (stB Kv Vv Q c)
def stD (Q : Vec F S8x2112x128 .bf16) (c : Dev nD) : Fl F := attSt (chunkW c 2#32) Q (Kv (rowAt c 3)) (Vv (rowAt c 3)) (stC Kv Vv Q c)

/-- The block the kernel writes. -/
def outB (Q : Vec F S8x2112x128 .bf16) (W : Vec F S1024x1024 .bf16) (c : Dev nD) : Vec F S2112x1024 .f32 :=
  k0_pay1 (normSt (stD Kv Vv Q c).acc (stD Kv Vv Q c).sm (fun _ => Scalar.ofBits .f32 0#32)) W

/-- The device's positions at its own cells, at the end. -/
def possE (c : Dev nD) : sProp 𝕄 :=
  iprop(atPos ER (barCell c) (0 + 1) ∅ 0 ∗ atPos ER (dc c cpK) (0 + 1) ∅ 0 ∗ atPos ER (dc c cpV) (0 + 1) ∅ 0 ∗ atPos ER (dc c chK) (3 + 1) ∅ 0 ∗ atPos ER (dc c chV) (3 + 1) ∅ 0 ∗ atPos ER (dc c sK0) (0 + 1) ∅ 0 ∗ atPos ER (dc c sK1) (0 + 1) ∅ 0 ∗ atPos ER (dc c sK2) (0 + 1) ∅ 0 ∗ atPos ER (dc c rK0) (0 + 1) ∅ 0 ∗ atPos ER (dc c rK1) (0 + 1) ∅ 0 ∗ atPos ER (dc c rK2) (0 + 1) ∅ 0 ∗ atPos ER (dc c sV0) (0 + 1) ∅ 0 ∗ atPos ER (dc c sV1) (0 + 1) ∅ 0 ∗ atPos ER (dc c sV2) (0 + 1) ∅ 0 ∗ atPos ER (dc c rV0) (0 + 1) ∅ 0 ∗ atPos ER (dc c rV1) (0 + 1) ∅ 0 ∗ atPos ER (dc c rV2) (0 + 1) ∅ 0)

theorem pers_chK (K : GSem nD τ sig → ℕ) (c : Dev nD) : pers Kv Vv K c ⊢ (reached ER (dc c chK) 0 : sProp 𝕄) := by
  unfold pers
  iintro ⟨-, -, -, -, -, -, -, H, -⟩
  iexact H

theorem pers_chV (K : GSem nD τ sig → ℕ) (c : Dev nD) : pers Kv Vv K c ⊢ (reached ER (dc c chV) 0 : sProp 𝕄) := by
  unfold pers
  iintro ⟨-, -, -, -, -, -, -, -, H, -⟩
  iexact H

set_option maxHeartbeats 4000000 in
/-- The body on device `c`. -/
theorem body_run (K : GSem nD τ sig → ℕ) (c : Dev nD) (fk : Buf (Elt F) (kgM.view.loc (c : Thread nD τ))) (fv : Buf (Elt F) (vgM.view.loc (c : Thread nD τ)))
    (a0 : Memref sig .tc .vmem S8x2112x128 .bf16) (harg0 : a0.IsWhole) (harg1 : kM.IsWhole) (harg2 : vM.IsWhole) (a3 : Memref sig .tc .vmem S1024x1024 .bf16) (harg3 : a3.IsWhole) (a4 : Memref sig .tc .vmem S2112x1024 .f32) (harg4 : a4.IsWhole)
    (harg5 : kgM.IsWhole) (harg6 : vgM.IsWhole) (harg7 : accM.IsWhole) (harg8 : kcM.IsWhole) (harg9 : vcM.IsWhole) (harg10 : mM.IsWhole) (harg11 : lM.IsWhole)
    (Q : Vec F S8x2112x128 .bf16) (W : Vec F S1024x1024 .bf16) (O : Vec F S2112x1024 .f32) (Kt : Unit → sProp 𝕄) :
    iprop((pers Kv Vv K c ∗ toksB c ∗ credsB c ∗ possB c ∗ ow c (O₀ c) ∗ kop Kv c ∗ vop Vv c ∗ rowsB c fk fv ∗ scrB c ∗ owned (U := UU) c a0 Q ∗ owned (U := UU) c a3 W ∗ owned (U := UU) c a4 O)
      ∗ ((possE c ∗ kop Kv c ∗ vop Vv c ∗ rowsB c (gath Kv) (gath Vv) ∗ scrB c ∗ owned (U := UU) c a0 Q ∗ owned (U := UU) c a3 W ∗ owned (U := UU) c a4 (outB Kv Vv Q W c) ∗ ow c (O6 c)) -∗ Kt ⟨⟩))
      ⊢ wp frame (wpE D 𝒱₀ (c : Thread nD τ) none) Set.univ
        (cc0_body (F := F) a0 harg0 kM harg1 vM harg2 a3 harg3 a4 harg4 kgM harg5 vgM harg6 accM harg7 kcM harg8 vcM harg9 mM harg10 lM harg11 cc0_scratch5 cc0_scratch6 cc0_scratch7 cc0_scratch8 cc0_scratch9 cc0_scratch10) Kt := by
  rw [cc0_body_eq]
  simp only [Prog.lift, Prog.bind_op, Prog.bind_ret, bindP, wp_deviceId]
  unfold bodyR toksB credsB possB rowsB scrB
  rw [kg_rows, vg_rows]
  iintro ⟨⟨#HP, ⟨TcpK, TcpV, Tb0, Tb1, Tb2, TchK0, TchK1, TchK2, TchK3, TchV0, TchV1, TchV2, TchV3, TsK0, TsK1, TsK2, TsV0, TsV1, TsV2, TrK0, TrK1, TrK2, TrV0, TrV1, TrV2⟩, ⟨Cb, CrK0, CrK1, CrK2, CrV0, CrV1, CrV2⟩, ⟨Ab, AcpK, AcpV, AchK, AchV, AsK0, AsK1, AsK2, ArK0, ArK1, ArK2, AsV0, AsV1, AsV2, ArV0, ArV1, ArV2⟩, HO, Hko, Hvo, ⟨⟨Hgk, Hgk0, Hgk1, Hgk2⟩, ⟨Hgv, Hgv0, Hgv1, Hgv2⟩⟩, ⟨⟨%A, HA⟩, ⟨%VK, HK⟩, ⟨%VV, HV⟩, ⟨%M, HM⟩, ⟨%Lx, HL⟩⟩, HQ, HW, HOut⟩, Hk⟩
  rw [wp_bind]
  iapply (startP_run Kv Vv D K c fk fv harg1 harg2 harg5 harg6 _)
  isplitl [Hko Hvo Hgk Hgv Hgk0 Hgv0 Hgk1 Hgv1 Hgk2 Hgv2 TcpK TcpV Tb0 Tb1 Tb2 Cb HO Ab]
  · isplitr; · iexact HP
    isplitl [Hko]; · iexact Hko
    isplitl [Hvo]; · iexact Hvo
    isplitl [Hgk]; · iexact Hgk
    isplitl [Hgv]; · iexact Hgv
    isplitl [Hgk0]; · iexact Hgk0
    isplitl [Hgv0]; · iexact Hgv0
    isplitl [Hgk1]; · iexact Hgk1
    isplitl [Hgv1]; · iexact Hgv1
    isplitl [Hgk2]; · iexact Hgk2
    isplitl [Hgv2]; · iexact Hgv2
    isplitl [TcpK]; · iexact TcpK
    isplitl [TcpV]; · iexact TcpV
    isplitl [Tb0]; · iexact Tb0
    isplitl [Tb1]; · iexact Tb1
    isplitl [Tb2]; · iexact Tb2
    isplitl [Cb]; · iexact Cb
    isplitl [HO]; · iexact HO
    iexact Ab
  iintro ⟨CcpK, CcpV, HO, Ab, Bp0, Bp1, Bp2⟩
  rw [wp_bind]
  iapply (waitP_run Kv Vv D K c harg1 harg2 harg5 harg6 _)
  isplitl [CcpK CcpV HO AcpK AcpV]
  · isplitr; · iexact HP
    isplitl [CcpK]; · iexact CcpK
    isplitl [CcpV]; · iexact CcpV
    isplitl [HO]; · iexact HO
    isplitl [AcpK]; · iexact AcpK
    iexact AcpV
  iintro ⟨HO, AcpK, AcpV, Hko, Hvo, Hgk, Hgv⟩
  ihave HkS := (row_split kgM c c (gath Kv)) $$ Hgk
  icases HkS with ⟨HgkL, Hk0, Hk1, Hk2⟩
  ihave HvS := (row_split vgM c c (gath Vv)) $$ Hgv
  icases HvS with ⟨HgvL, Hv0, Hv1, Hv2⟩
  rw [dev4, dev5, dev6, dev7, dev8, dev9]
  rw [wp_bind]
  iapply (sendP0_run Kv Vv D K c harg5 harg6 _)
  isplitl [Hk0 Hv0 Bp0 HO TsK0 TsV0 TrK0 TrV0]
  · isplitr; · iexact HP
    isplitl [Hk0]; · iexact Hk0
    isplitl [Hv0]; · iexact Hv0
    isplitl [Bp0]; · iexact Bp0
    isplitl [HO]; · iexact HO
    isplitl [TsK0]; · iexact TsK0
    isplitl [TsV0]; · iexact TsV0
    isplitl [TrK0]; · iexact TrK0
    iexact TrV0
  iintro ⟨CsK0, CsV0, HO⟩
  rw [wp_bind]
  iapply (sendP2_run Kv Vv D K c harg5 harg6 _)
  isplitl [Hk2 Hv2 Bp2 HO TsK2 TsV2 TrK2 TrV2]
  · isplitr; · iexact HP
    isplitl [Hk2]; · iexact Hk2
    isplitl [Hv2]; · iexact Hv2
    isplitl [Bp2]; · iexact Bp2
    isplitl [HO]; · iexact HO
    isplitl [TsK2]; · iexact TsK2
    isplitl [TsV2]; · iexact TsV2
    isplitl [TrK2]; · iexact TrK2
    iexact TrV2
  iintro ⟨CsK2, CsV2, HO⟩
  rw [wp_bind]
  iapply (sendP1_run Kv Vv D K c harg5 harg6 _)
  isplitl [Hk1 Hv1 Bp1 HO TsK1 TsV1 TrK1 TrV1]
  · isplitr; · iexact HP
    isplitl [Hk1]; · iexact Hk1
    isplitl [Hv1]; · iexact Hv1
    isplitl [Bp1]; · iexact Bp1
    isplitl [HO]; · iexact HO
    isplitl [TsK1]; · iexact TsK1
    isplitl [TsV1]; · iexact TsV1
    isplitl [TrK1]; · iexact TrK1
    iexact TrV1
  iintro ⟨CsK1, CsV1, HO⟩
  rw [wp_bind]
  iapply (initP_run D 𝒱₀ c accM mM harg10 lM harg11 _ _ _ _)
  isplitl [HA HM HL]
  · isplitl [HA]; · iexact HA
    isplitl [HM]; · iexact HM
    iexact HL
  iintro ⟨HA, HM, HL⟩
  ihave #RK0 := (pers_chK Kv Vv K c) $$ HP
  ihave #RV0 := (pers_chV Kv Vv K c) $$ HP
  ihave RK := (pers_chK Kv Vv K c) $$ HP
  ihave RV := (pers_chV Kv Vv K c) $$ HP
  rw [wp_bind]
  iapply (chunkP0_run Kv Vv D K c VK VV harg5 harg6 harg8 harg9 _ _ _)
  isplitl [HgkL HgvL HK HV TchK0 TchV0 RK RV HO AchK AchV]
  · isplitr; · iexact HP
    isplitl [HgkL]; · iexact HgkL
    isplitl [HgvL]; · iexact HgvL
    isplitl [HK]; · iexact HK
    isplitl [HV]; · iexact HV
    isplitl [TchK0]; · iexact TchK0
    isplitl [TchV0]; · iexact TchV0
    isplitl [RK]; · iexact RK
    isplitl [RV]; · iexact RV
    isplitl [HO]; · iexact HO
    isplitl [AchK]; · iexact AchK
    iexact AchV
  iintro ⟨HgkL, HgvL, HK, HV, RK, RV, HO, AchK, AchV⟩
  rw [wp_bind]
  iapply (attP_run D 𝒱₀ c a0 accM kcM vcM mM harg10 lM harg11 (chunkW c 0#32) Q (Kv c) (Vv c) initSt _)
  unfold comp
  isplitl [HQ HK HV HA HM HL]
  · isplitl [HQ]; · iexact HQ
    isplitl [HK]; · iexact HK
    isplitl [HV]; · iexact HV
    isplitl [HA]; · iexact HA
    isplitl [HM]; · iexact HM
    iexact HL
  iintro ⟨HQ, HK, HV, HA, HM, HL⟩
  rw [wp_bind]
  iapply (diagAll_run D 𝒱₀ c a0 accM kcM vcM mM harg10 lM harg11 diagB Q (Kv c) (Vv c) (attSt (chunkW c 0#32) Q (Kv c) (Vv c) initSt) _)
  unfold comp
  isplitl [HQ HK HV HA HM HL]
  · isplitl [HQ]; · iexact HQ
    isplitl [HK]; · iexact HK
    isplitl [HV]; · iexact HV
    isplitl [HA]; · iexact HA
    isplitl [HM]; · iexact HM
    iexact HL
  iintro ⟨HQ, HK, HV, HA, HM, HL⟩
  rw [wp_bind]
  iapply (recvP0_run Kv Vv D K c harg5 harg6 _ _ _)
  isplitl [CrK0 CrV0 HO ArK0 ArV0]
  · isplitr; · iexact HP
    isplitl [CrK0]; · iexact CrK0
    isplitl [CrV0]; · iexact CrV0
    isplitl [HO]; · iexact HO
    isplitl [ArK0]; · iexact ArK0
    iexact ArV0
  iintro ⟨HO, ArK0, ArV0, Hgk0, Hgv0⟩
  rw [wp_bind]
  iapply (chunkP1_run Kv Vv D K c (Kv c) (Vv c) harg5 harg6 harg8 harg9 _ _ _)
  isplitl [Hgk0 Hgv0 HK HV TchK1 TchV1 RK RV HO AchK AchV]
  · isplitr; · iexact HP
    isplitl [Hgk0]; · iexact Hgk0
    isplitl [Hgv0]; · iexact Hgv0
    isplitl [HK]; · iexact HK
    isplitl [HV]; · iexact HV
    isplitl [TchK1]; · iexact TchK1
    isplitl [TchV1]; · iexact TchV1
    isplitl [RK]; · iexact RK
    isplitl [RV]; · iexact RV
    isplitl [HO]; · iexact HO
    isplitl [AchK]; · iexact AchK
    iexact AchV
  iintro ⟨Hgk0, Hgv0, HK, HV, RK, RV, HO, AchK, AchV⟩
  rw [wp_bind]
  iapply (attP_run D 𝒱₀ c a0 accM kcM vcM mM harg10 lM harg11 (chunkW c 1#32) Q (Kv (rowAt c 1)) (Vv (rowAt c 1)) (stA Kv Vv Q c) _)
  unfold comp
  isplitl [HQ HK HV HA HM HL]
  · isplitl [HQ]; · iexact HQ
    isplitl [HK]; · iexact HK
    isplitl [HV]; · iexact HV
    isplitl [HA]; · iexact HA
    isplitl [HM]; · iexact HM
    iexact HL
  iintro ⟨HQ, HK, HV, HA, HM, HL⟩
  rw [wp_bind]
  iapply (recvP2_run Kv Vv D K c harg5 harg6 _ _ _)
  isplitl [CrK2 CrV2 HO ArK2 ArV2]
  · isplitr; · iexact HP
    isplitl [CrK2]; · iexact CrK2
    isplitl [CrV2]; · iexact CrV2
    isplitl [HO]; · iexact HO
    isplitl [ArK2]; · iexact ArK2
    iexact ArV2
  iintro ⟨HO, ArK2, ArV2, Hgk2, Hgv2⟩
  rw [wp_bind]
  iapply (chunkP2_run Kv Vv D K c (Kv (rowAt c 1)) (Vv (rowAt c 1)) harg5 harg6 harg8 harg9 _ _ _)
  isplitl [Hgk2 Hgv2 HK HV TchK2 TchV2 RK RV HO AchK AchV]
  · isplitr; · iexact HP
    isplitl [Hgk2]; · iexact Hgk2
    isplitl [Hgv2]; · iexact Hgv2
    isplitl [HK]; · iexact HK
    isplitl [HV]; · iexact HV
    isplitl [TchK2]; · iexact TchK2
    isplitl [TchV2]; · iexact TchV2
    isplitl [RK]; · iexact RK
    isplitl [RV]; · iexact RV
    isplitl [HO]; · iexact HO
    isplitl [AchK]; · iexact AchK
    iexact AchV
  iintro ⟨Hgk2, Hgv2, HK, HV, RK, RV, HO, AchK, AchV⟩
  rw [wp_bind]
  iapply (attP_run D 𝒱₀ c a0 accM kcM vcM mM harg10 lM harg11 (chunkW c 3#32) Q (Kv (rowAt c 2)) (Vv (rowAt c 2)) (stB Kv Vv Q c) _)
  unfold comp
  isplitl [HQ HK HV HA HM HL]
  · isplitl [HQ]; · iexact HQ
    isplitl [HK]; · iexact HK
    isplitl [HV]; · iexact HV
    isplitl [HA]; · iexact HA
    isplitl [HM]; · iexact HM
    iexact HL
  iintro ⟨HQ, HK, HV, HA, HM, HL⟩
  rw [wp_bind]
  iapply (recvP1_run Kv Vv D K c harg5 harg6 _ _ _)
  isplitl [CrK1 CrV1 HO ArK1 ArV1]
  · isplitr; · iexact HP
    isplitl [CrK1]; · iexact CrK1
    isplitl [CrV1]; · iexact CrV1
    isplitl [HO]; · iexact HO
    isplitl [ArK1]; · iexact ArK1
    iexact ArV1
  iintro ⟨HO, ArK1, ArV1, Hgk1, Hgv1⟩
  rw [wp_bind]
  iapply (chunkP3_run Kv Vv D K c (Kv (rowAt c 2)) (Vv (rowAt c 2)) harg5 harg6 harg8 harg9 _ _ _)
  isplitl [Hgk1 Hgv1 HK HV TchK3 TchV3 RK RV HO AchK AchV]
  · isplitr; · iexact HP
    isplitl [Hgk1]; · iexact Hgk1
    isplitl [Hgv1]; · iexact Hgv1
    isplitl [HK]; · iexact HK
    isplitl [HV]; · iexact HV
    isplitl [TchK3]; · iexact TchK3
    isplitl [TchV3]; · iexact TchV3
    isplitl [RK]; · iexact RK
    isplitl [RV]; · iexact RV
    isplitl [HO]; · iexact HO
    isplitl [AchK]; · iexact AchK
    iexact AchV
  iintro ⟨Hgk1, Hgv1, HK, HV, RK, RV, HO, AchK, AchV⟩
  rw [wp_bind]
  iapply (attP_run D 𝒱₀ c a0 accM kcM vcM mM harg10 lM harg11 (chunkW c 2#32) Q (Kv (rowAt c 3)) (Vv (rowAt c 3)) (stC Kv Vv Q c) _)
  unfold comp
  isplitl [HQ HK HV HA HM HL]
  · isplitl [HQ]; · iexact HQ
    isplitl [HK]; · iexact HK
    isplitl [HV]; · iexact HV
    isplitl [HA]; · iexact HA
    isplitl [HM]; · iexact HM
    iexact HL
  iintro ⟨HQ, HK, HV, HA, HM, HL⟩
  rw [wp_bind]
  iapply (sentP0_run Kv Vv D K c harg5 harg6 _)
  isplitl [CsK0 CsV0 HO AsK0 AsV0]
  · isplitr; · iexact HP
    isplitl [CsK0]; · iexact CsK0
    isplitl [CsV0]; · iexact CsV0
    isplitl [HO]; · iexact HO
    isplitl [AsK0]; · iexact AsK0
    iexact AsV0
  iintro ⟨HO, AsK0, AsV0, Hk0, Hv0⟩
  rw [wp_bind]
  iapply (sentP2_run Kv Vv D K c harg5 harg6 _)
  isplitl [CsK2 CsV2 HO AsK2 AsV2]
  · isplitr; · iexact HP
    isplitl [CsK2]; · iexact CsK2
    isplitl [CsV2]; · iexact CsV2
    isplitl [HO]; · iexact HO
    isplitl [AsK2]; · iexact AsK2
    iexact AsV2
  iintro ⟨HO, AsK2, AsV2, Hk2, Hv2⟩
  rw [wp_bind]
  iapply (sentP1_run Kv Vv D K c harg5 harg6 _)
  isplitl [CsK1 CsV1 HO AsK1 AsV1]
  · isplitr; · iexact HP
    isplitl [CsK1]; · iexact CsK1
    isplitl [CsV1]; · iexact CsV1
    isplitl [HO]; · iexact HO
    isplitl [AsK1]; · iexact AsK1
    iexact AsV1
  iintro ⟨HO, AsK1, AsV1, Hk1, Hv1⟩
  rw [wp_bind]
  iapply (normAll_run D 𝒱₀ c a4 accM lM _ _ O _)
  isplitl [HA HL HOut]
  · isplitl [HA]; · iexact HA
    isplitl [HL]; · iexact HL
    iexact HOut
  iintro ⟨HA, HL, HOut⟩
  iapply (outP_run D 𝒱₀ c a3 a4 W _ _)
  isplitl [HW HOut]
  · isplitl [HW]; · iexact HW
    iexact HOut
  iintro ⟨HW, HOut⟩
  ihave Hgk := (row_join kgM c c (gath Kv)) $$ [HgkL Hk0 Hk1 Hk2]
  · isplitl [HgkL]; · iexact HgkL
    isplitl [Hk0]; · iexact Hk0
    isplitl [Hk1]; · iexact Hk1
    iexact Hk2
  ihave Hgv := (row_join vgM c c (gath Vv)) $$ [HgvL Hv0 Hv1 Hv2]
  · isplitl [HgvL]; · iexact HgvL
    isplitl [Hv0]; · iexact Hv0
    isplitl [Hv1]; · iexact Hv1
    iexact Hv2
  iapply Hk
  unfold possE
  rw [kg_rows, vg_rows]
  unfold outB
  isplitl [Ab AcpK AcpV AchK AchV AsK0 AsK1 AsK2 ArK0 ArK1 ArK2 AsV0 AsV1 AsV2 ArV0 ArV1 ArV2]
  · isplitl [Ab]; · iexact Ab
    isplitl [AcpK]; · iexact AcpK
    isplitl [AcpV]; · iexact AcpV
    isplitl [AchK]; · iexact AchK
    isplitl [AchV]; · iexact AchV
    isplitl [AsK0]; · iexact AsK0
    isplitl [AsK1]; · iexact AsK1
    isplitl [AsK2]; · iexact AsK2
    isplitl [ArK0]; · iexact ArK0
    isplitl [ArK1]; · iexact ArK1
    isplitl [ArK2]; · iexact ArK2
    isplitl [AsV0]; · iexact AsV0
    isplitl [AsV1]; · iexact AsV1
    isplitl [AsV2]; · iexact AsV2
    isplitl [ArV0]; · iexact ArV0
    isplitl [ArV1]; · iexact ArV1
    iexact ArV2
  isplitl [Hko]; · iexact Hko
  isplitl [Hvo]; · iexact Hvo
  isplitl [Hgk Hgk0 Hgk1 Hgk2 Hgv Hgv0 Hgv1 Hgv2]
  · isplitl [Hgk Hgk0 Hgk1 Hgk2]
    · isplitl [Hgk]; · iexact Hgk
      isplitl [Hgk0]; · iexact Hgk0
      isplitl [Hgk1]; · iexact Hgk1
      iexact Hgk2
    · isplitl [Hgv]; · iexact Hgv
      isplitl [Hgv0]; · iexact Hgv0
      isplitl [Hgv1]; · iexact Hgv1
      iexact Hgv2
  isplitl [HA HK HV HM HL]
  · isplitl [HA]; · iexists _; iexact HA
    isplitl [HK]; · iexists _; iexact HK
    isplitl [HV]; · iexists _; iexact HV
    isplitl [HM]; · iexists _; iexact HM
    iexists _; iexact HL
  isplitl [HQ]; · iexact HQ
  isplitl [HW]; · iexact HW
  isplitl [HOut]; · rw [normSt_any _ _ (fun _ => Scalar.ofBits .f32 0#32) O]; iexact HOut
  iexact HO

/-- Its counters, closed. -/
theorem close_all (K : GSem nD τ sig → ℕ) (c : Dev nD) : iprop(pers Kv Vv K c ∗ possE c) ⊢ (|={Set.univ}=> zerosB c : sProp 𝕄) := by
  unfold pers possE zerosB
  iintro ⟨⟨#HI, -⟩, Ab, AcpK, AcpV, AchK, AchV, AsK0, AsK1, AsK2, ArK0, ArK1, ArK2, AsV0, AsV1, AsV2, ArV0, ArV1, ArV2⟩
  imod (close_bar Kv Vv (K (barCell c)) c) $$ [Ab] with Zb
  · isplitr; · iapply (inv_bar Kv Vv K c); iexact HI
    iexact Ab
  imod (close_dma Kv Vv (K (dc c cpK)) c cpK (0 + 1) (by decide)) $$ [AcpK] with ZcpK
  · isplitr; · iapply (inv_dma Kv Vv K c cpK (by decide)); iexact HI
    iexact AcpK
  imod (close_dma Kv Vv (K (dc c cpV)) c cpV (0 + 1) (by decide)) $$ [AcpV] with ZcpV
  · isplitr; · iapply (inv_dma Kv Vv K c cpV (by decide)); iexact HI
    iexact AcpV
  imod (close_dma Kv Vv (K (dc c chK)) c chK (3 + 1) (by decide)) $$ [AchK] with ZchK
  · isplitr; · iapply (inv_dma Kv Vv K c chK (by decide)); iexact HI
    iexact AchK
  imod (close_dma Kv Vv (K (dc c chV)) c chV (3 + 1) (by decide)) $$ [AchV] with ZchV
  · isplitr; · iapply (inv_dma Kv Vv K c chV (by decide)); iexact HI
    iexact AchV
  imod (close_dma Kv Vv (K (dc c sK0)) c sK0 (0 + 1) (by decide)) $$ [AsK0] with ZsK0
  · isplitr; · iapply (inv_dma Kv Vv K c sK0 (by decide)); iexact HI
    iexact AsK0
  imod (close_dma Kv Vv (K (dc c sK1)) c sK1 (0 + 1) (by decide)) $$ [AsK1] with ZsK1
  · isplitr; · iapply (inv_dma Kv Vv K c sK1 (by decide)); iexact HI
    iexact AsK1
  imod (close_dma Kv Vv (K (dc c sK2)) c sK2 (0 + 1) (by decide)) $$ [AsK2] with ZsK2
  · isplitr; · iapply (inv_dma Kv Vv K c sK2 (by decide)); iexact HI
    iexact AsK2
  imod (close_dma Kv Vv (K (dc c rK0)) c rK0 (0 + 1) (by decide)) $$ [ArK0] with ZrK0
  · isplitr; · iapply (inv_dma Kv Vv K c rK0 (by decide)); iexact HI
    iexact ArK0
  imod (close_dma Kv Vv (K (dc c rK1)) c rK1 (0 + 1) (by decide)) $$ [ArK1] with ZrK1
  · isplitr; · iapply (inv_dma Kv Vv K c rK1 (by decide)); iexact HI
    iexact ArK1
  imod (close_dma Kv Vv (K (dc c rK2)) c rK2 (0 + 1) (by decide)) $$ [ArK2] with ZrK2
  · isplitr; · iapply (inv_dma Kv Vv K c rK2 (by decide)); iexact HI
    iexact ArK2
  imod (close_dma Kv Vv (K (dc c sV0)) c sV0 (0 + 1) (by decide)) $$ [AsV0] with ZsV0
  · isplitr; · iapply (inv_dma Kv Vv K c sV0 (by decide)); iexact HI
    iexact AsV0
  imod (close_dma Kv Vv (K (dc c sV1)) c sV1 (0 + 1) (by decide)) $$ [AsV1] with ZsV1
  · isplitr; · iapply (inv_dma Kv Vv K c sV1 (by decide)); iexact HI
    iexact AsV1
  imod (close_dma Kv Vv (K (dc c sV2)) c sV2 (0 + 1) (by decide)) $$ [AsV2] with ZsV2
  · isplitr; · iapply (inv_dma Kv Vv K c sV2 (by decide)); iexact HI
    iexact AsV2
  imod (close_dma Kv Vv (K (dc c rV0)) c rV0 (0 + 1) (by decide)) $$ [ArV0] with ZrV0
  · isplitr; · iapply (inv_dma Kv Vv K c rV0 (by decide)); iexact HI
    iexact ArV0
  imod (close_dma Kv Vv (K (dc c rV1)) c rV1 (0 + 1) (by decide)) $$ [ArV1] with ZrV1
  · isplitr; · iapply (inv_dma Kv Vv K c rV1 (by decide)); iexact HI
    iexact ArV1
  imod (close_dma Kv Vv (K (dc c rV2)) c rV2 (0 + 1) (by decide)) $$ [ArV2] with ZrV2
  · isplitr; · iapply (inv_dma Kv Vv K c rV2 (by decide)); iexact HI
    iexact ArV2
  imodintro
  isplitl [Zb]; · iexact Zb
  isplitl [ZcpK]; · iexact ZcpK
  isplitl [ZcpV]; · iexact ZcpV
  isplitl [ZchK]; · iexact ZchK
  isplitl [ZchV]; · iexact ZchV
  isplitl [ZsK0]; · iexact ZsK0
  isplitl [ZsK1]; · iexact ZsK1
  isplitl [ZsK2]; · iexact ZsK2
  isplitl [ZrK0]; · iexact ZrK0
  isplitl [ZrK1]; · iexact ZrK1
  isplitl [ZrK2]; · iexact ZrK2
  isplitl [ZsV0]; · iexact ZsV0
  isplitl [ZsV1]; · iexact ZsV1
  isplitl [ZsV2]; · iexact ZsV2
  isplitl [ZrV0]; · iexact ZrV0
  isplitl [ZrV1]; · iexact ZrV1
  iexact ZrV2

end Cert.KernelIdeal.Flash
-- ==== Proof.Host.lean ====
module

public import proofs.«01_k».proof.Proof.Talk

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds

variable {F : FTy → Type} [FloatOps F] [Named F]

local notation "𝕄" => MT nD τ sig Unit (Elt F) ℕ UU ℕ

/-! ## The host code around the kernel: straight lines, and four branches on a word -/

abbrev adm : (p : Fin 1) → (pcfgs (F := F) p).Adm := fun p => (cfgs p).toPCfg_adm

abbrev bufs : Finset (DevRef τ sig) := Pipeline.ucRefs τ sig

/-- The effects of the program the host code is written in. -/
abbrev Eff (F : FTy → Type) [FloatOps F] [Named F] : Type → Type := TpuEff nD τ sig (Elt F) (Pipeline.Sig Λ₀ (Fin 1) fun p => (pcfgs (F := F) p).Adm) .tc

/-- An operation whose element picks one of three lines. -/
def caseProg (op : HloOp τ sig (Elt F)) (rdw : ((b : op.writes) → b.1.ty.Contents (Elt F)) → BitVec 32) (ops : Fin 3 → List (HloOp τ sig (Elt F))) :
    Prog (Eff F) PUnit :=
  hlo rfl op (fun w => .ret (rdw w)) >>= fun x => HostLoop.case 3 x fun j => StableHlo.seq (ops j)

theorem caseProg_eq (op : HloOp τ sig (Elt F)) (rdw : ((b : op.writes) → b.1.ty.Contents (Elt F)) → BitVec 32) (ops : Fin 3 → List (HloOp τ sig (Elt F)))
    (f : Fin 3 → Prog (Eff F) PUnit) (h0 : f 0 = StableHlo.seq (ops 0)) (h1 : f 1 = StableHlo.seq (ops 1)) (h2 : f 2 = StableHlo.seq (ops 2)) :
    (hlo rfl op (fun w => .ret (rdw w)) >>= fun x => HostLoop.case 3 x f) = caseProg op rdw ops := by
  unfold caseProg
  have : f = fun j => StableHlo.seq (ops j) := funext fun j => by
    match j with
    | 0 => exact h0
    | 1 => exact h1
    | 2 => exact h2
  rw [this]

/-- What the buffers hold after it. -/
def caseVal (op : HloOp τ sig (Elt F)) (rdw : ((b : op.writes) → b.1.ty.Contents (Elt F)) → BitVec 32) (ops : Fin 3 → List (HloOp τ sig (Elt F)))
    (V : Valuation τ sig (Elt F)) : Valuation τ sig (Elt F) :=
  StableHlo.after (ops (HostLoop.branch (rdw (op.fn fun b => V b.1)) 2)) (op.result V)

set_option backward.isDefEq.respectTransparency.types false in
/-- It as a segment. -/
def caseSeg (op : HloOp τ sig (Elt F)) (rdw : ((b : op.writes) → b.1.ty.Contents (Elt F)) → BitVec 32) (ops : Fin 3 → List (HloOp τ sig (Elt F)))
    (hop : op.bufs ⊆ bufs) (hof : op.fresh = ∅) (hS : ∀ j, ∀ o ∈ ops j, o.bufs ⊆ bufs) (hf : ∀ j, ∀ o ∈ ops j, o.fresh = ∅)
    (V : Dev nD → Valuation τ sig (Elt F)) (R : Dev nD → sProp 𝕄) : Pipeline.HostSeg (Name := ℕ) (U := UU) (pcfgs (F := F)) defs₀ 𝒱₀ L lv where
  prog := caseProg op rdw ops
  pre c := iprop(StableHlo.held (c.tc : Thread nD τ) bufs (V c) ∗ R c)
  post c := iprop(StableHlo.held (c.tc : Thread nD τ) bufs (caseVal op rdw ops (V c)) ∗ R c)
  run c {β} k K := by
    unfold caseProg caseVal
    rw [Prog.bind_assoc, wp_bind]
    iintro ⟨Hk, Hbd, ⟨Hh, HR⟩, -⟩
    iapply (StableHlo.wp_hlo_within _ (c.tc : Thread nD τ) none Set.univ (S := bufs) (V := V c) hop (hf := hof)) $$ [Hbd Hh]
    · isplitl [Hbd] <;> iassumption
    iintro ⟨Hbd, Hh⟩
    rw [wp_ret]; imodintro
    iapply (StableHlo.wp_seq _ none Set.univ c bufs k (K := K) (ops (HostLoop.branch (rdw (op.fn fun b => V c b.1)) 2)) (hS _) (hf _) (op.result (V c))) $$ [Hbd Hh]
    · isplitl [Hbd] <;> iassumption
    iintro ⟨Hbd, Hh⟩
    iapply Hk
    isplitl [Hbd]; · iexact Hbd
    isplitl [Hh] <;> iassumption

theorem mem_sub {ops : List (HloOp τ sig (Elt F))} (h : ops.Forall fun op => op.bufs ⊆ StableHlo.tcRefs τ sig) : ∀ op ∈ ops, op.bufs ⊆ bufs :=
  fun op ho => Pipeline.sub_ucRefs op ((List.forall_iff_forall_mem.mp h) op ho)

theorem mem_fresh {ops : List (HloOp τ sig (Elt F))} (h : ops.map HloOp.fresh = ops.map fun _ => (∅ : Finset (DevRef τ sig))) : ∀ op ∈ ops, op.fresh = ∅ :=
  fun op ho => (List.forall_iff_forall_mem.mp (StableHlo.forall_fresh_of_map h)) op ho

abbrev word (y : Ref sig .tc) (hy : y.ty = ⟨⟨0, ![]⟩, .i32⟩) (w : (b : ({(y : DevRef τ sig)} : Finset (DevRef τ sig))) → b.1.ty.Contents (Elt F)) : BitVec 32 :=
  cast (congrArg (BufTy.Contents (Elt F)) hy) (w ⟨y, Finset.mem_singleton_self _⟩) HostLoop.idx0

abbrev pick0 : HloOp τ sig (Elt F) :=
  StableHlo.ternary main_c_3 main_v6 main_c_4 main_v16 ((fun lo x hi => minsi (maxsi x lo) hi) : (⟨S_, .i32⟩ : BufTy).Contents (Elt F) → (⟨S_, .i32⟩ : BufTy).Contents (Elt F) → (⟨S_, .i32⟩ : BufTy).Contents (Elt F) → (⟨S_, .i32⟩ : BufTy).Contents (Elt F))

abbrev arm0_0 : List (HloOp τ sig (Elt F)) :=
  [ StableHlo.nary ![main_v11, main_v12, main_v15] main_case0b0_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case0b0_v53 main_v17 id ]
theorem arm0_0_sub : (arm0_0 : List (HloOp τ sig (Elt F))).Forall fun op => op.bufs ⊆ StableHlo.tcRefs τ sig :=
  ⟨StableHlo.nary_bufs_sub .., StableHlo.unary_bufs_sub ..⟩

abbrev arm0_1 : List (HloOp τ sig (Elt F)) :=
  [ StableHlo.nary ![main_v15, main_v11, main_v12] main_case0b1_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case0b1_v53 main_v17 id ]
theorem arm0_1_sub : (arm0_1 : List (HloOp τ sig (Elt F))).Forall fun op => op.bufs ⊆ StableHlo.tcRefs τ sig :=
  ⟨StableHlo.nary_bufs_sub .., StableHlo.unary_bufs_sub ..⟩

abbrev arm0_2 : List (HloOp τ sig (Elt F)) :=
  [ StableHlo.nary ![main_v12, main_v15, main_v11] main_case0b2_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case0b2_v53 main_v17 id ]
theorem arm0_2_sub : (arm0_2 : List (HloOp τ sig (Elt F))).Forall fun op => op.bufs ⊆ StableHlo.tcRefs τ sig :=
  ⟨StableHlo.nary_bufs_sub .., StableHlo.unary_bufs_sub ..⟩

abbrev arms0 : Fin 3 → List (HloOp τ sig (Elt F)) := fun | 0 => arm0_0 | 1 => arm0_1 | 2 => arm0_2
theorem arms0_sub : ∀ j, ∀ op ∈ (arms0 j : List (HloOp τ sig (Elt F))), op.bufs ⊆ bufs := fun
  | 0 => mem_sub arm0_0_sub | 1 => mem_sub arm0_1_sub | 2 => mem_sub arm0_2_sub
theorem arms0_fresh : ∀ j, ∀ op ∈ (arms0 j : List (HloOp τ sig (Elt F))), op.fresh = ∅ := fun
  | 0 => mem_fresh rfl | 1 => mem_fresh rfl | 2 => mem_fresh rfl
def case0 (V : Valuation τ sig (Elt F)) : Valuation τ sig (Elt F) := caseVal pick0 (word main_v16 rfl) arms0 V

abbrev pick1 : HloOp τ sig (Elt F) :=
  StableHlo.ternary main_c_5 main_v6 main_c_6 main_v29 ((fun lo x hi => minsi (maxsi x lo) hi) : (⟨S_, .i32⟩ : BufTy).Contents (Elt F) → (⟨S_, .i32⟩ : BufTy).Contents (Elt F) → (⟨S_, .i32⟩ : BufTy).Contents (Elt F) → (⟨S_, .i32⟩ : BufTy).Contents (Elt F))

abbrev arm1_0 : List (HloOp τ sig (Elt F)) :=
  [ StableHlo.nary ![main_v24, main_v25, main_v28] main_case1b0_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case1b0_v53 main_v30 id ]
theorem arm1_0_sub : (arm1_0 : List (HloOp τ sig (Elt F))).Forall fun op => op.bufs ⊆ StableHlo.tcRefs τ sig :=
  ⟨StableHlo.nary_bufs_sub .., StableHlo.unary_bufs_sub ..⟩

abbrev arm1_1 : List (HloOp τ sig (Elt F)) :=
  [ StableHlo.nary ![main_v28, main_v24, main_v25] main_case1b1_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case1b1_v53 main_v30 id ]
theorem arm1_1_sub : (arm1_1 : List (HloOp τ sig (Elt F))).Forall fun op => op.bufs ⊆ StableHlo.tcRefs τ sig :=
  ⟨StableHlo.nary_bufs_sub .., StableHlo.unary_bufs_sub ..⟩

abbrev arm1_2 : List (HloOp τ sig (Elt F)) :=
  [ StableHlo.nary ![main_v25, main_v28, main_v24] main_case1b2_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case1b2_v53 main_v30 id ]
theorem arm1_2_sub : (arm1_2 : List (HloOp τ sig (Elt F))).Forall fun op => op.bufs ⊆ StableHlo.tcRefs τ sig :=
  ⟨StableHlo.nary_bufs_sub .., StableHlo.unary_bufs_sub ..⟩

abbrev arms1 : Fin 3 → List (HloOp τ sig (Elt F)) := fun | 0 => arm1_0 | 1 => arm1_1 | 2 => arm1_2
theorem arms1_sub : ∀ j, ∀ op ∈ (arms1 j : List (HloOp τ sig (Elt F))), op.bufs ⊆ bufs := fun
  | 0 => mem_sub arm1_0_sub | 1 => mem_sub arm1_1_sub | 2 => mem_sub arm1_2_sub
theorem arms1_fresh : ∀ j, ∀ op ∈ (arms1 j : List (HloOp τ sig (Elt F))), op.fresh = ∅ := fun
  | 0 => mem_fresh rfl | 1 => mem_fresh rfl | 2 => mem_fresh rfl
def case1 (V : Valuation τ sig (Elt F)) : Valuation τ sig (Elt F) := caseVal pick1 (word main_v29 rfl) arms1 V

abbrev pick2 : HloOp τ sig (Elt F) :=
  StableHlo.ternary main_c_7 main_v6 main_c_8 main_v42 ((fun lo x hi => minsi (maxsi x lo) hi) : (⟨S_, .i32⟩ : BufTy).Contents (Elt F) → (⟨S_, .i32⟩ : BufTy).Contents (Elt F) → (⟨S_, .i32⟩ : BufTy).Contents (Elt F) → (⟨S_, .i32⟩ : BufTy).Contents (Elt F))

abbrev arm2_0 : List (HloOp τ sig (Elt F)) :=
  [ StableHlo.nary ![main_v37, main_v38, main_v41] main_case2b0_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case2b0_v53 main_v43 id ]
theorem arm2_0_sub : (arm2_0 : List (HloOp τ sig (Elt F))).Forall fun op => op.bufs ⊆ StableHlo.tcRefs τ sig :=
  ⟨StableHlo.nary_bufs_sub .., StableHlo.unary_bufs_sub ..⟩

abbrev arm2_1 : List (HloOp τ sig (Elt F)) :=
  [ StableHlo.nary ![main_v41, main_v37, main_v38] main_case2b1_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case2b1_v53 main_v43 id ]
theorem arm2_1_sub : (arm2_1 : List (HloOp τ sig (Elt F))).Forall fun op => op.bufs ⊆ StableHlo.tcRefs τ sig :=
  ⟨StableHlo.nary_bufs_sub .., StableHlo.unary_bufs_sub ..⟩

abbrev arm2_2 : List (HloOp τ sig (Elt F)) :=
  [ StableHlo.nary ![main_v38, main_v41, main_v37] main_case2b2_v53 (fun u => (concatenate S33x64x1024 0 [⟨S11x64x1024, (u 0 : (⟨S11x64x1024, .bf16⟩ : BufTy).Contents (Elt F))⟩, ⟨S11x64x1024, (u 1 : (⟨S11x64x1024, .bf16⟩ : BufTy).Contents (Elt F))⟩, ⟨S11x64x1024, (u 2 : (⟨S11x64x1024, .bf16⟩ : BufTy).Contents (Elt F))⟩] concatenates_S11x64x1024_S11x64x1024_S11x64x1024_S33x64x1024_d0 : (⟨S33x64x1024, .bf16⟩ : BufTy).Contents (Elt F))),
    StableHlo.unary main_case2b2_v53 main_v43 id ]
theorem arm2_2_sub : (arm2_2 : List (HloOp τ sig (Elt F))).Forall fun op => op.bufs ⊆ StableHlo.tcRefs τ sig :=
  ⟨StableHlo.nary_bufs_sub .., StableHlo.unary_bufs_sub ..⟩

abbrev arms2 : Fin 3 → List (HloOp τ sig (Elt F)) := fun | 0 => arm2_0 | 1 => arm2_1 | 2 => arm2_2
theorem arms2_sub : ∀ j, ∀ op ∈ (arms2 j : List (HloOp τ sig (Elt F))), op.bufs ⊆ bufs := fun
  | 0 => mem_sub arm2_0_sub | 1 => mem_sub arm2_1_sub | 2 => mem_sub arm2_2_sub
theorem arms2_fresh : ∀ j, ∀ op ∈ (arms2 j : List (HloOp τ sig (Elt F))), op.fresh = ∅ := fun
  | 0 => mem_fresh rfl | 1 => mem_fresh rfl | 2 => mem_fresh rfl
def case2 (V : Valuation τ sig (Elt F)) : Valuation τ sig (Elt F) := caseVal pick2 (word main_v42 rfl) arms2 V

abbrev pick3 : HloOp τ sig (Elt F) :=
  StableHlo.ternary main_c_9 main_v6 main_c_10 main_v49 ((fun lo x hi => minsi (maxsi x lo) hi) : (⟨S_, .i32⟩ : BufTy).Contents (Elt F) → (⟨S_, .i32⟩ : BufTy).Contents (Elt F) → (⟨S_, .i32⟩ : BufTy).Contents (Elt F) → (⟨S_, .i32⟩ : BufTy).Contents (Elt F))

abbrev arm3_0 : List (HloOp τ sig (Elt F)) :=
  [ StableHlo.unary main_v48 main_case3b0_v53 ((extractStridedSlice S1x11x64x1024 ![0, 0, 0, 0] · slices_S3x11x64x1024_S1x11x64x1024_0_0_0_0) : (⟨S3x11x64x1024, .f32⟩ : BufTy).Contents (Elt F) → (⟨S1x11x64x1024, .f32⟩ : BufTy).Contents (Elt F)),
    StableHlo.reshape main_case3b0_v53 main_case3b0_v54 (rfl : (.f32 : EltTy) = .f32) shapeCasts_S1x11x64x1024_S11x64x1024,
    StableHlo.unary main_v48 main_case3b0_v55 ((extractStridedSlice S1x11x64x1024 ![1, 0, 0, 0] · slices_S3x11x64x1024_S1x11x64x1024_1_0_0_0) : (⟨S3x11x64x1024, .f32⟩ : BufTy).Contents (Elt F) → (⟨S1x11x64x1024, .f32⟩ : BufTy).Contents (Elt F)),
    StableHlo.reshape main_case3b0_v55 main_case3b0_v56 (rfl : (.f32 : EltTy) = .f32) shapeCasts_S1x11x64x1024_S11x64x1024,
    StableHlo.unary main_v48 main_case3b0_v57 ((extractStridedSlice S1x11x64x1024 ![2, 0, 0, 0] · slices_S3x11x64x1024_S1x11x64x1024_2_0_0_0) : (⟨S3x11x64x1024, .f32⟩ : BufTy).Contents (Elt F) → (⟨S1x11x64x1024, .f32⟩ : BufTy).Contents (Elt F)),
    StableHlo.reshape main_case3b0_v57 main_case3b0_v58 (rfl : (.f32 : EltTy) = .f32) shapeCasts_S1x11x64x1024_S11x64x1024,
    StableHlo.unary main_case3b0_v54 main_case3b0_v59 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b0_v56 main_case3b0_v60 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b0_v58 main_case3b0_v61 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.nary ![main_case3b0_v59, main_case3b0_v60, main_case3b0_v61] main_case3b0_v62 (fun u => (concatenate S11x3x64x1024 1 [⟨S11x1x64x1024, (u 0 : (⟨S11x1x64x1024, .f32⟩ : BufTy).Contents (Elt F))⟩, ⟨S11x1x64x1024, (u 1 : (⟨S11x1x64x1024, .f32⟩ : BufTy).Contents (Elt F))⟩, ⟨S11x1x64x1024, (u 2 : (⟨S11x1x64x1024, .f32⟩ : BufTy).Contents (Elt F))⟩] concatenates_S11x1x64x1024_S11x1x64x1024_S11x1x64x1024_S11x3x64x1024_d1 : (⟨S11x3x64x1024, .f32⟩ : BufTy).Contents (Elt F))),
    StableHlo.reshape main_case3b0_v62 main_case3b0_v63 (rfl : (.f32 : EltTy) = .f32) shapeCasts_S11x3x64x1024_S33x64x1024,
    StableHlo.unary main_case3b0_v63 main_case3b0_v64 ((extractStridedSlice S32x64x1024 ![0, 0, 0] · slices_S33x64x1024_S32x64x1024_0_0_0) : (⟨S33x64x1024, .f32⟩ : BufTy).Contents (Elt F) → (⟨S32x64x1024, .f32⟩ : BufTy).Contents (Elt F)),
    StableHlo.unary main_case3b0_v64 main_v50 id ]
theorem arm3_0_sub : (arm3_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.nary_bufs_sub .., StableHlo.reshape_bufs_sub .., StableHlo.unary_bufs_sub .., StableHlo.unary_bufs_sub ..⟩

abbrev arm3_1 : List (HloOp τ sig (Elt F)) :=
  [ StableHlo.unary main_v48 main_case3b1_v53 ((extractStridedSlice S1x11x64x1024 ![1, 0, 0, 0] · slices_S3x11x64x1024_S1x11x64x1024_1_0_0_0) : (⟨S3x11x64x1024, .f32⟩ : BufTy).Contents (Elt F) → (⟨S1x11x64x1024, .f32⟩ : BufTy).Contents (Elt F)),
    StableHlo.reshape main_case3b1_v53 main_case3b1_v54 (rfl : (.f32 : EltTy) = .f32) shapeCasts_S1x11x64x1024_S11x64x1024,
    StableHlo.unary main_v48 main_case3b1_v55 ((extractStridedSlice S1x11x64x1024 ![2, 0, 0, 0] · slices_S3x11x64x1024_S1x11x64x1024_2_0_0_0) : (⟨S3x11x64x1024, .f32⟩ : BufTy).Contents (Elt F) → (⟨S1x11x64x1024, .f32⟩ : BufTy).Contents (Elt F)),
    StableHlo.reshape main_case3b1_v55 main_case3b1_v56 (rfl : (.f32 : EltTy) = .f32) shapeCasts_S1x11x64x1024_S11x64x1024,
    StableHlo.unary main_v48 main_case3b1_v57 ((extractStridedSlice S1x11x64x1024 ![0, 0, 0, 0] · slices_S3x11x64x1024_S1x11x64x1024_0_0_0_0) : (⟨S3x11x64x1024, .f32⟩ : BufTy).Contents (Elt F) → (⟨S1x11x64x1024, .f32⟩ : BufTy).Contents (Elt F)),
    StableHlo.reshape main_case3b1_v57 main_case3b1_v58 (rfl : (.f32 : EltTy) = .f32) shapeCasts_S1x11x64x1024_S11x64x1024,
    StableHlo.unary main_case3b1_v54 main_case3b1_v59 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b1_v56 main_case3b1_v60 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b1_v58 main_case3b1_v61 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.nary ![main_case3b1_v59, main_case3b1_v60, main_case3b1_v61] main_case3b1_v62 (fun u => (concatenate S11x3x64x1024 1 [⟨S11x1x64x1024, (u 0 : (⟨S11x1x64x1024, .f32⟩ : BufTy).Contents (Elt F))⟩, ⟨S11x1x64x1024, (u 1 : (⟨S11x1x64x1024, .f32⟩ : BufTy).Contents (Elt F))⟩, ⟨S11x1x64x1024, (u 2 : (⟨S11x1x64x1024, .f32⟩ : BufTy).Contents (Elt F))⟩] concatenates_S11x1x64x1024_S11x1x64x1024_S11x1x64x1024_S11x3x64x1024_d1 : (⟨S11x3x64x1024, .f32⟩ : BufTy).Contents (Elt F))),
    StableHlo.reshape main_case3b1_v62 main_case3b1_v63 (rfl : (.f32 : EltTy) = .f32) shapeCasts_S11x3x64x1024_S33x64x1024,
    StableHlo.unary main_case3b1_v63 main_case3b1_v64 ((extractStridedSlice S32x64x1024 ![0, 0, 0] · slices_S33x64x1024_S32x64x1024_0_0_0) : (⟨S33x64x1024, .f32⟩ : BufTy).Contents (Elt F) → (⟨S32x64x1024, .f32⟩ : BufTy).Contents (Elt F)),
    StableHlo.unary main_case3b1_v64 main_v50 id ]
theorem arm3_1_sub : (arm3_1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.nary_bufs_sub .., StableHlo.reshape_bufs_sub .., StableHlo.unary_bufs_sub .., StableHlo.unary_bufs_sub ..⟩

abbrev arm3_2 : List (HloOp τ sig (Elt F)) :=
  [ StableHlo.unary main_v48 main_case3b2_v53 ((extractStridedSlice S1x11x64x1024 ![2, 0, 0, 0] · slices_S3x11x64x1024_S1x11x64x1024_2_0_0_0) : (⟨S3x11x64x1024, .f32⟩ : BufTy).Contents (Elt F) → (⟨S1x11x64x1024, .f32⟩ : BufTy).Contents (Elt F)),
    StableHlo.reshape main_case3b2_v53 main_case3b2_v54 (rfl : (.f32 : EltTy) = .f32) shapeCasts_S1x11x64x1024_S11x64x1024,
    StableHlo.unary main_v48 main_case3b2_v55 ((extractStridedSlice S1x11x64x1024 ![0, 0, 0, 0] · slices_S3x11x64x1024_S1x11x64x1024_0_0_0_0) : (⟨S3x11x64x1024, .f32⟩ : BufTy).Contents (Elt F) → (⟨S1x11x64x1024, .f32⟩ : BufTy).Contents (Elt F)),
    StableHlo.reshape main_case3b2_v55 main_case3b2_v56 (rfl : (.f32 : EltTy) = .f32) shapeCasts_S1x11x64x1024_S11x64x1024,
    StableHlo.unary main_v48 main_case3b2_v57 ((extractStridedSlice S1x11x64x1024 ![1, 0, 0, 0] · slices_S3x11x64x1024_S1x11x64x1024_1_0_0_0) : (⟨S3x11x64x1024, .f32⟩ : BufTy).Contents (Elt F) → (⟨S1x11x64x1024, .f32⟩ : BufTy).Contents (Elt F)),
    StableHlo.reshape main_case3b2_v57 main_case3b2_v58 (rfl : (.f32 : EltTy) = .f32) shapeCasts_S1x11x64x1024_S11x64x1024,
    StableHlo.unary main_case3b2_v54 main_case3b2_v59 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b2_v56 main_case3b2_v60 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.unary main_case3b2_v58 main_case3b2_v61 (broadcastInDim S11x1x64x1024 ![0, 2, 3] bcast_S11x64x1024_S11x1x64x1024_0_2_3 : (⟨S11x64x1024, .f32⟩ : BufTy).Contents (Elt F) → (⟨S11x1x64x1024, .f32⟩ : BufTy).Contents (Elt F)),
    StableHlo.nary ![main_case3b2_v59, main_case3b2_v60, main_case3b2_v61] main_case3b2_v62 (fun u => (concatenate S11x3x64x1024 1 [⟨S11x1x64x1024, (u 0 : (⟨S11x1x64x1024, .f32⟩ : BufTy).Contents (Elt F))⟩, ⟨S11x1x64x1024, (u 1 : (⟨S11x1x64x1024, .f32⟩ : BufTy).Contents (Elt F))⟩, ⟨S11x1x64x1024, (u 2 : (⟨S11x1x64x1024, .f32⟩ : BufTy).Contents (Elt F))⟩] concatenates_S11x1x64x1024_S11x1x64x1024_S11x1x64x1024_S11x3x64x1024_d1 : (⟨S11x3x64x1024, .f32⟩ : BufTy).Contents (Elt F))),
    StableHlo.reshape main_case3b2_v62 main_case3b2_v63 (rfl : (.f32 : EltTy) = .f32) shapeCasts_S11x3x64x1024_S33x64x1024,
    StableHlo.unary main_case3b2_v63 main_case3b2_v64 ((extractStridedSlice S32x64x1024 ![0, 0, 0] · slices_S33x64x1024_S32x64x1024_0_0_0) : (⟨S33x64x1024, .f32⟩ : BufTy).Contents (Elt F) → (⟨S32x64x1024, .f32⟩ : BufTy).Contents (Elt F)),
    StableHlo.unary main_case3b2_v64 main_v50 id ]
theorem arm3_2_sub : (arm3_2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.nary_bufs_sub .., StableHlo.reshape_bufs_sub .., StableHlo.unary_bufs_sub .., StableHlo.unary_bufs_sub ..⟩

abbrev arms3 : Fin 3 → List (HloOp τ sig (Elt F)) := fun | 0 => arm3_0 | 1 => arm3_1 | 2 => arm3_2
theorem arms3_sub : ∀ j, ∀ op ∈ (arms3 j : List (HloOp τ sig (Elt F))), op.bufs ⊆ bufs := fun
  | 0 => mem_sub arm3_0_sub | 1 => mem_sub arm3_1_sub | 2 => mem_sub arm3_2_sub
theorem arms3_fresh : ∀ j, ∀ op ∈ (arms3 j : List (HloOp τ sig (Elt F))), op.fresh = ∅ := fun
  | 0 => mem_fresh rfl | 1 => mem_fresh rfl | 2 => mem_fresh rfl
def case3 (V : Valuation τ sig (Elt F)) : Valuation τ sig (Elt F) := caseVal pick3 (word main_v49 rfl) arms3 V

/-! ## What the buffers hold along the way -/

def v1 (c : Dev nD) (V : Valuation τ sig (Elt F)) : Valuation τ sig (Elt F) := StableHlo.after (hostOps0 c) V
def v2 (V : Valuation τ sig (Elt F)) : Valuation τ sig (Elt F) := StableHlo.after hostOps0_1 V
def v3 (V : Valuation τ sig (Elt F)) : Valuation τ sig (Elt F) := StableHlo.after hostOps0_2 V
def v5 (V : Valuation τ sig (Elt F)) : Valuation τ sig (Elt F) := StableHlo.after hostOps0_3 V
def v7 (V : Valuation τ sig (Elt F)) : Valuation τ sig (Elt F) := StableHlo.after hostOps0_4 V
def v9 (V : Valuation τ sig (Elt F)) : Valuation τ sig (Elt F) := StableHlo.after hostOps0_5 V
def v11 (V : Valuation τ sig (Elt F)) : Valuation τ sig (Elt F) := StableHlo.after hostOps1 V
def v13 (V : Valuation τ sig (Elt F)) : Valuation τ sig (Elt F) := StableHlo.after hostOps1_1 V

/-- Before the kernel. -/
def preV (c : Dev nD) (V : Valuation τ sig (Elt F)) : Valuation τ sig (Elt F) := v9 (case2 (v7 (case1 (v5 (case0 (v3 (v2 (v1 c V))))))))
/-- After it. -/
def postV (V : Valuation τ sig (Elt F)) : Valuation τ sig (Elt F) := v13 (case3 (v11 V))

/-! ## No line writes an argument -/

abbrev wr0_0 : List (Ref sig .tc) := [main_case0b0_v53, main_v17]
theorem arm0_0_keep (V : Valuation τ sig (Elt F)) {r : Ref sig .tc} (hr : r ∉ wr0_0) :
    StableHlo.after (arm0_0 : List (HloOp τ sig (Elt F))) V (Proc.devRef .tc r) = V (Proc.devRef .tc r) :=
  StableHlo.after_of_writes_sub _ V (StableHlo.forall_writes_sub_of_map (by rfl)) hr

abbrev wr0_1 : List (Ref sig .tc) := [main_case0b1_v53, main_v17]
theorem arm0_1_keep (V : Valuation τ sig (Elt F)) {r : Ref sig .tc} (hr : r ∉ wr0_1) :
    StableHlo.after (arm0_1 : List (HloOp τ sig (Elt F))) V (Proc.devRef .tc r) = V (Proc.devRef .tc r) :=
  StableHlo.after_of_writes_sub _ V (StableHlo.forall_writes_sub_of_map (by rfl)) hr

abbrev wr0_2 : List (Ref sig .tc) := [main_case0b2_v53, main_v17]
theorem arm0_2_keep (V : Valuation τ sig (Elt F)) {r : Ref sig .tc} (hr : r ∉ wr0_2) :
    StableHlo.after (arm0_2 : List (HloOp τ sig (Elt F))) V (Proc.devRef .tc r) = V (Proc.devRef .tc r) :=
  StableHlo.after_of_writes_sub _ V (StableHlo.forall_writes_sub_of_map (by rfl)) hr

abbrev wr0 : List (Ref sig .tc) := main_v16 :: (wr0_0 ++ (wr0_1 ++ wr0_2))
theorem case0_keep (V : Valuation τ sig (Elt F)) {r : Ref sig .tc} (hr : r ∉ wr0) :
    case0 V (Proc.devRef .tc r) = V (Proc.devRef .tc r) := by
  unfold case0 caseVal
  have hy : r ≠ main_v16 := fun h => hr (h ▸ List.mem_cons_self)
  have hs : (pick0 : HloOp τ sig (Elt F)).result V (Proc.devRef .tc r) = V (Proc.devRef .tc r) := StableHlo.ternary_result_ne _ _ _ _ _ _ _ _ _ V hy
  generalize HostLoop.branch _ 2 = j
  match j with
  | 0 => exact (arm0_0_keep _ fun h => hr (List.mem_cons_of_mem _ (List.mem_append_left _ h))).trans hs
  | 1 => exact (arm0_1_keep _ fun h => hr (List.mem_cons_of_mem _ (List.mem_append_right _ (List.mem_append_left _ h)))).trans hs
  | 2 => exact (arm0_2_keep _ fun h => hr (List.mem_cons_of_mem _ (List.mem_append_right _ (List.mem_append_right _ h)))).trans hs

abbrev wr1_0 : List (Ref sig .tc) := [main_case1b0_v53, main_v30]
theorem arm1_0_keep (V : Valuation τ sig (Elt F)) {r : Ref sig .tc} (hr : r ∉ wr1_0) :
    StableHlo.after (arm1_0 : List (HloOp τ sig (Elt F))) V (Proc.devRef .tc r) = V (Proc.devRef .tc r) :=
  StableHlo.after_of_writes_sub _ V (StableHlo.forall_writes_sub_of_map (by rfl)) hr

abbrev wr1_1 : List (Ref sig .tc) := [main_case1b1_v53, main_v30]
theorem arm1_1_keep (V : Valuation τ sig (Elt F)) {r : Ref sig .tc} (hr : r ∉ wr1_1) :
    StableHlo.after (arm1_1 : List (HloOp τ sig (Elt F))) V (Proc.devRef .tc r) = V (Proc.devRef .tc r) :=
  StableHlo.after_of_writes_sub _ V (StableHlo.forall_writes_sub_of_map (by rfl)) hr

abbrev wr1_2 : List (Ref sig .tc) := [main_case1b2_v53, main_v30]
theorem arm1_2_keep (V : Valuation τ sig (Elt F)) {r : Ref sig .tc} (hr : r ∉ wr1_2) :
    StableHlo.after (arm1_2 : List (HloOp τ sig (Elt F))) V (Proc.devRef .tc r) = V (Proc.devRef .tc r) :=
  StableHlo.after_of_writes_sub _ V (StableHlo.forall_writes_sub_of_map (by rfl)) hr

abbrev wr1 : List (Ref sig .tc) := main_v29 :: (wr1_0 ++ (wr1_1 ++ wr1_2))
theorem case1_keep (V : Valuation τ sig (Elt F)) {r : Ref sig .tc} (hr : r ∉ wr1) :
    case1 V (Proc.devRef .tc r) = V (Proc.devRef .tc r) := by
  unfold case1 caseVal
  have hy : r ≠ main_v29 := fun h => hr (h ▸ List.mem_cons_self)
  have hs : (pick1 : HloOp τ sig (Elt F)).result V (Proc.devRef .tc r) = V (Proc.devRef .tc r) := StableHlo.ternary_result_ne _ _ _ _ _ _ _ _ _ V hy
  generalize HostLoop.branch _ 2 = j
  match j with
  | 0 => exact (arm1_0_keep _ fun h => hr (List.mem_cons_of_mem _ (List.mem_append_left _ h))).trans hs
  | 1 => exact (arm1_1_keep _ fun h => hr (List.mem_cons_of_mem _ (List.mem_append_right _ (List.mem_append_left _ h)))).trans hs
  | 2 => exact (arm1_2_keep _ fun h => hr (List.mem_cons_of_mem _ (List.mem_append_right _ (List.mem_append_right _ h)))).trans hs

abbrev wr2_0 : List (Ref sig .tc) := [main_case2b0_v53, main_v43]
theorem arm2_0_keep (V : Valuation τ sig (Elt F)) {r : Ref sig .tc} (hr : r ∉ wr2_0) :
    StableHlo.after (arm2_0 : List (HloOp τ sig (Elt F))) V (Proc.devRef .tc r) = V (Proc.devRef .tc r) :=
  StableHlo.after_of_writes_sub _ V (StableHlo.forall_writes_sub_of_map (by rfl)) hr

abbrev wr2_1 : List (Ref sig .tc) := [main_case2b1_v53, main_v43]
theorem arm2_1_keep (V : Valuation τ sig (Elt F)) {r : Ref sig .tc} (hr : r ∉ wr2_1) :
    StableHlo.after (arm2_1 : List (HloOp τ sig (Elt F))) V (Proc.devRef .tc r) = V (Proc.devRef .tc r) :=
  StableHlo.after_of_writes_sub _ V (StableHlo.forall_writes_sub_of_map (by rfl)) hr

abbrev wr2_2 : List (Ref sig .tc) := [main_case2b2_v53, main_v43]
theorem arm2_2_keep (V : Valuation τ sig (Elt F)) {r : Ref sig .tc} (hr : r ∉ wr2_2) :
    StableHlo.after (arm2_2 : List (HloOp τ sig (Elt F))) V (Proc.devRef .tc r) = V (Proc.devRef .tc r) :=
  StableHlo.after_of_writes_sub _ V (StableHlo.forall_writes_sub_of_map (by rfl)) hr

abbrev wr2 : List (Ref sig .tc) := main_v42 :: (wr2_0 ++ (wr2_1 ++ wr2_2))
theorem case2_keep (V : Valuation τ sig (Elt F)) {r : Ref sig .tc} (hr : r ∉ wr2) :
    case2 V (Proc.devRef .tc r) = V (Proc.devRef .tc r) := by
  unfold case2 caseVal
  have hy : r ≠ main_v42 := fun h => hr (h ▸ List.mem_cons_self)
  have hs : (pick2 : HloOp τ sig (Elt F)).result V (Proc.devRef .tc r) = V (Proc.devRef .tc r) := StableHlo.ternary_result_ne _ _ _ _ _ _ _ _ _ V hy
  generalize HostLoop.branch _ 2 = j
  match j with
  | 0 => exact (arm2_0_keep _ fun h => hr (List.mem_cons_of_mem _ (List.mem_append_left _ h))).trans hs
  | 1 => exact (arm2_1_keep _ fun h => hr (List.mem_cons_of_mem _ (List.mem_append_right _ (List.mem_append_left _ h)))).trans hs
  | 2 => exact (arm2_2_keep _ fun h => hr (List.mem_cons_of_mem _ (List.mem_append_right _ (List.mem_append_right _ h)))).trans hs

abbrev wr3_0 : List (Ref sig .tc) := [main_case3b0_v53, main_case3b0_v54, main_case3b0_v55, main_case3b0_v56, main_case3b0_v57, main_case3b0_v58, main_case3b0_v59, main_case3b0_v60, main_case3b0_v61, main_case3b0_v62, main_case3b0_v63, main_case3b0_v64, main_v50]
theorem arm3_0_keep (V : Valuation τ sig (Elt F)) {r : Ref sig .tc} (hr : r ∉ wr3_0) :
    StableHlo.after (arm3_0 : List (HloOp τ sig (Elt F))) V (Proc.devRef .tc r) = V (Proc.devRef .tc r) :=
  StableHlo.after_of_writes_sub _ V (StableHlo.forall_writes_sub_of_map (by rfl)) hr

abbrev wr3_1 : List (Ref sig .tc) := [main_case3b1_v53, main_case3b1_v54, main_case3b1_v55, main_case3b1_v56, main_case3b1_v57, main_case3b1_v58, main_case3b1_v59, main_case3b1_v60, main_case3b1_v61, main_case3b1_v62, main_case3b1_v63, main_case3b1_v64, main_v50]
theorem arm3_1_keep (V : Valuation τ sig (Elt F)) {r : Ref sig .tc} (hr : r ∉ wr3_1) :
    StableHlo.after (arm3_1 : List (HloOp τ sig (Elt F))) V (Proc.devRef .tc r) = V (Proc.devRef .tc r) :=
  StableHlo.after_of_writes_sub _ V (StableHlo.forall_writes_sub_of_map (by rfl)) hr

abbrev wr3_2 : List (Ref sig .tc) := [main_case3b2_v53, main_case3b2_v54, main_case3b2_v55, main_case3b2_v56, main_case3b2_v57, main_case3b2_v58, main_case3b2_v59, main_case3b2_v60, main_case3b2_v61, main_case3b2_v62, main_case3b2_v63, main_case3b2_v64, main_v50]
theorem arm3_2_keep (V : Valuation τ sig (Elt F)) {r : Ref sig .tc} (hr : r ∉ wr3_2) :
    StableHlo.after (arm3_2 : List (HloOp τ sig (Elt F))) V (Proc.devRef .tc r) = V (Proc.devRef .tc r) :=
  StableHlo.after_of_writes_sub _ V (StableHlo.forall_writes_sub_of_map (by rfl)) hr

abbrev wr3 : List (Ref sig .tc) := main_v49 :: (wr3_0 ++ (wr3_1 ++ wr3_2))
theorem case3_keep (V : Valuation τ sig (Elt F)) {r : Ref sig .tc} (hr : r ∉ wr3) :
    case3 V (Proc.devRef .tc r) = V (Proc.devRef .tc r) := by
  unfold case3 caseVal
  have hy : r ≠ main_v49 := fun h => hr (h ▸ List.mem_cons_self)
  have hs : (pick3 : HloOp τ sig (Elt F)).result V (Proc.devRef .tc r) = V (Proc.devRef .tc r) := StableHlo.ternary_result_ne _ _ _ _ _ _ _ _ _ V hy
  generalize HostLoop.branch _ 2 = j
  match j with
  | 0 => exact (arm3_0_keep _ fun h => hr (List.mem_cons_of_mem _ (List.mem_append_left _ h))).trans hs
  | 1 => exact (arm3_1_keep _ fun h => hr (List.mem_cons_of_mem _ (List.mem_append_right _ (List.mem_append_left _ h)))).trans hs
  | 2 => exact (arm3_2_keep _ fun h => hr (List.mem_cons_of_mem _ (List.mem_append_right _ (List.mem_append_right _ h)))).trans hs

abbrev wr_v1 : List (Ref sig .tc) := [main_c, main_c_0, main_v1, main_v2, main_v3, main_v4, main_c_1, main_v5, main_c_2]
theorem v1_keep (c : Dev nD) (V : Valuation τ sig (Elt F)) {r : Ref sig .tc} (hr : r ∉ wr_v1) :
    v1 c V (Proc.devRef .tc r) = V (Proc.devRef .tc r) :=
  StableHlo.after_of_writes_sub _ V (StableHlo.forall_writes_sub_of_map (by rfl)) hr

abbrev wr_v2 : List (Ref sig .tc) := [main_call0_v0, main_call0_c, main_call0_v1, main_call0_c_0, main_call0_v2, main_call0_v3, main_call0_c_1, main_call0_v4, main_call0_c_2, main_call0_v5, main_call0_c_3, main_call0_v6, main_call0_v7, main_call0_v8, main_call0_v9, main_v6]
theorem v2_keep (V : Valuation τ sig (Elt F)) {r : Ref sig .tc} (hr : r ∉ wr_v2) :
    v2 V (Proc.devRef .tc r) = V (Proc.devRef .tc r) :=
  StableHlo.after_of_writes_sub _ V (StableHlo.forall_writes_sub_of_map (by rfl)) hr

abbrev wr_v3 : List (Ref sig .tc) := [main_v7, main_v8, main_v9, main_v10, main_v11, main_v12, main_v13, main_v14, main_v15, main_c_3, main_c_4]
theorem v3_keep (V : Valuation τ sig (Elt F)) {r : Ref sig .tc} (hr : r ∉ wr_v3) :
    v3 V (Proc.devRef .tc r) = V (Proc.devRef .tc r) :=
  StableHlo.after_of_writes_sub _ V (StableHlo.forall_writes_sub_of_map (by rfl)) hr

abbrev wr_v5 : List (Ref sig .tc) := [main_v18, main_v19, main_v20, main_v21, main_v22, main_v23, main_v24, main_v25, main_v26, main_v27, main_v28, main_c_5, main_c_6]
theorem v5_keep (V : Valuation τ sig (Elt F)) {r : Ref sig .tc} (hr : r ∉ wr_v5) :
    v5 V (Proc.devRef .tc r) = V (Proc.devRef .tc r) :=
  StableHlo.after_of_writes_sub _ V (StableHlo.forall_writes_sub_of_map (by rfl)) hr

abbrev wr_v7 : List (Ref sig .tc) := [main_v31, main_v32, main_v33, main_v34, main_v35, main_v36, main_v37, main_v38, main_v39, main_v40, main_v41, main_c_7, main_c_8]
theorem v7_keep (V : Valuation τ sig (Elt F)) {r : Ref sig .tc} (hr : r ∉ wr_v7) :
    v7 V (Proc.devRef .tc r) = V (Proc.devRef .tc r) :=
  StableHlo.after_of_writes_sub _ V (StableHlo.forall_writes_sub_of_map (by rfl)) hr

abbrev wr_v9 : List (Ref sig .tc) := [main_v44, main_v45, main_v46]
theorem v9_keep (V : Valuation τ sig (Elt F)) {r : Ref sig .tc} (hr : r ∉ wr_v9) :
    v9 V (Proc.devRef .tc r) = V (Proc.devRef .tc r) :=
  StableHlo.after_of_writes_sub _ V (StableHlo.forall_writes_sub_of_map (by rfl)) hr

abbrev wr_v11 : List (Ref sig .tc) := [main_v48, main_c_9, main_c_10]
theorem v11_keep (V : Valuation τ sig (Elt F)) {r : Ref sig .tc} (hr : r ∉ wr_v11) :
    v11 V (Proc.devRef .tc r) = V (Proc.devRef .tc r) :=
  StableHlo.after_of_writes_sub _ V (StableHlo.forall_writes_sub_of_map (by rfl)) hr

abbrev wr_v13 : List (Ref sig .tc) := [main_v51, main_v52]
theorem v13_keep (V : Valuation τ sig (Elt F)) {r : Ref sig .tc} (hr : r ∉ wr_v13) :
    v13 V (Proc.devRef .tc r) = V (Proc.devRef .tc r) :=
  StableHlo.after_of_writes_sub _ V (StableHlo.forall_writes_sub_of_map (by rfl)) hr

theorem preV_keep (c : Dev nD) (V : Valuation τ sig (Elt F)) {r : Ref sig .tc}
    (h1 : r ∉ wr_v1) (h2 : r ∉ wr_v2) (h3 : r ∉ wr_v3) (h4 : r ∉ wr0) (h5 : r ∉ wr_v5) (h6 : r ∉ wr1) (h7 : r ∉ wr_v7) (h8 : r ∉ wr2) (h9 : r ∉ wr_v9) :
    preV c V (Proc.devRef .tc r) = V (Proc.devRef .tc r) := by
  unfold preV
  rw [v9_keep _ h9, case2_keep _ h8, v7_keep _ h7, case1_keep _ h6, v5_keep _ h5, case0_keep _ h4, v3_keep _ h3, v2_keep _ h2, v1_keep _ _ h1]

theorem postV_keep (V : Valuation τ sig (Elt F)) {r : Ref sig .tc} (h1 : r ∉ wr_v11) (h2 : r ∉ wr3) (h3 : r ∉ wr_v13) :
    postV V (Proc.devRef .tc r) = V (Proc.devRef .tc r) := by
  unfold postV
  rw [v13_keep _ h3, case3_keep _ h2, v11_keep _ h1]

end Cert.KernelIdeal.Flash

end
-- ==== Proof.Region.lean ====
module

public import proofs.«01_k».proof.Proof.Body
public import proofs.«01_k».proof.Proof.Host
public import proofs.«01_k».proof.Proof.Gen.KernelIdeal.Points
public import Idealize.ShloMosaic.Lib.Pipeline.ValueKit.Geometry

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## The kernel call as a region: what it is entered from, and what it leaves -/

variable (W : Dev nD → Valuation τ sig (Elt F))

/-- The packed keys, values, queries and the output weights as the call finds them. -/
def kv (d : Dev nD) : S8x2112x128.Idx → Elt F .bf16 := W d (Proc.devRef .tc main_v33)
def vv (d : Dev nD) : S8x2112x128.Idx → Elt F .bf16 := W d (Proc.devRef .tc main_v46)
def qv (d : Dev nD) : S8x2112x128.Idx → Elt F .bf16 := W d (Proc.devRef .tc main_v20)
def wv (d : Dev nD) : S1024x1024.Idx → Elt F .bf16 := W d (Proc.devRef .tc main_arg4)
/-- What the call leaves in its result. -/
def ov (d : Dev nD) : S2112x1024.Idx → Elt F .f32 := outB (kv W) (vv W) (qv W d) (wv W d) d

/-- The buffers after the call. -/
def aft (d : Dev nD) : Valuation τ sig (Elt F) :=
  Function.update (Function.update (Function.update (W d) (Proc.devRef .tc main_v47_0) (ov W d)) (Proc.devRef .tc main_v47_1) (gath (kv W))) (Proc.devRef .tc main_v47_2) (gath (vv W))

theorem aft_out (d : Dev nD) : aft W d (Proc.devRef .tc main_v47_0) = ov W d := by
  unfold aft
  rw [Function.update_of_ne (by decide), Function.update_of_ne (by decide), Function.update_self]
theorem aft_kg (d : Dev nD) : aft W d (Proc.devRef .tc main_v47_1) = gath (kv W) := by
  unfold aft
  rw [Function.update_of_ne (by decide), Function.update_self]
theorem aft_vg (d : Dev nD) : aft W d (Proc.devRef .tc main_v47_2) = gath (vv W) := by
  unfold aft
  rw [Function.update_self]
theorem aft_ne (d : Dev nD) (b : DevRef τ sig) (h0 : b ≠ Proc.devRef .tc main_v47_0) (h1 : b ≠ Proc.devRef .tc main_v47_1) (h2 : b ≠ Proc.devRef .tc main_v47_2) :
    aft W d b = W d b := by
  unfold aft
  rw [Function.update_of_ne h2, Function.update_of_ne h1, Function.update_of_ne h0]

/-! ### The semaphores of the call -/

def osem : Fin 16 → SemLoc sig := ![.dma cpK, .dma cpV, .dma chK, .dma chV, .dma sK0, .dma sK1, .dma sK2, .dma rK0, .dma rK1, .dma rK2, .dma sV0, .dma sV1, .dma sV2, .dma rV0, .dma rV1, .dma rV2]

theorem osem_ok : Pipeline.OwnSemFacts spec0 osem := by decide

theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [((0 : Fin 16)), ((1 : Fin 16)), ((2 : Fin 16)), ((3 : Fin 16)), ((4 : Fin 16)), ((5 : Fin 16)), ((6 : Fin 16)), ((7 : Fin 16)), ((8 : Fin 16)), ((9 : Fin 16)), ((10 : Fin 16)), ((11 : Fin 16)), ((12 : Fin 16)), ((13 : Fin 16)), ((14 : Fin 16)), ((15 : Fin 16))] (by decide) (by decide) Φ

theorem ownSems_eq (c : Dev nD) : (Pipeline.ownSems0 osem c : sProp 𝕄) = iprop(semVal (dc c cpK) 0 ∗ semVal (dc c cpV) 0 ∗ semVal (dc c chK) 0 ∗ semVal (dc c chV) 0 ∗ semVal (dc c sK0) 0 ∗ semVal (dc c sK1) 0 ∗ semVal (dc c sK2) 0 ∗ semVal (dc c rK0) 0 ∗ semVal (dc c rK1) 0 ∗ semVal (dc c rK2) 0 ∗ semVal (dc c sV0) 0 ∗ semVal (dc c sV1) 0 ∗ semVal (dc c sV2) 0 ∗ semVal (dc c rV0) 0 ∗ semVal (dc c rV1) 0 ∗ semVal (dc c rV2) 0) := by
  unfold Pipeline.ownSems0
  rw [bigSep_fin16]
  rfl

/-- The rights to open the device's own cells. -/
def opensB (c : Dev nD) : sProp 𝕄 :=
  iprop(openTok ER (dc c cpK) ∗ openTok ER (dc c cpV) ∗ openTok ER (dc c chK) ∗ openTok ER (dc c chV) ∗ openTok ER (dc c sK0) ∗ openTok ER (dc c sK1) ∗ openTok ER (dc c sK2) ∗ openTok ER (dc c rK0) ∗ openTok ER (dc c rK1) ∗ openTok ER (dc c rK2) ∗ openTok ER (dc c sV0) ∗ openTok ER (dc c sV1) ∗ openTok ER (dc c sV2) ∗ openTok ER (dc c rV0) ∗ openTok ER (dc c rV1) ∗ openTok ER (dc c rV2))

/-- What a device carries from launch to the call. -/
def Tk (c : Dev nD) : sProp 𝕄 :=
  iprop((∃ K, invs (kv W) (vv W) K) ∗ (reached ER (barCell (pe c 0)) 0 ∗ reached ER (barCell (pe c 1)) 0 ∗ reached ER (barCell (pe c 2)) 0)
    ∗ atPos ER (barCell c) 0 ∅ 0 ∗ opensB c ∗ toksB c ∗ credsB c)
/-- With its cells opened. -/
def Xk (c : Dev nD) : sProp 𝕄 := iprop((∃ K, pers (kv W) (vv W) K c) ∗ toksB c ∗ credsB c ∗ possB c)

theorem hopen (c : Dev nD) : iprop(Tk W c ∗ Pipeline.ownSems0 osem c ∗ levAts L lv) ⊢ (|={Set.univ}=> Xk W c : sProp 𝕄) := by
  rw [ownSems_eq]
  unfold Tk Xk opensB

  iintro ⟨⟨⟨%K, #HI⟩, ⟨#Rb0, #Rb1, #Rb2⟩, Ab, ⟨OcpK, OcpV, OchK, OchV, OsK0, OsK1, OsK2, OrK0, OrK1, OrK2, OsV0, OsV1, OsV2, OrV0, OrV1, OrV2⟩, HT, HC⟩, ⟨ZcpK, ZcpV, ZchK, ZchV, ZsK0, ZsK1, ZsK2, ZrK0, ZrK1, ZrK2, ZsV0, ZsV1, ZsV2, ZrV0, ZrV1, ZrV2⟩, #Hlev⟩
  imod (Rounds.cell_open ER (sched (kv W) (vv W)) (g := dc c cpK) (Set.mem_univ (K (dc c cpK)))) $$ [OcpK ZcpK] with ⟨AcpK, #RcpK⟩
  · isplitr; · iapply (inv_dma (kv W) (vv W) K c cpK (by decide)); iexact HI
    isplitl [OcpK] <;> iassumption
  imod (Rounds.cell_open ER (sched (kv W) (vv W)) (g := dc c cpV) (Set.mem_univ (K (dc c cpV)))) $$ [OcpV ZcpV] with ⟨AcpV, #RcpV⟩
  · isplitr; · iapply (inv_dma (kv W) (vv W) K c cpV (by decide)); iexact HI
    isplitl [OcpV] <;> iassumption
  imod (Rounds.cell_open ER (sched (kv W) (vv W)) (g := dc c chK) (Set.mem_univ (K (dc c chK)))) $$ [OchK ZchK] with ⟨AchK, #RchK⟩
  · isplitr; · iapply (inv_dma (kv W) (vv W) K c chK (by decide)); iexact HI
    isplitl [OchK] <;> iassumption
  imod (Rounds.cell_open ER (sched (kv W) (vv W)) (g := dc c chV) (Set.mem_univ (K (dc c chV)))) $$ [OchV ZchV] with ⟨AchV, #RchV⟩
  · isplitr; · iapply (inv_dma (kv W) (vv W) K c chV (by decide)); iexact HI
    isplitl [OchV] <;> iassumption
  imod (Rounds.cell_open ER (sched (kv W) (vv W)) (g := dc c sK0) (Set.mem_univ (K (dc c sK0)))) $$ [OsK0 ZsK0] with ⟨AsK0, #RsK0⟩
  · isplitr; · iapply (inv_dma (kv W) (vv W) K c sK0 (by decide)); iexact HI
    isplitl [OsK0] <;> iassumption
  imod (Rounds.cell_open ER (sched (kv W) (vv W)) (g := dc c sK1) (Set.mem_univ (K (dc c sK1)))) $$ [OsK1 ZsK1] with ⟨AsK1, #RsK1⟩
  · isplitr; · iapply (inv_dma (kv W) (vv W) K c sK1 (by decide)); iexact HI
    isplitl [OsK1] <;> iassumption
  imod (Rounds.cell_open ER (sched (kv W) (vv W)) (g := dc c sK2) (Set.mem_univ (K (dc c sK2)))) $$ [OsK2 ZsK2] with ⟨AsK2, #RsK2⟩
  · isplitr; · iapply (inv_dma (kv W) (vv W) K c sK2 (by decide)); iexact HI
    isplitl [OsK2] <;> iassumption
  imod (Rounds.cell_open ER (sched (kv W) (vv W)) (g := dc c rK0) (Set.mem_univ (K (dc c rK0)))) $$ [OrK0 ZrK0] with ⟨ArK0, #RrK0⟩
  · isplitr; · iapply (inv_dma (kv W) (vv W) K c rK0 (by decide)); iexact HI
    isplitl [OrK0] <;> iassumption
  imod (Rounds.cell_open ER (sched (kv W) (vv W)) (g := dc c rK1) (Set.mem_univ (K (dc c rK1)))) $$ [OrK1 ZrK1] with ⟨ArK1, #RrK1⟩
  · isplitr; · iapply (inv_dma (kv W) (vv W) K c rK1 (by decide)); iexact HI
    isplitl [OrK1] <;> iassumption
  imod (Rounds.cell_open ER (sched (kv W) (vv W)) (g := dc c rK2) (Set.mem_univ (K (dc c rK2)))) $$ [OrK2 ZrK2] with ⟨ArK2, #RrK2⟩
  · isplitr; · iapply (inv_dma (kv W) (vv W) K c rK2 (by decide)); iexact HI
    isplitl [OrK2] <;> iassumption
  imod (Rounds.cell_open ER (sched (kv W) (vv W)) (g := dc c sV0) (Set.mem_univ (K (dc c sV0)))) $$ [OsV0 ZsV0] with ⟨AsV0, #RsV0⟩
  · isplitr; · iapply (inv_dma (kv W) (vv W) K c sV0 (by decide)); iexact HI
    isplitl [OsV0] <;> iassumption
  imod (Rounds.cell_open ER (sched (kv W) (vv W)) (g := dc c sV1) (Set.mem_univ (K (dc c sV1)))) $$ [OsV1 ZsV1] with ⟨AsV1, #RsV1⟩
  · isplitr; · iapply (inv_dma (kv W) (vv W) K c sV1 (by decide)); iexact HI
    isplitl [OsV1] <;> iassumption
  imod (Rounds.cell_open ER (sched (kv W) (vv W)) (g := dc c sV2) (Set.mem_univ (K (dc c sV2)))) $$ [OsV2 ZsV2] with ⟨AsV2, #RsV2⟩
  · isplitr; · iapply (inv_dma (kv W) (vv W) K c sV2 (by decide)); iexact HI
    isplitl [OsV2] <;> iassumption
  imod (Rounds.cell_open ER (sched (kv W) (vv W)) (g := dc c rV0) (Set.mem_univ (K (dc c rV0)))) $$ [OrV0 ZrV0] with ⟨ArV0, #RrV0⟩
  · isplitr; · iapply (inv_dma (kv W) (vv W) K c rV0 (by decide)); iexact HI
    isplitl [OrV0] <;> iassumption
  imod (Rounds.cell_open ER (sched (kv W) (vv W)) (g := dc c rV1) (Set.mem_univ (K (dc c rV1)))) $$ [OrV1 ZrV1] with ⟨ArV1, #RrV1⟩
  · isplitr; · iapply (inv_dma (kv W) (vv W) K c rV1 (by decide)); iexact HI
    isplitl [OrV1] <;> iassumption
  imod (Rounds.cell_open ER (sched (kv W) (vv W)) (g := dc c rV2) (Set.mem_univ (K (dc c rV2)))) $$ [OrV2 ZrV2] with ⟨ArV2, #RrV2⟩
  · isplitr; · iapply (inv_dma (kv W) (vv W) K c rV2 (by decide)); iexact HI
    isplitl [OrV2] <;> iassumption
  imodintro
  isplitr
  · iexists K; unfold pers
    isplitr; · iexact HI
    isplitr; · iexact Hlev
    isplitr; · iexact Rb0
    isplitr; · iexact Rb1
    isplitr; · iexact Rb2
    isplitr; · iexact RcpK
    isplitr; · iexact RcpV
    isplitr; · iexact RchK
    isplitr; · iexact RchV
    isplitr; · iexact RsK0
    isplitr; · iexact RsK1
    isplitr; · iexact RsK2
    isplitr; · iexact RrK0
    isplitr; · iexact RrK1
    isplitr; · iexact RrK2
    isplitr; · iexact RsV0
    isplitr; · iexact RsV1
    isplitr; · iexact RsV2
    isplitr; · iexact RrV0
    isplitr; · iexact RrV1
    iexact RrV2
  isplitl [HT]; · iexact HT
  isplitl [HC]; · iexact HC
  unfold possB
  isplitl [Ab]; · iexact Ab
  isplitl [AcpK]; · iexact AcpK
  isplitl [AcpV]; · iexact AcpV
  isplitl [AchK]; · iexact AchK
  isplitl [AchV]; · iexact AchV
  isplitl [AsK0]; · iexact AsK0
  isplitl [AsK1]; · iexact AsK1
  isplitl [AsK2]; · iexact AsK2
  isplitl [ArK0]; · iexact ArK0
  isplitl [ArK1]; · iexact ArK1
  isplitl [ArK2]; · iexact ArK2
  isplitl [AsV0]; · iexact AsV0
  isplitl [AsV1]; · iexact AsV1
  isplitl [AsV2]; · iexact AsV2
  isplitl [ArV0]; · iexact ArV0
  isplitl [ArV1]; · iexact ArV1
  iexact ArV2

/-! ### The buffers the call addresses itself -/

abbrev arrs : Finset (DevRef τ sig) := Pipeline.arrRefs (τ := τ) spec0
def Hs : Finset (DevRef τ sig) := {Proc.devRef .tc main_v33, Proc.devRef .tc main_v46, Proc.devRef .tc main_v47_1, Proc.devRef .tc main_v47_2}
abbrev Sr : Finset (DevRef τ sig) := bufs \ arrs

theorem arrs_eq : arrs = {Proc.devRef .tc main_v20, Proc.devRef .tc main_arg4, Proc.devRef .tc main_v47_0} := by decide
theorem arrs_sub : arrs ⊆ bufs := Pipeline.arrRefs_sub_ucRefs _ (by decide)
theorem Hs_sub : Hs ⊆ Sr := by
  show Hs ⊆ bufs \ arrs
  rw [arrs_eq]
  unfold Hs
  decide

theorem held_Hs (c : Dev nD) (V : Valuation τ sig (Elt F)) : (StableHlo.held (c.tc : Thread nD τ) Hs V : sProp 𝕄)
    = iprop((((c : Thread nD τ).loc main_v33) ↦{fullShare} V (Proc.devRef .tc main_v33)) ∗ (((c : Thread nD τ).loc main_v46) ↦{fullShare} V (Proc.devRef .tc main_v46))
      ∗ (((c : Thread nD τ).loc main_v47_1) ↦{fullShare} V (Proc.devRef .tc main_v47_1)) ∗ (((c : Thread nD τ).loc main_v47_2) ↦{fullShare} V (Proc.devRef .tc main_v47_2))) := by
  unfold StableHlo.held
  rw [bigSep_eq_bigSepL_of_eq [Proc.devRef .tc main_v33, Proc.devRef .tc main_v46, Proc.devRef .tc main_v47_1, Proc.devRef .tc main_v47_2] (by decide) (by decide)]
  rfl

/-! ### The region's data -/

def scrR (c : Dev nD) : sProp 𝕄 := Pipeline.scopedRest (Ix := Unit) (Name := ℕ) (U := UU) (Lvl := ℕ) (Val := Elt F) spec0 c

/-- Before the call's one point, and after it. -/
def Φin (c : Dev nD) : sProp 𝕄 :=
  iprop(Xk W c ∗ kop (kv W) c ∗ vop (vv W) c ∗ (∃ fk fv, rowsB c fk fv) ∗ scrB c ∗ ∃ r, prngReg c r)
def Φout (c : Dev nD) : sProp 𝕄 :=
  iprop(zerosB c ∗ kop (kv W) c ∗ vop (vv W) c ∗ rowsB c (gath (kv W)) (gath (vv W)) ∗ scrB c ∗ ∃ r, prngReg c r)

def dat (c : Dev nD) : Dat τ (Elt F) Unit ℕ UU ℕ cfg0 c where
  A w := W c (Proc.devRef .tc (Pipeline.arrRef spec0 w))
  after w _ := match w with
    | ⟨0, _⟩ => qv W c
    | ⟨1, _⟩ => wv W c
    | ⟨2, _⟩ => ov W c
  Φ t := if t.val = 0 then Φin W c else Φout W c
  q _ := fullShare
  owed t := if t.val = 0 then O₀ c else 0

def pdats : (p : Fin 1) → (c : Dev nD) → Dat τ (Elt F) Unit ℕ UU ℕ (Pipeline.pin (pcfgs (F := F)) adm p) c
  | 0 => dat W

theorem owed_zero (c : Dev nD) : (pdats W 0 c).owed 0 = O₀ c := by
  show (if ((0 : Fin (cfg0.N + 1)).val = 0) then O₀ c else 0) = O₀ c
  exact if_pos rfl
theorem owed_first (c : Dev nD) : (dat W c).owed t0_0.castSucc = O₀ c := by
  show (if (t0_0.castSucc : Fin (cfg0.N + 1)).val = 0 then O₀ c else 0) = O₀ c
  exact if_pos rfl
theorem owed_last (c : Dev nD) : (pdats W 0 c).owed (Fin.last _) = 0 := by
  show (if (Fin.last cfg0.N).val = 0 then O₀ c else 0) = 0
  rw [Fin.val_last, if_neg (by rw [show cfg0.N = 1 from N_0]; decide)]

theorem owes_in {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) :
    (ow c O : sProp 𝕄) ⊢ (d.owesAt () t : sProp 𝕄) := by
  unfold ow Dat.owesAt Pipeline.owesWithin Dat.bound
  rw [h0, hr]
  iintro ⟨%Y, HO⟩
  iexists Y
  isplitr; · ipureintro; exact fun _ _ => Or.inl trivial
  iexact HO
theorem owes_out {cfg : Pipeline.Cfg sig Λ₀} {c : Dev nD} (d : Dat τ (Elt F) Unit ℕ UU ℕ cfg c) (t : Fin (cfg.N + 1))
    (O : CellTallies nD τ sig Unit) (h0 : d.owed t = O) :
    (d.owesAt () t : sProp 𝕄) ⊢ (ow c O : sProp 𝕄) := by
  unfold ow Dat.owesAt Pipeline.owesWithin
  rw [h0]
  iintro ⟨%Y, -, HO⟩
  iexists Y; iexact HO

theorem before0 (c : Dev nD) (d : (cfg0.win 0).block.Idx → Elt F (cfg0.win 0).elt) : (dat W c).before 0 t0_0 d = qv W c := by
  unfold Dat.before
  rw [if_pos (by decide)]
  funext i
  show W c (Proc.devRef .tc main_v20) _ = W c (Proc.devRef .tc main_v20) i
  congr 1
  funext a
  apply Fin.ext
  show 0 * _ + 1 * (i a).val = (i a).val
  omega
theorem before1 (c : Dev nD) (d : (cfg0.win 1).block.Idx → Elt F (cfg0.win 1).elt) : (dat W c).before 1 t0_0 d = wv W c := by
  unfold Dat.before
  rw [if_pos (by decide)]
  funext i
  show W c (Proc.devRef .tc main_arg4) _ = W c (Proc.devRef .tc main_arg4) i
  congr 1
  funext a
  apply Fin.ext
  show 0 * _ + 1 * (i a).val = (i a).val
  omega

theorem owned_eq {κs : Space} {s : Shape} {e : EltTy} (c : Dev nD) (m : Memref sig .tc κs s e) (V : s.Idx → Elt F e) :
    (owned (U := UU) c m V : sProp 𝕄) = owns (c : Thread nD τ) m fullShare V := rfl

set_option maxHeartbeats 1600000 in
theorem body_ok (c : Dev nD) : BodyObligation (dat W c) defs₀ 𝒱₀ () Set.univ := fun t => by
  obtain rfl := fin_N0 t
  rw [bigSep_W0, bigSep_W0]
  rw [show (dat W c).Φ t0_0.castSucc = Φin W c from rfl, show (dat W c).Φ t0_0.succ = Φout W c from rfl]
  unfold Φin Φout Xk
  iintro ⟨⟨⟨⟨%K, #HP⟩, HT, HC, HA⟩, Hk, Hv, ⟨%fk, %fv, Hr⟩, Hs, Hg⟩, HO, ⟨%d0, H0⟩, ⟨%d1, H1⟩, ⟨%d2, H2⟩⟩
  rw [before0, before1]
  ihave HO' := (owes_out (dat W c) _ (O₀ c) (owed_first W c)) $$ HO
  iapply (wp_fupd frame _ Set.univ)
  iapply (body_run (kv W) (vv W) defs₀ K c fk fv _ (hstage0_0 0) (Memref.isWhole_whole _) (Memref.isWhole_whole _) _ (hstage0_1 0) _ (hstage0_2 0)
    (Memref.isWhole_whole _) (Memref.isWhole_whole _) (Memref.isWhole_whole _) (Memref.isWhole_whole _) (Memref.isWhole_whole _) (Memref.isWhole_whole _) (Memref.isWhole_whole _)
    (qv W c) (wv W c) ((dat W c).before 2 t0_0 d2) _)
  isplitl [HT HC HA HO' Hk Hv Hr Hs H0 H1 H2]
  · isplitr; · iexact HP
    isplitl [HT]; · iexact HT
    isplitl [HC]; · iexact HC
    isplitl [HA]; · iexact HA
    isplitl [HO']; · iexact HO'
    isplitl [Hk]; · iexact Hk
    isplitl [Hv]; · iexact Hv
    isplitl [Hr]; · iexact Hr
    isplitl [Hs]; · iexact Hs
    isplitl [H0]; · iapply (Entails.of_eq (owned_eq c _ _).symm) $$ H0
    isplitl [H1]; · iapply (Entails.of_eq (owned_eq c _ _).symm) $$ H1
    iapply (Entails.of_eq (owned_eq c _ _).symm) $$ H2
  iintro ⟨HE, Hk, Hv, Hr, Hs, H0, H1, H2, HO⟩
  imod (close_all (kv W) (vv W) K c) $$ [HE] with HZ
  · isplitr; · iexact HP
    iexact HE
  imodintro
  isplitl [HZ Hk Hv Hr Hs Hg]
  · isplitl [HZ]; · iexact HZ
    isplitl [Hk]; · iexact Hk
    isplitl [Hv]; · iexact Hv
    isplitl [Hr]; · iexact Hr
    isplitl [Hs]; · iexact Hs
    iexact Hg
  isplitl [HO]; · iapply (owes_in (dat W c) t0_0.succ 0 (owed_last W c) rfl); iexact HO
  isplitl [H0]; · iapply (Entails.of_eq (owned_eq c _ _)) $$ H0
  isplitl [H1]; · iapply (Entails.of_eq (owned_eq c _ _)) $$ H1
  iapply (Entails.of_eq (owned_eq c _ _)) $$ H2
/-! ### The region -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem scr_eq (c : Dev nD) : (scrR (F := F) c : sProp 𝕄) ⊢ scrB c := by
  unfold scrR scrB owned
  rw [scopedRest0_eq]
  iintro ⟨⟨%f0, H0⟩, ⟨%f1, H1⟩, ⟨%f2, H2⟩, ⟨%f3, H3⟩, ⟨%f4, H4⟩⟩
  simp only [Memref.view_whole, View.read_whole, View.set_whole]
  isplitl [H0]; · iexists f0; iexists f0; isplitr; · ipureintro; rfl
                  iexact H0
  isplitl [H1]; · iexists f1; iexists f1; isplitr; · ipureintro; rfl
                  iexact H1
  isplitl [H2]; · iexists f2; iexists f2; isplitr; · ipureintro; rfl
                  iexact H2
  isplitl [H3]; · iexists f3; iexists f3; isplitr; · ipureintro; rfl
                  iexact H3
  iexists f4; iexists f4; isplitr; · ipureintro; rfl
  iexact H4
theorem scr_eq' (c : Dev nD) : (scrB c : sProp 𝕄) ⊢ scrR (F := F) c := by
  unfold scrR scrB owned
  rw [scopedRest0_eq]
  simp only [Memref.view_whole, View.read_whole, View.set_whole]
  iintro ⟨⟨%A0, %f0, -, H0⟩, ⟨%A1, %f1, -, H1⟩, ⟨%A2, %f2, -, H2⟩, ⟨%A3, %f3, -, H3⟩, ⟨%A4, %f4, -, H4⟩⟩
  isplitl [H0]; · iexists f0; iexact H0
  isplitl [H1]; · iexists f1; iexact H1
  isplitl [H2]; · iexists f2; iexact H2
  isplitl [H3]; · iexists f3; iexact H3
  iexists f4; iexact H4

theorem kop_eq (c : Dev nD) : (kop (kv W) c : sProp 𝕄) = (((c : Thread nD τ).loc main_v33) ↦{fullShare} kv W c) := by
  unfold kop
  simp only [Memref.view_whole, View.set_whole]
theorem vop_eq (c : Dev nD) : (vop (vv W) c : sProp 𝕄) = (((c : Thread nD τ).loc main_v46) ↦{fullShare} vv W c) := by
  unfold vop
  simp only [Memref.view_whole, View.set_whole]

theorem hin (c : Dev nD) : iprop(scrR (F := F) c ∗ (∃ r, prngReg c r) ∗ StableHlo.held (c.tc : Thread nD τ) Hs (W c) ∗ Xk W c) ⊢ (pdats W 0 c).Φ 0 := by
  rw [show (pdats W 0 c).Φ 0 = Φin W c from rfl, held_Hs]
  unfold Φin
  rw [kop_eq, vop_eq]
  iintro ⟨Hs, Hp, ⟨Hk, Hv, Hkg, Hvg⟩, HX⟩
  isplitl [HX]; · iexact HX
  isplitl [Hk]; · iexact Hk
  isplitl [Hv]; · iexact Hv
  isplitl [Hkg Hvg]
  · iexists _; iexists _; unfold rowsB
    isplitl [Hkg]; · iexact Hkg
    iexact Hvg
  isplitl [Hs]; · iapply (scr_eq c) $$ Hs
  iexact Hp

theorem hout (c : Dev nD) : (pdats W 0 c).Φ (Fin.last (Pipeline.pin (pcfgs (F := F)) adm 0).N)
    ⊢ iprop(scrR (F := F) c ∗ (∃ r, prngReg c r) ∗ StableHlo.held (c.tc : Thread nD τ) Hs (aft W c) ∗ Pipeline.ownSems0 osem c ∗ semVal (barCell c) 0) := by
  rw [show (pdats W 0 c).Φ (Fin.last _) = Φout W c from rfl, ownSems_eq, held_Hs, aft_kg, aft_vg, aft_ne W c _ (by decide) (by decide) (by decide), aft_ne W c _ (by decide) (by decide) (by decide)]
  unfold Φout zerosB rowsB
  rw [kop_eq, vop_eq]
  iintro ⟨⟨Zb, HZ⟩, Hk, Hv, ⟨Hkg, Hvg⟩, Hs, Hp⟩
  isplitl [Hs]; · iapply (scr_eq' c) $$ Hs
  isplitl [Hp]; · iexact Hp
  isplitl [Hk Hv Hkg Hvg]
  · isplitl [Hk]; · iexact Hk
    isplitl [Hv]; · iexact Hv
    isplitl [Hkg]; · iexact Hkg
    iexact Hvg
  isplitl [HZ]; · iexact HZ
  iexact Zb

theorem owed_pos {c : Dev nD} {g : GSem nD τ sig} {u : Unit} (h : 0 < O₀ c g u) : u ∈ L g ∧ 0 < lv g u := by
  by_contra hn
  have hb : ∀ (d : Dev nD), ¬ (g = barCell d ∧ u = ()) := fun d hd => hn ⟨by rw [hd.1, L_tc]; exact Finset.mem_singleton_self _, by rw [hd.1]; exact Nat.one_pos⟩
  have hR : OR c g u = 0 := by
    by_contra h0
    have := hi_OR c g u (Nat.pos_of_ne_zero h0)
    exact hn ⟨by unfold L; rw [if_pos this.1]; exact Finset.mem_singleton_self _, by omega⟩
  have e : O₀ c g u = OR c g u + tallyAt (barCell (pe c 2)) () 1 g u + tallyAt (barCell (pe c 1)) () 1 g u + tallyAt (barCell (pe c 0)) () 1 g u := rfl
  rw [e, hR, tallyAt_apply, tallyAt_apply, tallyAt_apply, if_neg (hb _), if_neg (hb _), if_neg (hb _)] at h
  exact absurd h (Nat.lt_irrefl 0)

theorem cutD (c : Dev nD) (t : Fin ((Pipeline.pin (pcfgs (F := F)) adm 0).N + 1)) (g : GSem nD τ sig) (i : Unit) (h : 0 < (pdats W 0 c).owed t g i) :
    i ∈ L g ∧ (0 : ℕ) < lv g i := by
  have e : (pdats W 0 c).owed t = if t.val = 0 then O₀ c else 0 := rfl
  rw [e] at h
  split at h
  · exact owed_pos h
  · exact absurd h (Nat.lt_irrefl 0)

theorem hW' (c : Dev nD) (w : Fin 3) : (dat W c).arrAt w cfg0.N = aft W c (Proc.devRef .tc (Pipeline.arrRef spec0 w)) := by
  match w with
  | 0 => exact ((dat W c).arrAt_in 0 rfl _).trans (aft_ne W c _ (by decide) (by decide) (by decide)).symm
  | 1 => exact ((dat W c).arrAt_in 1 rfl _).trans (aft_ne W c _ (by decide) (by decide) (by decide)).symm
  | 2 =>
    refine Eq.trans ?_ (aft_out W c).symm
    funext i
    exact (dat W c).arrAt_emb_eq_after_last 2 t0_0 (by decide +kernel) i

theorem lv_stage (c : Dev nD) (w : Fin 3) (s : Fin (spec0 w).nbuf) : lv ((c : Thread nD τ), .dma ((spec0 w).sem s)) () ≤ 0 := by
  have h : ¬ isRecv ((spec0 w).sem s).val := by revert w s; decide
  show (if isRecv ((spec0 w).sem s).val then 2 else 0) ≤ 0
  rw [if_neg h]

set_option backward.isDefEq.respectTransparency.types false in
def reg : Pipeline.RegionSeg (pcfgs (F := F)) adm (pdats W) () defs₀ 𝒱₀ L lv 0 :=
  Pipeline.RegionSeg.ofTalk (pcfgs (F := F)) adm (pdats W) () defs₀ 𝒱₀ L lv 0 osem osem_ok
    Hs Sr Hs_sub kitP rfl (fun c => (body_ok W c).loose)
    (fun _ => 0) O₀ (fun c => (owed_zero W c).trans (zero_add _).symm) (owed_last W) (fun _ => rfl) (fun c w => by match w with | 0 => rfl | 1 => rfl | 2 => rfl)
    W (aft W) (fun c b hb => by
      have h := Finset.mem_sdiff.mp hb
      have h2 := (Finset.mem_sdiff.mp h.1).2
      refine aft_ne W c b ?_ ?_ ?_
      · rintro rfl; exact h2 (by rw [arrs_eq]; decide)
      · rintro rfl; exact h.2 (by unfold Hs; decide)
      · rintro rfl; exact h.2 (by unfold Hs; decide))
    (Tk W) (fun c => semVal (barCell c) 0) (Xk W) (fun c => semVal (barCell c) 0) (hopen W) (hin W) (hout W)
    (fun c => by iintro H; imodintro; iexact H)
    (fun _ => 0)
    ⟨fun c w s => by rw [L_tc]; exact Finset.mem_singleton_self _, fun c w s => lv_stage c w s, fun c t g i h => cutD W c t g i h⟩
    (fun _ => iprop(emp))
    (fun c w => rfl) (fun c w => hW' W c w)

/-- What rides beside the buffers up to the call. -/
def R₀ (c : Dev nD) : sProp 𝕄 := iprop(Tk W c ∗ (∃ r, prngReg c r) ∗ ow c (O₀ c))
/-- And after it. -/
def R₁ (c : Dev nD) : sProp 𝕄 := iprop(semVal (barCell c) 0 ∗ ow c 0)

theorem reg_pre (c : Dev nD) : iprop(StableHlo.held (c.tc : Thread nD τ) bufs (W c) ∗ R₀ W c) ⊢ (reg W).pre c := by
  show _ ⊢ iprop(StableHlo.held (c.tc : Thread nD τ) arrs (W c) ∗ (∃ r, prngReg c r)
    ∗ (StableHlo.held (c.tc : Thread nD τ) Sr (W c) ∗ emp) ∗ Tk W c ∗ ∃ Wd, owes (c : Thread nD τ) (0 + O₀ c) Wd)
  rw [StableHlo.held_sub_split (c.tc : Thread nD τ) arrs_sub (W c), zero_add]
  unfold R₀ ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg W).post c ⊢ iprop(StableHlo.held (c.tc : Thread nD τ) bufs (aft W c) ∗ R₁ c) := by
  show iprop(StableHlo.held (c.tc : Thread nD τ) arrs (aft W c) ∗ (∃ r, prngReg c r)
    ∗ (StableHlo.held (c.tc : Thread nD τ) Sr (aft W c) ∗ emp) ∗ semVal (barCell c) 0 ∗ ∃ Wd, owes (c : Thread nD τ) (0 : CellTallies nD τ sig Unit) Wd) ⊢ _
  rw [StableHlo.held_sub_split (c.tc : Thread nD τ) arrs_sub (aft W c)]
  unfold R₁ ow
  iintro ⟨Ha, -, ⟨Hr, -⟩, Hb, HO⟩
  isplitl [Ha Hr]; · isplitl [Ha] <;> iassumption
  isplitl [Hb]; · iexact Hb
  iexact HO

end Cert.KernelIdeal.Flash

end
-- ==== Proof.Launch.lean ====
module

public import proofs.«01_k».proof.Proof.Region
public import proofs.«01_k».proof.Proof.Gen.KernelIdeal.Launch

@[expose] public section

set_option maxRecDepth 65536

noncomputable section

namespace Cert.KernelIdeal.Flash

open Idealize.SL Idealize.SL.RA Idealize.SL.BI
open scoped Idealize.SL.BI
open Idealize.SL.BI.BIBase Idealize.SL.BI.Laws Idealize.SL.ProofMode
open Cert.KernelIdeal.Gen Idealize.ShloMosaic Idealize.ShloMosaic.TcCoe Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The whole program, as segments -/

/-- The buffers at launch, and as the call finds them. -/
def V₀ (c : Dev nD) : Valuation τ sig (Elt F) := fun b => m (c, b)
def Vp (c : Dev nD) : Valuation τ sig (Elt F) := preV c (V₀ m c)
/-- The buffers at the end. -/
def Vz (c : Dev nD) : Valuation τ sig (Elt F) := postV (aft (Vp m) c)

local notation "ℍ" => Pipeline.HostSeg (Name := ℕ) (U := UU) (pcfgs (F := F)) defs₀ 𝒱₀ L lv

abbrev VA1 (c : Dev nD) : Valuation τ sig (Elt F) := v1 c (V₀ m c)
abbrev VA2 (c : Dev nD) : Valuation τ sig (Elt F) := v2 (VA1 m c)
abbrev VA3 (c : Dev nD) : Valuation τ sig (Elt F) := v3 (VA2 m c)
abbrev VA4 (c : Dev nD) : Valuation τ sig (Elt F) := case0 (VA3 m c)
abbrev VA5 (c : Dev nD) : Valuation τ sig (Elt F) := v5 (VA4 m c)
abbrev VA6 (c : Dev nD) : Valuation τ sig (Elt F) := case1 (VA5 m c)
abbrev VA7 (c : Dev nD) : Valuation τ sig (Elt F) := v7 (VA6 m c)
abbrev VA8 (c : Dev nD) : Valuation τ sig (Elt F) := case2 (VA7 m c)
abbrev VB1 (c : Dev nD) : Valuation τ sig (Elt F) := v11 (aft (Vp m) c)
abbrev VB2 (c : Dev nD) : Valuation τ sig (Elt F) := case3 (VB1 m c)

def sA1 (c : Dev nD) : ℍ := Pipeline.HostSeg.ofOps _ _ _ _ _ bufs (hostOps0 c) (mem_sub (hostOps0_sub c)) (mem_fresh rfl) (V₀ m) (R₀ (Vp m))
def sA2 : ℍ := Pipeline.HostSeg.ofOps _ _ _ _ _ bufs hostOps0_1 (mem_sub hostOps0_1_sub) (mem_fresh rfl) (VA1 m) (R₀ (Vp m))
def sA3 : ℍ := Pipeline.HostSeg.ofOps _ _ _ _ _ bufs hostOps0_2 (mem_sub hostOps0_2_sub) (mem_fresh rfl) (VA2 m) (R₀ (Vp m))
def sA4 : ℍ := caseSeg pick0 (word main_v16 rfl) arms0 (Pipeline.sub_ucRefs _ (StableHlo.ternary_bufs_sub ..)) rfl arms0_sub arms0_fresh (VA3 m) (R₀ (Vp m))
def sA5 : ℍ := Pipeline.HostSeg.ofOps _ _ _ _ _ bufs hostOps0_3 (mem_sub hostOps0_3_sub) (mem_fresh rfl) (VA4 m) (R₀ (Vp m))
def sA6 : ℍ := caseSeg pick1 (word main_v29 rfl) arms1 (Pipeline.sub_ucRefs _ (StableHlo.ternary_bufs_sub ..)) rfl arms1_sub arms1_fresh (VA5 m) (R₀ (Vp m))
def sA7 : ℍ := Pipeline.HostSeg.ofOps _ _ _ _ _ bufs hostOps0_4 (mem_sub hostOps0_4_sub) (mem_fresh rfl) (VA6 m) (R₀ (Vp m))
def sA8 : ℍ := caseSeg pick2 (word main_v42 rfl) arms2 (Pipeline.sub_ucRefs _ (StableHlo.ternary_bufs_sub ..)) rfl arms2_sub arms2_fresh (VA7 m) (R₀ (Vp m))
def sA9 : ℍ := Pipeline.HostSeg.ofOps _ _ _ _ _ bufs hostOps0_5 (mem_sub hostOps0_5_sub) (mem_fresh rfl) (VA8 m) (R₀ (Vp m))
def sB1 : ℍ := Pipeline.HostSeg.ofOps _ _ _ _ _ bufs hostOps1 (mem_sub hostOps1_sub) (mem_fresh rfl) (fun c => aft (Vp m) c) R₁
def sB2 : ℍ := caseSeg pick3 (word main_v49 rfl) arms3 (Pipeline.sub_ucRefs _ (StableHlo.ternary_bufs_sub ..)) rfl arms3_sub arms3_fresh (VB1 m) R₁
def sB3 : ℍ := Pipeline.HostSeg.ofOps _ _ _ _ _ bufs hostOps1_1 (mem_sub hostOps1_1_sub) (mem_fresh rfl) (VB2 m) R₁

def segs (c : Dev nD) : List (Pipeline.Seg (pcfgs (F := F)) adm (pdats (Vp m)) () defs₀ 𝒱₀ L lv) :=
  [.host (sA1 m c), .host (sA2 m), .host (sA3 m), .host (sA4 m), .host (sA5 m), .host (sA6 m), .host (sA7 m), .host (sA8 m), .host (sA9 m),
    .region (reg (Vp m)), .host (sB1 m), .host (sB2 m), .host (sB3 m)]

theorem chain_congr {E : Type → Type} {q q' : Prog E PUnit} {l l' : List (Prog E PUnit)} (h : q = q') (hl : Pipeline.chain l = Pipeline.chain l') :
    Pipeline.chain (q :: l) = Pipeline.chain (q' :: l') := by
  subst h
  rw [Pipeline.chain_cons, Pipeline.chain_cons, hl]

set_option maxHeartbeats 1600000 in
set_option backward.isDefEq.respectTransparency.types false in
theorem main_segs_eq (c : Dev nD) : main (F := F) c = Pipeline.Seg.run (segs m c) := by
  rw [main_chain, Pipeline.Seg.run_eq_chain]
  unfold segs
  refine chain_congr rfl ?_
  refine chain_congr rfl ?_
  refine chain_congr rfl ?_
  refine chain_congr (caseProg_eq pick0 (word main_v16 rfl) arms0 _ rfl rfl rfl) ?_
  refine chain_congr rfl ?_
  refine chain_congr (caseProg_eq pick1 (word main_v29 rfl) arms1 _ rfl rfl rfl) ?_
  refine chain_congr rfl ?_
  refine chain_congr (caseProg_eq pick2 (word main_v42 rfl) arms2 _ rfl rfl rfl) ?_
  refine chain_congr rfl ?_
  refine chain_congr rfl ?_
  refine chain_congr rfl ?_
  refine chain_congr (caseProg_eq pick3 (word main_v49 rfl) arms3 _ rfl rfl rfl) ?_
  refine chain_congr rfl ?_
  rfl

/-! ## The launch -/

def barEmb : Dev nD ↪ GSem nD τ sig := ⟨fun c => barCell c, fun _ _ h => congrArg (fun g : GSem nD τ sig => g.1.1) h⟩
theorem osem_inj : Function.Injective osem := by decide
theorem osem_ne_bar : ∀ k : Fin 16, osem k ≠ .reg barS := by decide
def scEmb : Dev nD × Fin 16 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem sem_cases : ∀ sm : SemLoc sig, (match sm with | .reg _ => true | .dma s => decide (3 ≤ s.val)) = true → sm = .reg barS ∨ ∃ k, osem k = sm := by decide

theorem all_sub : allCells ⊆ barCells ∪ scCells := fun g hg => by
  obtain ⟨-, h1, h2⟩ := Finset.mem_filter.mp hg
  obtain ⟨⟨c, k⟩, sm⟩ := g
  simp only at h1
  subst h1
  rcases sem_cases sm h2 with h | ⟨k, h⟩
  · subst h; exact Finset.mem_union_left _ (Finset.mem_map_of_mem barEmb (Finset.mem_univ c))
  · subst h; exact Finset.mem_union_right _ (Finset.mem_map_of_mem scEmb (Finset.mem_univ (c, k)))

/-- The duties' tokens, each under the device that pays with it: whose cell, which semaphore, which round, which duty. -/
def tdev (c : Dev nD) : Fin 25 → Dev nD := ![c, c, pe c 0, pe c 1, pe c 2, c, c, c, c, c, c, c, c, c, c, c, c, c, c, pp c 0, pp c 1, pp c 2, pp c 0, pp c 1, pp c 2]
def tsem : Fin 25 → SemLoc sig := ![.dma cpK, .dma cpV, .reg barS, .reg barS, .reg barS, .dma chK, .dma chK, .dma chK, .dma chK, .dma chV, .dma chV, .dma chV, .dma chV, .dma sK0, .dma sK1, .dma sK2, .dma sV0, .dma sV1, .dma sV2, .dma rK0, .dma rK1, .dma rK2, .dma rV0, .dma rV1, .dma rV2]
def trd : Fin 25 → ℕ := ![0, 0, 0, 0, 0, 0, 1, 2, 3, 0, 1, 2, 3, 0, 0, 0, 0, 0, 0, 0, 0, 0, 0, 0, 0]
def tdu : Fin 25 → Fin 3 := ![0, 0, 0, 1, 2, 0, 0, 0, 0, 0, 0, 0, 0, 0, 0, 0, 0, 0, 0, 0, 0, 0, 0, 0, 0]
theorem tk_inj : ∀ k k' : Fin 25, tsem k = tsem k' → trd k = trd k' → tdu k = tdu k' → k = k' := by decide
theorem tdev_inj : ∀ (c c' : Dev nD) (k : Fin 25), tdev c k = tdev c' k → c = c' := by decide
def talkToks : Finset (GSem nD τ sig × ℕ × Fin 3) :=
  Finset.univ.map ⟨fun ck : Dev nD × Fin 25 => (((tdev ck.1 ck.2 : Thread nD τ), tsem ck.2), trd ck.2, tdu ck.2), fun a b h => by
    have hk : a.2 = b.2 := tk_inj _ _ (congrArg (fun t : GSem nD τ sig × ℕ × Fin 3 => t.1.2) h) (congrArg (fun t : GSem nD τ sig × ℕ × Fin 3 => t.2.1) h)
      (congrArg (fun t : GSem nD τ sig × ℕ × Fin 3 => t.2.2) h)
    have hd : tdev a.1 a.2 = tdev b.1 b.2 := congrArg (fun t : GSem nD τ sig × ℕ × Fin 3 => t.1.1.1) h
    rw [hk] at hd
    exact Prod.ext (tdev_inj _ _ _ hd) hk⟩

theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide) Φ

theorem toks_eq : bigSep talkToks (fun x => (dutyTok ER x.1 x.2.1 x.2.2 : sProp 𝕄)) = bigSep Finset.univ fun c : Dev nD => toksB c := by
  unfold talkToks
  rw [bigSep_map, bigSep_univ_prod]
  exact bigSep_congr fun c _ => by
    unfold toksB
    rw [bigSep_fin25]
    rfl

/-- The launch element. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource held by one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp
def G : Dev nD → sProp 𝕄 := onDev 0 (BI.own (ER (launchOf barCells scCells talkToks)))

variable (W : Dev nD → Valuation τ sig (Elt F))

/-- What every device may consult. -/
def records (κ : GSem nD τ sig → ℕ) : sProp 𝕄 :=
  iprop((bigSep (barCells ∪ scCells) fun g => cellInv ER (sched (kv W) (vv W)) (κ g) g) ∗ bigSep barCells fun g => reached ER g 0)
instance records_persistent (κ : GSem nD τ sig → ℕ) : BI.Persistent (records W κ) := by unfold records; infer_instance

theorem invs_of (κ : GSem nD τ sig → ℕ) :
    (bigSep (barCells ∪ scCells) fun g => (cellInv ER (sched (kv W) (vv W)) (κ g) g : sProp 𝕄)) ⊢ invs (kv W) (vv W) κ := by
  unfold invs
  exact BI.bigSep_subset all_sub
theorem reached_at (c : Dev nD) : (bigSep barCells fun g => (reached ER g 0 : sProp 𝕄)) ⊢ reached ER (barCell c) 0 :=
  bigSep_elim (Finset.mem_map_of_mem barEmb (Finset.mem_univ c))

/-- What is the device's alone. -/
def linear (c : Dev nD) : sProp 𝕄 := iprop(atPos ER (barCell c) 0 ∅ 0 ∗ opensB c ∗ toksB c)

/-! ### The credit -/

theorem tally_cell (a c : Dev nD) (s t : SemLoc sig) (n : ℕ) :
    (tallyAt ((a : Thread nD τ), s) () n : CellTallies nD τ sig Unit) ((c : Thread nD τ), t) () = if c = a ∧ t = s then n else 0 := by
  rw [tallyAt_apply]
  refine if_congr ⟨fun h => ⟨congrArg (fun g : GSem nD τ sig => g.1.1) h.1, congrArg Prod.snd h.1⟩, fun h => ⟨by rw [h.1, h.2], rfl⟩⟩ rfl rfl

theorem owed_at (d c : Dev nD) (t : SemLoc sig) : O₀ d ((c : Thread nD τ), t) ()
    = 0 + (if c = pp d 1 ∧ t = .dma rV1 then N else 0) + (if c = pp d 1 ∧ t = .dma rK1 then N else 0) + (if c = pp d 2 ∧ t = .dma rV2 then N else 0)
      + (if c = pp d 2 ∧ t = .dma rK2 then N else 0) + (if c = pp d 0 ∧ t = .dma rV0 then N else 0) + (if c = pp d 0 ∧ t = .dma rK0 then N else 0)
      + (if c = pe d 2 ∧ t = .reg barS then 1 else 0) + (if c = pe d 1 ∧ t = .reg barS then 1 else 0) + (if c = pe d 0 ∧ t = .reg barS then 1 else 0) := by
  simp only [← tally_cell]
  rfl

theorem owed_bar (d c : Dev nD) : O₀ d (barCell c) () = if d = c then 0 else 1 := by
  rw [owed_at]
  simp only [reduceCtorEq, and_false, if_false, and_true]
  revert d c
  decide

theorem owed_rK0 (d c : Dev nD) : O₀ d (dc c rK0) () = if d = pe c 0 then N else 0 := by
  rw [owed_at]
  generalize N = n
  simp only [reduceCtorEq, and_false, if_false, SemLoc.dma.injEq]
  have h : (c = pp d 0) ↔ (d = pe c 0) := by revert d c; decide
  rw [if_neg (fun h : c = pp d 1 ∧ rK0 = rV1 => absurd h.2 (by decide))]
  rw [if_neg (fun h : c = pp d 1 ∧ rK0 = rK1 => absurd h.2 (by decide))]
  rw [if_neg (fun h : c = pp d 2 ∧ rK0 = rV2 => absurd h.2 (by decide))]
  rw [if_neg (fun h : c = pp d 2 ∧ rK0 = rK2 => absurd h.2 (by decide))]
  rw [if_neg (fun h : c = pp d 0 ∧ rK0 = rV0 => absurd h.2 (by decide))]
  by_cases hd : d = pe c 0
  · rw [if_pos hd, if_pos ⟨h.mpr hd, trivial⟩]
    simp only [Nat.zero_add, Nat.add_zero]
  · rw [if_neg hd, if_neg (fun hh => hd (h.mp hh.1))]

theorem owed_rK1 (d c : Dev nD) : O₀ d (dc c rK1) () = if d = pe c 1 then N else 0 := by
  rw [owed_at]
  generalize N = n
  simp only [reduceCtorEq, and_false, if_false, SemLoc.dma.injEq]
  have h : (c = pp d 1) ↔ (d = pe c 1) := by revert d c; decide
  rw [if_neg (fun h : c = pp d 1 ∧ rK1 = rV1 => absurd h.2 (by decide))]
  rw [if_neg (fun h : c = pp d 2 ∧ rK1 = rV2 => absurd h.2 (by decide))]
  rw [if_neg (fun h : c = pp d 2 ∧ rK1 = rK2 => absurd h.2 (by decide))]
  rw [if_neg (fun h : c = pp d 0 ∧ rK1 = rV0 => absurd h.2 (by decide))]
  rw [if_neg (fun h : c = pp d 0 ∧ rK1 = rK0 => absurd h.2 (by decide))]
  by_cases hd : d = pe c 1
  · rw [if_pos hd, if_pos ⟨h.mpr hd, trivial⟩]
    simp only [Nat.zero_add, Nat.add_zero]
  · rw [if_neg hd, if_neg (fun hh => hd (h.mp hh.1))]

theorem owed_rK2 (d c : Dev nD) : O₀ d (dc c rK2) () = if d = pe c 2 then N else 0 := by
  rw [owed_at]
  generalize N = n
  simp only [reduceCtorEq, and_false, if_false, SemLoc.dma.injEq]
  have h : (c = pp d 2) ↔ (d = pe c 2) := by revert d c; decide
  rw [if_neg (fun h : c = pp d 1 ∧ rK2 = rV1 => absurd h.2 (by decide))]
  rw [if_neg (fun h : c = pp d 1 ∧ rK2 = rK1 => absurd h.2 (by decide))]
  rw [if_neg (fun h : c = pp d 2 ∧ rK2 = rV2 => absurd h.2 (by decide))]
  rw [if_neg (fun h : c = pp d 0 ∧ rK2 = rV0 => absurd h.2 (by decide))]
  rw [if_neg (fun h : c = pp d 0 ∧ rK2 = rK0 => absurd h.2 (by decide))]
  by_cases hd : d = pe c 2
  · rw [if_pos hd, if_pos ⟨h.mpr hd, trivial⟩]
    simp only [Nat.zero_add, Nat.add_zero]
  · rw [if_neg hd, if_neg (fun hh => hd (h.mp hh.1))]

theorem owed_rV0 (d c : Dev nD) : O₀ d (dc c rV0) () = if d = pe c 0 then N else 0 := by
  rw [owed_at]
  generalize N = n
  simp only [reduceCtorEq, and_false, if_false, SemLoc.dma.injEq]
  have h : (c = pp d 0) ↔ (d = pe c 0) := by revert d c; decide
  rw [if_neg (fun h : c = pp d 1 ∧ rV0 = rV1 => absurd h.2 (by decide))]
  rw [if_neg (fun h : c = pp d 1 ∧ rV0 = rK1 => absurd h.2 (by decide))]
  rw [if_neg (fun h : c = pp d 2 ∧ rV0 = rV2 => absurd h.2 (by decide))]
  rw [if_neg (fun h : c = pp d 2 ∧ rV0 = rK2 => absurd h.2 (by decide))]
  rw [if_neg (fun h : c = pp d 0 ∧ rV0 = rK0 => absurd h.2 (by decide))]
  by_cases hd : d = pe c 0
  · rw [if_pos hd, if_pos ⟨h.mpr hd, trivial⟩]
    simp only [Nat.zero_add, Nat.add_zero]
  · rw [if_neg hd, if_neg (fun hh => hd (h.mp hh.1))]

theorem owed_rV1 (d c : Dev nD) : O₀ d (dc c rV1) () = if d = pe c 1 then N else 0 := by
  rw [owed_at]
  generalize N = n
  simp only [reduceCtorEq, and_false, if_false, SemLoc.dma.injEq]
  have h : (c = pp d 1) ↔ (d = pe c 1) := by revert d c; decide
  rw [if_neg (fun h : c = pp d 1 ∧ rV1 = rK1 => absurd h.2 (by decide))]
  rw [if_neg (fun h : c = pp d 2 ∧ rV1 = rV2 => absurd h.2 (by decide))]
  rw [if_neg (fun h : c = pp d 2 ∧ rV1 = rK2 => absurd h.2 (by decide))]
  rw [if_neg (fun h : c = pp d 0 ∧ rV1 = rV0 => absurd h.2 (by decide))]
  rw [if_neg (fun h : c = pp d 0 ∧ rV1 = rK0 => absurd h.2 (by decide))]
  by_cases hd : d = pe c 1
  · rw [if_pos hd, if_pos ⟨h.mpr hd, trivial⟩]
    simp only [Nat.zero_add, Nat.add_zero]
  · rw [if_neg hd, if_neg (fun hh => hd (h.mp hh.1))]

theorem owed_rV2 (d c : Dev nD) : O₀ d (dc c rV2) () = if d = pe c 2 then N else 0 := by
  rw [owed_at]
  generalize N = n
  simp only [reduceCtorEq, and_false, if_false, SemLoc.dma.injEq]
  have h : (c = pp d 2) ↔ (d = pe c 2) := by revert d c; decide
  rw [if_neg (fun h : c = pp d 1 ∧ rV2 = rV1 => absurd h.2 (by decide))]
  rw [if_neg (fun h : c = pp d 1 ∧ rV2 = rK1 => absurd h.2 (by decide))]
  rw [if_neg (fun h : c = pp d 2 ∧ rV2 = rK2 => absurd h.2 (by decide))]
  rw [if_neg (fun h : c = pp d 0 ∧ rV2 = rV0 => absurd h.2 (by decide))]
  rw [if_neg (fun h : c = pp d 0 ∧ rV2 = rK0 => absurd h.2 (by decide))]
  by_cases hd : d = pe c 2
  · rw [if_pos hd, if_pos ⟨h.mpr hd, trivial⟩]
    simp only [Nat.zero_add, Nat.add_zero]
  · rw [if_neg hd, if_neg (fun hh => hd (h.mp hh.1))]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c
  decide

theorem launch_rK0 (c : Dev nD) :
    tallyOn (dc c rK0) (launchCredit (Pipeline.owing O₀) 0 (dc c rK0)) = (tallyAt (dc c rK0) () N : CellTallies nD τ sig Unit) := by
  unfold tallyAt
  refine congrArg _ (Finsupp.ext fun u => ?_)
  cases u
  rw [Pipeline.launchCredit_owing, Finsupp.single_eq_same, Finset.sum_congr rfl fun d _ => owed_rK0 d c, Finset.sum_ite_eq' Finset.univ (pe c 0) fun _ => N,
    if_pos (Finset.mem_univ _)]

theorem launch_rK1 (c : Dev nD) :
    tallyOn (dc c rK1) (launchCredit (Pipeline.owing O₀) 0 (dc c rK1)) = (tallyAt (dc c rK1) () N : CellTallies nD τ sig Unit) := by
  unfold tallyAt
  refine congrArg _ (Finsupp.ext fun u => ?_)
  cases u
  rw [Pipeline.launchCredit_owing, Finsupp.single_eq_same, Finset.sum_congr rfl fun d _ => owed_rK1 d c, Finset.sum_ite_eq' Finset.univ (pe c 1) fun _ => N,
    if_pos (Finset.mem_univ _)]

theorem launch_rK2 (c : Dev nD) :
    tallyOn (dc c rK2) (launchCredit (Pipeline.owing O₀) 0 (dc c rK2)) = (tallyAt (dc c rK2) () N : CellTallies nD τ sig Unit) := by
  unfold tallyAt
  refine congrArg _ (Finsupp.ext fun u => ?_)
  cases u
  rw [Pipeline.launchCredit_owing, Finsupp.single_eq_same, Finset.sum_congr rfl fun d _ => owed_rK2 d c, Finset.sum_ite_eq' Finset.univ (pe c 2) fun _ => N,
    if_pos (Finset.mem_univ _)]

theorem launch_rV0 (c : Dev nD) :
    tallyOn (dc c rV0) (launchCredit (Pipeline.owing O₀) 0 (dc c rV0)) = (tallyAt (dc c rV0) () N : CellTallies nD τ sig Unit) := by
  unfold tallyAt
  refine congrArg _ (Finsupp.ext fun u => ?_)
  cases u
  rw [Pipeline.launchCredit_owing, Finsupp.single_eq_same, Finset.sum_congr rfl fun d _ => owed_rV0 d c, Finset.sum_ite_eq' Finset.univ (pe c 0) fun _ => N,
    if_pos (Finset.mem_univ _)]

theorem launch_rV1 (c : Dev nD) :
    tallyOn (dc c rV1) (launchCredit (Pipeline.owing O₀) 0 (dc c rV1)) = (tallyAt (dc c rV1) () N : CellTallies nD τ sig Unit) := by
  unfold tallyAt
  refine congrArg _ (Finsupp.ext fun u => ?_)
  cases u
  rw [Pipeline.launchCredit_owing, Finsupp.single_eq_same, Finset.sum_congr rfl fun d _ => owed_rV1 d c, Finset.sum_ite_eq' Finset.univ (pe c 1) fun _ => N,
    if_pos (Finset.mem_univ _)]

theorem launch_rV2 (c : Dev nD) :
    tallyOn (dc c rV2) (launchCredit (Pipeline.owing O₀) 0 (dc c rV2)) = (tallyAt (dc c rV2) () N : CellTallies nD τ sig Unit) := by
  unfold tallyAt
  refine congrArg _ (Finsupp.ext fun u => ?_)
  cases u
  rw [Pipeline.launchCredit_owing, Finsupp.single_eq_same, Finset.sum_congr rfl fun d _ => owed_rV2 d c, Finset.sum_ite_eq' Finset.univ (pe c 2) fun _ => N,
    if_pos (Finset.mem_univ _)]

theorem creds_eq (c : Dev nD) : (bigSep [SemLoc.reg barS, .dma rK0, .dma rK1, .dma rK2, .dma rV0, .dma rV1, .dma rV2].toFinset fun sm : SemLoc sig =>
      (cred (tallyOn ((c.tc : Thread nD τ), sm) (launchCredit (Pipeline.owing O₀) 0 ((c.tc : Thread nD τ), sm))) : sProp 𝕄)) = credsB c := by
  unfold credsB
  rw [bigSep_eq_bigSepL_of_eq [SemLoc.reg barS, .dma rK0, .dma rK1, .dma rK2, .dma rV0, .dma rV1, .dma rV2] (by decide) (by decide)]
  rw [← launch_bar, ← launch_rK0, ← launch_rK1, ← launch_rK2, ← launch_rV0, ← launch_rV1, ← launch_rV2]
  rfl

theorem creds (c : Dev nD) : (Pipeline.launchCred O₀ c : sProp 𝕄) ⊢ credsB c := by
  rw [← creds_eq]
  unfold Pipeline.launchCred
  exact BI.bigSep_subset (Finset.subset_univ _)

/-! ### The run -/

theorem big_unpair {I : Type} [Fintype I] (Φ Ψ : I → sProp 𝕄) : bigSep Finset.univ (fun i => iprop(Φ i ∗ Ψ i)) ⊢ iprop(bigSep Finset.univ Φ ∗ bigSep Finset.univ Ψ) :=
  Entails.of_eq (BI.bigSep_sep ..)
theorem big_pair {I : Type} [Fintype I] (Φ Ψ : I → sProp 𝕄) : iprop(bigSep Finset.univ Φ ∗ bigSep Finset.univ Ψ) ⊢ bigSep Finset.univ (fun i => iprop(Φ i ∗ Ψ i)) :=
  Entails.of_eq (BI.bigSep_sep ..).symm

abbrev T₀ (c : Dev nD) : sProp 𝕄 := iprop(StableHlo.held (c.tc : Thread nD τ) bufs (V₀ m c) ∗ R₀ (Vp m) c)
abbrev Tₙ (c : Dev nD) : sProp 𝕄 := iprop(StableHlo.held (c.tc : Thread nD τ) bufs (Vz m c) ∗ semVal (barCell c) 0)

def bundle (c : Dev nD) : sProp 𝕄 :=
  iprop(StableHlo.held (c.tc : Thread nD τ) bufs (V₀ m c) ∗ credsB c ∗ owes (c : Thread nD τ) (O₀ c) ∅ ∗ ∃ r, prngReg c r)

theorem T₀_intro (κ : GSem nD τ sig → ℕ) (c : Dev nD) : iprop(records (Vp m) κ ∗ (linear c ∗ bundle m c)) ⊢ T₀ m c := by
  unfold records bundle linear T₀ R₀ Tk ow
  iintro ⟨⟨#HI, #HR⟩, ⟨HA, HO, HT⟩, Hh, HC, Hw, Hp⟩
  isplitl [Hh]; · iexact Hh
  isplitl [HA HO HT HC]
  · isplitr; · iexists κ; iapply (invs_of (Vp m) κ); iexact HI
    isplitr
    · isplitr; · iapply (reached_at (F := F) (pe c 0)); iexact HR
      isplitr; · iapply (reached_at (F := F) (pe c 1)); iexact HR
      iapply (reached_at (F := F) (pe c 2)); iexact HR
    isplitl [HA]; · iexact HA
    isplitl [HO]; · iexact HO
    isplitl [HT]; · iexact HT
    iexact HC
  isplitl [Hp]; · iexact Hp
  iexists ∅; iexact Hw

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c.tc : Thread nD τ) bufs (V₀ m c) from Pipeline.unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => (opensB c : sProp 𝕄)) :=
    Entails.of_eq (by
      rw [bigSep_map, bigSep_univ_prod]
      exact bigSep_congr fun c _ => by
        unfold opensB
        rw [bigSep_fin16]
        rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (big_unpair _ _) $$ H'
  icases H2 with ⟨HB, H3⟩
  ihave H4 := (big_unpair _ _) $$ H3
  icases H4 with ⟨Hv, HG⟩
  ihave Hu := (show bigSep Finset.univ (G (F := F)) ⊢ BI.own (ER (launchOf barCells scCells talkToks)) from
    Entails.of_eq (bigSep_onDev (F := F) 0 (BI.own (ER (launchOf barCells scCells talkToks))))) $$ HG
  imod (Rounds.fund_launch ER (sched (kv (Vp m)) (vv (Vp m))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (Vp m) κ) (Φ := fun c => iprop(linear c ∗ bundle m c)) fun c _ => T₀_intro m κ c)
  isplitr
  · unfold records
    isplitr; · iexact Hinv
    iexact Hr
  iapply (big_pair _ _)
  isplitr [HB]
  · unfold linear
    iapply (big_pair _ _); isplitl [Hat]; · iapply hat $$ Hat
    iapply (big_pair _ _); isplitl [Hopen]; · iapply hop $$ Hopen
    iapply (Entails.of_eq (toks_eq (F := F))) $$ Htok
  · iexact HB

theorem unscoped_eq : ∀ sm : SemLoc sig, sm.isScoped .tc = false → sm = .reg barS := by decide

/-- The buffers read off at the end. -/
abbrev ends : Finset (DevRef τ sig) := {Proc.devRef .tc main_v52, Proc.devRef .tc main_arg0, Proc.devRef .tc main_arg1, Proc.devRef .tc main_arg2, Proc.devRef .tc main_arg3, Proc.devRef .tc main_arg4}
theorem ends_sub : ends ⊆ bufs := by decide
theorem held_ends (c : Dev nD) (V : Valuation τ sig (Elt F)) : (StableHlo.held (c.tc : Thread nD τ) ends V : sProp 𝕄)
    = iprop((((c : Thread nD τ).loc main_v52) ↦{fullShare} V (Proc.devRef .tc main_v52)) ∗ (((c : Thread nD τ).loc main_arg0) ↦{fullShare} V (Proc.devRef .tc main_arg0))
      ∗ (((c : Thread nD τ).loc main_arg1) ↦{fullShare} V (Proc.devRef .tc main_arg1)) ∗ (((c : Thread nD τ).loc main_arg2) ↦{fullShare} V (Proc.devRef .tc main_arg2))
      ∗ (((c : Thread nD τ).loc main_arg3) ↦{fullShare} V (Proc.devRef .tc main_arg3)) ∗ (((c : Thread nD τ).loc main_arg4) ↦{fullShare} V (Proc.devRef .tc main_arg4))) := by
  unfold StableHlo.held
  rw [bigSep_eq_bigSepL_of_eq [Proc.devRef .tc main_v52, Proc.devRef .tc main_arg0, Proc.devRef .tc main_arg1, Proc.devRef .tc main_arg2, Proc.devRef .tc main_arg3, Proc.devRef .tc main_arg4] (by decide) (by decide)]
  rfl

theorem Vz_keep (c : Dev nD) {r : Ref sig .tc} (h1 : r ∉ wr_v1) (h2 : r ∉ wr_v2) (h3 : r ∉ wr_v3) (h4 : r ∉ wr0) (h5 : r ∉ wr_v5) (h6 : r ∉ wr1) (h7 : r ∉ wr_v7) (h8 : r ∉ wr2) (h9 : r ∉ wr_v9)
    (h10 : r ∉ wr_v11) (h11 : r ∉ wr3) (h12 : r ∉ wr_v13) (k0 : Proc.devRef (τ := τ) .tc r ≠ Proc.devRef .tc main_v47_0) (k1 : Proc.devRef (τ := τ) .tc r ≠ Proc.devRef .tc main_v47_1) (k2 : Proc.devRef (τ := τ) .tc r ≠ Proc.devRef .tc main_v47_2) :
    Vz m c (Proc.devRef .tc r) = m ((c.tc : Thread nD τ).loc r) := by
  unfold Vz
  rw [postV_keep _ h10 h11 h12, aft_ne _ _ _ k0 k1 k2]
  unfold Vp
  rw [preV_keep _ _ h1 h2 h3 h4 h5 h6 h7 h8 h9]
  rfl

set_option maxHeartbeats 1600000 in
set_option backward.isDefEq.respectTransparency.types false in
/-- Every run ends with the result as computed, the arguments unchanged and every counter at zero. -/
theorem run_main : θ_run (defs (F := F)) (onTc (τ := τ) (main (F := F))) ⟨m, fun _ => 0, ρ⟩
    (fun r => (∀ c : Dev nD, r.2.mem ((c.tc : Thread nD τ).loc main_v52) = Vz m c (Proc.devRef .tc main_v52)
        ∧ r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  Pipeline.θ_run_regions_kit_dev_sems (pcfgs (F := F)) adm (pdats (Vp m)) () cellOf_inj EP defs₀ 𝒱₀ L lv m ρ main (segs m)
    (fun c Q => by rw [main_segs_eq m c])
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => by
      refine ⟨.rfl, .rfl, .rfl, .rfl, .rfl, .rfl, .rfl, .rfl, .rfl, reg_pre (Vp m) c, reg_post (Vp m) c, .rfl, .rfl, ?_⟩
      show iprop(StableHlo.held (c.tc : Thread nD τ) bufs (Vz m c) ∗ R₁ c) ⊢ iprop(Tₙ m c ∗ ∃ W, owes (c : Thread nD τ) (0 : CellTallies nD τ sig Unit) W)
      unfold R₁ ow Tₙ
      iintro ⟨Hh, Hb, HO⟩
      isplitr [HO]
      · isplitl [Hh] <;> iassumption
      · iexact HO)
    (hinit := init m ρ)
    (QY := fun c s => (s.mem ((c.tc : Thread nD τ).loc main_v52) = Vz m c (Proc.devRef .tc main_v52)
        ∧ s.mem ((c.tc : Thread nD τ).loc main_arg0) = Vz m c (Proc.devRef .tc main_arg0) ∧ s.mem ((c.tc : Thread nD τ).loc main_arg1) = Vz m c (Proc.devRef .tc main_arg1)
        ∧ s.mem ((c.tc : Thread nD τ).loc main_arg2) = Vz m c (Proc.devRef .tc main_arg2) ∧ s.mem ((c.tc : Thread nD τ).loc main_arg3) = Vz m c (Proc.devRef .tc main_arg3)
        ∧ s.mem ((c.tc : Thread nD τ).loc main_arg4) = Vz m c (Proc.devRef .tc main_arg4)) ∧ s.sem (barCell c) = 0)
    (hfin := fun c s' => by
      dsimp only [Tₙ]
      rw [StableHlo.held_sub_split (c.tc : Thread nD τ) ends_sub, held_ends]
      iintro ⟨⟨⟨⟨H5, H0, H1, H2, H3, H4⟩, -⟩, Hb⟩, HSI⟩
      icombine HSI H5 gives %h5
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2, Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        refine ⟨h5, h0.trans (Vz_keep m c ?_ ?_ ?_ ?_ ?_ ?_ ?_ ?_ ?_ ?_ ?_ ?_ ?_ ?_ ?_), h1.trans (Vz_keep m c ?_ ?_ ?_ ?_ ?_ ?_ ?_ ?_ ?_ ?_ ?_ ?_ ?_ ?_ ?_), h2.trans (Vz_keep m c ?_ ?_ ?_ ?_ ?_ ?_ ?_ ?_ ?_ ?_ ?_ ?_ ?_ ?_ ?_),
          h3.trans (Vz_keep m c ?_ ?_ ?_ ?_ ?_ ?_ ?_ ?_ ?_ ?_ ?_ ?_ ?_ ?_ ?_), h4.trans (Vz_keep m c ?_ ?_ ?_ ?_ ?_ ?_ ?_ ?_ ?_ ?_ ?_ ?_ ?_ ?_ ?_)⟩ <;> decide,
      sem_eq_zero hs fun c sm hsm => by
        obtain rfl := unscoped_eq sm hsm
        exact (h c).2⟩)

end Cert.KernelIdeal.Flash

end
-- ==== Proof.Frames.lean ====
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 65536

noncomputable section

namespace Cert.KernelIdeal.Flash

open Idealize.ShloMosaic Idealize.ShloMosaic.TcCoe Idealize.SL.Sem

/-- At the machine's own formats a named constant is the constant as the program writes it. -/
instance bitsNamed : Named Bits := ⟨fun _ _ φ b => Scalar.ofBits φ b⟩

theorem no_sem : ∀ sm : SemLoc Cert.ReferenceIdeal.sig, False := by decide
theorem preK : Cert.Pre_finite_KernelIdeal.Facts := by constructor <;> decide
theorem preR : Cert.Pre_finite_ReferenceIdeal.Facts := by constructor <;> decide

theorem frame_ideal : Cert.quiescent_KernelIdeal (hKernelIdeal := Cert.KernelIdeal.Gen.facts) := fun m g _ =>
  (θ_run (Cert.KernelIdeal.defs (F := Ideal)) _ _).mono (fun r h => ⟨fun c => (h.1 c).2, h.2⟩) (run_main (F := Ideal) m g)

/-! The program as written, at the machine's formats, is the program with named constants read there. -/

set_option maxHeartbeats 4000000 in
theorem e_body : Cert.Kernel.cc0_body (F := Bits) = Cert.KernelIdeal.cc0_body (F := Bits) := by
  unfold Cert.Kernel.cc0_body Cert.KernelIdeal.cc0_body
  rfl
set_option maxHeartbeats 4000000 in
theorem e_part0 : Cert.Kernel.main_part0 (F := Bits) = Cert.KernelIdeal.main_part0 (F := Bits) := rfl
theorem e_part1 : Cert.Kernel.main_part1 (F := Bits) = Cert.KernelIdeal.main_part1 (F := Bits) := rfl
set_option maxHeartbeats 4000000 in
theorem e_table : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) => exact (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun e_body _) _) _) _) _) _) _) _) _) _) _) _) _) _) _) _) _) _) _) _) _) _) _) _) _) _) _) _) _) _)
theorem e_defs : Cert.Kernel.defs (F := Bits) = Cert.KernelIdeal.defs (F := Bits) :=
  congrArg (Pipeline.defs (Cert.KernelIdeal.pcfgs (F := Bits))) e_table
theorem e_main : Cert.Kernel.main (F := Bits) = Cert.KernelIdeal.main (F := Bits) := by
  funext d
  unfold Cert.Kernel.main Cert.KernelIdeal.main
  exact congrArg₂ (fun p q => Prog.bind p fun _ => q) (congrFun e_part0 d) (congrFun e_part1 d)

theorem run_same (m : (ℓ : Loc nD τ sig) → Buf (Elt Bits) ℓ) (g : Dev nD → PrngReg) (Q) {D : Defs nD τ sig (Elt Bits) (Pipeline.Sig Λ₀ (Fin 1) fun p => (pcfgs (F := Bits) p).Adm)}
    {M : Dev nD → Prog (TpuEff nD τ sig (Elt Bits) (Pipeline.Sig Λ₀ (Fin 1) fun p => (pcfgs (F := Bits) p).Adm) .tc) PUnit}
    (hD : D = defs (F := Bits)) (hM : M = main (F := Bits)) (h : θ_run (defs (F := Bits)) (onTc (τ := τ) (main (F := Bits))) ⟨m, fun _ => 0, g⟩ Q) :
    θ_run D (onTc (τ := τ) M) ⟨m, fun _ => 0, g⟩ Q := by
  subst hD hM
  exact h

theorem frame_kernel : Cert.quiescent_Kernel (hKernel := Cert.Kernel.Gen.facts) := fun m g _ =>
  run_same m g _ e_defs e_main ((θ_run (defs (F := Bits)) _ _).mono (fun r h => ⟨fun c => (h.1 c).2, h.2⟩) (run_main (F := Bits) m g))

theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, funext fun x => (no_sem x.2).elim⟩) (Cert.ReferenceIdeal.Value.run m g)
theorem frame_reference_finite : Cert.quiescent_ReferenceIdeal_pre_finite_ReferenceIdeal (hReferenceIdeal := Cert.ReferenceIdeal.Gen.facts) (hPre_finite_ReferenceIdeal := preR) := fun m g _ => frame_reference m g trivial
theorem frame_ideal_finite : Cert.quiescent_KernelIdeal_pre_finite_KernelIdeal (hKernelIdeal := Cert.KernelIdeal.Gen.facts) (hPre_finite_KernelIdeal := preK) := fun m g _ => frame_ideal m g trivial

theorem same_values : Cert.preserves_Kernel_KernelIdeal := ⟨IdealRules.named_const.statement Cert.KernelIdeal.κ "mask" .f32 0xCE6E6B28#32 ⊥ rfl, IdealRules.named_const.statement Cert.KernelIdeal.κ "scale" .bf16 0x3DB5#16 (((Real.sqrt 128)⁻¹ : ℝ) : EReal) rfl⟩

end Cert.KernelIdeal.Flash

end
-- ==== Proof.Soft.lean ====
module

public import Idealize.ShloMosaic.PureOps.Ideal

@[expose] public section

noncomputable section

namespace Cert.KernelIdeal.Flash

open Idealize.ShloMosaic

/-! ## Softmax sums over the extended reals -/

/-- A finite factor moves into a finite sum. -/
theorem real_mul_sum {ι : Type} (S : Finset ι) (r : ℝ) (hr : 0 ≤ r) (f : ι → EReal) : (r : EReal) * ∑ k ∈ S, f k = ∑ k ∈ S, (r : EReal) * f k := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem exp_real (x : ℝ) : Ideal.exp (x : EReal) = ((Real.exp x : ℝ) : EReal) := Ideal.exp_coe x
theorem exp_none : Ideal.exp (⊥ : EReal) = 0 := Ideal.exp_bot

/-- What a query row keeps: the maximum so far, the sum of the weights, and the weighted sum of the values. -/
structure Row where
  mx : EReal
  sm : EReal
  ac : Fin 128 → EReal

/-- A row after one more batch of keys with scores `t` and values `v`. -/
def Row.step {n : ℕ} (t : Fin n → EReal) (v : Fin n → Fin 128 → EReal) (R : Row) : Row :=
  let M := max R.mx (Finset.univ.sup t)
  ⟨M, Ideal.exp (R.mx - M) * R.sm + ∑ j, Ideal.exp (t j - M), fun d => Ideal.exp (R.mx - M) * R.ac d + ∑ j, Ideal.exp (t j - M) * v j d⟩

variable {κ : Type} [DecidableEq κ]

/-- The row holds the sums over the keys `T`, relative to some real number. -/
def Holds (T : Finset κ) (s : κ → ℝ) (v : κ → Fin 128 → EReal) (R : Row) : Prop :=
  ∃ M : ℝ, R.mx = M ∧ R.sm = ((∑ k ∈ T, Real.exp (s k - M) : ℝ) : EReal) ∧ ∀ d, R.ac d = ∑ k ∈ T, ((Real.exp (s k - M) : ℝ) : EReal) * v k d

theorem Holds.start (s : κ → ℝ) (v : κ → Fin 128 → EReal) (M : ℝ) : Holds ∅ s v ⟨M, 0, fun _ => 0⟩ := ⟨M, rfl, by simp, fun d => by simp⟩

/-- One batch: each of its columns is a key of `B`, once, or masked out. -/
theorem Holds.step {n : ℕ} {T : Finset κ} {s : κ → ℝ} {v : κ → Fin 128 → EReal} {R : Row} (h : Holds T s v R) (B : Finset κ) (hd : Disjoint T B)
    (ok : Fin n → Prop) [DecidablePred ok] (key : Fin n → κ) (hin : ∀ j, ok j → key j ∈ B) (hinj : ∀ i j, ok i → ok j → key i = key j → i = j)
    (hsur : ∀ k ∈ B, ∃ j, ok j ∧ key j = k) (t : Fin n → EReal) (u : Fin n → Fin 128 → EReal)
    (ht : ∀ j, ok j → t j = (s (key j) : EReal)) (hno : ∀ j, ¬ ok j → t j = ⊥) (hu : ∀ j, ok j → u j = v (key j)) :
    Holds (T ∪ B) s v (R.step t u) := by
  obtain ⟨M, hM, hL, hA⟩ := h
  have hreal : ∃ M' : ℝ, max R.mx (Finset.univ.sup t) = M' := by
    have htop : ∀ j, t j ≠ ⊤ := fun j => by
      by_cases hj : ok j
      · rw [ht j hj]; exact EReal.coe_ne_top _
      · rw [hno j hj]; exact bot_ne_top
    have h1 : max R.mx (Finset.univ.sup t) ≠ ⊤ := by
      rw [hM]
      refine ne_of_lt (max_lt (EReal.coe_lt_top _) ?_)
      exact (Finset.sup_lt_iff (bot_lt_top)).mpr fun j _ => lt_top_iff_ne_top.mpr (htop j)
    have h2 : max R.mx (Finset.univ.sup t) ≠ ⊥ := by
      rw [hM]
      exact ne_of_gt (lt_of_lt_of_le (EReal.bot_lt_coe M) (le_max_left _ _))
    exact ⟨_, (EReal.coe_toReal h1 h2).symm⟩
  obtain ⟨M', hM'⟩ := hreal
  have hB : ∀ f : κ → EReal, ∑ j, (if ok j then f (key j) else 0) = ∑ k ∈ B, f k := fun f => by
    rw [← Finset.sum_filter]
    refine Finset.sum_bij (fun j _ => key j) (fun j hj => hin j (Finset.mem_filter.mp hj).2) (fun i hi j hj => hinj i j (Finset.mem_filter.mp hi).2 (Finset.mem_filter.mp hj).2)
      (fun k hk => ?_) (fun _ _ => rfl)
    obtain ⟨j, hj, e⟩ := hsur k hk
    exact ⟨j, Finset.mem_filter.mpr ⟨Finset.mem_univ _, hj⟩, e⟩
  have hal : Ideal.exp (R.mx - M') = ((Real.exp (M - M') : ℝ) : EReal) := by
    rw [hM, ← EReal.coe_sub, exp_real]
  have hp : ∀ j, Ideal.exp (t j - M') = if ok j then ((Real.exp (s (key j) - M') : ℝ) : EReal) else 0 := fun j => by
    by_cases hj : ok j
    · rw [if_pos hj, ht j hj, ← EReal.coe_sub, exp_real]
    · rw [if_neg hj, hno j hj, sub_eq_add_neg, EReal.bot_add, exp_none]
  have hk : ∀ k, Real.exp (M - M') * Real.exp (s k - M) = Real.exp (s k - M') := fun k => by
    rw [← Real.exp_add]; congr 1; ring
  refine ⟨M', ?_, ?_, fun d => ?_⟩
  · exact hM'
  · unfold Row.step
    simp only [hM', hal, hp]
    rw [hB fun k => ((Real.exp (s k - M') : ℝ) : EReal), hL, ← EReal.coe_mul, Finset.mul_sum, ← coe_sum, ← EReal.coe_add, Finset.sum_union hd]
    simp only [hk]
  · unfold Row.step
    simp only [hM', hal, hp]
    have e : ∀ j, (if ok j then ((Real.exp (s (key j) - M') : ℝ) : EReal) else 0) * u j d = if ok j then ((Real.exp (s (key j) - M') : ℝ) : EReal) * v (key j) d else 0 := fun j => by
      by_cases hj : ok j
      · rw [if_pos hj, if_pos hj, hu j hj]
      · rw [if_neg hj, if_neg hj, zero_mul]
    simp only [e]
    rw [hB fun k => ((Real.exp (s k - M') : ℝ) : EReal) * v k d, hA, real_mul_sum _ _ (Real.exp_pos _).le, Finset.sum_union hd]
    simp only [← mul_assoc, ← EReal.coe_mul, hk]

/-- The softmax-weighted sum of the values over the keys `T`. -/
def soft (T : Finset κ) (s : κ → ℝ) (v : κ → Fin 128 → EReal) (d : Fin 128) : EReal :=
  ∑ k ∈ T, ((Real.exp (s k) / ∑ i ∈ T, Real.exp (s i) : ℝ) : EReal) * v k d

theorem weight_shift (T : Finset κ) (s : κ → ℝ) (M : ℝ) (k : κ) :
    Real.exp (s k - M) / ∑ i ∈ T, Real.exp (s i - M) = Real.exp (s k) / ∑ i ∈ T, Real.exp (s i) := by
  simp only [Real.exp_sub, ← Finset.sum_div]
  rw [div_div_div_cancel_right₀ (Real.exp_pos M).ne']

theorem sum_exp_pos (T : Finset κ) (hT : T.Nonempty) (s : κ → ℝ) (M : ℝ) : 0 < ∑ k ∈ T, Real.exp (s k - M) :=
  Finset.sum_pos (fun k _ => Real.exp_pos _) hT

theorem Holds.soft {T : Finset κ} {s : κ → ℝ} {v : κ → Fin 128 → EReal} {R : Row} (h : Holds T s v R) (hT : T.Nonempty) (d : Fin 128) :
    Ideal.div (R.ac d) R.sm = soft T s v d := by
  obtain ⟨M, hM, hL, hA⟩ := h
  have hp := sum_exp_pos T hT s M
  rw [hL, hA, Ideal.div_coe hp.ne', mul_comm, real_mul_sum _ _ (one_div_pos.mpr hp).le]
  unfold Flash.soft
  refine Finset.sum_congr rfl fun k _ => ?_
  rw [← mul_assoc, ← EReal.coe_mul, ← weight_shift T s M k, one_div_mul_eq_div]

/-- The same from all keys at once, the masked ones at minus infinity. -/
theorem soft_masked [Fintype κ] (T : Finset κ) (hT : T.Nonempty) (s : κ → ℝ) (v : κ → Fin 128 → EReal) (d : Fin 128) (t : κ → EReal)
    (ht : ∀ k, t k = if k ∈ T then (s k : EReal) else ⊥) :
    ∑ k, Ideal.div (Ideal.exp (t k - Finset.univ.sup t)) (∑ i, Ideal.exp (t i - Finset.univ.sup t)) * v k d = soft T s v d := by
  have hreal : ∃ M : ℝ, Finset.univ.sup t = M := by
    have h1 : Finset.univ.sup t ≠ ⊤ := by
      refine ne_of_lt ((Finset.sup_lt_iff (bot_lt_top)).mpr fun k _ => ?_)
      rw [ht k]
      split_ifs
      · exact EReal.coe_lt_top _
      · exact bot_lt_top
    have h2 : Finset.univ.sup t ≠ ⊥ := by
      obtain ⟨k, hk⟩ := hT
      refine ne_of_gt (lt_of_lt_of_le (EReal.bot_lt_coe (s k)) ?_)
      have := Finset.le_sup (f := t) (Finset.mem_univ k)
      rwa [ht k, if_pos hk] at this
    exact ⟨_, (EReal.coe_toReal h1 h2).symm⟩
  obtain ⟨M, hM⟩ := hreal
  have hp : ∀ k, Ideal.exp (t k - M) = if k ∈ T then ((Real.exp (s k - M) : ℝ) : EReal) else 0 := fun k => by
    rw [ht k]
    by_cases hk : k ∈ T
    · rw [if_pos hk, if_pos hk, ← EReal.coe_sub, exp_real]
    · rw [if_neg hk, if_neg hk, sub_eq_add_neg, EReal.bot_add, exp_none]
  have hpos := sum_exp_pos T hT s M
  simp only [hM, hp]
  rw [← Finset.sum_filter, Finset.filter_mem_eq_inter, Finset.univ_inter, ← coe_sum]
  unfold soft
  rw [← Finset.sum_subset (Finset.subset_univ T) (fun k _ hk => by rw [if_neg hk, Ideal.div_coe hpos.ne', zero_mul, zero_mul])]
  refine Finset.sum_congr rfl fun k hk => ?_
  rw [if_pos hk, Ideal.div_coe hpos.ne', ← EReal.coe_mul, mul_one_div, weight_shift]

end Cert.KernelIdeal.Flash

end
-- ==== Proof.Rows.lean ====
module

public import proofs.«01_k».proof.Proof.Compute
public import proofs.«01_k».proof.Proof.Soft
public import Idealize.ShloMosaic.Lib.Pointwise

@[expose] public section

set_option maxRecDepth 16384

noncomputable section

namespace Cert.KernelIdeal.Flash

open Cert.KernelIdeal.Gen Idealize.ShloMosaic Idealize.ShloMosaic.TcCoe Idealize.SL.Sem

/-! ## One update, row by row -/

theorem ninf_bot : Ideal.ofBits .f32 0xFF800000#32 = (⊥ : EReal) := by
  simp [Ideal.ofBits, Ideal.ieee]

theorem scL_at (bias : FVec Ideal S704x704 .f32) (q k : Vec Ideal S1x704x128 .bf16) (p j : Fin 704) :
    scL bias q k (ix2 p j) = ∑ d : Fin 128, (q (ix3 0 p d) * (Named.named κ "scale" 0x3DB5#16 : Ideal .bf16)) * k (ix3 0 j d) + bias (ix2 p j) := by
  pointwise [scL]

theorem scS_at (q : Vec Ideal S1x704x128 .bf16) (k : Vec Ideal S1x64x128 .bf16) (p : Fin 704) (j : Fin 64) :
    scS q k (ix2 p j) = ∑ d : Fin 128, (q (ix3 0 p d) * (Named.named κ "scale" 0x3DB5#16 : Ideal .bf16)) * k (ix3 0 j d) := by
  pointwise [scS]

theorem mxL_at (s : FVec Ideal S704x704 .f32) (m0 : Vec Ideal S1x1x704x128 .bf16) (p : Fin 704) (l : Fin 128) :
    mxL s m0 (ix2 p l) = max (m0 (ix4 0 0 p l)) (Finset.univ.sup fun j : Fin 704 => s (ix2 p j)) := by
  pointwise [mxL]
  rw [ninf_bot]
  rfl

theorem lsL_at (s : FVec Ideal S704x704 .f32) (m0 l0 : Vec Ideal S1x1x704x128 .bf16) (p : Fin 704) :
    lsL s m0 l0 (ix4 0 0 p 0) = Ideal.exp (m0 (ix4 0 0 p 0) - mxL s m0 (ix2 p 0)) * l0 (ix4 0 0 p 0) + ∑ j : Fin 704, Ideal.exp (s (ix2 p j) - mxL s m0 (ix2 p 0)) := by
  pointwise [lsL, alL, prL]

theorem acL_at (s : FVec Ideal S704x704 .f32) (v : Vec Ideal S1x704x128 .bf16) (m0 : Vec Ideal S1x1x704x128 .bf16) (a0 : Vec Ideal S1x704x128 .f32) (p : Fin 704) (d : Fin 128) :
    acL s v m0 a0 (ix3 0 p d) = Ideal.exp (m0 (ix4 0 0 p 0) - mxL s m0 (ix2 p 0)) * a0 (ix3 0 p d) + ∑ j : Fin 704, Ideal.exp (s (ix2 p j) - mxL s m0 (ix2 p 0)) * v (ix3 0 j d) := by
  pointwise [acL, alL, prL]

theorem msL_at (s : FVec Ideal S704x704 .f32) (m0 : Vec Ideal S1x1x704x128 .bf16) (p : Fin 704) (l : Fin 128) :
    msL s m0 (ix4 0 0 p l) = mxL s m0 (ix2 p l) := by
  pointwise [msL]

theorem mxS_at (s : FVec Ideal S704x64 .f32) (m0 : Vec Ideal S1x1x704x128 .bf16) (p : Fin 704) (l : Fin 128) :
    mxS s m0 (ix2 p l) = max (m0 (ix4 0 0 p l)) (Finset.univ.sup fun j : Fin 64 => s (ix2 p j)) := by
  pointwise [mxS]
  rw [ninf_bot]
  rfl

theorem lsS_at (s : FVec Ideal S704x64 .f32) (m0 l0 : Vec Ideal S1x1x704x128 .bf16) (p : Fin 704) :
    lsS s m0 l0 (ix4 0 0 p 0) = Ideal.exp (m0 (ix4 0 0 p 0) - mxS s m0 (ix2 p 0)) * l0 (ix4 0 0 p 0) + ∑ j : Fin 64, Ideal.exp (s (ix2 p j) - mxS s m0 (ix2 p 0)) := by
  pointwise [lsS, alS, prS]

theorem acS_at (s : FVec Ideal S704x64 .f32) (v : Vec Ideal S1x64x128 .bf16) (m0 : Vec Ideal S1x1x704x128 .bf16) (a0 : Vec Ideal S1x704x128 .f32) (p : Fin 704) (d : Fin 128) :
    acS s v m0 a0 (ix3 0 p d) = Ideal.exp (m0 (ix4 0 0 p 0) - mxS s m0 (ix2 p 0)) * a0 (ix3 0 p d) + ∑ j : Fin 64, Ideal.exp (s (ix2 p j) - mxS s m0 (ix2 p 0)) * v (ix3 0 j d) := by
  pointwise [acS, alS, prS]

theorem msS_at (s : FVec Ideal S704x64 .f32) (m0 : Vec Ideal S1x1x704x128 .bf16) (p : Fin 704) (l : Fin 128) :
    msS s m0 (ix4 0 0 p l) = mxS s m0 (ix2 p l) := by
  pointwise [msS]

theorem norm1 (l : Vec Ideal S1x1x704x128 .bf16) (a : Vec Ideal S1x704x128 .f32) (p : Fin 704) (d : Fin 128) :
    k0_pay990 l a (ix2 p d) = Ideal.div (a (ix3 0 p d)) (l (ix4 0 0 p 0)) := by
  pointwise [k0_pay990]

/-- The row of a packed array at position `p` of group `g`. -/
def pk (g : Fin 3) (p : Fin 704) : Fin 2112 := ⟨704 * g.val + p.val, by omega⟩

theorem pk_inj {g g' : Fin 3} {p p' : Fin 704} (h : pk g p = pk g' p') : g = g' ∧ p = p' := by
  have := congrArg Fin.val h
  simp only [pk] at this
  constructor <;> apply Fin.ext <;> omega

theorem emb3 (h : Fin 8) (g : Fin 3) (hq) (p : Fin 704) (d : Fin 128) :
    (Rect.unit (s := S8x2112x128) ![h.val, 704 * g.val, 0] S1x704x128.size hq).emb (ix3 (0 : Fin 1) p d : S1x704x128.Idx) = ix3 h (pk g p) d := by
  funext a
  apply Fin.ext
  rw [Rect.emb_apply]
  fin_cases a <;> simp [ix3, pk, Rect.unit] <;> rfl

theorem emb3s (h : Fin 8) (hq) (p : Fin 64) (d : Fin 128) :
    (Rect.unit (s := S8x2112x128) ![h.val, 0, 0] S1x64x128.size hq).emb (ix3 (0 : Fin 1) p d : S1x64x128.Idx) = ix3 h (⟨p.val, by omega⟩ : Fin 2112) d := by
  funext a
  apply Fin.ext
  rw [Rect.emb_apply]
  fin_cases a <;> simp [ix3, Rect.unit] <;> rfl

theorem emb4 (h : Fin 8) (g : Fin 3) (hm) (p : Fin 704) (d : Fin 128) :
    (Rect.unit (s := S8x3x704x128) ![h.val, g.val, 0, 0] S1x1x704x128.size hm).emb (ix4 (0 : Fin 1) (0 : Fin 1) p d : S1x1x704x128.Idx) = ix4 h g p d := by
  funext a
  apply Fin.ext
  rw [Rect.emb_apply]
  fin_cases a <;> simp [ix4, Rect.unit] <;> rfl

theorem emb2 (h : Fin 8) (g : Fin 3) (ho) (p : Fin 704) (d : Fin 128) :
    (Rect.unit (s := S2112x1024) ![704 * g.val, 128 * h.val] S704x128.size ho).emb (ix2 p d : S704x128.Idx) = ix2 (pk g p) (⟨128 * h.val + d.val, by omega⟩ : Fin 1024) := by
  funext a
  apply Fin.ext
  rw [Rect.emb_apply]
  fin_cases a <;> simp [ix2, pk, Rect.unit] <;> rfl

theorem rd3 (A : S8x2112x128.Idx → EReal) (h : Fin 8) (g : Fin 3) (hq) (p : Fin 704) (d : Fin 128) :
    (rd (Val := Elt Ideal) (e := .f32) (Rect.unit (s := S8x2112x128) ![h.val, 704 * g.val, 0] S1x704x128.size hq) A (ix3 (0 : Fin 1) p d : S1x704x128.Idx) : EReal) = A (ix3 h (pk g p) d) := congrArg A (emb3 h g hq p d)
theorem rd3s (A : S8x2112x128.Idx → EReal) (h : Fin 8) (hq) (p : Fin 64) (d : Fin 128) :
    (rd (Val := Elt Ideal) (e := .f32) (Rect.unit (s := S8x2112x128) ![h.val, 0, 0] S1x64x128.size hq) A (ix3 (0 : Fin 1) p d : S1x64x128.Idx) : EReal) = A (ix3 h (⟨p.val, by omega⟩ : Fin 2112) d) := congrArg A (emb3s h hq p d)
theorem rd4 (A : S8x3x704x128.Idx → EReal) (h : Fin 8) (g : Fin 3) (hq) (p : Fin 704) (d : Fin 128) :
    (rd (Val := Elt Ideal) (e := .f32) (Rect.unit (s := S8x3x704x128) ![h.val, g.val, 0, 0] S1x1x704x128.size hq) A (ix4 (0 : Fin 1) (0 : Fin 1) p d : S1x1x704x128.Idx) : EReal) = A (ix4 h g p d) := congrArg A (emb4 h g hq p d)

theorem upd_at {Val : EltTy → Type} {s : Shape} {e : EltTy} {r : Rect s} {x : r.shape.Idx} {y : s.Idx} (h : r.emb x = y) (A : s.Idx → Val e) (w : r.shape.Idx → Val e) : upd r A w y = w x := by
  rw [← h, upd_emb]

/-- The running state of one query row: head `h`, group `g`, position `p`. -/
def rowOf (st : Fl Ideal) (h : Fin 8) (g : Fin 3) (p : Fin 704) : Row :=
  ⟨st.mx (ix4 h g p 0), st.sm (ix4 h g p 0), fun d => st.acc (ix3 h (pk g p) d)⟩

theorem rowOf_mx (st : Fl Ideal) (h : Fin 8) (g : Fin 3) (p : Fin 704) : (rowOf st h g p).mx = st.mx (ix4 h g p 0) := rfl
theorem rowOf_sm (st : Fl Ideal) (h : Fin 8) (g : Fin 3) (p : Fin 704) : (rowOf st h g p).sm = st.sm (ix4 h g p 0) := rfl
theorem rowOf_ac (st : Fl Ideal) (h : Fin 8) (g : Fin 3) (p : Fin 704) (d : Fin 128) : (rowOf st h g p).ac d = st.acc (ix3 h (pk g p) d) := rfl

variable (Q K V : Vec Ideal S8x2112x128 .bf16)

/-- The scores of a row against a key group. -/
def sL (bias : FVec Ideal S704x704 .f32) (h : Fin 8) (g r : Fin 3) (p j : Fin 704) : EReal :=
  ∑ d : Fin 128, (Q (ix3 h (pk g p) d) * (Named.named κ "scale" 0x3DB5#16 : Ideal .bf16)) * K (ix3 h (pk r j) d) + bias (ix2 p j)

/-- The scores of a row against the first key block. -/
def sS (h : Fin 8) (g : Fin 3) (p : Fin 704) (j : Fin 64) : EReal :=
  ∑ d : Fin 128, (Q (ix3 h (pk g p) d) * (Named.named κ "scale" 0x3DB5#16 : Ideal .bf16)) * K (ix3 h (⟨j.val, by omega⟩ : Fin 2112) d)

def vL (h : Fin 8) (r : Fin 3) (j : Fin 704) (d : Fin 128) : EReal := V (ix3 h (pk r j) d)
def vS (h : Fin 8) (j : Fin 64) (d : Fin 128) : EReal := V (ix3 h (⟨j.val, by omega⟩ : Fin 2112) d)

theorem ix3_ne {h h' : Fin 8} {g g' : Fin 3} (hne : ¬ (h' = h ∧ g' = g)) (hq) (p : Fin 704) (d : Fin 128) :
    ∀ x, (Rect.unit (s := S8x2112x128) ![h.val, 704 * g.val, 0] S1x704x128.size hq).emb x ≠ ix3 h' (pk g' p) d := by
  intro x e
  obtain ⟨a, b, rfl⟩ : ∃ (a : Fin 704) (b : Fin 128), x = (ix3 (0 : Fin 1) a b : S1x704x128.Idx) := ⟨x 1, x 2, by
    funext a; fin_cases a
    · exact Subsingleton.elim (α := Fin 1) _ _
    · rfl
    · rfl⟩
  rw [emb3] at e
  exact hne ⟨(congrFun e 0).symm, (pk_inj (congrFun e 1)).1.symm⟩

theorem ix4_ne {h h' : Fin 8} {g g' : Fin 3} (hne : ¬ (h' = h ∧ g' = g)) (hm) (p : Fin 704) (d : Fin 128) :
    ∀ x, (Rect.unit (s := S8x3x704x128) ![h.val, g.val, 0, 0] S1x1x704x128.size hm).emb x ≠ ix4 h' g' p d := by
  intro x e
  obtain ⟨a, b, rfl⟩ : ∃ (a : Fin 704) (b : Fin 128), x = (ix4 (0 : Fin 1) (0 : Fin 1) a b : S1x1x704x128.Idx) := ⟨x 2, x 3, by
    funext a; fin_cases a
    · exact Subsingleton.elim (α := Fin 1) _ _
    · exact Subsingleton.elim (α := Fin 1) _ _
    · rfl
    · rfl⟩
  rw [emb4] at e
  exact hne ⟨(congrFun e 0).symm, (congrFun e 1).symm⟩

theorem row_ext {A B : Row} (h1 : A.mx = B.mx) (h2 : A.sm = B.sm) (h3 : ∀ d, A.ac d = B.ac d) : A = B := by
  cases A; cases B
  simp only [Row.mk.injEq]
  exact ⟨h1, h2, funext h3⟩

theorem scL_row (bias : FVec Ideal S704x704 .f32) (g r : Fin 3) (h : Fin 8) (p : Fin 704) (j : Fin 704) :
    scL bias (rd (Rect.unit (s := S8x2112x128) ![h.val, 704 * g.val, 0] S1x704x128.size (inbQ g h)) Q) (rd (Rect.unit (s := S8x2112x128) ![h.val, 704 * r.val, 0] S1x704x128.size (inbQ r h)) K) (ix2 p j)
      = sL Q K bias h g r p j :=
  (scL_at _ _ _ p j).trans (congrArg (· + _) (Finset.sum_congr rfl fun d _ => congrArg₂ (· * ·) (congrArg (· * _) (rd3 _ _ _ _ _ _)) (rd3 _ _ _ _ _ _)))

theorem mxL_row (bias : FVec Ideal S704x704 .f32) (g r : Fin 3) (h : Fin 8) (p : Fin 704) (st : Fl Ideal) :
    mxL (scL bias (rd (Rect.unit (s := S8x2112x128) ![h.val, 704 * g.val, 0] S1x704x128.size (inbQ g h)) Q) (rd (Rect.unit (s := S8x2112x128) ![h.val, 704 * r.val, 0] S1x704x128.size (inbQ r h)) K))
      (rd (Rect.unit (s := S8x3x704x128) ![h.val, g.val, 0, 0] S1x1x704x128.size (inbM g h)) st.mx) (ix2 p 0) = ((rowOf st h g p).step (sL Q K bias h g r p) (vL V h r)).mx :=
  (mxL_at _ _ p 0).trans (congrArg₂ max (rd4 _ _ _ _ _ _) (congrArg (Finset.sup Finset.univ) (funext fun j => scL_row Q K bias g r h p j)))

theorem stL_mx (bias : FVec Ideal S704x704 .f32) (g r : Fin 3) (h : Fin 8) (st : Fl Ideal) : (stL Q K V bias g r h st).mx = upd (Val := Elt Ideal) (e := .bf16) (Rect.unit (s := S8x3x704x128) ![h.val, g.val, 0, 0] S1x1x704x128.size (inbM g h)) st.mx (msL (scL bias (rd (Rect.unit (s := S8x2112x128) ![h.val, 704 * g.val, 0] S1x704x128.size (inbQ g h)) Q) (rd (Rect.unit (s := S8x2112x128) ![h.val, 704 * r.val, 0] S1x704x128.size (inbQ r h)) K)) (rd (Rect.unit (s := S8x3x704x128) ![h.val, g.val, 0, 0] S1x1x704x128.size (inbM g h)) st.mx)) := by dsimp only [stL, stepL]
theorem stL_sm (bias : FVec Ideal S704x704 .f32) (g r : Fin 3) (h : Fin 8) (st : Fl Ideal) : (stL Q K V bias g r h st).sm = upd (Val := Elt Ideal) (e := .bf16) (Rect.unit (s := S8x3x704x128) ![h.val, g.val, 0, 0] S1x1x704x128.size (inbM g h)) st.sm (lsL (scL bias (rd (Rect.unit (s := S8x2112x128) ![h.val, 704 * g.val, 0] S1x704x128.size (inbQ g h)) Q) (rd (Rect.unit (s := S8x2112x128) ![h.val, 704 * r.val, 0] S1x704x128.size (inbQ r h)) K)) (rd (Rect.unit (s := S8x3x704x128) ![h.val, g.val, 0, 0] S1x1x704x128.size (inbM g h)) st.mx) (rd (Rect.unit (s := S8x3x704x128) ![h.val, g.val, 0, 0] S1x1x704x128.size (inbM g h)) st.sm)) := by dsimp only [stL, stepL]
theorem stL_ac (bias : FVec Ideal S704x704 .f32) (g r : Fin 3) (h : Fin 8) (st : Fl Ideal) : (stL Q K V bias g r h st).acc = upd (Val := Elt Ideal) (e := .f32) (Rect.unit (s := S8x2112x128) ![h.val, 704 * g.val, 0] S1x704x128.size (inbQ g h)) st.acc (acL (scL bias (rd (Rect.unit (s := S8x2112x128) ![h.val, 704 * g.val, 0] S1x704x128.size (inbQ g h)) Q) (rd (Rect.unit (s := S8x2112x128) ![h.val, 704 * r.val, 0] S1x704x128.size (inbQ r h)) K)) (rd (Rect.unit (s := S8x2112x128) ![h.val, 704 * r.val, 0] S1x704x128.size (inbQ r h)) V) (rd (Rect.unit (s := S8x3x704x128) ![h.val, g.val, 0, 0] S1x1x704x128.size (inbM g h)) st.mx) (rd (Rect.unit (s := S8x2112x128) ![h.val, 704 * g.val, 0] S1x704x128.size (inbQ g h)) st.acc)) := by dsimp only [stL, stepL]

theorem stL_row (bias : FVec Ideal S704x704 .f32) (g r : Fin 3) (h : Fin 8) (st : Fl Ideal) (p : Fin 704) :
    rowOf (stL Q K V bias g r h st) h g p = (rowOf st h g p).step (sL Q K bias h g r p) (vL V h r) := by
  have hM := mxL_row Q K V bias g r h p st
  refine row_ext ?_ ?_ fun d => ?_
  · rw [rowOf_mx, stL_mx]
    refine (upd_at (Val := Elt Ideal) (e := .bf16) (emb4 h g (inbM g h) p 0) _ _).trans ?_
    exact (msL_at _ _ p 0).trans hM
  · rw [rowOf_sm, stL_sm]
    refine (upd_at (Val := Elt Ideal) (e := .bf16) (emb4 h g (inbM g h) p 0) _ _).trans ?_
    refine (lsL_at _ _ _ p).trans ?_
    exact congrArg₂ (· + ·) (congrArg₂ (· * ·) (congrArg Ideal.exp (congrArg₂ (· - ·) (rd4 _ _ _ _ _ _) hM)) (rd4 _ _ _ _ _ _))
      (Finset.sum_congr rfl fun j _ => congrArg Ideal.exp (congrArg₂ (· - ·) (scL_row Q K bias g r h p j) hM))
  · rw [rowOf_ac, stL_ac]
    refine (upd_at (Val := Elt Ideal) (e := .f32) (emb3 h g (inbQ g h) p d) _ _).trans ?_
    refine (acL_at _ _ _ _ p d).trans ?_
    exact congrArg₂ (· + ·) (congrArg₂ (· * ·) (congrArg Ideal.exp (congrArg₂ (· - ·) (rd4 _ _ _ _ _ _) hM)) (rd3 _ _ _ _ _ _))
      (Finset.sum_congr rfl fun j _ => congrArg₂ (· * ·) (congrArg Ideal.exp (congrArg₂ (· - ·) (scL_row Q K bias g r h p j) hM)) (rd3 _ _ _ _ _ _))

theorem stL_row_ne (bias : FVec Ideal S704x704 .f32) (g r : Fin 3) (h : Fin 8) (st : Fl Ideal) (h' : Fin 8) (g' : Fin 3) (hne : ¬ (h' = h ∧ g' = g)) (p : Fin 704) :
    rowOf (stL Q K V bias g r h st) h' g' p = rowOf st h' g' p := by
  refine row_ext ?_ ?_ fun d => ?_
  · rw [rowOf_mx, stL_mx, rowOf_mx]
    exact upd_miss (Val := Elt Ideal) (e := .bf16) _ _ _ _ (ix4_ne hne _ p 0)
  · rw [rowOf_sm, stL_sm, rowOf_sm]
    exact upd_miss (Val := Elt Ideal) (e := .bf16) _ _ _ _ (ix4_ne hne _ p 0)
  · rw [rowOf_ac, stL_ac, rowOf_ac]
    exact upd_miss (Val := Elt Ideal) (e := .f32) _ _ _ _ (ix3_ne hne _ p d)

theorem scS_row (g : Fin 3) (h : Fin 8) (p : Fin 704) (j : Fin 64) :
    scS (rd (Rect.unit (s := S8x2112x128) ![h.val, 704 * g.val, 0] S1x704x128.size (inbQ g h)) Q) (rd (Rect.unit (s := S8x2112x128) ![h.val, 0, 0] S1x64x128.size (inbK0 h)) K) (ix2 p j)
      = sS Q K h g p j :=
  (scS_at _ _ p j).trans (Finset.sum_congr rfl fun d _ => congrArg₂ (· * ·) (congrArg (· * _) (rd3 _ _ _ _ _ _)) (rd3s _ _ _ _ _))

theorem mxS_row (g : Fin 3) (h : Fin 8) (p : Fin 704) (st : Fl Ideal) :
    mxS (scS (rd (Rect.unit (s := S8x2112x128) ![h.val, 704 * g.val, 0] S1x704x128.size (inbQ g h)) Q) (rd (Rect.unit (s := S8x2112x128) ![h.val, 0, 0] S1x64x128.size (inbK0 h)) K))
      (rd (Rect.unit (s := S8x3x704x128) ![h.val, g.val, 0, 0] S1x1x704x128.size (inbM g h)) st.mx) (ix2 p 0) = ((rowOf st h g p).step (sS Q K h g p) (vS V h)).mx :=
  (mxS_at _ _ p 0).trans (congrArg₂ max (rd4 _ _ _ _ _ _) (congrArg (Finset.sup Finset.univ) (funext fun j => scS_row Q K g h p j)))

theorem stS_mx (g : Fin 3) (h : Fin 8) (st : Fl Ideal) : (stS Q K V g h st).mx = upd (Val := Elt Ideal) (e := .bf16) (Rect.unit (s := S8x3x704x128) ![h.val, g.val, 0, 0] S1x1x704x128.size (inbM g h)) st.mx (msS (scS (rd (Rect.unit (s := S8x2112x128) ![h.val, 704 * g.val, 0] S1x704x128.size (inbQ g h)) Q) (rd (Rect.unit (s := S8x2112x128) ![h.val, 0, 0] S1x64x128.size (inbK0 h)) K)) (rd (Rect.unit (s := S8x3x704x128) ![h.val, g.val, 0, 0] S1x1x704x128.size (inbM g h)) st.mx)) := by dsimp only [stS, stepS]
theorem stS_sm (g : Fin 3) (h : Fin 8) (st : Fl Ideal) : (stS Q K V g h st).sm = upd (Val := Elt Ideal) (e := .bf16) (Rect.unit (s := S8x3x704x128) ![h.val, g.val, 0, 0] S1x1x704x128.size (inbM g h)) st.sm (lsS (scS (rd (Rect.unit (s := S8x2112x128) ![h.val, 704 * g.val, 0] S1x704x128.size (inbQ g h)) Q) (rd (Rect.unit (s := S8x2112x128) ![h.val, 0, 0] S1x64x128.size (inbK0 h)) K)) (rd (Rect.unit (s := S8x3x704x128) ![h.val, g.val, 0, 0] S1x1x704x128.size (inbM g h)) st.mx) (rd (Rect.unit (s := S8x3x704x128) ![h.val, g.val, 0, 0] S1x1x704x128.size (inbM g h)) st.sm)) := by dsimp only [stS, stepS]
theorem stS_ac (g : Fin 3) (h : Fin 8) (st : Fl Ideal) : (stS Q K V g h st).acc = upd (Val := Elt Ideal) (e := .f32) (Rect.unit (s := S8x2112x128) ![h.val, 704 * g.val, 0] S1x704x128.size (inbQ g h)) st.acc (acS (scS (rd (Rect.unit (s := S8x2112x128) ![h.val, 704 * g.val, 0] S1x704x128.size (inbQ g h)) Q) (rd (Rect.unit (s := S8x2112x128) ![h.val, 0, 0] S1x64x128.size (inbK0 h)) K)) (rd (Rect.unit (s := S8x2112x128) ![h.val, 0, 0] S1x64x128.size (inbK0 h)) V) (rd (Rect.unit (s := S8x3x704x128) ![h.val, g.val, 0, 0] S1x1x704x128.size (inbM g h)) st.mx) (rd (Rect.unit (s := S8x2112x128) ![h.val, 704 * g.val, 0] S1x704x128.size (inbQ g h)) st.acc)) := by dsimp only [stS, stepS]

theorem stS_row (g : Fin 3) (h : Fin 8) (st : Fl Ideal) (p : Fin 704) :
    rowOf (stS Q K V g h st) h g p = (rowOf st h g p).step (sS Q K h g p) (vS V h) := by
  have hM := mxS_row Q K V g h p st
  refine row_ext ?_ ?_ fun d => ?_
  · rw [rowOf_mx, stS_mx]
    refine (upd_at (Val := Elt Ideal) (e := .bf16) (emb4 h g (inbM g h) p 0) _ _).trans ?_
    exact (msS_at _ _ p 0).trans hM
  · rw [rowOf_sm, stS_sm]
    refine (upd_at (Val := Elt Ideal) (e := .bf16) (emb4 h g (inbM g h) p 0) _ _).trans ?_
    refine (lsS_at _ _ _ p).trans ?_
    exact congrArg₂ (· + ·) (congrArg₂ (· * ·) (congrArg Ideal.exp (congrArg₂ (· - ·) (rd4 _ _ _ _ _ _) hM)) (rd4 _ _ _ _ _ _))
      (Finset.sum_congr rfl fun j _ => congrArg Ideal.exp (congrArg₂ (· - ·) (scS_row Q K g h p j) hM))
  · rw [rowOf_ac, stS_ac]
    refine (upd_at (Val := Elt Ideal) (e := .f32) (emb3 h g (inbQ g h) p d) _ _).trans ?_
    refine (acS_at _ _ _ _ p d).trans ?_
    exact congrArg₂ (· + ·) (congrArg₂ (· * ·) (congrArg Ideal.exp (congrArg₂ (· - ·) (rd4 _ _ _ _ _ _) hM)) (rd3 _ _ _ _ _ _))
      (Finset.sum_congr rfl fun j _ => congrArg₂ (· * ·) (congrArg Ideal.exp (congrArg₂ (· - ·) (scS_row Q K g h p j) hM)) (rd3s _ _ _ _ _))

theorem stS_row_ne (g : Fin 3) (h : Fin 8) (st : Fl Ideal) (h' : Fin 8) (g' : Fin 3) (hne : ¬ (h' = h ∧ g' = g)) (p : Fin 704) :
    rowOf (stS Q K V g h st) h' g' p = rowOf st h' g' p := by
  refine row_ext ?_ ?_ fun d => ?_
  · rw [rowOf_mx, stS_mx, rowOf_mx]
    exact upd_miss (Val := Elt Ideal) (e := .bf16) _ _ _ _ (ix4_ne hne _ p 0)
  · rw [rowOf_sm, stS_sm, rowOf_sm]
    exact upd_miss (Val := Elt Ideal) (e := .bf16) _ _ _ _ (ix4_ne hne _ p 0)
  · rw [rowOf_ac, stS_ac, rowOf_ac]
    exact upd_miss (Val := Elt Ideal) (e := .f32) _ _ _ _ (ix3_ne hne _ p d)

/-! ## All heads and groups -/

theorem foldl_row {ι σ ρ : Type} [DecidableEq ι] (f : σ → ι → σ) (u : ι → ρ → ρ) (row : σ → ι → ρ) (hs : ∀ s i, row (f s i) i = u i (row s i)) (hn : ∀ s i i', i' ≠ i → row (f s i) i' = row s i') :
    ∀ (l : List ι), l.Nodup → ∀ s i, row (l.foldl f s) i = if i ∈ l then u i (row s i) else row s i
  | [], _, s, i => by simp
  | a :: l, hl, s, i => by
    rw [List.foldl_cons, foldl_row f u row hs hn l (List.nodup_cons.mp hl).2]
    by_cases e : i = a
    · subst e
      rw [if_neg (List.nodup_cons.mp hl).1, if_pos (List.mem_cons_self), hs]
    · rw [hn _ _ _ e]
      simp only [List.mem_cons, e, false_or]

theorem loopSt_row (bias : FVec Ideal S704x704 .f32) (g r : Fin 3) (st : Fl Ideal) (h : Fin 8) (p : Fin 704) :
    rowOf (loopSt Q K V bias g r st) h g p = (rowOf st h g p).step (sL Q K bias h g r p) (vL V h r) := by
  have e : ∀ k : ℕ, k ≤ 8 → rowOf (iter (fun h : Fin 8 => stL Q K V bias g r h) k st) h g p = if h.val < k then (rowOf st h g p).step (sL Q K bias h g r p) (vL V h r) else rowOf st h g p := by
    intro k
    induction k with
    | zero => intro _; rfl
    | succ k ih =>
      intro hk
      rw [iter_succ _ _ _ (by omega)]
      by_cases e : h.val = k
      · subst e
        rw [stL_row, ih (by omega), if_neg (by simp), if_pos (by simp)]
      · rw [stL_row_ne _ _ _ _ _ _ _ _ _ _ (fun c => e (congrArg Fin.val c.1)), ih (by omega)]
        simp only [show (h.val < k + 1) = (h.val < k) from propext ⟨fun _ => by omega, fun _ => by omega⟩]
  exact (e 8 le_rfl).trans (if_pos h.isLt)

theorem loopSt_row_ne (bias : FVec Ideal S704x704 .f32) (g r : Fin 3) (st : Fl Ideal) (h : Fin 8) (g' : Fin 3) (hg : g' ≠ g) (p : Fin 704) :
    rowOf (loopSt Q K V bias g r st) h g' p = rowOf st h g' p := by
  have e : ∀ k : ℕ, k ≤ 8 → rowOf (iter (fun h : Fin 8 => stL Q K V bias g r h) k st) h g' p = rowOf st h g' p := by
    intro k
    induction k with
    | zero => intro _; rfl
    | succ k ih =>
      intro hk
      rw [iter_succ _ _ _ (by omega), stL_row_ne _ _ _ _ _ _ _ _ _ _ (fun c => hg c.2), ih (by omega)]
  exact e 8 le_rfl

theorem kbSt_row (st : Fl Ideal) (h : Fin 8) (g : Fin 3) (p : Fin 704) :
    rowOf (kbSt Q K V st) h g p = if g = 0 then rowOf st h g p else (rowOf st h g p).step (sS Q K h g p) (vS V h) := by
  refine (foldl_row (fun s (q : Fin 3 × Fin 8) => stS Q K V q.1 q.2 s) (fun q R => R.step (sS Q K q.2 q.1 p) (vS V q.2)) (fun s q => rowOf s q.2 q.1 p)
    (fun s q => stS_row _ _ _ _ _ _ _) (fun s q q' hne => stS_row_ne _ _ _ _ _ _ _ _ (fun c => hne (Prod.ext c.2 c.1)) _) _ (by decide) st (g, h)).trans ?_
  have : ∀ g : Fin 3, ∀ h : Fin 8, (g, h) ∈ ([(1, 0), (1, 1), (1, 2), (1, 3), (1, 4), (1, 5), (1, 6), (1, 7), (2, 0), (2, 1), (2, 2), (2, 3), (2, 4), (2, 5), (2, 6), (2, 7)] : List (Fin 3 × Fin 8)) ↔ ¬ g = 0 := by decide
  simp only [this, ite_not]

theorem diagSt_row (bias : FVec Ideal S704x704 .f32) (st : Fl Ideal) (h : Fin 8) (g : Fin 3) (p : Fin 704) :
    rowOf (diagSt Q K V bias st) h g p = if g = 0 then rowOf st h g p else (rowOf st h g p).step (sL Q K bias h g g p) (vL V h g) := by
  refine (foldl_row (fun s (q : Fin 3 × Fin 8) => stL Q K V bias q.1 q.1 q.2 s) (fun q R => R.step (sL Q K bias q.2 q.1 q.1 p) (vL V q.2 q.1)) (fun s q => rowOf s q.2 q.1 p)
    (fun s q => stL_row _ _ _ _ _ _ _ _ _) (fun s q q' hne => stL_row_ne _ _ _ _ _ _ _ _ _ _ (fun c => hne (Prod.ext c.2 c.1)) _) _ (by decide) st (g, h)).trans ?_
  have : ∀ g : Fin 3, ∀ h : Fin 8, (g, h) ∈ ([(1, 0), (1, 1), (1, 2), (1, 3), (1, 4), (1, 5), (1, 6), (1, 7), (2, 0), (2, 1), (2, 2), (2, 3), (2, 4), (2, 5), (2, 6), (2, 7)] : List (Fin 3 × Fin 8)) ↔ ¬ g = 0 := by decide
  simp only [this, ite_not]

/-- The key group a row group is held against. -/
def mate (g : Fin 3) : Fin 3 := ⟨(3 - g.val) % 3, Nat.mod_lt _ (by omega)⟩

/-- The word of a key group. -/
def gword (r : Fin 3) : BitVec 32 := BitVec.ofNat 32 r.val

/-- The very first block's step, taken only in the chunk that holds it. -/
theorem attSt_row (w : BitVec 32) (st : Fl Ideal) (h : Fin 8) (g : Fin 3) (p : Fin 704) :
    rowOf (attSt w Q K V st) h g p =
      let R := (rowOf st h g p).step (sL Q K (padB (F := Ideal) (gword (mate g)) w) h g (mate g) p) (vL V h (mate g))
      if w = 0#32 ∧ g ≠ 0 then R.step (sS Q K h g p) (vS V h) else R := by
  have hw : (Scalar.cmpi .ne (Scalar.extui (Scalar.cmpi .eq w 0#32)) 0#32 = 1#1) ↔ w = 0#32 := by
    by_cases e : w = 0#32
    · subst e; simp; decide
    · simp only [e, iff_false]
      rw [show Scalar.cmpi .eq w 0#32 = 0#1 from by
        show BitVec.ofBool (w == 0#32) = 0#1
        rw [beq_false_of_ne e]; rfl]
      decide
  have hr : rowOf (loopSt Q K V (padB (F := Ideal) 1#32 w) 2 1 (loopSt Q K V (padB (F := Ideal) 2#32 w) 1 2 (loopSt Q K V (padB (F := Ideal) 0#32 w) 0 0 st))) h g p
      = (rowOf st h g p).step (sL Q K (padB (F := Ideal) (gword (mate g)) w) h g (mate g) p) (vL V h (mate g)) := by
    match g with
    | 0 => rw [loopSt_row_ne _ _ _ _ _ _ _ _ _ (by decide), loopSt_row_ne _ _ _ _ _ _ _ _ _ (by decide), loopSt_row]; rfl
    | 1 => rw [loopSt_row_ne _ _ _ _ _ _ _ _ _ (by decide), loopSt_row, loopSt_row_ne _ _ _ _ _ _ _ _ _ (by decide)]; rfl
    | 2 => rw [loopSt_row, loopSt_row_ne _ _ _ _ _ _ _ _ _ (by decide), loopSt_row_ne _ _ _ _ _ _ _ _ _ (by decide)]; rfl
  unfold attSt
  simp only [hw]
  by_cases e : w = 0#32
  · rw [if_pos e, kbSt_row, hr]
    by_cases eg : g = 0
    · simp [eg]
    · simp [eg, e]
  · rw [if_neg e, hr, if_neg (fun c => e c.1)]

theorem norm_at (A : Vec Ideal S8x2112x128 .f32) (L : Vec Ideal S8x3x704x128 .bf16) (O : Vec Ideal S2112x1024 .f32) (h : Fin 8) (g : Fin 3) (p : Fin 704) (d : Fin 128) :
    normSt A L O (ix2 (pk g p) (⟨128 * h.val + d.val, by omega⟩ : Fin 1024)) = Ideal.div (A (ix3 h (pk g p) d)) (L (ix4 h g p 0)) := by
  refine (foldl_row (fun s (q : Fin 3 × Fin 8) => normOne A L ![q.2.val, q.1.val, 0, 0] ![q.2.val, 704 * q.1.val, 0] ![704 * q.1.val, 128 * q.2.val] (inbM q.1 q.2) (inbQ q.1 q.2) (inbO q.1 q.2) s)
    (fun q _ => Ideal.div (A (ix3 q.2 (pk q.1 p) d)) (L (ix4 q.2 q.1 p 0))) (fun s q => s (ix2 (pk q.1 p) (⟨128 * q.2.val + d.val, by omega⟩ : Fin 1024)))
    (fun s q => ?_) (fun s q q' hne => ?_) _ (by decide) O (g, h)).trans (if_pos (by revert g h; decide))
  · refine (upd_at (emb2 q.2 q.1 (inbO q.1 q.2) p d) _ _).trans ?_
    refine Eq.trans (b := Ideal.div (rd (Rect.unit (s := S8x2112x128) ![q.2.val, 704 * q.1.val, 0] S1x704x128.size (inbQ q.1 q.2)) A (ix3 (0 : Fin 1) p d : S1x704x128.Idx)) (rd (Rect.unit (s := S8x3x704x128) ![q.2.val, q.1.val, 0, 0] S1x1x704x128.size (inbM q.1 q.2)) L (ix4 (0 : Fin 1) (0 : Fin 1) p 0 : S1x1x704x128.Idx))) ?_ ?_
    · generalize rd (Rect.unit (s := S8x2112x128) ![q.2.val, 704 * q.1.val, 0] S1x704x128.size (inbQ q.1 q.2)) A = a
      generalize rd (Rect.unit (s := S8x3x704x128) ![q.2.val, q.1.val, 0, 0] S1x1x704x128.size (inbM q.1 q.2)) L = l
      exact norm1 l a p d
    · exact congrArg₂ Ideal.div (rd3 _ _ _ _ _ _) (rd4 _ _ _ _ _ _)
  · refine upd_miss _ _ _ _ fun x e => ?_
    obtain ⟨a, b, rfl⟩ : ∃ (a : Fin 704) (b : Fin 128), x = (ix2 a b : S704x128.Idx) := ⟨x 0, x 1, by
      funext a; fin_cases a
      · rfl
      · rfl⟩
    rw [emb2] at e
    have e1 := (pk_inj (congrFun e 0)).1
    have e2 : 128 * q.2.val + b.val = 128 * q'.2.val + d.val := congrArg Fin.val (congrFun e 1)
    have hx : b.val < 128 := b.isLt
    have hd : d.val < 128 := d.isLt
    exact hne (Prod.ext e1.symm (Fin.ext (by omega)))

end Cert.KernelIdeal.Flash

end
-- ==== Proof.Core.lean ====
module

public import proofs.«01_k».proof.Proof.Rows
public import proofs.«01_k».proof.Proof.Body

@[expose] public section

set_option maxRecDepth 16384

noncomputable section

namespace Cert.KernelIdeal.Flash

open Cert.KernelIdeal.Gen Idealize.ShloMosaic Idealize.ShloMosaic.TcCoe Idealize.SL.Sem

/-! ## Where a packed row comes from -/

/-- The row of device `e`'s block that group `r` holds at position `j`, past the end where it is padding. -/
def locRow (e : Fin 4) (r : Fin 3) (j : Fin 704) : ℕ := 64 * ((r.val + e.val) % 3 + 3 * (j.val / 64)) + j.val % 64

/-- The position is no padding. -/
def okRow (e : Fin 4) (r : Fin 3) (j : Fin 704) : Prop := locRow e r j < 2048

instance (e : Fin 4) (r : Fin 3) : DecidablePred (okRow e r) := fun j => inferInstanceAs (Decidable (locRow e r j < 2048))

/-- The row of the whole sequence. -/
def keyOf (e : Fin 4) (r : Fin 3) (j : Fin 704) : Fin 8192 := ⟨2048 * e.val + min (locRow e r j) 2047, by omega⟩

theorem keyOf_val {e : Fin 4} {r : Fin 3} {j : Fin 704} (h : okRow e r j) : (keyOf e r j).val = 2048 * e.val + locRow e r j := by
  have : locRow e r j < 2048 := h
  simp only [keyOf]
  omega

theorem cols_word : ∀ (e : Fin 4) (r : Fin 3) (j : Fin 704), IntOp.cmpi .slt (BitVec.ofNat 32 j.val) (colsW (gword r) (BitVec.ofNat 32 e.val)) = BitVec.ofBool (decide (locRow e r j < 2048)) := by
  decide +kernel

theorem mask_bot : (Named.named κ "mask" 0xCE6E6B28#32 : Ideal .f32) = (⊥ : EReal) := rfl

theorem scale_real : (Named.named κ "scale" 0x3DB5#16 : Ideal .bf16) = (((Real.sqrt 128)⁻¹ : ℝ) : EReal) := rfl

theorem padB_at (e : Fin 4) (r : Fin 3) (p j : Fin 704) :
    padB (F := Ideal) (gword r) (BitVec.ofNat 32 e.val) (ix2 p j) = if okRow e r j then (0 : EReal) else ⊥ := by
  pointwise [padB]
  rw [cols_word, mask_bot]
  unfold okRow
  by_cases e : locRow e r j < 2048
  · simp [e, Scalar.select]
  · simp [e, Scalar.select]

theorem block_of : ∀ j : Fin 704, (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) : BitVec 32) = BitVec.ofNat 32 (j.val / 64) := by
  decide +kernel

theorem same_block : ∀ a b : Fin 11, IntOp.cmpi .eq (BitVec.ofNat 32 a.val) (BitVec.ofNat 32 b.val) = BitVec.ofBool (decide (a.val = b.val)) := by
  decide +kernel

theorem diagB_at (p j : Fin 704) :
    diagB (F := Ideal) (ix2 p j) = if p.val / 64 = j.val / 64 then (0 : EReal) else ⊥ := by
  pointwise [diagB, k0_pay772, k0_pay770, k0_pay771, k0_pay769]
  erw [block_of p, block_of j]
  rw [mask_bot]
  have h := same_block ⟨p.val / 64, by omega⟩ ⟨j.val / 64, by omega⟩
  simp only [] at h
  rw [h]
  by_cases e : p.val / 64 = j.val / 64
  · simp [e, Scalar.select]
  · simp [e, Scalar.select]

/-! ## The scores -/

variable (qr kr : Fin 8192 → Fin 8 → Fin 128 → ℝ) (vv : Fin 8192 → Fin 8 → Fin 128 → EReal)

/-- The score of a query against a key, one head. -/
def score (I : Fin 8192) (h : Fin 8) (k : Fin 8192) : ℝ := (∑ d : Fin 128, qr I h d * kr k h d) * (Real.sqrt 128)⁻¹

theorem score_sum (I : Fin 8192) (h : Fin 8) (k : Fin 8192) :
    ∑ d : Fin 128, ((qr I h d : EReal) * (Named.named κ "scale" 0x3DB5#16 : Ideal .bf16)) * (kr k h d : EReal) = (score qr kr I h k : EReal) := by
  rw [scale_real, score, Finset.sum_mul, coe_sum]
  refine Finset.sum_congr rfl fun d _ => ?_
  rw [← EReal.coe_mul, ← EReal.coe_mul]
  congr 1
  ring

/-- What device `e`'s packed keys hold. -/
def KeysAt (K : Vec Ideal S8x2112x128 .bf16) (kr : Fin 8192 → Fin 8 → Fin 128 → ℝ) (e : Fin 4) : Prop :=
  ∀ (h : Fin 8) (r : Fin 3) (j : Fin 704) (d : Fin 128), okRow e r j → K (ix3 h (pk r j) d) = (kr (keyOf e r j) h d : EReal)

/-- What device `e`'s packed values hold. -/
def ValsAt (V : Vec Ideal S8x2112x128 .bf16) (vv : Fin 8192 → Fin 8 → Fin 128 → EReal) (e : Fin 4) : Prop :=
  ∀ (h : Fin 8) (r : Fin 3) (j : Fin 704) (d : Fin 128), okRow e r j → V (ix3 h (pk r j) d) = vv (keyOf e r j) h d

variable {qr kr vv} {Q K V : Vec Ideal S8x2112x128 .bf16} {c e : Fin 4}

/-- The keys of group `r` in device `e`'s block. -/
def grpT (e : Fin 4) (r : Fin 3) : Finset (Fin 8192) := Finset.univ.filter fun k => k.val / 2048 = e.val ∧ k.val / 64 % 3 = r.val
/-- The keys of one block. -/
def blkT (b : ℕ) : Finset (Fin 8192) := Finset.univ.filter fun k => k.val / 64 = b

theorem grp_step (hQ : KeysAt Q qr c) (hK : KeysAt K kr e) (hV : ValsAt V vv e) (h : Fin 8) (g r : Fin 3) (p : Fin 704) (hp : okRow c g p)
    {T : Finset (Fin 8192)} {R : Row} (hd : Disjoint T (grpT e r)) (H : Holds T (score qr kr (keyOf c g p) h) (fun k => vv k h) R) :
    Holds (T ∪ grpT e r) (score qr kr (keyOf c g p) h) (fun k => vv k h) (R.step (sL Q K (padB (F := Ideal) (gword r) (BitVec.ofNat 32 e.val)) h g r p) (vL V h r)) := by
  refine H.step _ hd (okRow e r) (keyOf e r) (fun j hj => ?_) (fun i j hi hj hij => ?_) (fun k hk => ?_) _ _ (fun j hj => ?_) (fun j hj => ?_) (fun j hj => ?_)
  · have h1 := keyOf_val hj
    have h2 : locRow e r j < 2048 := hj
    simp only [grpT, Finset.mem_filter, Finset.mem_univ, true_and]
    rw [h1]
    unfold locRow at *
    omega
  · have h1 := keyOf_val hi
    have h2 := keyOf_val hj
    rw [hij] at h1
    apply Fin.ext
    unfold locRow at *
    omega
  · simp only [grpT, Finset.mem_filter, Finset.mem_univ, true_and] at hk
    have hk' := k.isLt
    have hr := r.isLt
    have hl : locRow e r ⟨64 * (k.val / 64 % 32 / 3) + k.val % 64, by omega⟩ = k.val % 2048 := by
      simp only [locRow]
      omega
    have ho : okRow e r ⟨64 * (k.val / 64 % 32 / 3) + k.val % 64, by omega⟩ := by
      unfold okRow
      omega
    refine ⟨⟨64 * (k.val / 64 % 32 / 3) + k.val % 64, by omega⟩, ho, Fin.ext ?_⟩
    rw [keyOf_val ho, hl]
    omega
  · unfold sL
    rw [padB_at, if_pos hj, add_zero, ← score_sum]
    exact Finset.sum_congr rfl fun d _ => by rw [hQ h g p d hp, hK h r j d hj]
  · unfold sL
    rw [padB_at, if_neg hj, EReal.add_bot]
  · funext d
    exact hV h r j d hj

theorem diag_step (hQ : KeysAt Q qr c) (hK : KeysAt K kr c) (hV : ValsAt V vv c) (h : Fin 8) (g : Fin 3) (p : Fin 704) (hp : okRow c g p)
    {T : Finset (Fin 8192)} {R : Row} (hd : Disjoint T (blkT ((keyOf c g p).val / 64))) (H : Holds T (score qr kr (keyOf c g p) h) (fun k => vv k h) R) :
    Holds (T ∪ blkT ((keyOf c g p).val / 64)) (score qr kr (keyOf c g p) h) (fun k => vv k h) (R.step (sL Q K (diagB (F := Ideal)) h g g p) (vL V h g)) := by
  have hpl : locRow c g p < 2048 := hp
  have ho : ∀ j : Fin 704, p.val / 64 = j.val / 64 → okRow c g j := fun j hj => by
    unfold okRow
    unfold locRow at *
    omega
  refine H.step _ hd (fun j => p.val / 64 = j.val / 64) (keyOf c g) (fun j hj => ?_) (fun i j hi hj hij => ?_) (fun k hk => ?_) _ _ (fun j hj => ?_) (fun j hj => ?_) (fun j hj => ?_)
  · simp only [blkT, Finset.mem_filter, Finset.mem_univ, true_and]
    rw [keyOf_val hp, keyOf_val (ho j hj)]
    unfold locRow at *
    omega
  · have h1 := keyOf_val (ho i hi)
    have h2 := keyOf_val (ho j hj)
    rw [hij] at h1
    apply Fin.ext
    unfold locRow at *
    omega
  · simp only [blkT, Finset.mem_filter, Finset.mem_univ, true_and] at hk
    rw [keyOf_val hp] at hk
    have hj : p.val / 64 = (⟨64 * (p.val / 64) + k.val % 64, by omega⟩ : Fin 704).val / 64 := by
      show p.val / 64 = (64 * (p.val / 64) + k.val % 64) / 64
      omega
    refine ⟨⟨64 * (p.val / 64) + k.val % 64, by omega⟩, hj, Fin.ext ?_⟩
    rw [keyOf_val (ho _ hj)]
    have hk2 := hk
    simp only [locRow] at hk2 hpl ⊢
    omega
  · unfold sL
    rw [diagB_at, if_pos hj, add_zero, ← score_sum]
    exact Finset.sum_congr rfl fun d _ => by rw [hQ h g p d hp, hK h g j d (ho j hj)]
  · unfold sL
    rw [diagB_at, if_neg hj, EReal.add_bot]
  · funext d
    exact hV h g j d (ho j hj)

theorem pk_zero (j : Fin 64) : (⟨j.val, by omega⟩ : Fin 2112) = pk 0 ⟨j.val, by omega⟩ := Fin.ext (by simp [pk])

theorem first_step (hQ : KeysAt Q qr c) (hK : KeysAt K kr 0) (hV : ValsAt V vv 0) (h : Fin 8) (g : Fin 3) (p : Fin 704) (hp : okRow c g p)
    {T : Finset (Fin 8192)} {R : Row} (hd : Disjoint T (blkT 0)) (H : Holds T (score qr kr (keyOf c g p) h) (fun k => vv k h) R) :
    Holds (T ∪ blkT 0) (score qr kr (keyOf c g p) h) (fun k => vv k h) (R.step (sS Q K h g p) (vS V h)) := by
  have ho : ∀ j : Fin 64, okRow 0 0 ⟨j.val, by omega⟩ := fun j => by
    simp only [okRow, locRow, Fin.val_zero]
    omega
  have hv : ∀ j : Fin 64, (keyOf 0 0 ⟨j.val, by omega⟩).val = j.val := fun j => by
    rw [keyOf_val (ho j)]
    simp only [locRow, Fin.val_zero]
    omega
  refine H.step _ hd (fun _ => True) (fun j => keyOf 0 0 ⟨j.val, by omega⟩) (fun j hj => ?_) (fun i j hi hj hij => ?_) (fun k hk => ?_) _ _ (fun j hj => ?_) (fun j hj => absurd trivial hj) (fun j hj => ?_)
  · simp only [blkT, Finset.mem_filter, Finset.mem_univ, true_and]
    rw [hv]
    omega
  · apply Fin.ext
    rw [← hv i, ← hv j]
    exact congrArg Fin.val hij
  · simp only [blkT, Finset.mem_filter, Finset.mem_univ, true_and] at hk
    exact ⟨⟨k.val, by omega⟩, trivial, Fin.ext (hv ⟨k.val, by omega⟩)⟩
  · unfold sS
    rw [← score_sum]
    exact Finset.sum_congr rfl fun d _ => by rw [hQ h g p d hp, pk_zero, hK h 0 _ d (ho j)]
  · funext d
    show V _ = _
    rw [pk_zero]
    exact hV h 0 _ d (ho j)

/-- The keys taken from device `e`'s block. -/
def chkT (e : Fin 4) (g : Fin 3) : Finset (Fin 8192) :=
  Finset.univ.filter fun k => k.val / 2048 = e.val ∧ (k.val / 64 % 3 = (mate g).val ∨ (g ≠ 0 ∧ k.val / 64 = 0))

theorem word_zero (e : Fin 4) : BitVec.ofNat 32 e.val = 0#32 ↔ e = 0 := by revert e; decide

theorem mate_val : ∀ g : Fin 3, (g.val + (mate g).val) % 3 = 0 ∧ (g.val = 0 ↔ (mate g).val = 0) ∧ (mate g).val < 3 ∧ (g = 0 ↔ g.val = 0) := by
  decide

theorem att_step (hQ : KeysAt Q qr c) (hK : KeysAt K kr e) (hV : ValsAt V vv e) (h : Fin 8) (g : Fin 3) (p : Fin 704) (hp : okRow c g p)
    {T : Finset (Fin 8192)} {st : Fl Ideal} (hd : Disjoint T (chkT e g)) (H : Holds T (score qr kr (keyOf c g p) h) (fun k => vv k h) (rowOf st h g p)) :
    Holds (T ∪ chkT e g) (score qr kr (keyOf c g p) h) (fun k => vv k h) (rowOf (attSt (BitVec.ofNat 32 e.val) Q K V st) h g p) := by
  have hsub : grpT e (mate g) ⊆ chkT e g := fun k hk => by
    simp only [grpT, chkT, Finset.mem_filter, Finset.mem_univ, true_and] at hk ⊢
    exact ⟨hk.1, .inl hk.2⟩
  have h1 := grp_step hQ hK hV h g (mate g) p hp (hd.mono_right hsub) H
  rw [attSt_row]
  simp only [word_zero]
  by_cases hc : e = 0 ∧ g ≠ 0
  · rw [if_pos hc]
    obtain ⟨rfl, hg⟩ := hc
    have hm : (mate g).val ≠ 0 := fun h => hg ((mate_val g).2.2.2.2 ((mate_val g).2.1.2 h))
    have e1 : T ∪ chkT 0 g = T ∪ grpT 0 (mate g) ∪ blkT 0 := by
      ext k
      simp only [grpT, chkT, blkT, Finset.mem_union, Finset.mem_filter, Finset.mem_univ, true_and, Fin.val_zero]
      constructor
      · rintro (h | ⟨h1, h2 | h2⟩)
        · exact .inl (.inl h)
        · exact .inl (.inr ⟨h1, h2⟩)
        · exact .inr h2.2
      · rintro ((h | h) | h)
        · exact .inl h
        · exact .inr ⟨h.1, .inl h.2⟩
        · exact .inr ⟨by omega, .inr ⟨hg, h⟩⟩
    rw [e1]
    refine first_step hQ hK hV h g p hp ?_ h1
    rw [Finset.disjoint_union_left]
    constructor
    · refine hd.mono_right fun k hk => ?_
      simp only [blkT, chkT, Finset.mem_filter, Finset.mem_univ, true_and, Fin.val_zero] at hk ⊢
      exact ⟨by omega, .inr ⟨hg, hk⟩⟩
    · rw [Finset.disjoint_left]
      intro k hk hk'
      simp only [grpT, blkT, Finset.mem_filter, Finset.mem_univ, true_and] at hk hk'
      omega
  · rw [if_neg hc]
    have e1 : chkT e g = grpT e (mate g) := by
      ext k
      simp only [grpT, chkT, Finset.mem_filter, Finset.mem_univ, true_and]
      constructor
      · rintro ⟨h1, h2 | h2⟩
        · exact ⟨h1, h2⟩
        · exact absurd ⟨Fin.ext (by rw [← h1, Fin.val_zero]; omega), h2.1⟩ hc
      · exact fun h => ⟨h.1, .inl h.2⟩
    rw [e1]
    exact h1

/-- The keys a query sees. -/
def seenT (I : Fin 8192) : Finset (Fin 8192) :=
  Finset.univ.filter fun k => I.val / 64 = k.val / 64 ∨ k.val / 64 = 0 ∨ (I.val / 64 + k.val / 64) % 3 = 0

theorem seen_self (I : Fin 8192) : (seenT I).Nonempty := ⟨I, by simp [seenT]⟩

theorem chunk_word (c : Dev nD) : chunkW c 0#32 = BitVec.ofNat 32 c.val ∧ chunkW c 1#32 = BitVec.ofNat 32 (rowAt c 1).val ∧ chunkW c 3#32 = BitVec.ofNat 32 (rowAt c 2).val ∧ chunkW c 2#32 = BitVec.ofNat 32 (rowAt c 3).val := by
  revert c; decide

theorem row_val (c : Dev nD) : (rowAt c 1).val = (c.val + 1) % 4 ∧ (rowAt c 2).val = (c.val + 3) % 4 ∧ (rowAt c 3).val = (c.val + 2) % 4 := by
  revert c; decide

theorem initSt_row (h : Fin 8) (g : Fin 3) (p : Fin 704) : ∃ M : ℝ, rowOf (initSt (F := Ideal)) h g p = ⟨M, 0, fun _ => 0⟩ := by
  obtain ⟨M, hb⟩ : ∃ M : ℝ, Ideal.ofBits .bf16 0xF14A#16 = (M : EReal) := by
    simp [Ideal.ofBits, Ideal.ieee]
    exact ⟨_, rfl⟩
  have hM : (initSt (F := Ideal)).mx (ix4 h g p 0) = (M : EReal) := by
    rw [← hb]
    show k0_pay751 (F := Ideal) (ix4 h g p 0) = _
    pointwise [k0_pay751]
  refine ⟨M, row_ext hM ?_ fun d => ?_⟩
  · show k0_pay753 (k0_pay752 (F := Ideal)) (ix4 h g p 0) = 0
    pointwise [k0_pay753, k0_pay752]
  · show k0_pay750 (F := Ideal) (ix3 h (pk g p) d) = 0
    pointwise [k0_pay750]

variable {Kv Vv : Dev nD → Vec Ideal S8x2112x128 .bf16}

/-- After the four chunks a row holds the sums over the keys its query sees. -/
theorem stD_holds (c : Dev nD) (hQ : KeysAt Q qr c) (hK : ∀ e : Dev nD, KeysAt (Kv e) kr e) (hV : ∀ e : Dev nD, ValsAt (Vv e) vv e)
    (h : Fin 8) (g : Fin 3) (p : Fin 704) (hp : okRow c g p) :
    Holds (seenT (keyOf c g p)) (score qr kr (keyOf c g p) h) (fun k => vv k h) (rowOf (stD Kv Vv Q c) h g p) := by
  obtain ⟨w0, w1, w2, w3⟩ := chunk_word c
  obtain ⟨r1, r2, r3⟩ := row_val c
  have hI := keyOf_val hp
  have hpl : locRow c g p < 2048 := hp
  have hIb : (keyOf c g p).val / 64 % 3 = g.val ∧ (keyOf c g p).val / 2048 = c.val := by
    have := g.isLt
    unfold locRow at *
    omega
  have hmate : (g.val + (mate g).val) % 3 = 0 ∧ (g.val = 0 ↔ (mate g).val = 0) ∧ (mate g).val < 3 := ⟨(mate_val g).1, (mate_val g).2.1, (mate_val g).2.2.1⟩
  have hg0 : g = 0 ↔ g.val = 0 := (mate_val g).2.2.2
  have hc4 : c.val < 4 := c.isLt
  obtain ⟨M, hM⟩ := initSt_row h g p
  have i0 : Holds ∅ (score qr kr (keyOf c g p) h) (fun k => vv k h) (rowOf (initSt (F := Ideal)) h g p) := by
    rw [hM]; exact Holds.start _ _ M
  have i1 := att_step (e := c) hQ (hK c) (hV c) h g p hp (Finset.disjoint_empty_left _) i0
  rw [← w0] at i1
  have i2 : Holds (chkT c g ∪ if g = 0 then ∅ else blkT ((keyOf c g p).val / 64)) (score qr kr (keyOf c g p) h) (fun k => vv k h) (rowOf (stA Kv Vv Q c) h g p) := by
    unfold stA
    rw [diagSt_row]
    rw [Finset.empty_union] at i1
    by_cases hg : g = 0
    · rw [if_pos hg, if_pos hg, Finset.union_empty]
      exact i1
    · rw [if_neg hg, if_neg hg]
      refine diag_step hQ (hK c) (hV c) h g p hp ?_ i1
      rw [Finset.disjoint_left]
      intro k hk hk'
      simp only [chkT, blkT, Finset.mem_filter, Finset.mem_univ, true_and, hg0, ne_eq] at hk hk' hg
      omega
  have i3 := att_step (e := rowAt c 1) hQ (hK _) (hV _) h g p hp (by
    rw [Finset.disjoint_left]
    intro k hk hk'
    by_cases hg : g = 0
    · simp only [hg, if_true, chkT, blkT, Finset.mem_union, Finset.mem_filter, Finset.mem_univ, true_and, Finset.notMem_empty, ne_eq, not_true, false_and, or_false, r1] at hk hk'
      omega
    · simp only [hg, if_false, chkT, blkT, Finset.mem_union, Finset.mem_filter, Finset.mem_univ, true_and, ne_eq, not_false_iff, r1] at hk hk'
      omega) i2
  rw [← w1] at i3
  have i4 := att_step (e := rowAt c 2) hQ (hK _) (hV _) h g p hp (by
    rw [Finset.disjoint_left]
    intro k hk hk'
    by_cases hg : g = 0
    · simp only [hg, if_true, chkT, blkT, Finset.mem_union, Finset.mem_filter, Finset.mem_univ, true_and, Finset.notMem_empty, ne_eq, not_true, false_and, or_false, r1, r2] at hk hk'
      omega
    · simp only [hg, if_false, chkT, blkT, Finset.mem_union, Finset.mem_filter, Finset.mem_univ, true_and, ne_eq, not_false_iff, r1, r2] at hk hk'
      omega) i3
  rw [← w2] at i4
  have i5 := att_step (e := rowAt c 3) hQ (hK _) (hV _) h g p hp (by
    rw [Finset.disjoint_left]
    intro k hk hk'
    by_cases hg : g = 0
    · simp only [hg, if_true, chkT, blkT, Finset.mem_union, Finset.mem_filter, Finset.mem_univ, true_and, Finset.notMem_empty, ne_eq, not_true, false_and, or_false, r1, r2, r3] at hk hk'
      omega
    · simp only [hg, if_false, chkT, blkT, Finset.mem_union, Finset.mem_filter, Finset.mem_univ, true_and, ne_eq, not_false_iff, r1, r2, r3] at hk hk'
      omega) i4
  rw [← w3] at i5
  have hT : chkT c g ∪ (if g = 0 then ∅ else blkT ((keyOf c g p).val / 64)) ∪ chkT (rowAt c 1) g ∪ chkT (rowAt c 2) g ∪ chkT (rowAt c 3) g = seenT (keyOf c g p) := by
    clear i0 i1 i2 i3 i4 i5 hpl hI
    ext k
    have hk : k.val / 2048 = c.val ∨ k.val / 2048 = (c.val + 1) % 4 ∨ k.val / 2048 = (c.val + 3) % 4 ∨ k.val / 2048 = (c.val + 2) % 4 := by
      have h1 : k.val / 2048 < 4 := by omega
      clear hIb hmate hg0 w0 w1 w2 w3 r1 r2 r3
      generalize k.val / 2048 = B at *
      generalize c.val = C at *
      interval_cases B <;> interval_cases C <;> decide
    have hD : k ∈ (if g = 0 then ∅ else blkT ((keyOf c g p).val / 64)) ↔ (¬ g = 0 ∧ k.val / 64 = (keyOf c g p).val / 64) := by
      by_cases hg : g = 0
      · simp [hg]
      · simp [hg, blkT]
    have hP : ((k.val / 64 % 3 = (mate g).val ∨ (¬ g = 0 ∧ k.val / 64 = 0)) ∨ (¬ g = 0 ∧ k.val / 64 = (keyOf c g p).val / 64)) ↔ ((keyOf c g p).val / 64 = k.val / 64 ∨ k.val / 64 = 0 ∨ ((keyOf c g p).val / 64 + k.val / 64) % 3 = 0) := by
      have h1 := hIb.1
      rw [hg0]
      generalize (keyOf c g p).val / 64 = A at *
      generalize k.val / 64 = B at *
      omega
    simp only [Finset.mem_union, hD]
    simp only [chkT, seenT, Finset.mem_filter, Finset.mem_univ, true_and, ne_eq, r1, r2, r3, ← hP]
    constructor
    · rintro ((((⟨_, h⟩ | h) | ⟨_, h⟩) | ⟨_, h⟩) | ⟨_, h⟩)
      · exact .inl h
      · exact .inr h
      · exact .inl h
      · exact .inl h
      · exact .inl h
    · rintro (h | h)
      · rcases hk with e | e | e | e
        · exact .inl (.inl (.inl (.inl ⟨e, h⟩)))
        · exact .inl (.inl (.inr ⟨e, h⟩))
        · exact .inl (.inr ⟨e, h⟩)
        · exact .inr ⟨e, h⟩
      · exact .inl (.inl (.inl (.inr h)))
  rw [hT] at i5
  exact i5

theorem norm_col (A : Vec Ideal S8x2112x128 .f32) (L : Vec Ideal S8x3x704x128 .bf16) (O : Vec Ideal S2112x1024 .f32) (g : Fin 3) (p : Fin 704) (e : Fin 1024) :
    normSt A L O (ix2 (pk g p) e) = Ideal.div (A (ix3 (⟨e.val / 128, by omega⟩ : Fin 8) (pk g p) (⟨e.val % 128, by omega⟩ : Fin 128))) (L (ix4 (⟨e.val / 128, by omega⟩ : Fin 8) g p (0 : Fin 128))) := by
  have h1 := norm_at A L O ⟨e.val / 128, by omega⟩ g p ⟨e.val % 128, by omega⟩
  have h2 : (⟨128 * (e.val / 128) + e.val % 128, by omega⟩ : Fin 1024) = e := Fin.ext (Nat.div_add_mod e.val 128)
  rw [← h1]
  exact congrArg (fun x => normSt A L O (ix2 (pk g p) x)) h2.symm

theorem proj_at (A : Vec Ideal S2112x1024 .bf16) (W : Vec Ideal S1024x1024 .bf16) (P : Fin 2112) (n : Fin 1024) :
    k0_pay1 A W (ix2 P n) = ∑ e : Fin 1024, A (ix2 P e) * W (ix2 e n) := by
  pointwise [k0_pay1]

/-- One element of the block the kernel writes. -/
theorem outB_at (c : Dev nD) (hQ : KeysAt Q qr c) (hK : ∀ e : Dev nD, KeysAt (Kv e) kr e) (hV : ∀ e : Dev nD, ValsAt (Vv e) vv e)
    (W : Vec Ideal S1024x1024 .bf16) (g : Fin 3) (p : Fin 704) (hp : okRow c g p) (n : Fin 1024) :
    outB Kv Vv Q W c (ix2 (pk g p) n) = ∑ e : Fin 1024, soft (seenT (keyOf c g p)) (score qr kr (keyOf c g p) ⟨e.val / 128, by omega⟩) (fun k => vv k ⟨e.val / 128, by omega⟩) ⟨e.val % 128, by omega⟩ * W (ix2 e n) := by
  unfold outB
  rw [proj_at]
  refine Finset.sum_congr rfl fun e _ => ?_
  rw [norm_col]
  have h := (stD_holds c hQ hK hV ⟨e.val / 128, by omega⟩ g p hp).soft (seen_self _) ⟨e.val % 128, by omega⟩
  rw [rowOf_ac, rowOf_sm] at h
  rw [h]

end Cert.KernelIdeal.Flash

end
-- ==== Proof.Pack.lean ====
module

public import proofs.«01_k».proof.Proof.Core
public import proofs.«01_k».proof.Proof.Host

@[expose] public section

set_option maxRecDepth 65536
set_option maxHeartbeats 2000000

noncomputable section

namespace Cert.KernelIdeal.Flash

open Cert.KernelIdeal.Gen Idealize.ShloMosaic Idealize.ShloMosaic.TcCoe Idealize.SL.Sem

/-! ## How the rows of a block are packed by group -/

/-- Every third block of rows, from the first, the second and the third. -/
def part0 (x : Vec Ideal S32x64x1024 .bf16) : Vec Ideal S11x64x1024 .bf16 := Host.slice S11x64x1024 ![0, 0, 0] ![3, 1, 1] x slicesBy_S32x64x1024_S11x64x1024_0s3_0s1_0s1
def part1 (x : Vec Ideal S32x64x1024 .bf16) : Vec Ideal S11x64x1024 .bf16 := Host.slice S11x64x1024 ![1, 0, 0] ![3, 1, 1] x slicesBy_S32x64x1024_S11x64x1024_1s3_0s1_0s1
def part2a (x : Vec Ideal S32x64x1024 .bf16) : Vec Ideal S10x64x1024 .bf16 := Host.slice S10x64x1024 ![2, 0, 0] ![3, 1, 1] x slicesBy_S32x64x1024_S10x64x1024_2s3_0s1_0s1
def part2 (x : Vec Ideal S32x64x1024 .bf16) : Vec Ideal S11x64x1024 .bf16 :=
  concatenate S11x64x1024 0 [⟨S10x64x1024, part2a x⟩, ⟨S1x64x1024, extractStridedSlice S1x64x1024 ![9, 0, 0] (part2a x) slices_S10x64x1024_S1x64x1024_9_0_0⟩] concatenates_S10x64x1024_S1x64x1024_S11x64x1024_d0

theorem part0_at (x : Vec Ideal S32x64x1024 .bf16) (i : Fin 11) (o : Fin 64) (n : Fin 1024) :
    part0 x (ix3 i o n) = x (ix3 (⟨0 + 3 * i.val, by omega⟩ : Fin 32) o n) := by
  pointwise [part0]
theorem part1_at (x : Vec Ideal S32x64x1024 .bf16) (i : Fin 11) (h : 1 + 3 * i.val < 32) (o : Fin 64) (n : Fin 1024) :
    part1 x (ix3 i o n) = x (ix3 (⟨1 + 3 * i.val, h⟩ : Fin 32) o n) := by
  pointwise [part1]
theorem part2_at (x : Vec Ideal S32x64x1024 .bf16) (i : Fin 11) (h : 2 + 3 * i.val < 32) (o : Fin 64) (n : Fin 1024) :
    part2 x (ix3 i o n) = x (ix3 (⟨2 + 3 * i.val, h⟩ : Fin 32) o n) := by
  pointwise [part2, part2a]
  have hi : i.val < 10 := by omega
  simp only [hi, dif_pos, if_pos]

/-- The three parts in the order the group numbers give. -/
def cat3 (a b c : Vec Ideal S11x64x1024 .bf16) : Vec Ideal S33x64x1024 .bf16 :=
  concatenate S33x64x1024 0 [⟨S11x64x1024, a⟩, ⟨S11x64x1024, b⟩, ⟨S11x64x1024, c⟩] concatenates_S11x64x1024_S11x64x1024_S11x64x1024_S33x64x1024_d0

def packed (j : Fin 3) (x : Vec Ideal S32x64x1024 .bf16) : Vec Ideal S33x64x1024 .bf16 :=
  match j with
  | 0 => cat3 (part0 x) (part1 x) (part2 x)
  | 1 => cat3 (part2 x) (part0 x) (part1 x)
  | 2 => cat3 (part1 x) (part2 x) (part0 x)

theorem cat3_0 (a b c : Vec Ideal S11x64x1024 .bf16) (i : Fin 11) (o : Fin 64) (n : Fin 1024) :
    cat3 a b c (ix3 (⟨11 * 0 + i.val, by omega⟩ : Fin 33) o n) = a (ix3 i o n) := by
  have e : (⟨11 * 0 + i.val, by omega⟩ : Fin 33) = ⟨i.val, by omega⟩ := Fin.ext (by show 11 * 0 + i.val = i.val; omega)
  rw [e]
  pointwise [cat3]
theorem cat3_1 (a b c : Vec Ideal S11x64x1024 .bf16) (i : Fin 11) (o : Fin 64) (n : Fin 1024) :
    cat3 a b c (ix3 (⟨11 + i.val, by omega⟩ : Fin 33) o n) = b (ix3 i o n) := by
  pointwise [cat3]
theorem cat3_2 (a b c : Vec Ideal S11x64x1024 .bf16) (i : Fin 11) (o : Fin 64) (n : Fin 1024) :
    cat3 a b c (ix3 (⟨22 + i.val, by omega⟩ : Fin 33) o n) = c (ix3 i o n) := by
  pointwise [cat3]
  refine (dif_neg (by omega)).trans ((dif_neg (by omega)).trans ?_)
  exact congrArg (fun j => c (ix3 j o n)) (Fin.ext (by show 22 + i.val - 11 - 11 = i.val; omega))

/-- Which order a device takes. -/
def ordOf (c : Dev nD) : Fin 3 := ⟨2 * c.val % 3, by omega⟩

theorem packed_at (c : Dev nD) (x : Vec Ideal S32x64x1024 .bf16) (r : Fin 3) (i : Fin 11) (o : Fin 64) (n : Fin 1024)
    (h : (r.val + c.val) % 3 + 3 * i.val < 32) :
    packed (ordOf c) x (ix3 (⟨11 * r.val + i.val, by omega⟩ : Fin 33) o n) = x (ix3 (⟨(r.val + c.val) % 3 + 3 * i.val, h⟩ : Fin 32) o n) := by
  match c, r with
  | 0, 0 => exact (cat3_0 ..).trans (part0_at x i o n)
  | 0, 1 => exact (cat3_1 ..).trans (part1_at x i h o n)
  | 0, 2 => exact (cat3_2 ..).trans (part2_at x i h o n)
  | 1, 0 => exact (cat3_0 ..).trans (part1_at x i h o n)
  | 1, 1 => exact (cat3_1 ..).trans (part2_at x i h o n)
  | 1, 2 => exact (cat3_2 ..).trans (part0_at x i o n)
  | 2, 0 => exact (cat3_0 ..).trans (part2_at x i h o n)
  | 2, 1 => exact (cat3_1 ..).trans (part0_at x i o n)
  | 2, 2 => exact (cat3_2 ..).trans (part1_at x i h o n)
  | 3, 0 => exact (cat3_0 ..).trans (part0_at x i o n)
  | 3, 1 => exact (cat3_1 ..).trans (part1_at x i h o n)
  | 3, 2 => exact (cat3_2 ..).trans (part2_at x i h o n)

/-- Heads first. -/
def headsV (y : Vec Ideal S33x64x1024 .bf16) : Vec Ideal S8x2112x128 .bf16 :=
  transpose S8x2112x128 [1, 0, 2] (shapeCast S2112x8x128 (shapeCast S2112x1024 y shapeCasts_S33x64x1024_S2112x1024) shapeCasts_S2112x1024_S2112x8x128) transposes_S2112x8x128_S8x2112x128_1_0_2

theorem headsV_at (y : Vec Ideal S33x64x1024 .bf16) (h : Fin 8) (P : Fin 2112) (d : Fin 128) :
    headsV y (ix3 h P d) = y (ix3 (⟨P.val / 64, by omega⟩ : Fin 33) (⟨P.val % 64, by omega⟩ : Fin 64) (⟨h.val * 128 + d.val, by omega⟩ : Fin 1024)) := by
  pointwise [headsV]

theorem block_lt {e : Fin 4} {r : Fin 3} {p : Fin 704} (hp : okRow e r p) : (r.val + e.val) % 3 + 3 * (p.val / 64) < 32 := by
  unfold okRow locRow at hp
  omega

theorem pack_at (c : Dev nD) (x : Vec Ideal S32x64x1024 .bf16) (h : Fin 8) (r : Fin 3) (p : Fin 704) (d : Fin 128) (hp : okRow c r p) :
    headsV (packed (ordOf c) x) (ix3 h (pk r p) d)
      = x (ix3 (⟨(r.val + c.val) % 3 + 3 * (p.val / 64), block_lt hp⟩ : Fin 32) (⟨p.val % 64, by omega⟩ : Fin 64) (⟨h.val * 128 + d.val, by omega⟩ : Fin 1024)) := by
  rw [headsV_at]
  have e1 : (⟨(pk r p).val / 64, by omega⟩ : Fin 33) = ⟨11 * r.val + (⟨p.val / 64, by omega⟩ : Fin 11).val, by have := r.isLt; simp only []; omega⟩ := Fin.ext (by simp only [pk]; omega)
  have e2 : (⟨(pk r p).val % 64, by omega⟩ : Fin 64) = ⟨p.val % 64, by omega⟩ := Fin.ext (by simp only [pk]; omega)
  rw [e1, e2]
  exact packed_at c x r ⟨p.val / 64, by omega⟩ _ _ (block_lt hp)

/-- A block of queries, before packing. -/
def projX (a0 : Vec Ideal S1x2048x1024 .bf16) (a1 : Vec Ideal S1024x1024 .bf16) : Vec Ideal S32x64x1024 .bf16 :=
  shapeCast S32x64x1024 (truncf (F := Ideal) .bf16 (Host.dotGeneral (F := Ideal) (φ₁ := .bf16) (φ₂ := .bf16) dot_S2048x1024_S1024x1024_S2048x1024_1_0_0_1_n_n none
    (shapeCast S2048x1024 a0 shapeCasts_S1x2048x1024_S2048x1024) a1) bitsLt_bf16_f32) shapeCasts_S2048x1024_S32x64x1024

theorem projX_at (a0 : Vec Ideal S1x2048x1024 .bf16) (a1 : Vec Ideal S1024x1024 .bf16) (b : Fin 32) (o : Fin 64) (n : Fin 1024) :
    projX a0 a1 (ix3 b o n) = ∑ j : Fin 1024, a0 (ix3 0 (⟨b.val * 64 + o.val, by omega⟩ : Fin 2048) j) * a1 (ix2 j n) := by
  pointwise [projX]

/-- A block of keys or values, before packing. -/
def flatX (a : Vec Ideal S1x2048x8x128 .bf16) : Vec Ideal S32x64x1024 .bf16 :=
  shapeCast S32x64x1024 (shapeCast S2048x1024 (shapeCast S2048x8x128 a shapeCasts_S1x2048x8x128_S2048x8x128) shapeCasts_S2048x8x128_S2048x1024) shapeCasts_S2048x1024_S32x64x1024

theorem flatX_at (a : Vec Ideal S1x2048x8x128 .bf16) (b : Fin 32) (o : Fin 64) (h : Fin 8) (d : Fin 128) :
    flatX a (ix3 b o (⟨h.val * 128 + d.val, by omega⟩ : Fin 1024)) = a (ix4 0 (⟨b.val * 64 + o.val, by omega⟩ : Fin 2048) h d) := by
  pointwise [flatX]

/-! ## The same read off the host code -/

local notation "Vl" => Valuation τ sig (Elt Ideal)

theorem v6_val (c : Dev nD) (V : Vl) : v2 (v1 c V) (Proc.devRef .tc main_v6) = fun _ => BitVec.ofNat 32 (2 * c.val % 3) := by
  unfold v1 v2
  simp only [hostOps0_1, StableHlo.TRef.binary, StableHlo.TRef.nullary, StableHlo.TRef.ternary, StableHlo.TRef.unary, StableHlo.TRef.toBuf, StableHlo.TRef.ofBuf, cast_eq]
  after_results_simp
  funext i
  clear V
  have hi : i = HostLoop.idx0 := funext fun a => a.elim0
  rw [hi]
  clear hi i
  revert c
  decide +kernel

theorem branch_ord (c : Dev nD) : HostLoop.branch (IntOp.minsi (IntOp.maxsi (BitVec.ofNat 32 (2 * c.val % 3)) 0#32) 2#32) 2 = ordOf c := by
  revert c; decide

theorem case0_val (c : Dev nD) (V : Vl) (x : Vec Ideal S32x64x1024 .bf16) (h6 : V (Proc.devRef .tc main_v6) = fun _ => BitVec.ofNat 32 (2 * c.val % 3))
    (hl : V (Proc.devRef .tc main_c_3) = fun _ => 0#32) (hh : V (Proc.devRef .tc main_c_4) = fun _ => 2#32)
    (ha : V (Proc.devRef .tc main_v11) = part0 x) (hb : V (Proc.devRef .tc main_v12) = part1 x) (hc : V (Proc.devRef .tc main_v15) = part2 x) :
    case0 V (Proc.devRef .tc main_v17) = packed (ordOf c) x := by
  have hw : HostLoop.branch (word main_v16 rfl ((pick0 : HloOp τ sig (Elt Ideal)).fn fun b => V b.1)) 2 = ordOf c := by
    have e : word main_v16 rfl ((pick0 : HloOp τ sig (Elt Ideal)).fn fun b => V b.1) = IntOp.minsi (IntOp.maxsi (BitVec.ofNat 32 (2 * c.val % 3)) 0#32) 2#32 := by
      show minsi (maxsi (V (Proc.devRef .tc main_v6)) (V (Proc.devRef .tc main_c_3))) (V (Proc.devRef .tc main_c_4)) HostLoop.idx0 = _
      rw [h6, hl, hh]
      rfl
    rw [e]
    exact branch_ord c
  unfold case0 caseVal
  rw [hw]
  have k1 : (pick0 : HloOp τ sig (Elt Ideal)).result V (Proc.devRef .tc main_v11) = part0 x := (StableHlo.ternary_result_ne _ _ _ _ _ _ _ _ _ V (by decide)).trans ha
  have k2 : (pick0 : HloOp τ sig (Elt Ideal)).result V (Proc.devRef .tc main_v12) = part1 x := (StableHlo.ternary_result_ne _ _ _ _ _ _ _ _ _ V (by decide)).trans hb
  have k3 : (pick0 : HloOp τ sig (Elt Ideal)).result V (Proc.devRef .tc main_v15) = part2 x := (StableHlo.ternary_result_ne _ _ _ _ _ _ _ _ _ V (by decide)).trans hc
  generalize (pick0 : HloOp τ sig (Elt Ideal)).result V = W at k1 k2 k3 ⊢
  generalize ordOf c = j
  match j with
  | 0 =>
    have : StableHlo.after (arm0_0 : List (HloOp τ sig (Elt Ideal))) W (Proc.devRef .tc main_v17) = cat3 (W (Proc.devRef .tc main_v11)) (W (Proc.devRef .tc main_v12)) (W (Proc.devRef .tc main_v15)) := by
      after_results_simp <;> rfl
    exact this.trans (by rw [k1, k2, k3]; rfl)
  | 1 =>
    have : StableHlo.after (arm0_1 : List (HloOp τ sig (Elt Ideal))) W (Proc.devRef .tc main_v17) = cat3 (W (Proc.devRef .tc main_v15)) (W (Proc.devRef .tc main_v11)) (W (Proc.devRef .tc main_v12)) := by
      after_results_simp <;> rfl
    exact this.trans (by rw [k1, k2, k3]; rfl)
  | 2 =>
    have : StableHlo.after (arm0_2 : List (HloOp τ sig (Elt Ideal))) W (Proc.devRef .tc main_v17) = cat3 (W (Proc.devRef .tc main_v12)) (W (Proc.devRef .tc main_v15)) (W (Proc.devRef .tc main_v11)) := by
      after_results_simp <;> rfl
    exact this.trans (by rw [k1, k2, k3]; rfl)

theorem case1_val (c : Dev nD) (V : Vl) (x : Vec Ideal S32x64x1024 .bf16) (h6 : V (Proc.devRef .tc main_v6) = fun _ => BitVec.ofNat 32 (2 * c.val % 3))
    (hl : V (Proc.devRef .tc main_c_5) = fun _ => 0#32) (hh : V (Proc.devRef .tc main_c_6) = fun _ => 2#32)
    (ha : V (Proc.devRef .tc main_v24) = part0 x) (hb : V (Proc.devRef .tc main_v25) = part1 x) (hc : V (Proc.devRef .tc main_v28) = part2 x) :
    case1 V (Proc.devRef .tc main_v30) = packed (ordOf c) x := by
  have hw : HostLoop.branch (word main_v29 rfl ((pick1 : HloOp τ sig (Elt Ideal)).fn fun b => V b.1)) 2 = ordOf c := by
    have e : word main_v29 rfl ((pick1 : HloOp τ sig (Elt Ideal)).fn fun b => V b.1) = IntOp.minsi (IntOp.maxsi (BitVec.ofNat 32 (2 * c.val % 3)) 0#32) 2#32 := by
      show minsi (maxsi (V (Proc.devRef .tc main_v6)) (V (Proc.devRef .tc main_c_5))) (V (Proc.devRef .tc main_c_6)) HostLoop.idx0 = _
      rw [h6, hl, hh]
      rfl
    rw [e]
    exact branch_ord c
  unfold case1 caseVal
  rw [hw]
  have k1 : (pick1 : HloOp τ sig (Elt Ideal)).result V (Proc.devRef .tc main_v24) = part0 x := (StableHlo.ternary_result_ne _ _ _ _ _ _ _ _ _ V (by decide)).trans ha
  have k2 : (pick1 : HloOp τ sig (Elt Ideal)).result V (Proc.devRef .tc main_v25) = part1 x := (StableHlo.ternary_result_ne _ _ _ _ _ _ _ _ _ V (by decide)).trans hb
  have k3 : (pick1 : HloOp τ sig (Elt Ideal)).result V (Proc.devRef .tc main_v28) = part2 x := (StableHlo.ternary_result_ne _ _ _ _ _ _ _ _ _ V (by decide)).trans hc
  generalize (pick1 : HloOp τ sig (Elt Ideal)).result V = W at k1 k2 k3 ⊢
  generalize ordOf c = j
  match j with
  | 0 =>
    have : StableHlo.after (arm1_0 : List (HloOp τ sig (Elt Ideal))) W (Proc.devRef .tc main_v30) = cat3 (W (Proc.devRef .tc main_v24)) (W (Proc.devRef .tc main_v25)) (W (Proc.devRef .tc main_v28)) := by
      after_results_simp <;> rfl
    exact this.trans (by rw [k1, k2, k3]; rfl)
  | 1 =>
    have : StableHlo.after (arm1_1 : List (HloOp τ sig (Elt Ideal))) W (Proc.devRef .tc main_v30) = cat3 (W (Proc.devRef .tc main_v28)) (W (Proc.devRef .tc main_v24)) (W (Proc.devRef .tc main_v25)) := by
      after_results_simp <;> rfl
    exact this.trans (by rw [k1, k2, k3]; rfl)
  | 2 =>
    have : StableHlo.after (arm1_2 : List (HloOp τ sig (Elt Ideal))) W (Proc.devRef .tc main_v30) = cat3 (W (Proc.devRef .tc main_v25)) (W (Proc.devRef .tc main_v28)) (W (Proc.devRef .tc main_v24)) := by
      after_results_simp <;> rfl
    exact this.trans (by rw [k1, k2, k3]; rfl)

theorem case2_val (c : Dev nD) (V : Vl) (x : Vec Ideal S32x64x1024 .bf16) (h6 : V (Proc.devRef .tc main_v6) = fun _ => BitVec.ofNat 32 (2 * c.val % 3))
    (hl : V (Proc.devRef .tc main_c_7) = fun _ => 0#32) (hh : V (Proc.devRef .tc main_c_8) = fun _ => 2#32)
    (ha : V (Proc.devRef .tc main_v37) = part0 x) (hb : V (Proc.devRef .tc main_v38) = part1 x) (hc : V (Proc.devRef .tc main_v41) = part2 x) :
    case2 V (Proc.devRef .tc main_v43) = packed (ordOf c) x := by
  have hw : HostLoop.branch (word main_v42 rfl ((pick2 : HloOp τ sig (Elt Ideal)).fn fun b => V b.1)) 2 = ordOf c := by
    have e : word main_v42 rfl ((pick2 : HloOp τ sig (Elt Ideal)).fn fun b => V b.1) = IntOp.minsi (IntOp.maxsi (BitVec.ofNat 32 (2 * c.val % 3)) 0#32) 2#32 := by
      show minsi (maxsi (V (Proc.devRef .tc main_v6)) (V (Proc.devRef .tc main_c_7))) (V (Proc.devRef .tc main_c_8)) HostLoop.idx0 = _
      rw [h6, hl, hh]
      rfl
    rw [e]
    exact branch_ord c
  unfold case2 caseVal
  rw [hw]
  have k1 : (pick2 : HloOp τ sig (Elt Ideal)).result V (Proc.devRef .tc main_v37) = part0 x := (StableHlo.ternary_result_ne _ _ _ _ _ _ _ _ _ V (by decide)).trans ha
  have k2 : (pick2 : HloOp τ sig (Elt Ideal)).result V (Proc.devRef .tc main_v38) = part1 x := (StableHlo.ternary_result_ne _ _ _ _ _ _ _ _ _ V (by decide)).trans hb
  have k3 : (pick2 : HloOp τ sig (Elt Ideal)).result V (Proc.devRef .tc main_v41) = part2 x := (StableHlo.ternary_result_ne _ _ _ _ _ _ _ _ _ V (by decide)).trans hc
  generalize (pick2 : HloOp τ sig (Elt Ideal)).result V = W at k1 k2 k3 ⊢
  generalize ordOf c = j
  match j with
  | 0 =>
    have : StableHlo.after (arm2_0 : List (HloOp τ sig (Elt Ideal))) W (Proc.devRef .tc main_v43) = cat3 (W (Proc.devRef .tc main_v37)) (W (Proc.devRef .tc main_v38)) (W (Proc.devRef .tc main_v41)) := by
      after_results_simp <;> rfl
    exact this.trans (by rw [k1, k2, k3]; rfl)
  | 1 =>
    have : StableHlo.after (arm2_1 : List (HloOp τ sig (Elt Ideal))) W (Proc.devRef .tc main_v43) = cat3 (W (Proc.devRef .tc main_v41)) (W (Proc.devRef .tc main_v37)) (W (Proc.devRef .tc main_v38)) := by
      after_results_simp <;> rfl
    exact this.trans (by rw [k1, k2, k3]; rfl)
  | 2 =>
    have : StableHlo.after (arm2_2 : List (HloOp τ sig (Elt Ideal))) W (Proc.devRef .tc main_v43) = cat3 (W (Proc.devRef .tc main_v38)) (W (Proc.devRef .tc main_v41)) (W (Proc.devRef .tc main_v37)) := by
      after_results_simp <;> rfl
    exact this.trans (by rw [k1, k2, k3]; rfl)

theorem v3_v11 (V : Vl) : v3 V (Proc.devRef .tc main_v11) = part0 (projX (V (Proc.devRef .tc main_arg0)) (V (Proc.devRef .tc main_arg1))) := by
  unfold v3
  after_results_simp <;> rfl
theorem v3_v12 (V : Vl) : v3 V (Proc.devRef .tc main_v12) = part1 (projX (V (Proc.devRef .tc main_arg0)) (V (Proc.devRef .tc main_arg1))) := by
  unfold v3
  after_results_simp <;> rfl
theorem v3_v15 (V : Vl) : v3 V (Proc.devRef .tc main_v15) = part2 (projX (V (Proc.devRef .tc main_arg0)) (V (Proc.devRef .tc main_arg1))) := by
  unfold v3
  after_results <;> rfl
theorem v3_c_3 (V : Vl) : v3 V (Proc.devRef .tc main_c_3) = fun _ => 0#32 := by
  unfold v3
  after_results_simp <;> rfl
theorem v3_c_4 (V : Vl) : v3 V (Proc.devRef .tc main_c_4) = fun _ => 2#32 := by
  unfold v3
  after_results_simp <;> rfl
theorem v5_v24 (V : Vl) : v5 V (Proc.devRef .tc main_v24) = part0 (flatX (V (Proc.devRef .tc main_arg2))) := by
  unfold v5
  after_results_simp <;> rfl
theorem v5_v25 (V : Vl) : v5 V (Proc.devRef .tc main_v25) = part1 (flatX (V (Proc.devRef .tc main_arg2))) := by
  unfold v5
  after_results_simp <;> rfl
theorem v5_v28 (V : Vl) : v5 V (Proc.devRef .tc main_v28) = part2 (flatX (V (Proc.devRef .tc main_arg2))) := by
  unfold v5
  after_results <;> rfl
theorem v5_c_5 (V : Vl) : v5 V (Proc.devRef .tc main_c_5) = fun _ => 0#32 := by
  unfold v5
  after_results_simp <;> rfl
theorem v5_c_6 (V : Vl) : v5 V (Proc.devRef .tc main_c_6) = fun _ => 2#32 := by
  unfold v5
  after_results_simp <;> rfl
theorem v7_v37 (V : Vl) : v7 V (Proc.devRef .tc main_v37) = part0 (flatX (V (Proc.devRef .tc main_arg3))) := by
  unfold v7
  after_results_simp <;> rfl
theorem v7_v38 (V : Vl) : v7 V (Proc.devRef .tc main_v38) = part1 (flatX (V (Proc.devRef .tc main_arg3))) := by
  unfold v7
  after_results_simp <;> rfl
theorem v7_v41 (V : Vl) : v7 V (Proc.devRef .tc main_v41) = part2 (flatX (V (Proc.devRef .tc main_arg3))) := by
  unfold v7
  after_results <;> rfl
theorem v7_c_7 (V : Vl) : v7 V (Proc.devRef .tc main_c_7) = fun _ => 0#32 := by
  unfold v7
  after_results_simp <;> rfl
theorem v7_c_8 (V : Vl) : v7 V (Proc.devRef .tc main_c_8) = fun _ => 2#32 := by
  unfold v7
  after_results_simp <;> rfl
theorem v5_v20 (V : Vl) : v5 V (Proc.devRef .tc main_v20) = headsV (V (Proc.devRef .tc main_v17)) := by
  unfold v5
  after_results_simp <;> rfl
theorem v7_v33 (V : Vl) : v7 V (Proc.devRef .tc main_v33) = headsV (V (Proc.devRef .tc main_v30)) := by
  unfold v7
  after_results_simp <;> rfl
theorem v9_v46 (V : Vl) : v9 V (Proc.devRef .tc main_v46) = headsV (V (Proc.devRef .tc main_v43)) := by
  unfold v9
  after_results_simp <;> rfl

/-- The packed queries. -/
theorem pre_q (c : Dev nD) (V : Vl) : preV c V (Proc.devRef .tc main_v20) = headsV (packed (ordOf c) (projX (V (Proc.devRef .tc main_arg0)) (V (Proc.devRef .tc main_arg1)))) := by
  unfold preV
  rw [v9_keep _ (by decide), case2_keep _ (by decide), v7_keep _ (by decide), case1_keep _ (by decide), v5_v20]
  refine congrArg headsV ?_
  refine case0_val c _ _ ?_ (v3_c_3 _) (v3_c_4 _) ?_ ?_ ?_
  · rw [v3_keep _ (by decide), v6_val]
  · rw [v3_v11, v2_keep _ (by decide), v1_keep _ _ (by decide), v2_keep _ (by decide), v1_keep _ _ (by decide)]
  · rw [v3_v12, v2_keep _ (by decide), v1_keep _ _ (by decide), v2_keep _ (by decide), v1_keep _ _ (by decide)]
  · rw [v3_v15, v2_keep _ (by decide), v1_keep _ _ (by decide), v2_keep _ (by decide), v1_keep _ _ (by decide)]

/-- The packed keys. -/
theorem pre_k (c : Dev nD) (V : Vl) : preV c V (Proc.devRef .tc main_v33) = headsV (packed (ordOf c) (flatX (V (Proc.devRef .tc main_arg2)))) := by
  unfold preV
  rw [v9_keep _ (by decide), case2_keep _ (by decide), v7_v33]
  refine congrArg headsV ?_
  have h2 : case0 (v3 (v2 (v1 c V))) (Proc.devRef .tc main_arg2) = V (Proc.devRef .tc main_arg2) := by
    rw [case0_keep _ (by decide), v3_keep _ (by decide), v2_keep _ (by decide), v1_keep _ _ (by decide)]
  refine case1_val c _ _ ?_ (v5_c_5 _) (v5_c_6 _) ?_ ?_ ?_
  · rw [v5_keep _ (by decide), case0_keep _ (by decide), v3_keep _ (by decide), v6_val]
  · rw [v5_v24, h2]
  · rw [v5_v25, h2]
  · rw [v5_v28, h2]

/-- The packed values. -/
theorem pre_v (c : Dev nD) (V : Vl) : preV c V (Proc.devRef .tc main_v46) = headsV (packed (ordOf c) (flatX (V (Proc.devRef .tc main_arg3)))) := by
  unfold preV
  rw [v9_v46]
  refine congrArg headsV ?_
  have h2 : case1 (v5 (case0 (v3 (v2 (v1 c V))))) (Proc.devRef .tc main_arg3) = V (Proc.devRef .tc main_arg3) := by
    rw [case1_keep _ (by decide), v5_keep _ (by decide), case0_keep _ (by decide), v3_keep _ (by decide), v2_keep _ (by decide), v1_keep _ _ (by decide)]
  refine case2_val c _ _ ?_ (v7_c_7 _) (v7_c_8 _) ?_ ?_ ?_
  · rw [v7_keep _ (by decide), case1_keep _ (by decide), v5_keep _ (by decide), case0_keep _ (by decide), v3_keep _ (by decide), v6_val]
  · rw [v7_v37, h2]
  · rw [v7_v38, h2]
  · rw [v7_v41, h2]

/-! ## How the rows are put back -/

/-- The groups' rows. -/
def rowsV (o : Vec Ideal S2112x1024 .f32) : Vec Ideal S3x11x64x1024 .f32 := shapeCast S3x11x64x1024 o shapeCasts_S2112x1024_S3x11x64x1024

theorem rowsV_at (o : Vec Ideal S2112x1024 .f32) (r : Fin 3) (i : Fin 11) (q : Fin 64) (n : Fin 1024) :
    rowsV o (ix4 r i q n) = o (ix2 (⟨r.val * 704 + i.val * 64 + q.val, by omega⟩ : Fin 2112) n) := by
  pointwise [rowsV]

def plane (x : Vec Ideal S1x11x64x1024 .f32) : Vec Ideal S11x1x64x1024 .f32 :=
  broadcastInDim S11x1x64x1024 ![0, 2, 3] bcast_S11x64x1024_S11x1x64x1024_0_2_3 (shapeCast S11x64x1024 x shapeCasts_S1x11x64x1024_S11x64x1024)

def weave (a b c : Vec Ideal S1x11x64x1024 .f32) : Vec Ideal S32x64x1024 .f32 :=
  extractStridedSlice S32x64x1024 ![0, 0, 0] (shapeCast S33x64x1024 (concatenate S11x3x64x1024 1 [⟨S11x1x64x1024, plane a⟩, ⟨S11x1x64x1024, plane b⟩, ⟨S11x1x64x1024, plane c⟩] concatenates_S11x1x64x1024_S11x1x64x1024_S11x1x64x1024_S11x3x64x1024_d1) shapeCasts_S11x3x64x1024_S33x64x1024) slices_S33x64x1024_S32x64x1024_0_0_0

def sl0 (x : Vec Ideal S3x11x64x1024 .f32) : Vec Ideal S1x11x64x1024 .f32 := extractStridedSlice S1x11x64x1024 ![0, 0, 0, 0] x slices_S3x11x64x1024_S1x11x64x1024_0_0_0_0
def sl1 (x : Vec Ideal S3x11x64x1024 .f32) : Vec Ideal S1x11x64x1024 .f32 := extractStridedSlice S1x11x64x1024 ![1, 0, 0, 0] x slices_S3x11x64x1024_S1x11x64x1024_1_0_0_0
def sl2 (x : Vec Ideal S3x11x64x1024 .f32) : Vec Ideal S1x11x64x1024 .f32 := extractStridedSlice S1x11x64x1024 ![2, 0, 0, 0] x slices_S3x11x64x1024_S1x11x64x1024_2_0_0_0

theorem plane_at (x : Vec Ideal S1x11x64x1024 .f32) (i : Fin 11) (z : Fin 1) (q : Fin 64) (n : Fin 1024) :
    plane x (ix4 i z q n) = x (ix4 0 i q n) := by
  pointwise [plane]
theorem sl0_at (x : Vec Ideal S3x11x64x1024 .f32) (i : Fin 11) (q : Fin 64) (n : Fin 1024) : sl0 x (ix4 0 i q n) = x (ix4 0 i q n) := by
  pointwise [sl0]
theorem sl1_at (x : Vec Ideal S3x11x64x1024 .f32) (i : Fin 11) (q : Fin 64) (n : Fin 1024) : sl1 x (ix4 0 i q n) = x (ix4 1 i q n) := by
  pointwise [sl1]
theorem sl2_at (x : Vec Ideal S3x11x64x1024 .f32) (i : Fin 11) (q : Fin 64) (n : Fin 1024) : sl2 x (ix4 0 i q n) = x (ix4 2 i q n) := by
  pointwise [sl2]

theorem weave_at (a b c : Vec Ideal S1x11x64x1024 .f32) (lb : Fin 32) (q : Fin 64) (n : Fin 1024) :
    weave a b c (ix3 lb q n) = if lb.val % 3 = 0 then a (ix4 0 (⟨lb.val / 3, by omega⟩ : Fin 11) q n) else if lb.val % 3 = 1 then b (ix4 0 (⟨lb.val / 3, by omega⟩ : Fin 11) q n) else c (ix4 0 (⟨lb.val / 3, by omega⟩ : Fin 11) q n) := by
  pointwise [weave, plane]
  by_cases e : lb.val % 3 = 0
  · simp [e]
  · by_cases e' : lb.val % 3 = 1
    · simp [e']
    · have e2 : ¬ lb.val % 3 < 1 := by omega
      have e3 : ¬ lb.val % 3 - 1 < 1 := by omega
      simp only [e, e', e2, e3, dif_neg, if_false, not_false_eq_true]

def woven (j : Fin 3) (x : Vec Ideal S3x11x64x1024 .f32) : Vec Ideal S32x64x1024 .f32 :=
  match j with
  | 0 => weave (sl0 x) (sl1 x) (sl2 x)
  | 1 => weave (sl1 x) (sl2 x) (sl0 x)
  | 2 => weave (sl2 x) (sl0 x) (sl1 x)

theorem woven_at (j : Fin 3) (x : Vec Ideal S3x11x64x1024 .f32) (lb : Fin 32) (q : Fin 64) (n : Fin 1024) :
    woven j x (ix3 lb q n) = x (ix4 (⟨(lb.val + j.val) % 3, by omega⟩ : Fin 3) (⟨lb.val / 3, by omega⟩ : Fin 11) q n) := by
  have hl : lb.val % 3 = 0 ∨ lb.val % 3 = 1 ∨ lb.val % 3 = 2 := by omega
  match j with
  | 0 =>
    have key : ∀ r : Fin 3, (lb.val + 0) % 3 = r.val → x (ix4 r (⟨lb.val / 3, by omega⟩ : Fin 11) q n) = x (ix4 (⟨(lb.val + 0) % 3, by omega⟩ : Fin 3) (⟨lb.val / 3, by omega⟩ : Fin 11) q n) := fun r hr => by
      rw [show r = (⟨(lb.val + 0) % 3, by omega⟩ : Fin 3) from Fin.ext hr.symm]
    refine (weave_at ..).trans ?_
    rw [sl0_at, sl1_at, sl2_at]
    rcases hl with e | e | e
    · exact (if_pos e).trans (key 0 (by show (lb.val + 0) % 3 = 0; omega))
    · exact ((if_neg (by omega)).trans (if_pos e)).trans (key 1 (by show (lb.val + 0) % 3 = 1; omega))
    · exact ((if_neg (by omega)).trans (if_neg (by omega))).trans (key 2 (by show (lb.val + 0) % 3 = 2; omega))
  | 1 =>
    have key : ∀ r : Fin 3, (lb.val + 1) % 3 = r.val → x (ix4 r (⟨lb.val / 3, by omega⟩ : Fin 11) q n) = x (ix4 (⟨(lb.val + 1) % 3, by omega⟩ : Fin 3) (⟨lb.val / 3, by omega⟩ : Fin 11) q n) := fun r hr => by
      rw [show r = (⟨(lb.val + 1) % 3, by omega⟩ : Fin 3) from Fin.ext hr.symm]
    refine (weave_at ..).trans ?_
    rw [sl0_at, sl1_at, sl2_at]
    rcases hl with e | e | e
    · exact (if_pos e).trans (key 1 (by show (lb.val + 1) % 3 = 1; omega))
    · exact ((if_neg (by omega)).trans (if_pos e)).trans (key 2 (by show (lb.val + 1) % 3 = 2; omega))
    · exact ((if_neg (by omega)).trans (if_neg (by omega))).trans (key 0 (by show (lb.val + 1) % 3 = 0; omega))
  | 2 =>
    have key : ∀ r : Fin 3, (lb.val + 2) % 3 = r.val → x (ix4 r (⟨lb.val / 3, by omega⟩ : Fin 11) q n) = x (ix4 (⟨(lb.val + 2) % 3, by omega⟩ : Fin 3) (⟨lb.val / 3, by omega⟩ : Fin 11) q n) := fun r hr => by
      rw [show r = (⟨(lb.val + 2) % 3, by omega⟩ : Fin 3) from Fin.ext hr.symm]
    refine (weave_at ..).trans ?_
    rw [sl0_at, sl1_at, sl2_at]
    rcases hl with e | e | e
    · exact (if_pos e).trans (key 2 (by show (lb.val + 2) % 3 = 2; omega))
    · exact ((if_neg (by omega)).trans (if_pos e)).trans (key 0 (by show (lb.val + 2) % 3 = 0; omega))
    · exact ((if_neg (by omega)).trans (if_neg (by omega))).trans (key 1 (by show (lb.val + 2) % 3 = 1; omega))

/-- One block again. -/
def lastV (y : Vec Ideal S32x64x1024 .f32) : Vec Ideal S1x2048x1024 .f32 :=
  broadcastInDim S1x2048x1024 ![1, 2] bcast_S2048x1024_S1x2048x1024_1_2 (shapeCast S2048x1024 y shapeCasts_S32x64x1024_S2048x1024)

theorem lastV_at (y : Vec Ideal S32x64x1024 .f32) (i : Fin 2048) (n : Fin 1024) :
    lastV y (ix3 0 i n) = y (ix3 (⟨i.val / 64, by omega⟩ : Fin 32) (⟨i.val % 64, by omega⟩ : Fin 64) n) := by
  pointwise [lastV]

theorem case3_val (c : Dev nD) (V : Vl) (h6 : V (Proc.devRef .tc main_v6) = fun _ => BitVec.ofNat 32 (2 * c.val % 3))
    (hl : V (Proc.devRef .tc main_c_9) = fun _ => 0#32) (hh : V (Proc.devRef .tc main_c_10) = fun _ => 2#32) :
    case3 V (Proc.devRef .tc main_v50) = woven (ordOf c) (V (Proc.devRef .tc main_v48)) := by
  have hw : HostLoop.branch (word main_v49 rfl ((pick3 : HloOp τ sig (Elt Ideal)).fn fun b => V b.1)) 2 = ordOf c := by
    have e : word main_v49 rfl ((pick3 : HloOp τ sig (Elt Ideal)).fn fun b => V b.1) = IntOp.minsi (IntOp.maxsi (BitVec.ofNat 32 (2 * c.val % 3)) 0#32) 2#32 := by
      show minsi (maxsi (V (Proc.devRef .tc main_v6)) (V (Proc.devRef .tc main_c_9))) (V (Proc.devRef .tc main_c_10)) HostLoop.idx0 = _
      rw [h6, hl, hh]
      rfl
    rw [e]
    exact branch_ord c
  unfold case3 caseVal
  rw [hw]
  have k1 : (pick3 : HloOp τ sig (Elt Ideal)).result V (Proc.devRef .tc main_v48) = V (Proc.devRef .tc main_v48) := StableHlo.ternary_result_ne _ _ _ _ _ _ _ _ _ V (by decide)
  rw [← k1]
  generalize (pick3 : HloOp τ sig (Elt Ideal)).result V = W
  generalize ordOf c = j
  match j with
  | 0 =>
    show StableHlo.after (arm3_0 : List (HloOp τ sig (Elt Ideal))) W (Proc.devRef .tc main_v50) = weave (sl0 _) (sl1 _) (sl2 _)
    after_results_simp <;> rfl
  | 1 =>
    show StableHlo.after (arm3_1 : List (HloOp τ sig (Elt Ideal))) W (Proc.devRef .tc main_v50) = weave (sl1 _) (sl2 _) (sl0 _)
    after_results_simp <;> rfl
  | 2 =>
    show StableHlo.after (arm3_2 : List (HloOp τ sig (Elt Ideal))) W (Proc.devRef .tc main_v50) = weave (sl2 _) (sl0 _) (sl1 _)
    after_results_simp <;> rfl

theorem v11_v48 (V : Vl) : v11 V (Proc.devRef .tc main_v48) = rowsV (V (Proc.devRef .tc main_v47_0)) := by
  unfold v11
  after_results_simp <;> rfl
theorem v11_c_9 (V : Vl) : v11 V (Proc.devRef .tc main_c_9) = fun _ => 0#32 := by
  unfold v11
  after_results_simp <;> rfl
theorem v11_c_10 (V : Vl) : v11 V (Proc.devRef .tc main_c_10) = fun _ => 2#32 := by
  unfold v11
  after_results_simp <;> rfl
theorem v13_v52 (V : Vl) : v13 V (Proc.devRef .tc main_v52) = lastV (V (Proc.devRef .tc main_v50)) := by
  unfold v13
  after_results_simp <;> rfl

/-- The result. -/
theorem post_val (c : Dev nD) (V : Vl) (h6 : V (Proc.devRef .tc main_v6) = fun _ => BitVec.ofNat 32 (2 * c.val % 3)) :
    postV V (Proc.devRef .tc main_v52) = lastV (woven (ordOf c) (rowsV (V (Proc.devRef .tc main_v47_0)))) := by
  unfold postV
  rw [v13_v52, case3_val c _ (by rw [v11_keep _ (by decide), h6]) (v11_c_9 _) (v11_c_10 _), v11_v48]

theorem pre_v6 (c : Dev nD) (V : Vl) : preV c V (Proc.devRef .tc main_v6) = fun _ => BitVec.ofNat 32 (2 * c.val % 3) := by
  unfold preV
  rw [v9_keep _ (by decide), case2_keep _ (by decide), v7_keep _ (by decide), case1_keep _ (by decide), v5_keep _ (by decide), case0_keep _ (by decide), v3_keep _ (by decide), v6_val]

/-- The group a row of the block is in, and its place there. -/
def grpOf (c : Dev nD) (i : Fin 2048) : Fin 3 := ⟨(i.val / 64 + 2 * c.val) % 3, by omega⟩
def posOf (i : Fin 2048) : Fin 704 := ⟨64 * (i.val / 64 / 3) + i.val % 64, by omega⟩

theorem locRow_of (c : Dev nD) (i : Fin 2048) : locRow c (grpOf c i) (posOf i) = i.val := by
  simp only [locRow, grpOf, posOf]
  omega

theorem unpack_at (c : Dev nD) (o : Vec Ideal S2112x1024 .f32) (i : Fin 2048) (n : Fin 1024) :
    lastV (woven (ordOf c) (rowsV o)) (ix3 0 i n) = o (ix2 (pk (grpOf c i) (posOf i)) n) := by
  rw [lastV_at, woven_at, rowsV_at]
  congr 2
  apply Fin.ext
  simp only [pk, grpOf, posOf, ordOf]
  omega

end Cert.KernelIdeal.Flash

end
-- ==== Proof.RefValue.lean ====
module

public import proofs.«01_k».proof.Proof.Gen.ReferenceIdeal.Run
public import proofs.«01_k».proof.Proof.Soft
public import Idealize.ShloMosaic.Lib.Pointwise

@[expose] public section

set_option maxRecDepth 16384

noncomputable section

/-! # The reference, read at one element -/

namespace Cert.ReferenceIdeal.Rows

open Cert.ReferenceIdeal Cert.ReferenceIdeal.Gen Idealize.ShloMosaic Idealize.ShloMosaic.TcCoe Idealize.SL.Sem Idealize.ShloMosaic.StableHlo

/-- The block of each position. -/
def qbV : IVec S8192 32 := select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))
/-- The two blocks of a query and a key, added. -/
def sumV : IVec S8192x8192 32 := addi (broadcastInDim S8192x8192 ![0, 1] bcast_S8192x1_S8192x8192_0_1 (broadcastInDim S8192x1 ![0] bcast_S8192_S8192x1_0 qbV)) (broadcastInDim S8192x8192 ![0, 1] bcast_S1x8192_S8192x8192_0_1 (broadcastInDim S1x8192 ![1] bcast_S8192_S1x8192_1 qbV))
/-- The word three. -/
def threeV : IVec S_ 32 := select (cmpi .eq (id (constantI S_ 32 3#32)) (constantI S_ 32 0#32)) (constantI S_ 32 1#32) (id (constantI S_ 32 3#32))
/-- Which keys a query sees. -/
def maskV : IVec S8192x8192 1 := ori (ori (cmpi .eq (broadcastInDim S8192x8192 ![0, 1] bcast_S8192x1_S8192x8192_0_1 (broadcastInDim S8192x1 ![0] bcast_S8192_S8192x1_0 qbV)) (broadcastInDim S8192x8192 ![0, 1] bcast_S1x8192_S8192x8192_0_1 (broadcastInDim S1x8192 ![1] bcast_S8192_S1x8192_1 qbV))) (broadcastInDim S8192x8192 ![0, 1] bcast_S1x8192_S8192x8192_0_1 (cmpi .eq (broadcastInDim S1x8192 ![1] bcast_S8192_S1x8192_1 qbV) (broadcastInDim S1x8192 ![] bcast_S_S1x8192 (constantI S_ 32 0#32))))) (cmpi .eq (select (andi (cmpi .ne (cmpi .slt (Host.remsi sumV (broadcastInDim S8192x8192 ![] bcast_S_S8192x8192 threeV)) (broadcastInDim S8192x8192 ![] bcast_S_S8192x8192 (constantI S_ 32 0#32))) (broadcastInDim S8192x8192 ![] bcast_S_S8192x8192 (cmpi .slt threeV (constantI S_ 32 0#32)))) (cmpi .ne (Host.remsi sumV (broadcastInDim S8192x8192 ![] bcast_S_S8192x8192 threeV)) (broadcastInDim S8192x8192 ![] bcast_S_S8192x8192 (constantI S_ 32 0#32)))) (addi (Host.remsi sumV (broadcastInDim S8192x8192 ![] bcast_S_S8192x8192 threeV)) (broadcastInDim S8192x8192 ![] bcast_S_S8192x8192 threeV)) (Host.remsi sumV (broadcastInDim S8192x8192 ![] bcast_S_S8192x8192 threeV))) (broadcastInDim S8192x8192 ![] bcast_S_S8192x8192 (constantI S_ 32 0#32)))

variable (a0 : FVec Ideal S1x8192x1024 .bf16) (a1 : FVec Ideal S1024x1024 .bf16) (a2 : FVec Ideal S1x8192x8x128 .bf16) (a3 : FVec Ideal S1x8192x8x128 .bf16) (a4 : FVec Ideal S1024x1024 .bf16)

/-- The queries. -/
def qV : FVec Ideal S1x8192x1024 .bf16 := truncf .bf16 (Host.dotGeneral dot_S1x8192x1024_S1024x1024_S1x8192x1024_2_0_01_1_n_n none a0 a1) bitsLt_bf16_f32
/-- The scores. -/
def scV : FVec Ideal S1x8x8192x8192 .f32 := Host.divf (extf .f32 (truncf .bf16 (Host.dotGeneral dot_S1x8192x8x128_S1x8192x8x128_S1x8x8192x8192_3_3_1_1_02_02 none (shapeCast _ (qV a0 a1) shapeCasts_S1x8192x1024_S1x8192x8x128) a2) bitsLt_bf16_f32) bitsLt_bf16_f32) (broadcastInDim S1x8x8192x8192 ![] bcast_S_S1x8x8192x8192 (Host.sqrt (constant S_ .f32 0x43000000#32)))
/-- The masked scores. -/
def smV : FVec Ideal S1x8x8192x8192 .f32 := select (broadcastInDim S1x8x8192x8192 ![0, 1, 2, 3] bcast_S1x1x8192x8192_S1x8x8192x8192_0_1_2_3 (broadcastInDim S1x1x8192x8192 ![2, 3] bcast_S8192x8192_S1x1x8192x8192_2_3 maskV)) (scV a0 a1 a2) (broadcastInDim S1x8x8192x8192 ![] bcast_S_S1x8x8192x8192 (id (constant S_ .f32 0xFF800000#32)))
/-- The largest score of a query. -/
def mxV : FVec Ideal S1x8x8192 .f32 := Host.reduce FloatOps.maximumf (smV a0 a1 a2) (constant S_ .f32 0xFF800000#32) reducesTo_S1x8x8192x8192_S1x8x8192_d3 h_S_
/-- The weights, not yet normalised. -/
def exV : FVec Ideal S1x8x8192x8192 .f32 := Host.exp (subf (smV a0 a1 a2) (broadcastInDim S1x8x8192x8192 ![0, 1, 2, 3] bcast_S1x8x8192x1_S1x8x8192x8192_0_1_2_3 (broadcastInDim S1x8x8192x1 ![0, 1, 2] bcast_S1x8x8192_S1x8x8192x1_0_1_2 (mxV a0 a1 a2))))
/-- Which queries see a key at all. -/
def keepV : IVec S8192 1 := Host.reduce IntOp.ori maskV (constantI S_ 1 0#1) reducesTo_S8192x8192_S8192_d1 h_S_
/-- The sum of the weights of a query. -/
def suV : FVec Ideal S1x8x8192 .f32 := Host.reduceAdd (exV a0 a1 a2) (constant S_ .f32 0x00000000#32) reducesTo_S1x8x8192x8192_S1x8x8192_d3 h_S_
/-- The weights. -/
def wV : FVec Ideal S1x8x8192x8192 .f32 := select (broadcastInDim S1x8x8192x8192 ![0, 1, 2, 3] bcast_S1x1x8192x1_S1x8x8192x8192_0_1_2_3 (broadcastInDim S1x1x8192x1 ![2] bcast_S8192_S1x1x8192x1_2 keepV)) (Host.divf (exV a0 a1 a2) (broadcastInDim S1x8x8192x8192 ![0, 1, 2, 3] bcast_S1x8x8192x1_S1x8x8192x8192_0_1_2_3 (select (broadcastInDim S1x8x8192x1 ![0, 1, 2, 3] bcast_S1x1x8192x1_S1x8x8192x1_0_1_2_3 (broadcastInDim S1x1x8192x1 ![2] bcast_S8192_S1x1x8192x1_2 keepV)) (broadcastInDim S1x8x8192x1 ![0, 1, 2] bcast_S1x8x8192_S1x8x8192x1_0_1_2 (suV a0 a1 a2)) (broadcastInDim S1x8x8192x1 ![] bcast_S_S1x8x8192x1 (id (constant S_ .f32 0x3F800000#32)))))) (broadcastInDim S1x8x8192x8192 ![] bcast_S_S1x8x8192x8192 (id (constant S_ .f32 0x00000000#32)))
/-- The weighted values. -/
def cxV : FVec Ideal S1x8x128x8192 .f32 := Host.dotGeneral dot_S1x8192x8x128_S1x8x8192x8192_S1x8x128x8192_1_3_3_2_02_01 none (extf .f32 a3 bitsLt_bf16_f32) (wV a0 a1 a2)
/-- The result. -/
def outV : FVec Ideal S1x8192x1024 .f32 := Host.dotGeneral dot_S1x8192x1024_S1024x1024_S1x8192x1024_2_0_01_1_n_n none (shapeCast _ (transpose S1x8192x8x128 [0, 3, 1, 2] (cxV a0 a1 a2 a3) transposes_S1x8x128x8192_S1x8192x8x128_0_3_1_2) shapeCasts_S1x8192x8x128_S1x8192x1024) (extf .f32 a4 bitsLt_bf16_f32)

theorem res_eq (m : (ℓ : Loc nD τ sig) → Buf (Elt Ideal) ℓ) (c : Dev nD) :
    Cert.ReferenceIdeal.Value.res_main_v50 m c = outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.ReferenceIdeal.Value.res_main_v50
  rfl

theorem qV_at (I : Fin 8192) (n : Fin 1024) : qV a0 a1 (ix3 0 I n) = ∑ j : Fin 1024, a0 (ix3 0 I j) * a1 (ix2 j n) := by
  pointwise [qV]

theorem scV_at (h : Fin 8) (I k : Fin 8192) : scV a0 a1 a2 (ix4 0 h I k) = Ideal.div (∑ d : Fin 128, qV a0 a1 (ix3 0 I (⟨h.val * 128 + d.val, by omega⟩ : Fin 1024)) * a2 (ix4 0 k h d)) (Ideal.sqrt (Ideal.ofBits .f32 0x43000000#32)) := by
  pointwise [scV]

theorem block_word : ∀ i : Fin 8192, (Scalar.select
      (IntOp.andi (IntOp.cmpi CmpIPredicate.ne (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) : BitVec 32) = BitVec.ofNat 32 (i.val / 64) := by
  decide +kernel

theorem qbV_at (i : Fin 8192) : qbV (ix1 i) = BitVec.ofNat 32 (i.val / 64) := by
  pointwise [qbV]
  exact block_word i

theorem mask_word : ∀ a b : Fin 128, (IntOp.ori (IntOp.ori (IntOp.cmpi CmpIPredicate.eq (BitVec.ofNat 32 a.val) (BitVec.ofNat 32 b.val)) (IntOp.cmpi CmpIPredicate.eq (BitVec.ofNat 32 b.val) 0#32))
      (IntOp.cmpi CmpIPredicate.eq (Scalar.select (IntOp.andi (IntOp.cmpi CmpIPredicate.ne (IntOp.cmpi CmpIPredicate.slt
                (IntOp.remsi ArithUnit.host (IntOp.addi (BitVec.ofNat 32 a.val) (BitVec.ofNat 32 b.val)) 3#32) 0#32) (IntOp.cmpi CmpIPredicate.slt 3#32 0#32))
            (IntOp.cmpi CmpIPredicate.ne (IntOp.remsi ArithUnit.host (IntOp.addi (BitVec.ofNat 32 a.val) (BitVec.ofNat 32 b.val)) 3#32) 0#32))
          (IntOp.addi (IntOp.remsi ArithUnit.host (IntOp.addi (BitVec.ofNat 32 a.val) (BitVec.ofNat 32 b.val)) 3#32) 3#32)
          (IntOp.remsi ArithUnit.host (IntOp.addi (BitVec.ofNat 32 a.val) (BitVec.ofNat 32 b.val)) 3#32)) 0#32) : BitVec 1)
    = BitVec.ofBool (decide (a.val = b.val ∨ b.val = 0 ∨ (a.val + b.val) % 3 = 0)) := by
  decide +kernel

theorem maskV_at (i k : Fin 8192) : maskV (ix2 i k) = BitVec.ofBool (decide (i.val / 64 = k.val / 64 ∨ k.val / 64 = 0 ∨ (i.val / 64 + k.val / 64) % 3 = 0)) := by
  pointwise [maskV, sumV, threeV]
  rw [qbV_at, qbV_at]
  exact mask_word ⟨i.val / 64, by omega⟩ ⟨k.val / 64, by omega⟩

theorem maskV_iff (i k : Fin 8192) : maskV (ix2 i k) = 1#1 ↔ (i.val / 64 = k.val / 64 ∨ k.val / 64 = 0 ∨ (i.val / 64 + k.val / 64) % 3 = 0) := by
  rw [maskV_at]
  by_cases e : (i.val / 64 = k.val / 64 ∨ k.val / 64 = 0 ∨ (i.val / 64 + k.val / 64) % 3 = 0)
  · simp only [e, decide_true]; decide
  · simp only [e, decide_false]; decide

theorem ninf_bot : Ideal.ofBits .f32 0xFF800000#32 = (⊥ : EReal) := by
  simp [Ideal.ofBits, Ideal.ieee]

theorem smV_at (h : Fin 8) (I k : Fin 8192) : smV a0 a1 a2 (ix4 0 h I k) = if maskV (ix2 I k) = 1#1 then scV a0 a1 a2 (ix4 0 h I k) else ⊥ := by
  pointwise [smV]
  rw [← ninf_bot]
  rfl

theorem mxV_at (h : Fin 8) (I : Fin 8192) : mxV a0 a1 a2 (ix3 0 h I) = Finset.univ.sup fun k : Fin 8192 => smV a0 a1 a2 (ix4 0 h I k) := by
  pointwise [mxV]
  rw [ninf_bot]
  rfl

theorem exV_at (h : Fin 8) (I k : Fin 8192) : exV a0 a1 a2 (ix4 0 h I k) = Ideal.exp (smV a0 a1 a2 (ix4 0 h I k) - mxV a0 a1 a2 (ix3 0 h I)) := by
  pointwise [exV]

theorem suV_at (h : Fin 8) (I : Fin 8192) : suV a0 a1 a2 (ix3 0 h I) = ∑ k : Fin 8192, exV a0 a1 a2 (ix4 0 h I k) := by
  pointwise [suV]

theorem keepV_at (I : Fin 8192) : keepV (ix1 I) = 1#1 := by
  pointwise [keepV]
  rw [← Finset.insert_erase (Finset.mem_univ I), Finset.fold_insert (Finset.notMem_erase I _), (maskV_iff I I).mpr (.inl rfl)]
  generalize Finset.fold IntOp.ori (0#1) (fun x => maskV (ix2 I x)) (Finset.univ.erase I) = z
  revert z; decide

/-- The weights from their parts. -/
def wGen (kp : IVec S8192 1) (ex : FVec Ideal S1x8x8192x8192 .f32) (su : FVec Ideal S1x8x8192 .f32) : FVec Ideal S1x8x8192x8192 .f32 :=
  select (broadcastInDim S1x8x8192x8192 ![0, 1, 2, 3] bcast_S1x1x8192x1_S1x8x8192x8192_0_1_2_3 (broadcastInDim S1x1x8192x1 ![2] bcast_S8192_S1x1x8192x1_2 kp)) (Host.divf ex (broadcastInDim S1x8x8192x8192 ![0, 1, 2, 3] bcast_S1x8x8192x1_S1x8x8192x8192_0_1_2_3 (select (broadcastInDim S1x8x8192x1 ![0, 1, 2, 3] bcast_S1x1x8192x1_S1x8x8192x1_0_1_2_3 (broadcastInDim S1x1x8192x1 ![2] bcast_S8192_S1x1x8192x1_2 kp)) (broadcastInDim S1x8x8192x1 ![0, 1, 2] bcast_S1x8x8192_S1x8x8192x1_0_1_2 su) (broadcastInDim S1x8x8192x1 ![] bcast_S_S1x8x8192x1 (id (constant S_ .f32 0x3F800000#32)))))) (broadcastInDim S1x8x8192x8192 ![] bcast_S_S1x8x8192x8192 (id (constant S_ .f32 0x00000000#32)))

theorem wGen_at (kp : IVec S8192 1) (ex : FVec Ideal S1x8x8192x8192 .f32) (su : FVec Ideal S1x8x8192 .f32) (h : Fin 8) (I k : Fin 8192) (hk : kp (ix1 I) = 1#1) :
    wGen kp ex su (ix4 0 h I k) = Ideal.div (ex (ix4 0 h I k)) (su (ix3 0 h I)) := by
  pointwise [wGen]
  rw [hk]
  rfl

theorem wV_at (h : Fin 8) (I k : Fin 8192) : wV a0 a1 a2 (ix4 0 h I k) = Ideal.div (exV a0 a1 a2 (ix4 0 h I k)) (suV a0 a1 a2 (ix3 0 h I)) :=
  wGen_at keepV (exV a0 a1 a2) (suV a0 a1 a2) h I k (keepV_at I)

theorem cxV_at (h : Fin 8) (I : Fin 8192) (d : Fin 128) : cxV a0 a1 a2 a3 (ix4 0 h d I) = ∑ k : Fin 8192, a3 (ix4 0 k h d) * wV a0 a1 a2 (ix4 0 h I k) := by
  pointwise [cxV]

theorem outV_at (I : Fin 8192) (n : Fin 1024) :
    outV a0 a1 a2 a3 a4 (ix3 0 I n) = ∑ e : Fin 1024, cxV a0 a1 a2 a3 (ix4 0 (⟨e.val / 128, by omega⟩ : Fin 8) (⟨e.val % 128, by omega⟩ : Fin 128) I) * a4 (ix2 e n) := by
  pointwise [outV]

end Cert.ReferenceIdeal.Rows

end
-- ==== Proof.Alg.lean ====
module

public import proofs.«01_k».proof.Proof.Pack
public import proofs.«01_k».proof.Proof.RefValue
public import proofs.«01_k».proof.Proof.Frames
public import Idealize.ShloMosaic.Lib.Layout

@[expose] public section

set_option maxRecDepth 65536
set_option maxHeartbeats 1000000

noncomputable section

namespace Cert.KernelIdeal.Flash

open Cert.KernelIdeal.Gen Idealize.ShloMosaic Idealize.ShloMosaic.TcCoe Idealize.SL.Sem
open Cert.ReferenceIdeal.Rows (outV cxV wV exV suV mxV smV scV qV maskV)

/-! ## Finite arguments are real numbers -/

theorem inf_top : Ideal.ofBits .bf16 0x7F80#16 = (⊤ : EReal) := by
  simp [Ideal.ofBits, Ideal.ieee]

theorem real_of_cmp (x : EReal) (h : BitVec.ofBool (decide (max x (-x) < (⊤ : EReal))) = 1#1) : ∃ r : ℝ, x = (r : EReal) := by
  induction x using EReal.rec with
  | bot => simp at h
  | top => simp at h
  | coe r => exact ⟨r, rfl⟩

section
variable (a0 : Vec Ideal S1x2048x1024 .bf16) (a1 : Vec Ideal S1024x1024 .bf16) (a2 a3 : Vec Ideal S1x2048x8x128 .bf16) (a4 : Vec Ideal S1024x1024 .bf16)
    [Cert.Pre_finite_KernelIdeal.Facts]

theorem fin_x (h : (Cert.Pre_finite_KernelIdeal.fn (F := Ideal) a0 a1 a2 a3 a4).1 = fun _ => 1#1) (i : Fin 2048) (j : Fin 1024) :
    ∃ r : ℝ, a0 (ix3 0 i j) = (r : EReal) := by
  have h' := congrFun h (ix3 0 i j)
  revert h'
  pointwise [Cert.Pre_finite_KernelIdeal.fn]
  rw [inf_top]
  exact real_of_cmp _

theorem fin_w (h : (Cert.Pre_finite_KernelIdeal.fn (F := Ideal) a0 a1 a2 a3 a4).2.1 = fun _ => 1#1) (j n : Fin 1024) :
    ∃ r : ℝ, a1 (ix2 j n) = (r : EReal) := by
  have h' := congrFun h (ix2 j n)
  revert h'
  pointwise [Cert.Pre_finite_KernelIdeal.fn]
  rw [inf_top]
  exact real_of_cmp _

theorem fin_k (h : (Cert.Pre_finite_KernelIdeal.fn (F := Ideal) a0 a1 a2 a3 a4).2.2 = fun _ => 1#1) (i : Fin 2048) (e : Fin 8) (d : Fin 128) :
    ∃ r : ℝ, a2 (ix4 0 i e d) = (r : EReal) := by
  have h' := congrFun h (ix4 0 i e d)
  revert h'
  pointwise [Cert.Pre_finite_KernelIdeal.fn]
  rw [inf_top]
  exact real_of_cmp _
end

/-! ## A block of an array, element by element -/

theorem tile3 (h : Layout.Tiles ⟨3, ![1, 2048, 1024]⟩ ⟨3, ![1, 8192, 1024]⟩ 1 4) (c : Fin 4) (i : Fin 2048) (j : Fin 1024) :
    h.idx c (ix3 0 i j) = ix3 0 (⟨2048 * c.val + i.val, by omega⟩ : Fin 8192) j := by
  funext b
  apply Fin.ext
  rw [Layout.Tiles.idx_val]
  match b with
  | 0 => rfl
  | 1 => show c.val * 2048 + i.val = 2048 * c.val + i.val; omega
  | 2 => rfl

theorem tile4 (h : Layout.Tiles ⟨4, ![1, 2048, 8, 128]⟩ ⟨4, ![1, 8192, 8, 128]⟩ 1 4) (c : Fin 4) (i : Fin 2048) (e : Fin 8) (d : Fin 128) :
    h.idx c (ix4 0 i e d) = ix4 0 (⟨2048 * c.val + i.val, by omega⟩ : Fin 8192) e d := by
  funext b
  apply Fin.ext
  rw [Layout.Tiles.idx_val]
  match b with
  | 0 => rfl
  | 1 => show c.val * 2048 + i.val = 2048 * c.val + i.val; omega
  | 2 => rfl
  | 3 => rfl

/-! ## The reference, row by row -/

/-- The projected queries. -/
def qrOf (xr : Fin 8192 → Fin 1024 → ℝ) (wr : Fin 1024 → Fin 1024 → ℝ) (I : Fin 8192) (h : Fin 8) (d : Fin 128) : ℝ :=
  ∑ j : Fin 1024, xr I j * wr j ⟨h.val * 128 + d.val, by omega⟩

theorem root_bits : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

section
variable (A0 : FVec Ideal Cert.ReferenceIdeal.S1x8192x1024 .bf16) (A1 : FVec Ideal Cert.ReferenceIdeal.S1024x1024 .bf16)
  (A2 A3 : FVec Ideal Cert.ReferenceIdeal.S1x8192x8x128 .bf16) (A4 : FVec Ideal Cert.ReferenceIdeal.S1024x1024 .bf16)
  (xr : Fin 8192 → Fin 1024 → ℝ) (wr : Fin 1024 → Fin 1024 → ℝ) (kr : Fin 8192 → Fin 8 → Fin 128 → ℝ)
  (hx : ∀ I j, A0 (ix3 0 I j) = (xr I j : EReal)) (hw : ∀ j n, A1 (ix2 j n) = (wr j n : EReal)) (hk : ∀ k h d, A2 (ix4 0 k h d) = (kr k h d : EReal))
include hx hw

theorem qV_real (I : Fin 8192) (h : Fin 8) (d : Fin 128) : qV A0 A1 (ix3 0 I (⟨h.val * 128 + d.val, by omega⟩ : Fin 1024)) = (qrOf xr wr I h d : EReal) := by
  rw [Cert.ReferenceIdeal.Rows.qV_at, qrOf, coe_sum]
  refine Finset.sum_congr rfl fun j _ => ?_
  rw [hx, hw, EReal.coe_mul]

include hk

theorem scV_real (h : Fin 8) (I k : Fin 8192) : scV A0 A1 A2 (ix4 0 h I k) = (score (qrOf xr wr) kr I h k : EReal) := by
  rw [Cert.ReferenceIdeal.Rows.scV_at, root_bits, Ideal.div_coe (Real.sqrt_pos.mpr (by norm_num)).ne', one_div, score, EReal.coe_mul, coe_sum]
  congr 1
  refine Finset.sum_congr rfl fun d _ => ?_
  rw [qV_real A0 A1 xr wr hx hw, hk, EReal.coe_mul]

theorem cxV_soft (h : Fin 8) (I : Fin 8192) (d : Fin 128) :
    cxV A0 A1 A2 A3 (ix4 0 h d I) = soft (seenT I) (score (qrOf xr wr) kr I h) (fun k d => A3 (ix4 0 k h d)) d := by
  rw [Cert.ReferenceIdeal.Rows.cxV_at, ← soft_masked (seenT I) (seen_self I) (score (qrOf xr wr) kr I h) (fun k d => A3 (ix4 0 k h d)) d (fun k => smV A0 A1 A2 (ix4 0 h I k))
    (fun k => by
      rw [Cert.ReferenceIdeal.Rows.smV_at, scV_real A0 A1 A2 xr wr kr hx hw hk]
      refine if_congr ?_ rfl rfl
      rw [Cert.ReferenceIdeal.Rows.maskV_iff]
      simp only [seenT, Finset.mem_filter, Finset.mem_univ, true_and])]
  refine Finset.sum_congr rfl fun k _ => ?_
  rw [Cert.ReferenceIdeal.Rows.wV_at, Cert.ReferenceIdeal.Rows.suV_at]
  simp only [Cert.ReferenceIdeal.Rows.exV_at, Cert.ReferenceIdeal.Rows.mxV_at]
  exact mul_comm _ _

theorem ref_at (I : Fin 8192) (n : Fin 1024) :
    outV A0 A1 A2 A3 A4 (ix3 0 I n) = ∑ e : Fin 1024, soft (seenT I) (score (qrOf xr wr) kr I ⟨e.val / 128, by omega⟩) (fun k d => A3 (ix4 0 k ⟨e.val / 128, by omega⟩ d)) ⟨e.val % 128, by omega⟩ * A4 (ix2 e n) := by
  rw [Cert.ReferenceIdeal.Rows.outV_at]
  refine Finset.sum_congr rfl fun e _ => ?_
  rw [cxV_soft A0 A1 A2 A3 xr wr kr hx hw hk]

end

/-! ## The kernel, row by row -/

/-- What the devices hold, of the arrays of the reference. -/
structure Held₀ (m : (ℓ : Loc nD τ sig) → Buf (Elt Ideal) ℓ) (A0 : FVec Ideal Cert.ReferenceIdeal.S1x8192x1024 .bf16) (A1 : FVec Ideal Cert.ReferenceIdeal.S1024x1024 .bf16)
    (A2 A3 : FVec Ideal Cert.ReferenceIdeal.S1x8192x8x128 .bf16) (A4 : FVec Ideal Cert.ReferenceIdeal.S1024x1024 .bf16) : Prop where
  x : ∀ (c : Dev nD) (i : Fin 2048) (j : Fin 1024), (V₀ m c (Proc.devRef .tc main_arg0) : Vec Ideal S1x2048x1024 .bf16) (ix3 0 i j) = A0 (ix3 0 (⟨2048 * c.val + i.val, by have : c.val < 4 := c.isLt; omega⟩ : Fin 8192) j)
  w : ∀ c : Dev nD, V₀ m c (Proc.devRef .tc main_arg1) = A1
  k : ∀ (c : Dev nD) (i : Fin 2048) (h : Fin 8) (d : Fin 128), (V₀ m c (Proc.devRef .tc main_arg2) : Vec Ideal S1x2048x8x128 .bf16) (ix4 0 i h d) = A2 (ix4 0 (⟨2048 * c.val + i.val, by have : c.val < 4 := c.isLt; omega⟩ : Fin 8192) h d)
  v : ∀ (c : Dev nD) (i : Fin 2048) (h : Fin 8) (d : Fin 128), (V₀ m c (Proc.devRef .tc main_arg3) : Vec Ideal S1x2048x8x128 .bf16) (ix4 0 i h d) = A3 (ix4 0 (⟨2048 * c.val + i.val, by have : c.val < 4 := c.isLt; omega⟩ : Fin 8192) h d)
  o : ∀ c : Dev nD, V₀ m c (Proc.devRef .tc main_arg4) = A4

/-- The place of a packed row in the whole sequence. -/
theorem key_place {e : Fin 4} {r : Fin 3} {p : Fin 704} (hp : okRow e r p) (h2 : ((r.val + e.val) % 3 + 3 * (p.val / 64)) * 64 + p.val % 64 < 2048) :
    (⟨2048 * e.val + (⟨((r.val + e.val) % 3 + 3 * (p.val / 64)) * 64 + p.val % 64, h2⟩ : Fin 2048).val, by simp only []; omega⟩ : Fin 8192) = keyOf e r p := by
  apply Fin.ext
  rw [keyOf_val hp]
  simp only [locRow]
  omega

section
variable {m : (ℓ : Loc nD τ sig) → Buf (Elt Ideal) ℓ} {A0 : FVec Ideal Cert.ReferenceIdeal.S1x8192x1024 .bf16} {A1 : FVec Ideal Cert.ReferenceIdeal.S1024x1024 .bf16}
  {A2 A3 : FVec Ideal Cert.ReferenceIdeal.S1x8192x8x128 .bf16} {A4 : FVec Ideal Cert.ReferenceIdeal.S1024x1024 .bf16}
  (H : Held₀ m A0 A1 A2 A3 A4)
  (xr : Fin 8192 → Fin 1024 → ℝ) (wr : Fin 1024 → Fin 1024 → ℝ) (kr : Fin 8192 → Fin 8 → Fin 128 → ℝ)
  (hx : ∀ I j, A0 (ix3 0 I j) = (xr I j : EReal)) (hw : ∀ j n, A1 (ix2 j n) = (wr j n : EReal)) (hk : ∀ k h d, A2 (ix4 0 k h d) = (kr k h d : EReal))
include H

include hx hw in
theorem q_keys (c : Dev nD) : KeysAt (qv (Vp m) c) (qrOf xr wr) c := by
  intro h r p d hp
  unfold qv Vp
  rw [pre_q, pack_at c _ h r p d hp, projX_at, H.w c, qrOf, coe_sum]
  refine Finset.sum_congr rfl fun j _ => ?_
  rw [H.x c, hw, key_place hp, hx, EReal.coe_mul]

include hk in
theorem k_keys (c : Dev nD) : KeysAt (kv (Vp m) c) kr c := by
  intro h r p d hp
  unfold kv Vp
  rw [pre_k, pack_at c _ h r p d hp, flatX_at, H.k c, key_place hp, hk]

theorem v_vals (c : Dev nD) : ValsAt (vv (Vp m) c) (fun k h d => A3 (ix4 0 k h d)) c := by
  intro h r p d hp
  unfold vv Vp
  rw [pre_v, pack_at c _ h r p d hp, flatX_at, H.v c, key_place hp]

theorem o_keep (c : Dev nD) : wv (Vp m) c = A4 := by
  unfold wv Vp
  rw [preV_keep c _ (by decide) (by decide) (by decide) (by decide) (by decide) (by decide) (by decide) (by decide) (by decide), H.o c]

include hx hw hk in
theorem kernel_at (c : Dev nD) (i : Fin 2048) (n : Fin 1024) :
    (Vz m c (Proc.devRef .tc main_v52) : Vec Ideal S1x2048x1024 .f32) (ix3 0 i n) = outV A0 A1 A2 A3 A4 (ix3 0 (⟨2048 * c.val + i.val, by have : c.val < 4 := c.isLt; omega⟩ : Fin 8192) n) := by
  have hp : okRow c (grpOf c i) (posOf i) := by
    unfold okRow
    rw [locRow_of]
    exact i.isLt
  have hI : keyOf c (grpOf c i) (posOf i) = (⟨2048 * c.val + i.val, by have : c.val < 4 := c.isLt; omega⟩ : Fin 8192) := by
    apply Fin.ext
    rw [keyOf_val hp, locRow_of]
  have h6 : aft (Vp m) c (Proc.devRef .tc main_v6) = fun _ => BitVec.ofNat 32 (2 * c.val % 3) := by
    rw [aft_ne _ _ _ (by decide) (by decide) (by decide)]
    exact pre_v6 c _
  unfold Vz
  rw [post_val c _ h6, aft_out, unpack_at, ov, outB_at c (q_keys H xr wr hx hw c) (fun e => k_keys H kr hk e) (fun e => v_vals H e) _ _ _ hp, hI,
    o_keep H, ref_at A0 A1 A2 A3 A4 xr wr kr hx hw hk]

end

/-! ## The two programs agree -/

theorem every3 {n : ℕ} (i : (⟨3, ![1, 2048, n]⟩ : Shape).Idx) : i = ix3 (0 : Fin 1) (i 1 : Fin 2048) (i 2 : Fin n) := by
  funext b
  match b with
  | 0 => exact Fin.ext (by have h : (i 0).val < 1 := (i 0).isLt; show (i 0).val = 0; omega)
  | 1 => rfl
  | 2 => rfl

/-- A row of the whole sequence is a row of one block. -/
theorem whole_row (I : Fin 8192) : I = (⟨2048 * (⟨I.val / 2048, by omega⟩ : Fin 4).val + (⟨I.val % 2048, by omega⟩ : Fin 2048).val, by simp only []; omega⟩ : Fin 8192) :=
  Fin.ext (by simp only []; omega)

theorem same_result : Cert.algebraic_KernelIdeal_ReferenceIdeal_pre_finite_KernelIdeal (hKernelIdeal := Cert.KernelIdeal.Gen.facts) (hReferenceIdeal := Cert.ReferenceIdeal.Gen.facts) (hPre_finite_KernelIdeal := preK) := by
  intro m g m' g' hpre harg
  letI := preK
  have H : Held₀ m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i j => (congrFun (harg c).1 (ix3 0 i j)).trans (congrArg _ (tile3 _ c i j))
      w := fun c => (harg c).2.1
      k := fun c i h d => (congrFun (harg c).2.2.1 (ix4 0 i h d)).trans (congrArg _ (tile4 _ c i h d))
      v := fun c i h d => (congrFun (harg c).2.2.2.1 (ix4 0 i h d)).trans (congrArg _ (tile4 _ c i h d))
      o := fun c => (harg c).2.2.2.2 }
  have hx : ∀ (I : Fin 8192) (j : Fin 1024), ∃ r : ℝ, (m' (((0 : Dev Cert.ReferenceIdeal.nD).tc : Thread Cert.ReferenceIdeal.nD Cert.ReferenceIdeal.τ).loc Cert.ReferenceIdeal.main_arg0) : FVec Ideal Cert.ReferenceIdeal.S1x8192x1024 .bf16) (ix3 0 I j) = (r : EReal) := by
    intro I j
    obtain ⟨r, hr⟩ := fin_x _ _ _ _ _ (hpre ⟨I.val / 2048, by show I.val / 2048 < 4; omega⟩).1 ⟨I.val % 2048, by omega⟩ j
    refine ⟨r, ?_⟩
    rw [whole_row I, ← hr]
    exact (H.x ⟨I.val / 2048, by show I.val / 2048 < 4; omega⟩ ⟨I.val % 2048, by omega⟩ j).symm
  have hw : ∀ (j n : Fin 1024), ∃ r : ℝ, (m' (((0 : Dev Cert.ReferenceIdeal.nD).tc : Thread Cert.ReferenceIdeal.nD Cert.ReferenceIdeal.τ).loc Cert.ReferenceIdeal.main_arg1) : FVec Ideal Cert.ReferenceIdeal.S1024x1024 .bf16) (ix2 j n) = (r : EReal) := by
    intro j n
    obtain ⟨r, hr⟩ := fin_w _ _ _ _ _ (hpre 0).2.1 j n
    exact ⟨r, (congrFun (H.w 0) (ix2 j n)).symm.trans hr⟩
  have hk : ∀ (I : Fin 8192) (h : Fin 8) (d : Fin 128), ∃ r : ℝ, (m' (((0 : Dev Cert.ReferenceIdeal.nD).tc : Thread Cert.ReferenceIdeal.nD Cert.ReferenceIdeal.τ).loc Cert.ReferenceIdeal.main_arg2) : FVec Ideal Cert.ReferenceIdeal.S1x8192x8x128 .bf16) (ix4 0 I h d) = (r : EReal) := by
    intro I h d
    obtain ⟨r, hr⟩ := fin_k _ _ _ _ _ (hpre ⟨I.val / 2048, by show I.val / 2048 < 4; omega⟩).2.2 ⟨I.val % 2048, by omega⟩ h d
    refine ⟨r, ?_⟩
    rw [whole_row I, ← hr]
    exact (H.k ⟨I.val / 2048, by show I.val / 2048 < 4; omega⟩ ⟨I.val % 2048, by omega⟩ h d).symm
  choose xr hx using hx
  choose wr hw using hw
  choose kr hk using hk
  refine ⟨Cert.ReferenceIdeal.Value.res_main_v50 m' 0, (θ_run (defs (F := Ideal)) _ _).mono (fun r h c => ⟨(h.1 c).1.trans ?_, (h.1 c).2⟩) (run_main (F := Ideal) m g),
    (θ_run (Cert.ReferenceIdeal.defs (F := Ideal)) _ _).mono (fun r h => h 0) (Cert.ReferenceIdeal.Value.run m' g')⟩
  rw [Cert.ReferenceIdeal.Rows.res_eq]
  funext i
  rw [every3 i]
  exact (kernel_at H xr wr kr hx hw hk c (i 1) (i 2)).trans (congrArg _ (tile3 _ c (i 1) (i 2)).symm)

end Cert.KernelIdeal.Flash

end
-- ==== Proof.lean ====
/- The proof of the certificate's claim: the frames of the kernel as printed and as idealized, the frame of the
   reference, that the named constants keep their values, and that the two programs end with the same result. -/
module

public import proofs.«01_k».proof.Defs
public import proofs.«01_k».proof.Proof.Frames
public import proofs.«01_k».proof.Proof.Alg

@[expose] public section

noncomputable section

namespace Cert.Proof

theorem claim : Cert.Claim :=
  ⟨Cert.Kernel.Gen.facts, Cert.KernelIdeal.Gen.facts, Cert.ReferenceIdeal.Gen.facts, Cert.KernelIdeal.Flash.preK, Cert.KernelIdeal.Flash.preR, Cert.KernelIdeal.Flash.frame_kernel,
    Cert.KernelIdeal.Flash.frame_ideal, Cert.KernelIdeal.Flash.frame_ideal_finite, Cert.KernelIdeal.Flash.frame_reference, Cert.KernelIdeal.Flash.frame_reference_finite,
    Cert.KernelIdeal.Flash.same_values, Cert.KernelIdeal.Flash.same_result⟩

end Cert.Proof

end
